-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_route [hPre_finite_route : Cert.Pre_finite_route.Facts] (m : (ℓ : Loc Cert.MoeIdeal.nD Cert.MoeIdeal.τ Cert.MoeIdeal.sig) → Buf (Elt Ideal) ℓ) : Prop :=
  ∀ c : Dev Cert.MoeIdeal.nD,
    (Cert.Pre_finite_route.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_route [hPre_finite_route : Cert.Pre_finite_route.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_route.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSIdeal_finite_route_s [hPre_finite_route_s : Cert.Pre_finite_route_s.Facts] (m : (ℓ : Loc Cert.MoeSIdeal.nD Cert.MoeSIdeal.τ Cert.MoeSIdeal.sig) → Buf (Elt Ideal) ℓ) : Prop :=
  ∀ c : Dev Cert.MoeSIdeal.nD,
    (Cert.Pre_finite_route_s.fn (F := Ideal) (m ((c.tc : Thread Cert.MoeSIdeal.nD Cert.MoeSIdeal.τ).loc Cert.MoeSIdeal.main_arg0)) (m ((c.tc : Thread Cert.MoeSIdeal.nD Cert.MoeSIdeal.τ).loc Cert.MoeSIdeal.main_arg1)) (m ((c.tc : Thread Cert.MoeSIdeal.nD Cert.MoeSIdeal.τ).loc Cert.MoeSIdeal.main_arg2)) (m ((c.tc : Thread Cert.MoeSIdeal.nD Cert.MoeSIdeal.τ).loc Cert.MoeSIdeal.main_arg3)) (m ((c.tc : Thread Cert.MoeSIdeal.nD Cert.MoeSIdeal.τ).loc Cert.MoeSIdeal.main_arg4)) (m ((c.tc : Thread Cert.MoeSIdeal.nD Cert.MoeSIdeal.τ).loc Cert.MoeSIdeal.main_arg5)) (m ((c.tc : Thread Cert.MoeSIdeal.nD Cert.MoeSIdeal.τ).loc Cert.MoeSIdeal.main_arg6))) = (fun _ => 1#1)

def Pre_MoeSRefIdeal (m : (ℓ : Loc Cert.MoeSRefIdeal.nD Cert.MoeSRefIdeal.τ Cert.MoeSRefIdeal.sig) → Buf (Elt Ideal) ℓ) : Prop :=
  True

def Pre_MoeSRefIdeal_finite_route_s [hPre_finite_route_s : Cert.Pre_finite_route_s.Facts] (m : (ℓ : Loc Cert.MoeSRefIdeal.nD Cert.MoeSRefIdeal.τ Cert.MoeSRefIdeal.sig) → Buf (Elt Ideal) ℓ) : Prop :=
  ∀ c : Dev Cert.MoeSRefIdeal.nD,
    (Cert.Pre_finite_route_s.fn (F := Ideal) (m ((c.tc : Thread Cert.MoeSRefIdeal.nD Cert.MoeSRefIdeal.τ).loc Cert.MoeSRefIdeal.main_arg0)) (m ((c.tc : Thread Cert.MoeSRefIdeal.nD Cert.MoeSRefIdeal.τ).loc Cert.MoeSRefIdeal.main_arg1)) (m ((c.tc : Thread Cert.MoeSRefIdeal.nD Cert.MoeSRefIdeal.τ).loc Cert.MoeSRefIdeal.main_arg2)) (m ((c.tc : Thread Cert.MoeSRefIdeal.nD Cert.MoeSRefIdeal.τ).loc Cert.MoeSRefIdeal.main_arg3)) (m ((c.tc : Thread Cert.MoeSRefIdeal.nD Cert.MoeSRefIdeal.τ).loc Cert.MoeSRefIdeal.main_arg4)) (m ((c.tc : Thread Cert.MoeSRefIdeal.nD Cert.MoeSRefIdeal.τ).loc Cert.MoeSRefIdeal.main_arg5)) (m ((c.tc : Thread Cert.MoeSRefIdeal.nD Cert.MoeSRefIdeal.τ).loc Cert.MoeSRefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_finite_route [hMoeIdeal : Cert.MoeIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_route m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_finite_route [hMoeRefIdeal : Cert.MoeRefIdeal.Facts] [hPre_finite_route : Cert.Pre_finite_route.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_route m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6))
      ∧ r.2.sem = fun _ => 0)

def quiescent_MoeSIdeal_pre_finite_route_s [hMoeSIdeal : Cert.MoeSIdeal.Facts] [hPre_finite_route_s : Cert.Pre_finite_route_s.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal_finite_route_s m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6))
      ∧ r.2.sem = fun _ => 0)

def quiescent_MoeSRefIdeal [hMoeSRefIdeal : Cert.MoeSRefIdeal.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6))
      ∧ r.2.sem = fun _ => 0)

def quiescent_MoeSRefIdeal_pre_finite_route_s [hMoeSRefIdeal : Cert.MoeSRefIdeal.Facts] [hPre_finite_route_s : Cert.Pre_finite_route_s.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal_finite_route_s m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6)
      ∧ r.2.mem ((c.tc : Thread Cert.ConvS.nD Cert.ConvS.τ).loc Cert.ConvS.main_arg7) = m ((c.tc : Thread Cert.ConvS.nD Cert.ConvS.τ).loc Cert.ConvS.main_arg7)
      ∧ r.2.mem ((c.tc : Thread Cert.ConvS.nD Cert.ConvS.τ).loc Cert.ConvS.main_arg8) = m ((c.tc : Thread Cert.ConvS.nD Cert.ConvS.τ).loc Cert.ConvS.main_arg8)
      ∧ r.2.mem ((c.tc : Thread Cert.ConvS.nD Cert.ConvS.τ).loc Cert.ConvS.main_arg9) = m ((c.tc : Thread Cert.ConvS.nD Cert.ConvS.τ).loc Cert.ConvS.main_arg9))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
      ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
      ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
      ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6)
      ∧ r.2.mem ((c.tc : Thread Cert.ConvSRefIdeal.nD Cert.ConvSRefIdeal.τ).loc Cert.ConvSRefIdeal.main_arg7) = m ((c.tc : Thread Cert.ConvSRefIdeal.nD Cert.ConvSRefIdeal.τ).loc Cert.ConvSRefIdeal.main_arg7)
      ∧ r.2.mem ((c.tc : Thread Cert.ConvSRefIdeal.nD Cert.ConvSRefIdeal.τ).loc Cert.ConvSRefIdeal.main_arg8) = m ((c.tc : Thread Cert.ConvSRefIdeal.nD Cert.ConvSRefIdeal.τ).loc Cert.ConvSRefIdeal.main_arg8)
      ∧ r.2.mem ((c.tc : Thread Cert.ConvSRefIdeal.nD Cert.ConvSRefIdeal.τ).loc Cert.ConvSRefIdeal.main_arg9) = m ((c.tc : Thread Cert.ConvSRefIdeal.nD Cert.ConvSRefIdeal.τ).loc Cert.ConvSRefIdeal.main_arg9))
      ∧ r.2.sem = fun _ => 0)

def preserves_Kernel_KernelIdeal : Prop :=
  IdealRules.named_const.Statement Cert.KernelIdeal.κ "dead" .f32 0xC2F00000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v6)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v19) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Moe_MoeIdeal : Prop :=
  True

def algebraic_MoeIdeal_MoeRefIdeal_pre_finite_route [hMoeIdeal : Cert.MoeIdeal.Facts] [hMoeRefIdeal : Cert.MoeRefIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_route m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v163) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v33)) (v1 : (c : Dev Cert.InIdeal.nD) → Buf (Elt Ideal) ((c.tc : Thread Cert.InIdeal.nD Cert.InIdeal.τ).loc Cert.InIdeal.main_v22)) (v2 : (c : Dev Cert.InIdeal.nD) → Buf (Elt Ideal) ((c.tc : Thread Cert.InIdeal.nD Cert.InIdeal.τ).loc Cert.InIdeal.main_v26)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v33) = v0 c
          ∧ r.2.mem ((c.tc : Thread Cert.InIdeal.nD Cert.InIdeal.τ).loc Cert.InIdeal.main_v22) = v1 c
          ∧ r.2.mem ((c.tc : Thread Cert.InIdeal.nD Cert.InIdeal.τ).loc Cert.InIdeal.main_v26) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v13) = v0 c
          ∧ r.2.mem ((c.tc : Thread Cert.InRefIdeal.nD Cert.InRefIdeal.τ).loc Cert.InRefIdeal.main_v18) = v1 c
          ∧ r.2.mem ((c.tc : Thread Cert.InRefIdeal.nD Cert.InRefIdeal.τ).loc Cert.InRefIdeal.main_v19) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)) →
    ∃ (v0 : (c : Dev Cert.InSIdeal.nD) → Buf (Elt Ideal) ((c.tc : Thread Cert.InSIdeal.nD Cert.InSIdeal.τ).loc Cert.InSIdeal.main_v33)) (v1 : (c : Dev Cert.InSIdeal.nD) → Buf (Elt Ideal) ((c.tc : Thread Cert.InSIdeal.nD Cert.InSIdeal.τ).loc Cert.InSIdeal.main_v22)) (v2 : (c : Dev Cert.InSIdeal.nD) → Buf (Elt Ideal) ((c.tc : Thread Cert.InSIdeal.nD Cert.InSIdeal.τ).loc Cert.InSIdeal.main_v26)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v33) = v0 c
          ∧ r.2.mem ((c.tc : Thread Cert.InSIdeal.nD Cert.InSIdeal.τ).loc Cert.InSIdeal.main_v22) = v1 c
          ∧ r.2.mem ((c.tc : Thread Cert.InSIdeal.nD Cert.InSIdeal.τ).loc Cert.InSIdeal.main_v26) = v2 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v13) = v0 c
          ∧ r.2.mem ((c.tc : Thread Cert.InSRefIdeal.nD Cert.InSRefIdeal.τ).loc Cert.InSRefIdeal.main_v18) = v1 c
          ∧ r.2.mem ((c.tc : Thread Cert.InSRefIdeal.nD Cert.InSRefIdeal.τ).loc Cert.InSRefIdeal.main_v19) = v2 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)) →
    ∃ (v0 : (c : Dev Cert.KvIdeal.nD) → Buf (Elt Ideal) ((c.tc : Thread Cert.KvIdeal.nD Cert.KvIdeal.τ).loc Cert.KvIdeal.main_v14)) (v1 : (c : Dev Cert.KvIdeal.nD) → Buf (Elt Ideal) ((c.tc : Thread Cert.KvIdeal.nD Cert.KvIdeal.τ).loc Cert.KvIdeal.main_v15)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v14) = v0 c
          ∧ r.2.mem ((c.tc : Thread Cert.KvIdeal.nD Cert.KvIdeal.τ).loc Cert.KvIdeal.main_v15) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_v4) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)) →
    ∃ (v0 : (c : Dev Cert.KvSIdeal.nD) → Buf (Elt Ideal) ((c.tc : Thread Cert.KvSIdeal.nD Cert.KvSIdeal.τ).loc Cert.KvSIdeal.main_v14)) (v1 : (c : Dev Cert.KvSIdeal.nD) → Buf (Elt Ideal) ((c.tc : Thread Cert.KvSIdeal.nD Cert.KvSIdeal.τ).loc Cert.KvSIdeal.main_v15)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v14) = v0 c
          ∧ r.2.mem ((c.tc : Thread Cert.KvSIdeal.nD Cert.KvSIdeal.τ).loc Cert.KvSIdeal.main_v15) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v2) = v0 c
          ∧ r.2.mem ((c.tc : Thread Cert.KvSRefIdeal.nD Cert.KvSRefIdeal.τ).loc Cert.KvSRefIdeal.main_v4) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0))

def preserves_MoeS_MoeSIdeal : Prop :=
  True

def algebraic_MoeSIdeal_MoeSRefIdeal_pre_finite_route_s [hMoeSIdeal : Cert.MoeSIdeal.Facts] [hMoeSRefIdeal : Cert.MoeSRefIdeal.Facts] [hPre_finite_route_s : Cert.Pre_finite_route_s.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSRefIdeal.nD Cert.MoeSRefIdeal.τ Cert.MoeSRefIdeal.sig) → Buf (Elt Ideal) ℓ) (g' : Dev Cert.MoeSRefIdeal.nD → PrngReg), Pre_MoeSIdeal_finite_route_s m →
    (∀ c : Dev Cert.MoeSIdeal.nD,
      m' ((c.tc : Thread Cert.MoeSRefIdeal.nD Cert.MoeSRefIdeal.τ).loc Cert.MoeSRefIdeal.main_arg0) = m ((c.tc : Thread Cert.MoeSIdeal.nD Cert.MoeSIdeal.τ).loc Cert.MoeSIdeal.main_arg0)
      ∧ m' ((c.tc : Thread Cert.MoeSRefIdeal.nD Cert.MoeSRefIdeal.τ).loc Cert.MoeSRefIdeal.main_arg1) = m ((c.tc : Thread Cert.MoeSIdeal.nD Cert.MoeSIdeal.τ).loc Cert.MoeSIdeal.main_arg1)
      ∧ m' ((c.tc : Thread Cert.MoeSRefIdeal.nD Cert.MoeSRefIdeal.τ).loc Cert.MoeSRefIdeal.main_arg2) = m ((c.tc : Thread Cert.MoeSIdeal.nD Cert.MoeSIdeal.τ).loc Cert.MoeSIdeal.main_arg2)
      ∧ m' ((c.tc : Thread Cert.MoeSRefIdeal.nD Cert.MoeSRefIdeal.τ).loc Cert.MoeSRefIdeal.main_arg3) = m ((c.tc : Thread Cert.MoeSIdeal.nD Cert.MoeSIdeal.τ).loc Cert.MoeSIdeal.main_arg3)
      ∧ m' ((c.tc : Thread Cert.MoeSRefIdeal.nD Cert.MoeSRefIdeal.τ).loc Cert.MoeSRefIdeal.main_arg4) = m ((c.tc : Thread Cert.MoeSIdeal.nD Cert.MoeSIdeal.τ).loc Cert.MoeSIdeal.main_arg4)
      ∧ m' ((c.tc : Thread Cert.MoeSRefIdeal.nD Cert.MoeSRefIdeal.τ).loc Cert.MoeSRefIdeal.main_arg5) = m ((c.tc : Thread Cert.MoeSIdeal.nD Cert.MoeSIdeal.τ).loc Cert.MoeSIdeal.main_arg5)
      ∧ m' ((c.tc : Thread Cert.MoeSRefIdeal.nD Cert.MoeSRefIdeal.τ).loc Cert.MoeSRefIdeal.main_arg6) = m ((c.tc : Thread Cert.MoeSIdeal.nD Cert.MoeSIdeal.τ).loc Cert.MoeSIdeal.main_arg6)) →
    ∃ (v0 : (c : Dev Cert.MoeSIdeal.nD) → Buf (Elt Ideal) ((c.tc : Thread Cert.MoeSIdeal.nD Cert.MoeSIdeal.τ).loc Cert.MoeSIdeal.main_v10)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v10) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6))
      ∧ θ_run (Cert.MoeSRefIdeal.defs (F := Ideal)) (onTc (τ := Cert.MoeSRefIdeal.τ) (Cert.MoeSRefIdeal.main (F := Ideal))) ⟨m', fun _ => 0, g'⟩ (fun r => ∀ c : Dev Cert.MoeSRefIdeal.nD,
          r.2.mem ((c.tc : Thread Cert.MoeSRefIdeal.nD Cert.MoeSRefIdeal.τ).loc Cert.MoeSRefIdeal.main_v163) = v0 c
          ∧ r.2.mem ((c.tc : Thread Cert.MoeSRefIdeal.nD Cert.MoeSRefIdeal.τ).loc Cert.MoeSRefIdeal.main_arg0) = m' ((c.tc : Thread Cert.MoeSRefIdeal.nD Cert.MoeSRefIdeal.τ).loc Cert.MoeSRefIdeal.main_arg0)
          ∧ r.2.mem ((c.tc : Thread Cert.MoeSRefIdeal.nD Cert.MoeSRefIdeal.τ).loc Cert.MoeSRefIdeal.main_arg1) = m' ((c.tc : Thread Cert.MoeSRefIdeal.nD Cert.MoeSRefIdeal.τ).loc Cert.MoeSRefIdeal.main_arg1)
          ∧ r.2.mem ((c.tc : Thread Cert.MoeSRefIdeal.nD Cert.MoeSRefIdeal.τ).loc Cert.MoeSRefIdeal.main_arg2) = m' ((c.tc : Thread Cert.MoeSRefIdeal.nD Cert.MoeSRefIdeal.τ).loc Cert.MoeSRefIdeal.main_arg2)
          ∧ r.2.mem ((c.tc : Thread Cert.MoeSRefIdeal.nD Cert.MoeSRefIdeal.τ).loc Cert.MoeSRefIdeal.main_arg3) = m' ((c.tc : Thread Cert.MoeSRefIdeal.nD Cert.MoeSRefIdeal.τ).loc Cert.MoeSRefIdeal.main_arg3)
          ∧ r.2.mem ((c.tc : Thread Cert.MoeSRefIdeal.nD Cert.MoeSRefIdeal.τ).loc Cert.MoeSRefIdeal.main_arg4) = m' ((c.tc : Thread Cert.MoeSRefIdeal.nD Cert.MoeSRefIdeal.τ).loc Cert.MoeSRefIdeal.main_arg4)
          ∧ r.2.mem ((c.tc : Thread Cert.MoeSRefIdeal.nD Cert.MoeSRefIdeal.τ).loc Cert.MoeSRefIdeal.main_arg5) = m' ((c.tc : Thread Cert.MoeSRefIdeal.nD Cert.MoeSRefIdeal.τ).loc Cert.MoeSRefIdeal.main_arg5)
          ∧ r.2.mem ((c.tc : Thread Cert.MoeSRefIdeal.nD Cert.MoeSRefIdeal.τ).loc Cert.MoeSRefIdeal.main_arg6) = m' ((c.tc : Thread Cert.MoeSRefIdeal.nD Cert.MoeSRefIdeal.τ).loc Cert.MoeSRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v24)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v24) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v3) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)
      ∧ m' ((c.tc : Thread Cert.ConvSRefIdeal.nD Cert.ConvSRefIdeal.τ).loc Cert.ConvSRefIdeal.main_arg7) = m ((c.tc : Thread Cert.ConvSIdeal.nD Cert.ConvSIdeal.τ).loc Cert.ConvSIdeal.main_arg7)
      ∧ m' ((c.tc : Thread Cert.ConvSRefIdeal.nD Cert.ConvSRefIdeal.τ).loc Cert.ConvSRefIdeal.main_arg8) = m ((c.tc : Thread Cert.ConvSIdeal.nD Cert.ConvSIdeal.τ).loc Cert.ConvSIdeal.main_arg8)
      ∧ m' ((c.tc : Thread Cert.ConvSRefIdeal.nD Cert.ConvSRefIdeal.τ).loc Cert.ConvSRefIdeal.main_arg9) = m ((c.tc : Thread Cert.ConvSIdeal.nD Cert.ConvSIdeal.τ).loc Cert.ConvSIdeal.main_arg9)) →
    ∃ (v0 : (c : Dev Cert.ConvSIdeal.nD) → Buf (Elt Ideal) ((c.tc : Thread Cert.ConvSIdeal.nD Cert.ConvSIdeal.τ).loc Cert.ConvSIdeal.main_v24)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v24) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
          ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
          ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
          ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v3) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6)
          ∧ r.2.mem ((c.tc : Thread Cert.ConvSRefIdeal.nD Cert.ConvSRefIdeal.τ).loc Cert.ConvSRefIdeal.main_arg7) = m' ((c.tc : Thread Cert.ConvSRefIdeal.nD Cert.ConvSRefIdeal.τ).loc Cert.ConvSRefIdeal.main_arg7)
          ∧ r.2.mem ((c.tc : Thread Cert.ConvSRefIdeal.nD Cert.ConvSRefIdeal.τ).loc Cert.ConvSRefIdeal.main_arg8) = m' ((c.tc : Thread Cert.ConvSRefIdeal.nD Cert.ConvSRefIdeal.τ).loc Cert.ConvSRefIdeal.main_arg8)
          ∧ r.2.mem ((c.tc : Thread Cert.ConvSRefIdeal.nD Cert.ConvSRefIdeal.τ).loc Cert.ConvSRefIdeal.main_arg9) = m' ((c.tc : Thread Cert.ConvSRefIdeal.nD Cert.ConvSRefIdeal.τ).loc Cert.ConvSRefIdeal.main_arg9))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseRefIdeal : Cert.DenseRefIdeal.Facts) (hMoe : Cert.Moe.Facts) (hMoeIdeal : Cert.MoeIdeal.Facts) (hMoeRefIdeal : Cert.MoeRefIdeal.Facts) (hIn : Cert.In.Facts) (hInIdeal : Cert.InIdeal.Facts) (hInRefIdeal : Cert.InRefIdeal.Facts) (hInS : Cert.InS.Facts) (hInSIdeal : Cert.InSIdeal.Facts) (hInSRefIdeal : Cert.InSRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hMoeS : Cert.MoeS.Facts) (hMoeSIdeal : Cert.MoeSIdeal.Facts) (hMoeSRefIdeal : Cert.MoeSRefIdeal.Facts) (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hPre_finite_qk : Cert.Pre_finite_qk.Facts) (hPre_finite_route : Cert.Pre_finite_route.Facts) (hPre_finite_route_s : Cert.Pre_finite_route_s.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Dense (hDense := hDense)
    ∧ quiescent_DenseIdeal (hDenseIdeal := hDenseIdeal)
    ∧ quiescent_DenseRefIdeal (hDenseRefIdeal := hDenseRefIdeal)
    ∧ quiescent_Moe (hMoe := hMoe)
    ∧ quiescent_MoeIdeal (hMoeIdeal := hMoeIdeal)
    ∧ quiescent_MoeIdeal_pre_finite_route (hMoeIdeal := hMoeIdeal) (hPre_finite_route := hPre_finite_route)
    ∧ quiescent_MoeRefIdeal (hMoeRefIdeal := hMoeRefIdeal)
    ∧ quiescent_MoeRefIdeal_pre_finite_route (hMoeRefIdeal := hMoeRefIdeal) (hPre_finite_route := hPre_finite_route)
    ∧ quiescent_In (hIn := hIn)
    ∧ quiescent_InIdeal (hInIdeal := hInIdeal)
    ∧ quiescent_InRefIdeal (hInRefIdeal := hInRefIdeal)
    ∧ quiescent_InS (hInS := hInS)
    ∧ quiescent_InSIdeal (hInSIdeal := hInSIdeal)
    ∧ quiescent_InSRefIdeal (hInSRefIdeal := hInSRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_MoeS (hMoeS := hMoeS)
    ∧ quiescent_MoeSIdeal (hMoeSIdeal := hMoeSIdeal)
    ∧ quiescent_MoeSIdeal_pre_finite_route_s (hMoeSIdeal := hMoeSIdeal) (hPre_finite_route_s := hPre_finite_route_s)
    ∧ quiescent_MoeSRefIdeal (hMoeSRefIdeal := hMoeSRefIdeal)
    ∧ quiescent_MoeSRefIdeal_pre_finite_route_s (hMoeSRefIdeal := hMoeSRefIdeal) (hPre_finite_route_s := hPre_finite_route_s)
    ∧ quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Dense_DenseIdeal
    ∧ algebraic_DenseIdeal_DenseRefIdeal (hDenseIdeal := hDenseIdeal) (hDenseRefIdeal := hDenseRefIdeal)
    ∧ preserves_Moe_MoeIdeal
    ∧ algebraic_MoeIdeal_MoeRefIdeal_pre_finite_route (hMoeIdeal := hMoeIdeal) (hMoeRefIdeal := hMoeRefIdeal) (hPre_finite_route := hPre_finite_route)
    ∧ preserves_In_InIdeal
    ∧ algebraic_InIdeal_InRefIdeal (hInIdeal := hInIdeal) (hInRefIdeal := hInRefIdeal)
    ∧ preserves_InS_InSIdeal
    ∧ algebraic_InSIdeal_InSRefIdeal (hInSIdeal := hInSIdeal) (hInSRefIdeal := hInSRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_MoeS_MoeSIdeal
    ∧ algebraic_MoeSIdeal_MoeSRefIdeal_pre_finite_route_s (hMoeSIdeal := hMoeSIdeal) (hMoeSRefIdeal := hMoeSRefIdeal) (hPre_finite_route_s := hPre_finite_route_s)
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
-- ==== Pre_finite_qk.lean ====
abbrev S16x64x8x64 : Shape := ⟨4, ![16, 64, 8, 64]⟩
abbrev S16x2048x8x64 : Shape := ⟨4, ![16, 2048, 8, 64]⟩
abbrev S_ : Shape := ⟨0, ![]⟩

class Facts : Prop where
  bcast_S_S16x64x8x64 : S_.BroadcastsInDim S16x64x8x64 (![] : Fin 0 → Fin S16x64x8x64.rank)
  reducesTo_S16x64x8x64_S_d0_1_2_3 : S16x64x8x64.ReducesTo [0, 1, 2, 3] S_
  h_S_ : 0 < S_.numel
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_

variable [Facts]

def fn {F : FTy → Type} [FloatOps F] (main_arg0 : FVec F S16x64x8x64 .f32) (main_arg1 : FVec F S16x64x8x64 .f32) (main_arg2 : FVec F S16x64x8x64 .f32) (main_arg3 : FVec F S16x2048x8x64 .f32) (main_arg4 : FVec F S16x2048x8x64 .f32) : IVec S_ 1 :=
  let main_v0 : FVec F S16x64x8x64 .f32 := Host.absf main_arg0
  let main_cst : FVec F S_ .f32 := constant S_ .f32 0x7F800000#32
  let main_v1 : FVec F S16x64x8x64 .f32 := broadcastInDim S16x64x8x64 ![] bcast_S_S16x64x8x64 main_cst
  let main_v2 : IVec S16x64x8x64 1 := cmpf .olt main_v0 main_v1
  let main_c : IVec S_ 1 := constantI S_ 1 1#1
  let main_v3 : IVec S_ 1 := (fun x v => Host.reduce IntOp.andi x v reducesTo_S16x64x8x64_S_d0_1_2_3 h_S_) main_v2 main_c
  let main_v4 : FVec F S16x64x8x64 .f32 := Host.absf main_arg1
  let main_cst_0 : FVec F S_ .f32 := constant S_ .f32 0x7F800000#32
  let main_v5 : FVec F S16x64x8x64 .f32 := broadcastInDim S16x64x8x64 ![] bcast_S_S16x64x8x64 main_cst_0
  let main_v6 : IVec S16x64x8x64 1 := cmpf .olt main_v4 main_v5
  let main_c_1 : IVec S_ 1 := constantI S_ 1 1#1
  let main_v7 : IVec S_ 1 := (fun x v => Host.reduce IntOp.andi x v reducesTo_S16x64x8x64_S_d0_1_2_3 h_S_) main_v6 main_c_1
  let main_v8 : IVec S_ 1 := andi main_v3 main_v7
  let main_v9 : FVec F S16x2048x8x64 .f32 := Host.absf main_arg3
  let main_cst_2 : FVec F S_ .f32 := constant S_ .f32 0x7F800000#32
  let main_v10 : FVec F S16x2048x8x64 .f32 := broadcastInDim S16x2048x8x64 ![] bcast_S_S16x2048x8x64 main_cst_2
  let main_v11 : IVec S16x2048x8x64 1 := cmpf .olt main_v9 main_v10
  let main_c_3 : IVec S_ 1 := constantI S_ 1 1#1
  let main_v12 : IVec S_ 1 := (fun x v => Host.reduce IntOp.andi x v reducesTo_S16x2048x8x64_S_d0_1_2_3 h_S_) main_v11 main_c_3
  let main_v13 : IVec S_ 1 := andi main_v8 main_v12
  main_v13
-- ==== Pre_finite_route.lean ====
abbrev S2x16384x2048 : Shape := ⟨3, ![2, 16384, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S2x16384x2048 .f32) (main_arg1 : FVec F S2048 .f32) (main_arg2 : FVec F S2048x8 .f32) (main_arg3 : FVec F S8x2048x704 .f32) (main_arg4 : FVec F S8x2048x704 .f32) (main_arg5 : FVec F S8x704x2048 .f32) (main_arg6 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  main_v8
-- ==== Pre_finite_route_s.lean ====
abbrev S16x64x2048 : Shape := ⟨3, ![16, 64, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S16x64x2048 .f32) (main_arg1 : FVec F S2048 .f32) (main_arg2 : FVec F S2048x8 .f32) (main_arg3 : FVec F S8x2048x704 .f32) (main_arg4 : FVec F S8x2048x704 .f32) (main_arg5 : FVec F S8x704x2048 .f32) (main_arg6 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  main_v8
-- ==== Kernel.lean ====
abbrev S16x64x8x64 : Shape := ⟨4, ![16, 64, 8, 64]⟩
abbrev S16x2048x8x64 : Shape := ⟨4, ![16, 2048, 8, 64]⟩
abbrev S16x64x512 : Shape := ⟨3, ![16, 64, 512]⟩
abbrev S16x2048x512 : Shape := ⟨3, ![16, 2048, 512]⟩
abbrev S16x2112x512 : Shape := ⟨3, ![16, 2112, 512]⟩
abbrev S_ : Shape := ⟨0, ![]⟩
abbrev S16x2176x512 : Shape := ⟨3, ![16, 2176, 512]⟩
abbrev S1x64x512 : Shape := ⟨3, ![1, 64, 512]⟩
abbrev S1x2176x512 : Shape := ⟨3, ![1, 2176, 512]⟩
abbrev S8x64x128 : Shape := ⟨3, ![8, 64, 128]⟩
abbrev S64x512 : Shape := ⟨2, ![64, 512]⟩
abbrev S64x128 : Shape := ⟨2, ![64, 128]⟩
abbrev S1x64x128 : Shape := ⟨3, ![1, 64, 128]⟩
abbrev S2x64x128 : Shape := ⟨3, ![2, 64, 128]⟩
abbrev S1x2x64x128 : Shape := ⟨4, ![1, 2, 64, 128]⟩
abbrev S4x2x64x128 : Shape := ⟨4, ![4, 2, 64, 128]⟩
abbrev S256x256 : Shape := ⟨2, ![256, 256]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S4x128x128 : Shape := ⟨3, ![4, 128, 128]⟩
abbrev S8x64x256 : Shape := ⟨3, ![8, 64, 256]⟩
abbrev S512x256 : Shape := ⟨2, ![512, 256]⟩
abbrev S1x8x64x128 : Shape := ⟨4, ![1, 8, 64, 128]⟩
abbrev S1 : Shape := ⟨1, ![1]⟩
abbrev S1x1x1x1 : Shape := ⟨4, ![1, 1, 1, 1]⟩

abbrev nBuf : Space → Nat
  | .hbm => 24
  | .vmem => 8
  | .smem => 0
  | _ => 0

abbrev bufTy : (tb : Table) → Fin (tcTables nBuf tb) → BufTy
  | .hbm, ⟨0, _⟩ => ⟨S16x64x8x64, .f32⟩
  | .hbm, ⟨1, _⟩ => ⟨S16x64x8x64, .f32⟩
  | .hbm, ⟨2, _⟩ => ⟨S16x64x8x64, .f32⟩
  | .hbm, ⟨3, _⟩ => ⟨S16x2048x8x64, .f32⟩
  | .hbm, ⟨4, _⟩ => ⟨S16x2048x8x64, .f32⟩
  | .hbm, ⟨5, _⟩ => ⟨S16x64x8x64, .bf16⟩
  | .hbm, ⟨6, _⟩ => ⟨S16x64x512, .bf16⟩
  | .hbm, ⟨7, _⟩ => ⟨S16x2048x8x64, .bf16⟩
  | .hbm, ⟨8, _⟩ => ⟨S16x2048x512, .bf16⟩
  | .hbm, ⟨9, _⟩ => ⟨S16x64x8x64, .bf16⟩
  | .hbm, ⟨10, _⟩ => ⟨S16x64x512, .bf16⟩
  | .hbm, ⟨11, _⟩ => ⟨S16x2112x512, .bf16⟩
  | .hbm, ⟨12, _⟩ => ⟨S16x2048x8x64, .bf16⟩
  | .hbm, ⟨13, _⟩ => ⟨S16x2048x512, .bf16⟩
  | .hbm, ⟨14, _⟩ => ⟨S16x64x8x64, .bf16⟩
  | .hbm, ⟨15, _⟩ => ⟨S16x64x512, .bf16⟩
  | .hbm, ⟨16, _⟩ => ⟨S16x2112x512, .bf16⟩
  | .hbm, ⟨17, _⟩ => ⟨S_, .i32⟩
  | .hbm, ⟨18, _⟩ => ⟨S_, .bf16⟩
  | .hbm, ⟨19, _⟩ => ⟨S16x2176x512, .bf16⟩
  | .hbm, ⟨20, _⟩ => ⟨S_, .i32⟩
  | .hbm, ⟨21, _⟩ => ⟨S_, .bf16⟩
  | .hbm, ⟨22, _⟩ => ⟨S16x2176x512, .bf16⟩
  | .hbm, ⟨23, _⟩ => ⟨S16x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x2176x512, .bf16⟩
  | .local _ .vmem, ⟨3, _⟩ => ⟨S1x2176x512, .bf16⟩
  | .local _ .vmem, ⟨4, _⟩ => ⟨S1x64x512, .bf16⟩
  | .local _ .vmem, ⟨5, _⟩ => ⟨S1x64x512, .bf16⟩
  | .local _ .vmem, ⟨6, _⟩ => ⟨S8x64x128, .f32⟩
  | .local _ .vmem, ⟨7, _⟩ => ⟨S8x64x128, .f32⟩
  | _, _ => ⟨S16x64x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c2048_i32 : BitVec 32 := 2048#32
  let arg1 : BitVec 32 := BitVec.ofNat 32 (i 1).val
  let c64_i32 : BitVec 32 := 64#32
  let v4 : BitVec 32 := Scalar.muli arg1 c64_i32
  let v5 : BitVec 32 := Scalar.addi c2048_i32 v4
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32 : BitVec 32 := 128#32
  let c0_i32_3 : BitVec 32 := 0#32
  let v12 : BitVec 1 := Scalar.cmpi .sgt c128_i32 c0_i32_3
  let v13 : BitVec 32 := Scalar.extui v12
  let c0_i32_4 : BitVec 32 := 0#32
  let v14 : BitVec 1 := Scalar.cmpi .slt c128_i32 c0_i32_4
  let v15 : BitVec 32 := Scalar.extui v14
  let v16 : BitVec 32 := Scalar.subi v13 v15
  let v17 : BitVec 1 := Scalar.cmpi .ne v11 v16
  let v18 : BitVec 32 := Scalar.remsi v5 c128_i32
  let c0_i32_5 : BitVec 32 := 0#32
  let v19 : BitVec 1 := Scalar.cmpi .ne v18 c0_i32_5
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c0_i32_25 : BitVec 32 := 0#32
  let v94 : BitVec 32 := Scalar.addi v22 c0_i32_25
  let c128_i32_26 : BitVec 32 := 128#32
  let v95 : BitVec 32 := Scalar.muli v94 c128_i32_26
  v95
def k0_off1 (i : grid0.Coords) : Fin 3 → Nat :=
  let c0_27 : Index := 0#32
  let c2048_i32 : BitVec 32 := 2048#32
  let arg1 : BitVec 32 := BitVec.ofNat 32 (i 1).val
  let c64_i32 : BitVec 32 := 64#32
  let v4 : BitVec 32 := Scalar.muli arg1 c64_i32
  let v5 : BitVec 32 := Scalar.addi c2048_i32 v4
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32 : BitVec 32 := 128#32
  let c0_i32_3 : BitVec 32 := 0#32
  let v12 : BitVec 1 := Scalar.cmpi .sgt c128_i32 c0_i32_3
  let v13 : BitVec 32 := Scalar.extui v12
  let c0_i32_4 : BitVec 32 := 0#32
  let v14 : BitVec 1 := Scalar.cmpi .slt c128_i32 c0_i32_4
  let v15 : BitVec 32 := Scalar.extui v14
  let v16 : BitVec 32 := Scalar.subi v13 v15
  let v17 : BitVec 1 := Scalar.cmpi .ne v11 v16
  let v18 : BitVec 32 := Scalar.remsi v5 c128_i32
  let c0_i32_5 : BitVec 32 := 0#32
  let v19 : BitVec 1 := Scalar.cmpi .ne v18 c0_i32_5
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c0_i32_25 : BitVec 32 := 0#32
  let v94 : BitVec 32 := Scalar.addi v22 c0_i32_25
  let c128_i32_26 : BitVec 32 := 128#32
  let v95 : BitVec 32 := Scalar.muli v94 c128_i32_26
  let v96 : BitVec 32 := v95
  let v97 : Index := Scalar.indexCast v96
  let c0_28 : Index := 0#32
  ![0, v97.toNat, 0]
def k0_mult2 (i : grid0.Coords) (arg8 : BitVec 32) : BitVec 32 :=
  let c2048_i32 : BitVec 32 := 2048#32
  let arg1 : BitVec 32 := BitVec.ofNat 32 (i 1).val
  let c64_i32 : BitVec 32 := 64#32
  let v4 : BitVec 32 := Scalar.muli arg1 c64_i32
  let v5 : BitVec 32 := Scalar.addi c2048_i32 v4
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32 : BitVec 32 := 128#32
  let c0_i32_3 : BitVec 32 := 0#32
  let v12 : BitVec 1 := Scalar.cmpi .sgt c128_i32 c0_i32_3
  let v13 : BitVec 32 := Scalar.extui v12
  let c0_i32_4 : BitVec 32 := 0#32
  let v14 : BitVec 1 := Scalar.cmpi .slt c128_i32 c0_i32_4
  let v15 : BitVec 32 := Scalar.extui v14
  let v16 : BitVec 32 := Scalar.subi v13 v15
  let v17 : BitVec 1 := Scalar.cmpi .ne v11 v16
  let v18 : BitVec 32 := Scalar.remsi v5 c128_i32
  let c0_i32_5 : BitVec 32 := 0#32
  let v19 : BitVec 1 := Scalar.cmpi .ne v18 c0_i32_5
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_62 : BitVec 32 := 1#32
  let v207 : BitVec 32 := Scalar.subi v22 c1_i32_62
  let v208 : BitVec 32 := Scalar.subi v207 arg8
  let c128_i32_63 : BitVec 32 := 128#32
  let v209 : BitVec 32 := Scalar.muli v208 c128_i32_63
  v209

def k0_off2 (i : grid0.Coords) (arg8 : BitVec 32) : Fin 3 → Nat :=
  let c0_64 : Index := 0#32
  let c2048_i32 : BitVec 32 := 2048#32
  let arg1 : BitVec 32 := BitVec.ofNat 32 (i 1).val
  let c64_i32 : BitVec 32 := 64#32
  let v4 : BitVec 32 := Scalar.muli arg1 c64_i32
  let v5 : BitVec 32 := Scalar.addi c2048_i32 v4
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32 : BitVec 32 := 128#32
  let c0_i32_3 : BitVec 32 := 0#32
  let v12 : BitVec 1 := Scalar.cmpi .sgt c128_i32 c0_i32_3
  let v13 : BitVec 32 := Scalar.extui v12
  let c0_i32_4 : BitVec 32 := 0#32
  let v14 : BitVec 1 := Scalar.cmpi .slt c128_i32 c0_i32_4
  let v15 : BitVec 32 := Scalar.extui v14
  let v16 : BitVec 32 := Scalar.subi v13 v15
  let v17 : BitVec 1 := Scalar.cmpi .ne v11 v16
  let v18 : BitVec 32 := Scalar.remsi v5 c128_i32
  let c0_i32_5 : BitVec 32 := 0#32
  let v19 : BitVec 1 := Scalar.cmpi .ne v18 c0_i32_5
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_62 : BitVec 32 := 1#32
  let v207 : BitVec 32 := Scalar.subi v22 c1_i32_62
  let v208 : BitVec 32 := Scalar.subi v207 arg8
  let c128_i32_63 : BitVec 32 := 128#32
  let v209 : BitVec 32 := Scalar.muli v208 c128_i32_63
  let v210 : BitVec 32 := v209
  let v211 : Index := Scalar.indexCast v210
  let c0_65 : Index := 0#32
  ![0, v211.toNat, 0]

def k0_chk1 (i : grid0.Coords) (arg8 : BitVec 32) : Prop :=
  (128 ∣ (k0_mult2 i arg8).toNat) ∧
  (∀ a, (k0_off2 i arg8) a + S1x128x512.size a ≤ S1x2176x512.size a)
theorem k0_mult2_dvd : ∀ (i : grid0.Coords) (arg8 : BitVec 32) (k0_hw1 : k0_chk1 i arg8), 128 ∣ (k0_mult2 i arg8).toNat := fun i arg8 k0_hw1 => k0_hw1.1
theorem k0_off2_inb : ∀ (i : grid0.Coords) (arg8 : BitVec 32) (k0_hw1 : k0_chk1 i arg8), ∀ a, (k0_off2 i arg8) a + S1x128x512.size a ≤ S1x2176x512.size a := fun i arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2176x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S16x64x8x64 : Shape := ⟨4, ![16, 64, 8, 64]⟩
abbrev S16x2048x8x64 : Shape := ⟨4, ![16, 2048, 8, 64]⟩
abbrev S16x2112x8x64 : Shape := ⟨4, ![16, 2112, 8, 64]⟩
abbrev S64 : Shape := ⟨1, ![64]⟩
abbrev S_ : Shape := ⟨0, ![]⟩
abbrev S2112 : Shape := ⟨1, ![2112]⟩
abbrev S16x8x64x2112 : Shape := ⟨4, ![16, 8, 64, 2112]⟩
abbrev S1x2112 : Shape := ⟨2, ![1, 2112]⟩
abbrev S64x1 : Shape := ⟨2, ![64, 1]⟩
abbrev S64x2112 : Shape := ⟨2, ![64, 2112]⟩
abbrev S16x8x64x64 : Shape := ⟨4, ![16, 8, 64, 64]⟩
abbrev S16x64x512 : Shape := ⟨3, ![16, 64, 512]⟩

abbrev nBuf : Space → Nat
  | .hbm => 59
  | .vmem => 0
  | .smem => 0
  | _ => 0

abbrev bufTy : (tb : Table) → Fin (tcTables nBuf tb) → BufTy
  | .hbm, ⟨0, _⟩ => ⟨S16x64x8x64, .f32⟩
  | .hbm, ⟨1, _⟩ => ⟨S16x64x8x64, .f32⟩
  | .hbm, ⟨2, _⟩ => ⟨S16x64x8x64, .f32⟩
  | .hbm, ⟨3, _⟩ => ⟨S16x2048x8x64, .f32⟩
  | .hbm, ⟨4, _⟩ => ⟨S16x2048x8x64, .f32⟩
  | .hbm, ⟨5, _⟩ => ⟨S16x2112x8x64, .f32⟩
  | .hbm, ⟨6, _⟩ => ⟨S16x2112x8x64, .f32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S2112, .i32⟩
  | .hbm, ⟨12, _⟩ => ⟨S16x8x64x2112, .f32⟩
  | .hbm, ⟨13, _⟩ => ⟨S_, .f32⟩
  | .hbm, ⟨14, _⟩ => ⟨S16x8x64x2112, .f32⟩
  | .hbm, ⟨15, _⟩ => ⟨S16x8x64x2112, .f32⟩
  | .hbm, ⟨16, _⟩ => ⟨S1x2112, .i32⟩
  | .hbm, ⟨17, _⟩ => ⟨S64x1, .i32⟩
  | .hbm, ⟨18, _⟩ => ⟨S64x2112, .i32⟩
  | .hbm, ⟨19, _⟩ => ⟨S64x2112, .i32⟩
  | .hbm, ⟨20, _⟩ => ⟨S64x2112, .i1⟩
  | .hbm, ⟨21, _⟩ => ⟨S16x8x64x2112, .f32⟩
  | .hbm, ⟨22, _⟩ => ⟨S16x8x64x2112, .f32⟩
  | .hbm, ⟨23, _⟩ => ⟨S_, .f32⟩
  | .hbm, ⟨24, _⟩ => ⟨S16x8x64x2112, .f32⟩
  | .hbm, ⟨25, _⟩ => ⟨S16x8x64x2112, .f32⟩
  | .hbm, ⟨26, _⟩ => ⟨S16x8x64x2112, .f32⟩
  | .hbm, ⟨27, _⟩ => ⟨S16x8x64x2112, .f32⟩
  | .hbm, ⟨28, _⟩ => ⟨S16x8x64x2112, .i1⟩
  | .hbm, ⟨29, _⟩ => ⟨S16x8x64x2112, .f32⟩
  | .hbm, ⟨30, _⟩ => ⟨S16x8x64x2112, .f32⟩
  | .hbm, ⟨31, _⟩ => ⟨S16x8x64x2112, .f32⟩
  | .hbm, ⟨32, _⟩ => ⟨S16x8x64x2112, .f32⟩
  | .hbm, ⟨33, _⟩ => ⟨S16x8x64x2112, .f32⟩
  | .hbm, ⟨34, _⟩ => ⟨S16x8x64x2112, .f32⟩
  | .hbm, ⟨35, _⟩ => ⟨S16x8x64x2112, .f32⟩
  | .hbm, ⟨36, _⟩ => ⟨S16x8x64x2112, .f32⟩
  | .hbm, ⟨37, _⟩ => ⟨S16x8x64x2112, .f32⟩
  | .hbm, ⟨38, _⟩ => ⟨S_, .f32⟩
  | .hbm, ⟨39, _⟩ => ⟨S_, .f32⟩
  | .hbm, ⟨40, _⟩ => ⟨S16x8x64x2112, .i1⟩
  | .hbm, ⟨41, _⟩ => ⟨S16x8x64x2112, .f32⟩
  | .hbm, ⟨42, _⟩ => ⟨S16x8x64x2112, .f32⟩
  | .hbm, ⟨43, _⟩ => ⟨S_, .f32⟩
  | .hbm, ⟨44, _⟩ => ⟨S_, .f32⟩
  | .hbm, ⟨45, _⟩ => ⟨S16x8x64x2112, .f32⟩
  | .hbm, ⟨46, _⟩ => ⟨S16x8x64x2112, .f32⟩
  | .hbm, ⟨47, _⟩ => ⟨S16x8x64x2112, .f32⟩
  | .hbm, ⟨48, _⟩ => ⟨S16x8x64x2112, .f32⟩
  | .hbm, ⟨49, _⟩ => ⟨S16x8x64x2112, .f32⟩
  | .hbm, ⟨50, _⟩ => ⟨S_, .f32⟩
  | .hbm, ⟨51, _⟩ => ⟨S_, .f32⟩
  | .hbm, ⟨52, _⟩ => ⟨S16x8x64x2112, .i1⟩
  | .hbm, ⟨53, _⟩ => ⟨S16x8x64x2112, .f32⟩
  | .hbm, ⟨54, _⟩ => ⟨S16x8x64x2112, .f32⟩
  | .hbm, ⟨55, _⟩ => ⟨S16x8x64x64, .f32⟩
  | .hbm, ⟨56, _⟩ => ⟨S16x64x8x64, .f32⟩
  | .hbm, ⟨57, _⟩ => ⟨S16x64x512, .f32⟩
  | .hbm, ⟨58, _⟩ => ⟨S16x64x512, .bf16⟩
  | _, _ => ⟨S16x64x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_call2_cst : Ref sig .tc := ⟨.hbm, 43, rfl⟩
abbrev main_call2_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩

abbrev nD : Nat := 1
abbrev τ : Topo := Topo.v7x

variable {F : FTy → Type} [FloatOps F]
-- ==== Dense.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S2x16384x2048, .f32⟩
  | .hbm, ⟨36, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Moe.lean ====
abbrev S2x16384x2048 : Shape := ⟨3, ![2, 16384, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S32768x2048 : Shape := ⟨2, ![32768, 2048]⟩
abbrev S_ : Shape := ⟨0, ![]⟩
abbrev S2048x128 : Shape := ⟨2, ![2048, 128]⟩
abbrev S8x2048x768 : Shape := ⟨3, ![8, 2048, 768]⟩
abbrev S8x768x2048 : Shape := ⟨3, ![8, 768, 2048]⟩
abbrev S1x2048 : Shape := ⟨2, ![1, 2048]⟩
abbrev S512x2048 : Shape := ⟨2, ![512, 2048]⟩
abbrev S1x2048x768 : Shape := ⟨3, ![1, 2048, 768]⟩
abbrev S1x768x2048 : Shape := ⟨3, ![1, 768, 2048]⟩
abbrev S512x128 : Shape := ⟨2, ![512, 128]⟩
abbrev S512 : Shape := ⟨1, ![512]⟩
abbrev S512x1 : Shape := ⟨2, ![512, 1]⟩
abbrev S2048x768 : Shape := ⟨2, ![2048, 768]⟩
abbrev S512x768 : Shape := ⟨2, ![512, 768]⟩
abbrev S768x2048 : Shape := ⟨2, ![768, 2048]⟩

abbrev nBuf : Space → Nat
  | .hbm => 26
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8, .f32⟩
  | .hbm, ⟨3, _⟩ => ⟨S8x2048x704, .f32⟩
  | .hbm, ⟨4, _⟩ => ⟨S8x2048x704, .f32⟩
  | .hbm, ⟨5, _⟩ => ⟨S8x704x2048, .f32⟩
  | .hbm, ⟨6, _⟩ => ⟨S2048, .f32⟩
  | .hbm, ⟨7, _⟩ => ⟨S32768x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S_, .f32⟩
  | .hbm, ⟨13, _⟩ => ⟨S8x2048x768, .f32⟩
  | .hbm, ⟨14, _⟩ => ⟨S8x2048x768, .bf16⟩
  | .hbm, ⟨15, _⟩ => ⟨S_, .i32⟩
  | .hbm, ⟨16, _⟩ => ⟨S_, .f32⟩
  | .hbm, ⟨17, _⟩ => ⟨S8x2048x768, .f32⟩
  | .hbm, ⟨18, _⟩ => ⟨S8x2048x768, .bf16⟩
  | .hbm, ⟨19, _⟩ => ⟨S_, .i32⟩
  | .hbm, ⟨20, _⟩ => ⟨S_, .f32⟩
  | .hbm, ⟨21, _⟩ => ⟨S8x768x2048, .f32⟩
  | .hbm, ⟨22, _⟩ => ⟨S8x768x2048, .bf16⟩
  | .hbm, ⟨23, _⟩ => ⟨S1x2048, .f32⟩
  | .hbm, ⟨24, _⟩ => ⟨S1x2048, .f32⟩
  | .hbm, ⟨25, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S1x2048x768, .bf16⟩
  | .local _ .vmem, ⟨5, _⟩ => ⟨S1x2048x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x768x2048, .bf16⟩
  | .local _ .vmem, ⟨9, _⟩ => ⟨S1x768x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | .local _ .vmem, ⟨15, _⟩ => ⟨S512x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeIdeal.lean ====
abbrev S2x16384x2048 : Shape := ⟨3, ![2, 16384, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S32768x2048 : Shape := ⟨2, ![32768, 2048]⟩
abbrev S_ : Shape := ⟨0, ![]⟩
abbrev S2048x128 : Shape := ⟨2, ![2048, 128]⟩
abbrev S8x2048x768 : Shape := ⟨3, ![8, 2048, 768]⟩
abbrev S8x768x2048 : Shape := ⟨3, ![8, 768, 2048]⟩
abbrev S1x2048 : Shape := ⟨2, ![1, 2048]⟩
abbrev S512x2048 : Shape := ⟨2, ![512, 2048]⟩
abbrev S1x2048x768 : Shape := ⟨3, ![1, 2048, 768]⟩
abbrev S1x768x2048 : Shape := ⟨3, ![1, 768, 2048]⟩
abbrev S512x128 : Shape := ⟨2, ![512, 128]⟩
abbrev S512 : Shape := ⟨1, ![512]⟩
abbrev S512x1 : Shape := ⟨2, ![512, 1]⟩
abbrev S2048x768 : Shape := ⟨2, ![2048, 768]⟩
abbrev S512x768 : Shape := ⟨2, ![512, 768]⟩
abbrev S768x2048 : Shape := ⟨2, ![768, 2048]⟩

abbrev nBuf : Space → Nat
  | .hbm => 26
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8, .f32⟩
  | .hbm, ⟨3, _⟩ => ⟨S8x2048x704, .f32⟩
  | .hbm, ⟨4, _⟩ => ⟨S8x2048x704, .f32⟩
  | .hbm, ⟨5, _⟩ => ⟨S8x704x2048, .f32⟩
  | .hbm, ⟨6, _⟩ => ⟨S2048, .f32⟩
  | .hbm, ⟨7, _⟩ => ⟨S32768x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S_, .f32⟩
  | .hbm, ⟨13, _⟩ => ⟨S8x2048x768, .f32⟩
  | .hbm, ⟨14, _⟩ => ⟨S8x2048x768, .bf16⟩
  | .hbm, ⟨15, _⟩ => ⟨S_, .i32⟩
  | .hbm, ⟨16, _⟩ => ⟨S_, .f32⟩
  | .hbm, ⟨17, _⟩ => ⟨S8x2048x768, .f32⟩
  | .hbm, ⟨18, _⟩ => ⟨S8x2048x768, .bf16⟩
  | .hbm, ⟨19, _⟩ => ⟨S_, .i32⟩
  | .hbm, ⟨20, _⟩ => ⟨S_, .f32⟩
  | .hbm, ⟨21, _⟩ => ⟨S8x768x2048, .f32⟩
  | .hbm, ⟨22, _⟩ => ⟨S8x768x2048, .bf16⟩
  | .hbm, ⟨23, _⟩ => ⟨S1x2048, .f32⟩
  | .hbm, ⟨24, _⟩ => ⟨S1x2048, .f32⟩
  | .hbm, ⟨25, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S1x2048x768, .bf16⟩
  | .local _ .vmem, ⟨5, _⟩ => ⟨S1x2048x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x768x2048, .bf16⟩
  | .local _ .vmem, ⟨9, _⟩ => ⟨S1x768x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | .local _ .vmem, ⟨15, _⟩ => ⟨S512x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S2x16384x2048 : Shape := ⟨3, ![2, 16384, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8 : Shape := ⟨3, ![2, 16384, 8]⟩
abbrev S2x16384x2 : Shape := ⟨3, ![2, 16384, 2]⟩
abbrev S2x16384x2x1 : Shape := ⟨4, ![2, 16384, 2, 1]⟩
abbrev S1x1x1x8 : Shape := ⟨4, ![1, 1, 1, 8]⟩
abbrev S2x16384x2x8 : Shape := ⟨4, ![2, 16384, 2, 8]⟩
abbrev S1x2048x704 : Shape := ⟨3, ![1, 2048, 704]⟩
abbrev S2048x704 : Shape := ⟨2, ![2048, 704]⟩
abbrev S1x704x2048 : Shape := ⟨3, ![1, 704, 2048]⟩
abbrev S704x2048 : Shape := ⟨2, ![704, 2048]⟩
abbrev S2x16384x704 : Shape := ⟨3, ![2, 16384, 704]⟩
abbrev S32768x2048 : Shape := ⟨2, ![32768, 2048]⟩

abbrev nBuf : Space → Nat
  | .hbm => 252
  | .vmem => 0
  | .smem => 0
  | _ => 0

abbrev hbmTy0_0 (i : Nat) : BufTy := match i % 128 with
  | 0 => ⟨S2x16384x2048, .f32⟩
  | 1 => ⟨S2048, .f32⟩
  | 2 => ⟨S2048x8, .f32⟩
  | 3 => ⟨S8x2048x704, .f32⟩
  | 4 => ⟨S8x2048x704, .f32⟩
  | 5 => ⟨S8x704x2048, .f32⟩
  | 6 => ⟨S2048, .f32⟩
  | 7 => ⟨S2x16384x2048, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x2048, .f32⟩
  | 19 => ⟨S2x16384x2048, .f32⟩
  | 20 => ⟨S1x1x2048, .f32⟩
  | 21 => ⟨S2x16384x2048, .f32⟩
  | 22 => ⟨S2x16384x2048, .f32⟩
  | 23 => ⟨S2x16384x8, .f32⟩
  | 24 => ⟨S2x16384x2, .f32⟩
  | 25 => ⟨S2x16384x2, .i32⟩
  | 26 => ⟨S_, .f32⟩
  | 27 => ⟨S2x16384, .f32⟩
  | 28 => ⟨S_, .f32⟩
  | 29 => ⟨S2x16384, .f32⟩
  | 30 => ⟨S2x16384, .f32⟩
  | 31 => ⟨S2x16384x1, .f32⟩
  | 32 => ⟨S2x16384x2, .f32⟩
  | 33 => ⟨S2x16384x2, .f32⟩
  | 34 => ⟨S2x16384x2, .f32⟩
  | 35 => ⟨S_, .f32⟩
  | 36 => ⟨S2x16384, .f32⟩
  | 37 => ⟨S2x16384x1, .f32⟩
  | 38 => ⟨S2x16384x2, .f32⟩
  | 39 => ⟨S2x16384x2, .f32⟩
  | 40 => ⟨S2x16384x2x1, .i32⟩
  | 41 => ⟨S1x1x1x8, .i32⟩
  | 42 => ⟨S2x16384x2x8, .i32⟩
  | 43 => ⟨S2x16384x2x8, .i32⟩
  | 44 => ⟨S2x16384x2x8, .i1⟩
  | 45 => ⟨S2x16384x2x8, .f32⟩
  | 46 => ⟨S2x16384x2x1, .f32⟩
  | 47 => ⟨S2x16384x2x8, .f32⟩
  | 48 => ⟨S2x16384x2x8, .f32⟩
  | 49 => ⟨S_, .f32⟩
  | 50 => ⟨S2x16384x8, .f32⟩
  | 51 => ⟨S2x16384x1, .f32⟩
  | 52 => ⟨S1x2048x704, .f32⟩
  | 53 => ⟨S2048x704, .f32⟩
  | 54 => ⟨S1x2048x704, .f32⟩
  | 55 => ⟨S2048x704, .f32⟩
  | 56 => ⟨S1x704x2048, .f32⟩
  | 57 => ⟨S704x2048, .f32⟩
  | 58 => ⟨S2x16384x704, .f32⟩
  | 59 => ⟨S2x16384x704, .f32⟩
  | 60 => ⟨S2x16384x704, .f32⟩
  | 61 => ⟨S_, .f32⟩
  | 62 => ⟨S2x16384x704, .f32⟩
  | 63 => ⟨S2x16384x704, .f32⟩
  | 64 => ⟨S_, .f32⟩
  | 65 => ⟨S2x16384x704, .f32⟩
  | 66 => ⟨S2x16384x704, .f32⟩
  | 67 => ⟨S2x16384x704, .f32⟩
  | 68 => ⟨S2x16384x704, .f32⟩
  | 69 => ⟨S2x16384x704, .f32⟩
  | 70 => ⟨S2x16384x2048, .f32⟩
  | 71 => ⟨S2x16384x2048, .f32⟩
  | 72 => ⟨S2x16384x2048, .f32⟩
  | 73 => ⟨S2x16384x1, .f32⟩
  | 74 => ⟨S1x2048x704, .f32⟩
  | 75 => ⟨S2048x704, .f32⟩
  | 76 => ⟨S1x2048x704, .f32⟩
  | 77 => ⟨S2048x704, .f32⟩
  | 78 => ⟨S1x704x2048, .f32⟩
  | 79 => ⟨S704x2048, .f32⟩
  | 80 => ⟨S2x16384x704, .f32⟩
  | 81 => ⟨S2x16384x704, .f32⟩
  | 82 => ⟨S2x16384x704, .f32⟩
  | 83 => ⟨S_, .f32⟩
  | 84 => ⟨S2x16384x704, .f32⟩
  | 85 => ⟨S2x16384x704, .f32⟩
  | 86 => ⟨S_, .f32⟩
  | 87 => ⟨S2x16384x704, .f32⟩
  | 88 => ⟨S2x16384x704, .f32⟩
  | 89 => ⟨S2x16384x704, .f32⟩
  | 90 => ⟨S2x16384x704, .f32⟩
  | 91 => ⟨S2x16384x704, .f32⟩
  | 92 => ⟨S2x16384x2048, .f32⟩
  | 93 => ⟨S2x16384x2048, .f32⟩
  | 94 => ⟨S2x16384x2048, .f32⟩
  | 95 => ⟨S2x16384x2048, .f32⟩
  | 96 => ⟨S2x16384x1, .f32⟩
  | 97 => ⟨S1x2048x704, .f32⟩
  | 98 => ⟨S2048x704, .f32⟩
  | 99 => ⟨S1x2048x704, .f32⟩
  | 100 => ⟨S2048x704, .f32⟩
  | 101 => ⟨S1x704x2048, .f32⟩
  | 102 => ⟨S704x2048, .f32⟩
  | 103 => ⟨S2x16384x704, .f32⟩
  | 104 => ⟨S2x16384x704, .f32⟩
  | 105 => ⟨S2x16384x704, .f32⟩
  | 106 => ⟨S_, .f32⟩
  | 107 => ⟨S2x16384x704, .f32⟩
  | 108 => ⟨S2x16384x704, .f32⟩
  | 109 => ⟨S_, .f32⟩
  | 110 => ⟨S2x16384x704, .f32⟩
  | 111 => ⟨S2x16384x704, .f32⟩
  | 112 => ⟨S2x16384x704, .f32⟩
  | 113 => ⟨S2x16384x704, .f32⟩
  | 114 => ⟨S2x16384x704, .f32⟩
  | 115 => ⟨S2x16384x2048, .f32⟩
  | 116 => ⟨S2x16384x2048, .f32⟩
  | 117 => ⟨S2x16384x2048, .f32⟩
  | 118 => ⟨S2x16384x2048, .f32⟩
  | 119 => ⟨S2x16384x1, .f32⟩
  | 120 => ⟨S1x2048x704, .f32⟩
  | 121 => ⟨S2048x704, .f32⟩
  | 122 => ⟨S1x2048x704, .f32⟩
  | 123 => ⟨S2048x704, .f32⟩
  | 124 => ⟨S1x704x2048, .f32⟩
  | 125 => ⟨S704x2048, .f32⟩
  | 126 => ⟨S2x16384x704, .f32⟩
  | 127 => ⟨S2x16384x704, .f32⟩
  | _ => ⟨S2x16384x2048, .f32⟩

abbrev hbmTy0_1 (i : Nat) : BufTy := match i % 128 with
  | 0 => ⟨S2x16384x704, .f32⟩
  | 1 => ⟨S_, .f32⟩
  | 2 => ⟨S2x16384x704, .f32⟩
  | 3 => ⟨S2x16384x704, .f32⟩
  | 4 => ⟨S_, .f32⟩
  | 5 => ⟨S2x16384x704, .f32⟩
  | 6 => ⟨S2x16384x704, .f32⟩
  | 7 => ⟨S2x16384x704, .f32⟩
  | 8 => ⟨S2x16384x704, .f32⟩
  | 9 => ⟨S2x16384x704, .f32⟩
  | 10 => ⟨S2x16384x2048, .f32⟩
  | 11 => ⟨S2x16384x2048, .f32⟩
  | 12 => ⟨S2x16384x2048, .f32⟩
  | 13 => ⟨S2x16384x2048, .f32⟩
  | 14 => ⟨S2x16384x1, .f32⟩
  | 15 => ⟨S1x2048x704, .f32⟩
  | 16 => ⟨S2048x704, .f32⟩
  | 17 => ⟨S1x2048x704, .f32⟩
  | 18 => ⟨S2048x704, .f32⟩
  | 19 => ⟨S1x704x2048, .f32⟩
  | 20 => ⟨S704x2048, .f32⟩
  | 21 => ⟨S2x16384x704, .f32⟩
  | 22 => ⟨S2x16384x704, .f32⟩
  | 23 => ⟨S2x16384x704, .f32⟩
  | 24 => ⟨S_, .f32⟩
  | 25 => ⟨S2x16384x704, .f32⟩
  | 26 => ⟨S2x16384x704, .f32⟩
  | 27 => ⟨S_, .f32⟩
  | 28 => ⟨S2x16384x704, .f32⟩
  | 29 => ⟨S2x16384x704, .f32⟩
  | 30 => ⟨S2x16384x704, .f32⟩
  | 31 => ⟨S2x16384x704, .f32⟩
  | 32 => ⟨S2x16384x704, .f32⟩
  | 33 => ⟨S2x16384x2048, .f32⟩
  | 34 => ⟨S2x16384x2048, .f32⟩
  | 35 => ⟨S2x16384x2048, .f32⟩
  | 36 => ⟨S2x16384x2048, .f32⟩
  | 37 => ⟨S2x16384x1, .f32⟩
  | 38 => ⟨S1x2048x704, .f32⟩
  | 39 => ⟨S2048x704, .f32⟩
  | 40 => ⟨S1x2048x704, .f32⟩
  | 41 => ⟨S2048x704, .f32⟩
  | 42 => ⟨S1x704x2048, .f32⟩
  | 43 => ⟨S704x2048, .f32⟩
  | 44 => ⟨S2x16384x704, .f32⟩
  | 45 => ⟨S2x16384x704, .f32⟩
  | 46 => ⟨S2x16384x704, .f32⟩
  | 47 => ⟨S_, .f32⟩
  | 48 => ⟨S2x16384x704, .f32⟩
  | 49 => ⟨S2x16384x704, .f32⟩
  | 50 => ⟨S_, .f32⟩
  | 51 => ⟨S2x16384x704, .f32⟩
  | 52 => ⟨S2x16384x704, .f32⟩
  | 53 => ⟨S2x16384x704, .f32⟩
  | 54 => ⟨S2x16384x704, .f32⟩
  | 55 => ⟨S2x16384x704, .f32⟩
  | 56 => ⟨S2x16384x2048, .f32⟩
  | 57 => ⟨S2x16384x2048, .f32⟩
  | 58 => ⟨S2x16384x2048, .f32⟩
  | 59 => ⟨S2x16384x2048, .f32⟩
  | 60 => ⟨S2x16384x1, .f32⟩
  | 61 => ⟨S1x2048x704, .f32⟩
  | 62 => ⟨S2048x704, .f32⟩
  | 63 => ⟨S1x2048x704, .f32⟩
  | 64 => ⟨S2048x704, .f32⟩
  | 65 => ⟨S1x704x2048, .f32⟩
  | 66 => ⟨S704x2048, .f32⟩
  | 67 => ⟨S2x16384x704, .f32⟩
  | 68 => ⟨S2x16384x704, .f32⟩
  | 69 => ⟨S2x16384x704, .f32⟩
  | 70 => ⟨S_, .f32⟩
  | 71 => ⟨S2x16384x704, .f32⟩
  | 72 => ⟨S2x16384x704, .f32⟩
  | 73 => ⟨S_, .f32⟩
  | 74 => ⟨S2x16384x704, .f32⟩
  | 75 => ⟨S2x16384x704, .f32⟩
  | 76 => ⟨S2x16384x704, .f32⟩
  | 77 => ⟨S2x16384x704, .f32⟩
  | 78 => ⟨S2x16384x704, .f32⟩
  | 79 => ⟨S2x16384x2048, .f32⟩
  | 80 => ⟨S2x16384x2048, .f32⟩
  | 81 => ⟨S2x16384x2048, .f32⟩
  | 82 => ⟨S2x16384x2048, .f32⟩
  | 83 => ⟨S2x16384x1, .f32⟩
  | 84 => ⟨S1x2048x704, .f32⟩
  | 85 => ⟨S2048x704, .f32⟩
  | 86 => ⟨S1x2048x704, .f32⟩
  | 87 => ⟨S2048x704, .f32⟩
  | 88 => ⟨S1x704x2048, .f32⟩
  | 89 => ⟨S704x2048, .f32⟩
  | 90 => ⟨S2x16384x704, .f32⟩
  | 91 => ⟨S2x16384x704, .f32⟩
  | 92 => ⟨S2x16384x704, .f32⟩
  | 93 => ⟨S_, .f32⟩
  | 94 => ⟨S2x16384x704, .f32⟩
  | 95 => ⟨S2x16384x704, .f32⟩
  | 96 => ⟨S_, .f32⟩
  | 97 => ⟨S2x16384x704, .f32⟩
  | 98 => ⟨S2x16384x704, .f32⟩
  | 99 => ⟨S2x16384x704, .f32⟩
  | 100 => ⟨S2x16384x704, .f32⟩
  | 101 => ⟨S2x16384x704, .f32⟩
  | 102 => ⟨S2x16384x2048, .f32⟩
  | 103 => ⟨S2x16384x2048, .f32⟩
  | 104 => ⟨S2x16384x2048, .f32⟩
  | 105 => ⟨S2x16384x2048, .f32⟩
  | 106 => ⟨S2x16384x2048, .f32⟩
  | 107 => ⟨S2x16384x2048, .f32⟩
  | 108 => ⟨S_, .f32⟩
  | 109 => ⟨S2x16384, .f32⟩
  | 110 => ⟨S2x16384x1, .f32⟩
  | 111 => ⟨S_, .f32⟩
  | 112 => ⟨S2x16384x1, .f32⟩
  | 113 => ⟨S2x16384x1, .f32⟩
  | 114 => ⟨S_, .f32⟩
  | 115 => ⟨S2x16384x1, .f32⟩
  | 116 => ⟨S2x16384x1, .f32⟩
  | 117 => ⟨S2x16384x1, .f32⟩
  | 118 => ⟨S2x16384x2048, .f32⟩
  | 119 => ⟨S2x16384x2048, .f32⟩
  | 120 => ⟨S1x1x2048, .f32⟩
  | 121 => ⟨S2x16384x2048, .f32⟩
  | 122 => ⟨S2x16384x2048, .f32⟩
  | 123 => ⟨S32768x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_call6_v0 : Ref sig .tc := ⟨.hbm, 173, rfl⟩
abbrev main_call6_v1 : Ref sig .tc := ⟨.hbm, 174, rfl⟩
abbrev main_call6_cst : Ref sig .tc := ⟨.hbm, 175, rfl⟩
abbrev main_call6_v2 : Ref sig .tc := ⟨.hbm, 176, rfl⟩
abbrev main_call6_v3 : Ref sig .tc := ⟨.hbm, 177, rfl⟩
abbrev main_call6_cst_0 : Ref sig .tc := ⟨.hbm, 178, rfl⟩
abbrev main_call6_v4 : Ref sig .tc := ⟨.hbm, 179, rfl⟩
abbrev main_call6_v5 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_call7_v0 : Ref sig .tc := ⟨.hbm, 196, rfl⟩
abbrev main_call7_v1 : Ref sig .tc := ⟨.hbm, 197, rfl⟩
abbrev main_call7_cst : Ref sig .tc := ⟨.hbm, 198, rfl⟩
abbrev main_call7_v2 : Ref sig .tc := ⟨.hbm, 199, rfl⟩
abbrev main_call7_v3 : Ref sig .tc := ⟨.hbm, 200, rfl⟩
abbrev main_call7_cst_0 : Ref sig .tc := ⟨.hbm, 201, rfl⟩
abbrev main_call7_v4 : Ref sig .tc := ⟨.hbm, 202, rfl⟩
abbrev main_call7_v5 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_call8_v0 : Ref sig .tc := ⟨.hbm, 219, rfl⟩
abbrev main_call8_v1 : Ref sig .tc := ⟨.hbm, 220, rfl⟩
abbrev main_call8_cst : Ref sig .tc := ⟨.hbm, 221, rfl⟩
abbrev main_call8_v2 : Ref sig .tc := ⟨.hbm, 222, rfl⟩
abbrev main_call8_v3 : Ref sig .tc := ⟨.hbm, 223, rfl⟩
abbrev main_call8_cst_0 : Ref sig .tc := ⟨.hbm, 224, rfl⟩
abbrev main_call8_v4 : Ref sig .tc := ⟨.hbm, 225, rfl⟩
abbrev main_call8_v5 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_6 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩

abbrev nD : Nat := 1
abbrev τ : Topo := Topo.v7x

variable {F : FTy → Type} [FloatOps F]
-- ==== In.lean ====
abbrev S2x16384x2048 : Shape := ⟨3, ![2, 16384, 2048]⟩
abbrev S2048 : Shape := ⟨1, ![2048]⟩
abbrev S2048x6056 : Shape := ⟨2, ![2048, 6056]⟩
abbrev S2x15x512 : Shape := ⟨3, ![2, 15, 512]⟩
abbrev S32768x2048 : Shape := ⟨2, ![32768, 2048]⟩
abbrev S2048x1696 : Shape := ⟨2, ![2048, 1696]⟩
abbrev S2048x512 : Shape := ⟨2, ![2048, 512]⟩
abbrev S2048x1536 : Shape := ⟨2, ![2048, 1536]⟩
abbrev S2048x2056 : Shape := ⟨2, ![2048, 2056]⟩
abbrev S2048x256 : Shape := ⟨2, ![2048, 256]⟩
abbrev S2048x160 : Shape := ⟨2, ![2048, 160]⟩
abbrev S2048x8 : Shape := ⟨2, ![2048, 8]⟩
abbrev S2048x2048 : Shape := ⟨2, ![2048, 2048]⟩
abbrev S_ : Shape := ⟨0, ![]⟩
abbrev S2048x96 : Shape := ⟨2, ![2048, 96]⟩
abbrev S2048x120 : Shape := ⟨2, ![2048, 120]⟩
abbrev S2048x128 : Shape := ⟨2, ![2048, 128]⟩
abbrev S2048x6400 : Shape := ⟨2, ![2048, 6400]⟩
abbrev S1x2048 : Shape := ⟨2, ![1, 2048]⟩
abbrev S32768x6400 : Shape := ⟨2, ![32768, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩
abbrev S2x16384x6400 : Shape := ⟨3, ![2, 16384, 6400]⟩
abbrev S2x1x6400 : Shape := ⟨3, ![2, 1, 6400]⟩
abbrev S2x6400 : Shape := ⟨2, ![2, 6400]⟩
abbrev S2x1536 : Shape := ⟨2, ![2, 1536]⟩
abbrev S2x160 : Shape := ⟨2, ![2, 160]⟩
abbrev S2x1696 : Shape := ⟨2, ![2, 1696]⟩
abbrev S2x16384x512 : Shape := ⟨3, ![2, 16384, 512]⟩
abbrev S2x30x512 : Shape := ⟨3, ![2, 30, 512]⟩
abbrev S2x16384x1536 : Shape := ⟨3, ![2, 16384, 1536]⟩
abbrev S2x16384x160 : Shape := ⟨3, ![2, 16384, 160]⟩
abbrev S2x16384x8 : Shape := ⟨3, ![2, 16384, 8]⟩
abbrev S2x16384x256 : Shape := ⟨3, ![2, 16384, 256]⟩
abbrev S2x16384x6056 : Shape := ⟨3, ![2, 16384, 6056]⟩

abbrev nBuf : Space → Nat
  | .hbm => 41
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6056, .f32⟩
  | .hbm, ⟨3, _⟩ => ⟨S2x15x512, .f32⟩
  | .hbm, ⟨4, _⟩ => ⟨S32768x2048, .f32⟩
  | .hbm, ⟨5, _⟩ => ⟨S2048x1696, .f32⟩
  | .hbm, ⟨6, _⟩ => ⟨S2048x512, .f32⟩
  | .hbm, ⟨7, _⟩ => ⟨S2048x1536, .f32⟩
  | .hbm, ⟨8, _⟩ => ⟨S2048x2056, .f32⟩
  | .hbm, ⟨9, _⟩ => ⟨S2048x256, .f32⟩
  | .hbm, ⟨10, _⟩ => ⟨S2048x160, .f32⟩
  | .hbm, ⟨11, _⟩ => ⟨S2048x8, .f32⟩
  | .hbm, ⟨12, _⟩ => ⟨S2048x2048, .f32⟩
  | .hbm, ⟨13, _⟩ => ⟨S2048x1536, .f32⟩
  | .hbm, ⟨14, _⟩ => ⟨S_, .f32⟩
  | .hbm, ⟨15, _⟩ => ⟨S2048x96, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x6400, .f32⟩
  | .hbm, ⟨21, _⟩ => ⟨S2048x6400, .bf16⟩
  | .hbm, ⟨22, _⟩ => ⟨S1x2048, .f32⟩
  | .hbm, ⟨23, _⟩ => ⟨S32768x6400, .f32⟩
  | .hbm, ⟨24, _⟩ => ⟨S2x16384x6400, .f32⟩
  | .hbm, ⟨25, _⟩ => ⟨S2x1x6400, .f32⟩
  | .hbm, ⟨26, _⟩ => ⟨S2x6400, .f32⟩
  | .hbm, ⟨27, _⟩ => ⟨S2x1536, .f32⟩
  | .hbm, ⟨28, _⟩ => ⟨S2x160, .f32⟩
  | .hbm, ⟨29, _⟩ => ⟨S2x1696, .f32⟩
  | .hbm, ⟨30, _⟩ => ⟨S2x16384x512, .f32⟩
  | .hbm, ⟨31, _⟩ => ⟨S2x15x512, .f32⟩
  | .hbm, ⟨32, _⟩ => ⟨S2x30x512, .f32⟩
  | .hbm, ⟨33, _⟩ => ⟨S2x15x512, .f32⟩
  | .hbm, ⟨34, _⟩ => ⟨S2x16384x1536, .f32⟩
  | .hbm, ⟨35, _⟩ => ⟨S2x16384x160, .f32⟩
  | .hbm, ⟨36, _⟩ => ⟨S2x16384x2048, .f32⟩
  | .hbm, ⟨37, _⟩ => ⟨S2x16384x2048, .f32⟩
  | .hbm, ⟨38, _⟩ => ⟨S2x16384x8, .f32⟩
  | .hbm, ⟨39, _⟩ => ⟨S2x16384x256, .f32⟩
  | .hbm, ⟨40, _⟩ => ⟨S2x16384x6056, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InIdeal.lean ====
abbrev S2x16384x2048 : Shape := ⟨3, ![2, 16384, 2048]⟩
abbrev S2048 : Shape := ⟨1, ![2048]⟩
abbrev S2048x6056 : Shape := ⟨2, ![2048, 6056]⟩
abbrev S2x15x512 : Shape := ⟨3, ![2, 15, 512]⟩
abbrev S32768x2048 : Shape := ⟨2, ![32768, 2048]⟩
abbrev S2048x1696 : Shape := ⟨2, ![2048, 1696]⟩
abbrev S2048x512 : Shape := ⟨2, ![2048, 512]⟩
abbrev S2048x1536 : Shape := ⟨2, ![2048, 1536]⟩
abbrev S2048x2056 : Shape := ⟨2, ![2048, 2056]⟩
abbrev S2048x256 : Shape := ⟨2, ![2048, 256]⟩
abbrev S2048x160 : Shape := ⟨2, ![2048, 160]⟩
abbrev S2048x8 : Shape := ⟨2, ![2048, 8]⟩
abbrev S2048x2048 : Shape := ⟨2, ![2048, 2048]⟩
abbrev S_ : Shape := ⟨0, ![]⟩
abbrev S2048x96 : Shape := ⟨2, ![2048, 96]⟩
abbrev S2048x120 : Shape := ⟨2, ![2048, 120]⟩
abbrev S2048x128 : Shape := ⟨2, ![2048, 128]⟩
abbrev S2048x6400 : Shape := ⟨2, ![2048, 6400]⟩
abbrev S1x2048 : Shape := ⟨2, ![1, 2048]⟩
abbrev S32768x6400 : Shape := ⟨2, ![32768, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩
abbrev S2x16384x6400 : Shape := ⟨3, ![2, 16384, 6400]⟩
abbrev S2x1x6400 : Shape := ⟨3, ![2, 1, 6400]⟩
abbrev S2x6400 : Shape := ⟨2, ![2, 6400]⟩
abbrev S2x1536 : Shape := ⟨2, ![2, 1536]⟩
abbrev S2x160 : Shape := ⟨2, ![2, 160]⟩
abbrev S2x1696 : Shape := ⟨2, ![2, 1696]⟩
abbrev S2x16384x512 : Shape := ⟨3, ![2, 16384, 512]⟩
abbrev S2x30x512 : Shape := ⟨3, ![2, 30, 512]⟩
abbrev S2x16384x1536 : Shape := ⟨3, ![2, 16384, 1536]⟩
abbrev S2x16384x160 : Shape := ⟨3, ![2, 16384, 160]⟩
abbrev S2x16384x8 : Shape := ⟨3, ![2, 16384, 8]⟩
abbrev S2x16384x256 : Shape := ⟨3, ![2, 16384, 256]⟩
abbrev S2x16384x6056 : Shape := ⟨3, ![2, 16384, 6056]⟩

abbrev nBuf : Space → Nat
  | .hbm => 41
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6056, .f32⟩
  | .hbm, ⟨3, _⟩ => ⟨S2x15x512, .f32⟩
  | .hbm, ⟨4, _⟩ => ⟨S32768x2048, .f32⟩
  | .hbm, ⟨5, _⟩ => ⟨S2048x1696, .f32⟩
  | .hbm, ⟨6, _⟩ => ⟨S2048x512, .f32⟩
  | .hbm, ⟨7, _⟩ => ⟨S2048x1536, .f32⟩
  | .hbm, ⟨8, _⟩ => ⟨S2048x2056, .f32⟩
  | .hbm, ⟨9, _⟩ => ⟨S2048x256, .f32⟩
  | .hbm, ⟨10, _⟩ => ⟨S2048x160, .f32⟩
  | .hbm, ⟨11, _⟩ => ⟨S2048x8, .f32⟩
  | .hbm, ⟨12, _⟩ => ⟨S2048x2048, .f32⟩
  | .hbm, ⟨13, _⟩ => ⟨S2048x1536, .f32⟩
  | .hbm, ⟨14, _⟩ => ⟨S_, .f32⟩
  | .hbm, ⟨15, _⟩ => ⟨S2048x96, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x6400, .f32⟩
  | .hbm, ⟨21, _⟩ => ⟨S2048x6400, .bf16⟩
  | .hbm, ⟨22, _⟩ => ⟨S1x2048, .f32⟩
  | .hbm, ⟨23, _⟩ => ⟨S32768x6400, .f32⟩
  | .hbm, ⟨24, _⟩ => ⟨S2x16384x6400, .f32⟩
  | .hbm, ⟨25, _⟩ => ⟨S2x1x6400, .f32⟩
  | .hbm, ⟨26, _⟩ => ⟨S2x6400, .f32⟩
  | .hbm, ⟨27, _⟩ => ⟨S2x1536, .f32⟩
  | .hbm, ⟨28, _⟩ => ⟨S2x160, .f32⟩
  | .hbm, ⟨29, _⟩ => ⟨S2x1696, .f32⟩
  | .hbm, ⟨30, _⟩ => ⟨S2x16384x512, .f32⟩
  | .hbm, ⟨31, _⟩ => ⟨S2x15x512, .f32⟩
  | .hbm, ⟨32, _⟩ => ⟨S2x30x512, .f32⟩
  | .hbm, ⟨33, _⟩ => ⟨S2x15x512, .f32⟩
  | .hbm, ⟨34, _⟩ => ⟨S2x16384x1536, .f32⟩
  | .hbm, ⟨35, _⟩ => ⟨S2x16384x160, .f32⟩
  | .hbm, ⟨36, _⟩ => ⟨S2x16384x2048, .f32⟩
  | .hbm, ⟨37, _⟩ => ⟨S2x16384x2048, .f32⟩
  | .hbm, ⟨38, _⟩ => ⟨S2x16384x8, .f32⟩
  | .hbm, ⟨39, _⟩ => ⟨S2x16384x256, .f32⟩
  | .hbm, ⟨40, _⟩ => ⟨S2x16384x6056, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S2x16384x2048 : Shape := ⟨3, ![2, 16384, 2048]⟩
abbrev S2048 : Shape := ⟨1, ![2048]⟩
abbrev S2048x6056 : Shape := ⟨2, ![2048, 6056]⟩
abbrev S2x15x512 : Shape := ⟨3, ![2, 15, 512]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6056 : Shape := ⟨3, ![2, 16384, 6056]⟩
abbrev S2x16384x512 : Shape := ⟨3, ![2, 16384, 512]⟩
abbrev S2x16399x512 : Shape := ⟨3, ![2, 16399, 512]⟩
abbrev S2x16384x1696 : Shape := ⟨3, ![2, 16384, 1696]⟩
abbrev S2x1x1696 : Shape := ⟨3, ![2, 1, 1696]⟩
abbrev S2x1696 : Shape := ⟨2, ![2, 1696]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6056, .f32⟩
  | .hbm, ⟨3, _⟩ => ⟨S2x15x512, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2x16384x6056, .f32⟩
  | .hbm, ⟨21, _⟩ => ⟨S2x16384x512, .f32⟩
  | .hbm, ⟨22, _⟩ => ⟨S2x16399x512, .f32⟩
  | .hbm, ⟨23, _⟩ => ⟨S2x16384x1696, .f32⟩
  | .hbm, ⟨24, _⟩ => ⟨S2x1x1696, .f32⟩
  | .hbm, ⟨25, _⟩ => ⟨S2x1696, .f32⟩
  | .hbm, ⟨26, _⟩ => ⟨S2x15x512, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InS.lean ====
abbrev S16x64x2048 : Shape := ⟨3, ![16, 64, 2048]⟩
abbrev S2048 : Shape := ⟨1, ![2048]⟩
abbrev S2048x6056 : Shape := ⟨2, ![2048, 6056]⟩
abbrev S16x15x512 : Shape := ⟨3, ![16, 15, 512]⟩
abbrev S1024x2048 : Shape := ⟨2, ![1024, 2048]⟩
abbrev S2048x1696 : Shape := ⟨2, ![2048, 1696]⟩
abbrev S2048x512 : Shape := ⟨2, ![2048, 512]⟩
abbrev S2048x1536 : Shape := ⟨2, ![2048, 1536]⟩
abbrev S2048x2056 : Shape := ⟨2, ![2048, 2056]⟩
abbrev S2048x256 : Shape := ⟨2, ![2048, 256]⟩
abbrev S2048x160 : Shape := ⟨2, ![2048, 160]⟩
abbrev S2048x8 : Shape := ⟨2, ![2048, 8]⟩
abbrev S2048x2048 : Shape := ⟨2, ![2048, 2048]⟩
abbrev S_ : Shape := ⟨0, ![]⟩
abbrev S2048x96 : Shape := ⟨2, ![2048, 96]⟩
abbrev S2048x120 : Shape := ⟨2, ![2048, 120]⟩
abbrev S2048x128 : Shape := ⟨2, ![2048, 128]⟩
abbrev S2048x6400 : Shape := ⟨2, ![2048, 6400]⟩
abbrev S1x2048 : Shape := ⟨2, ![1, 2048]⟩
abbrev S1024x6400 : Shape := ⟨2, ![1024, 6400]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩
abbrev S16x64x6400 : Shape := ⟨3, ![16, 64, 6400]⟩
abbrev S16x1x6400 : Shape := ⟨3, ![16, 1, 6400]⟩
abbrev S16x6400 : Shape := ⟨2, ![16, 6400]⟩
abbrev S16x1536 : Shape := ⟨2, ![16, 1536]⟩
abbrev S16x160 : Shape := ⟨2, ![16, 160]⟩
abbrev S16x1696 : Shape := ⟨2, ![16, 1696]⟩
abbrev S16x64x512 : Shape := ⟨3, ![16, 64, 512]⟩
abbrev S16x30x512 : Shape := ⟨3, ![16, 30, 512]⟩
abbrev S16x64x1536 : Shape := ⟨3, ![16, 64, 1536]⟩
abbrev S16x64x160 : Shape := ⟨3, ![16, 64, 160]⟩
abbrev S16x64x8 : Shape := ⟨3, ![16, 64, 8]⟩
abbrev S16x64x256 : Shape := ⟨3, ![16, 64, 256]⟩
abbrev S16x64x6056 : Shape := ⟨3, ![16, 64, 6056]⟩

abbrev nBuf : Space → Nat
  | .hbm => 41
  | .vmem => 7
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x6056, .f32⟩
  | .hbm, ⟨3, _⟩ => ⟨S16x15x512, .f32⟩
  | .hbm, ⟨4, _⟩ => ⟨S1024x2048, .f32⟩
  | .hbm, ⟨5, _⟩ => ⟨S2048x1696, .f32⟩
  | .hbm, ⟨6, _⟩ => ⟨S2048x512, .f32⟩
  | .hbm, ⟨7, _⟩ => ⟨S2048x1536, .f32⟩
  | .hbm, ⟨8, _⟩ => ⟨S2048x2056, .f32⟩
  | .hbm, ⟨9, _⟩ => ⟨S2048x256, .f32⟩
  | .hbm, ⟨10, _⟩ => ⟨S2048x160, .f32⟩
  | .hbm, ⟨11, _⟩ => ⟨S2048x8, .f32⟩
  | .hbm, ⟨12, _⟩ => ⟨S2048x2048, .f32⟩
  | .hbm, ⟨13, _⟩ => ⟨S2048x1536, .f32⟩
  | .hbm, ⟨14, _⟩ => ⟨S_, .f32⟩
  | .hbm, ⟨15, _⟩ => ⟨S2048x96, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x6400, .f32⟩
  | .hbm, ⟨21, _⟩ => ⟨S2048x6400, .bf16⟩
  | .hbm, ⟨22, _⟩ => ⟨S1x2048, .f32⟩
  | .hbm, ⟨23, _⟩ => ⟨S1024x6400, .f32⟩
  | .hbm, ⟨24, _⟩ => ⟨S16x64x6400, .f32⟩
  | .hbm, ⟨25, _⟩ => ⟨S16x1x6400, .f32⟩
  | .hbm, ⟨26, _⟩ => ⟨S16x6400, .f32⟩
  | .hbm, ⟨27, _⟩ => ⟨S16x1536, .f32⟩
  | .hbm, ⟨28, _⟩ => ⟨S16x160, .f32⟩
  | .hbm, ⟨29, _⟩ => ⟨S16x1696, .f32⟩
  | .hbm, ⟨30, _⟩ => ⟨S16x64x512, .f32⟩
  | .hbm, ⟨31, _⟩ => ⟨S16x15x512, .f32⟩
  | .hbm, ⟨32, _⟩ => ⟨S16x30x512, .f32⟩
  | .hbm, ⟨33, _⟩ => ⟨S16x15x512, .f32⟩
  | .hbm, ⟨34, _⟩ => ⟨S16x64x1536, .f32⟩
  | .hbm, ⟨35, _⟩ => ⟨S16x64x160, .f32⟩
  | .hbm, ⟨36, _⟩ => ⟨S16x64x2048, .f32⟩
  | .hbm, ⟨37, _⟩ => ⟨S16x64x2048, .f32⟩
  | .hbm, ⟨38, _⟩ => ⟨S16x64x8, .f32⟩
  | .hbm, ⟨39, _⟩ => ⟨S16x64x256, .f32⟩
  | .hbm, ⟨40, _⟩ => ⟨S16x64x6056, .f32⟩
  | .local _ .vmem, ⟨0, _⟩ => ⟨S1024x2048, .f32⟩
  | .local _ .vmem, ⟨1, _⟩ => ⟨S1x2048, .f32⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSRefIdeal.lean ====
abbrev S16x64x2048 : Shape := ⟨3, ![16, 64, 2048]⟩
abbrev S2048 : Shape := ⟨1, ![2048]⟩
abbrev S2048x6056 : Shape := ⟨2, ![2048, 6056]⟩
abbrev S16x15x512 : Shape := ⟨3, ![16, 15, 512]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S16x64x6056 : Shape := ⟨3, ![16, 64, 6056]⟩
abbrev S16x64x512 : Shape := ⟨3, ![16, 64, 512]⟩
abbrev S16x79x512 : Shape := ⟨3, ![16, 79, 512]⟩
abbrev S16x64x1696 : Shape := ⟨3, ![16, 64, 1696]⟩
abbrev S16x1x1696 : Shape := ⟨3, ![16, 1, 1696]⟩
abbrev S16x1696 : Shape := ⟨2, ![16, 1696]⟩

abbrev nBuf : Space → Nat
  | .hbm => 27
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x6056, .f32⟩
  | .hbm, ⟨3, _⟩ => ⟨S16x15x512, .f32⟩
  | .hbm, ⟨4, _⟩ => ⟨S16x64x2048, .f32⟩
  | .hbm, ⟨5, _⟩ => ⟨S_, .f32⟩
  | .hbm, ⟨6, _⟩ => ⟨S16x64, .f32⟩
  | .hbm, ⟨7, _⟩ => ⟨S16x64x1, .f32⟩
  | .hbm, ⟨8, _⟩ => ⟨S_, .f32⟩
  | .hbm, ⟨9, _⟩ => ⟨S16x64x1, .f32⟩
  | .hbm, ⟨10, _⟩ => ⟨S16x64x1, .f32⟩
  | .hbm, ⟨11, _⟩ => ⟨S_, .f32⟩
  | .hbm, ⟨12, _⟩ => ⟨S16x64x1, .f32⟩
  | .hbm, ⟨13, _⟩ => ⟨S16x64x1, .f32⟩
  | .hbm, ⟨14, _⟩ => ⟨S16x64x1, .f32⟩
  | .hbm, ⟨15, _⟩ => ⟨S16x64x2048, .f32⟩
  | .hbm, ⟨16, _⟩ => ⟨S16x64x2048, .f32⟩
  | .hbm, ⟨17, _⟩ => ⟨S1x1x2048, .f32⟩
  | .hbm, ⟨18, _⟩ => ⟨S16x64x2048, .f32⟩
  | .hbm, ⟨19, _⟩ => ⟨S16x64x2048, .f32⟩
  | .hbm, ⟨20, _⟩ => ⟨S16x64x6056, .f32⟩
  | .hbm, ⟨21, _⟩ => ⟨S16x64x512, .f32⟩
  | .hbm, ⟨22, _⟩ => ⟨S16x79x512, .f32⟩
  | .hbm, ⟨23, _⟩ => ⟨S16x64x1696, .f32⟩
  | .hbm, ⟨24, _⟩ => ⟨S16x1x1696, .f32⟩
  | .hbm, ⟨25, _⟩ => ⟨S16x1696, .f32⟩
  | .hbm, ⟨26, _⟩ => ⟨S16x15x512, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kv.lean ====
abbrev S2x16384x6056 : Shape := ⟨3, ![2, 16384, 6056]⟩
abbrev S2x16384x1696 : Shape := ⟨3, ![2, 16384, 1696]⟩
abbrev S2x16384x512 : Shape := ⟨3, ![2, 16384, 512]⟩
abbrev S2x16384x1536 : Shape := ⟨3, ![2, 16384, 1536]⟩
abbrev S2x16384x2056 : Shape := ⟨3, ![2, 16384, 2056]⟩
abbrev S2x16384x256 : Shape := ⟨3, ![2, 16384, 256]⟩
abbrev S2x16384x160 : Shape := ⟨3, ![2, 16384, 160]⟩
abbrev S2x16384x8 : Shape := ⟨3, ![2, 16384, 8]⟩
abbrev S2x16384x2048 : Shape := ⟨3, ![2, 16384, 2048]⟩
abbrev S_ : Shape := ⟨0, ![]⟩
abbrev S2x16384x96 : Shape := ⟨3, ![2, 16384, 96]⟩
abbrev S2x16384x120 : Shape := ⟨3, ![2, 16384, 120]⟩
abbrev S2x16384x128 : Shape := ⟨3, ![2, 16384, 128]⟩
abbrev S2x16384x6400 : Shape := ⟨3, ![2, 16384, 6400]⟩
abbrev S1x512x512 : Shape := ⟨3, ![1, 512, 512]⟩
abbrev S512x512 : Shape := ⟨2, ![512, 512]⟩
abbrev S2x16384x8x64 : Shape := ⟨4, ![2, 16384, 8, 64]⟩

abbrev nBuf : Space → Nat
  | .hbm => 24
  | .vmem => 16
  | .smem => 0
  | _ => 0

abbrev bufTy : (tb : Table) → Fin (tcTables nBuf tb) → BufTy
  | .hbm, ⟨0, _⟩ => ⟨S2x16384x6056, .f32⟩
  | .hbm, ⟨1, _⟩ => ⟨S2x16384x1696, .f32⟩
  | .hbm, ⟨2, _⟩ => ⟨S2x16384x512, .f32⟩
  | .hbm, ⟨3, _⟩ => ⟨S2x16384x1536, .f32⟩
  | .hbm, ⟨4, _⟩ => ⟨S2x16384x2056, .f32⟩
  | .hbm, ⟨5, _⟩ => ⟨S2x16384x256, .f32⟩
  | .hbm, ⟨6, _⟩ => ⟨S2x16384x160, .f32⟩
  | .hbm, ⟨7, _⟩ => ⟨S2x16384x8, .f32⟩
  | .hbm, ⟨8, _⟩ => ⟨S2x16384x2048, .f32⟩
  | .hbm, ⟨9, _⟩ => ⟨S2x16384x1536, .f32⟩
  | .hbm, ⟨10, _⟩ => ⟨S_, .f32⟩
  | .hbm, ⟨11, _⟩ => ⟨S2x16384x96, .f32⟩
  | .hbm, ⟨12, _⟩ => ⟨S_, .f32⟩
  | .hbm, ⟨13, _⟩ => ⟨S2x16384x120, .f32⟩
  | .hbm, ⟨14, _⟩ => ⟨S_, .f32⟩
  | .hbm, ⟨15, _⟩ => ⟨S2x16384x128, .f32⟩
  | .hbm, ⟨16, _⟩ => ⟨S2x16384x6400, .f32⟩
  | .hbm, ⟨17, _⟩ => ⟨S2x16384x512, .bf16⟩
  | .hbm, ⟨18, _⟩ => ⟨S2x16384x512, .bf16⟩
  | .hbm, ⟨19, _⟩ => ⟨S2x16384x512, .bf16⟩
  | .hbm, ⟨20, _⟩ => ⟨S2x16384x512, .f32⟩
  | .hbm, ⟨21, _⟩ => ⟨S2x16384x512, .f32⟩
  | .hbm, ⟨22, _⟩ => ⟨S2x16384x8x64, .f32⟩
  | .hbm, ⟨23, _⟩ => ⟨S2x16384x8x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x16384x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvIdeal.lean ====
abbrev S2x16384x6056 : Shape := ⟨3, ![2, 16384, 6056]⟩
abbrev S2x16384x1696 : Shape := ⟨3, ![2, 16384, 1696]⟩
abbrev S2x16384x512 : Shape := ⟨3, ![2, 16384, 512]⟩
abbrev S2x16384x1536 : Shape := ⟨3, ![2, 16384, 1536]⟩
abbrev S2x16384x2056 : Shape := ⟨3, ![2, 16384, 2056]⟩
abbrev S2x16384x256 : Shape := ⟨3, ![2, 16384, 256]⟩
abbrev S2x16384x160 : Shape := ⟨3, ![2, 16384, 160]⟩
abbrev S2x16384x8 : Shape := ⟨3, ![2, 16384, 8]⟩
abbrev S2x16384x2048 : Shape := ⟨3, ![2, 16384, 2048]⟩
abbrev S_ : Shape := ⟨0, ![]⟩
abbrev S2x16384x96 : Shape := ⟨3, ![2, 16384, 96]⟩
abbrev S2x16384x120 : Shape := ⟨3, ![2, 16384, 120]⟩
abbrev S2x16384x128 : Shape := ⟨3, ![2, 16384, 128]⟩
abbrev S2x16384x6400 : Shape := ⟨3, ![2, 16384, 6400]⟩
abbrev S1x512x512 : Shape := ⟨3, ![1, 512, 512]⟩
abbrev S512x512 : Shape := ⟨2, ![512, 512]⟩
abbrev S2x16384x8x64 : Shape := ⟨4, ![2, 16384, 8, 64]⟩

abbrev nBuf : Space → Nat
  | .hbm => 24
  | .vmem => 16
  | .smem => 0
  | _ => 0

abbrev bufTy : (tb : Table) → Fin (tcTables nBuf tb) → BufTy
  | .hbm, ⟨0, _⟩ => ⟨S2x16384x6056, .f32⟩
  | .hbm, ⟨1, _⟩ => ⟨S2x16384x1696, .f32⟩
  | .hbm, ⟨2, _⟩ => ⟨S2x16384x512, .f32⟩
  | .hbm, ⟨3, _⟩ => ⟨S2x16384x1536, .f32⟩
  | .hbm, ⟨4, _⟩ => ⟨S2x16384x2056, .f32⟩
  | .hbm, ⟨5, _⟩ => ⟨S2x16384x256, .f32⟩
  | .hbm, ⟨6, _⟩ => ⟨S2x16384x160, .f32⟩
  | .hbm, ⟨7, _⟩ => ⟨S2x16384x8, .f32⟩
  | .hbm, ⟨8, _⟩ => ⟨S2x16384x2048, .f32⟩
  | .hbm, ⟨9, _⟩ => ⟨S2x16384x1536, .f32⟩
  | .hbm, ⟨10, _⟩ => ⟨S_, .f32⟩
  | .hbm, ⟨11, _⟩ => ⟨S2x16384x96, .f32⟩
  | .hbm, ⟨12, _⟩ => ⟨S_, .f32⟩
  | .hbm, ⟨13, _⟩ => ⟨S2x16384x120, .f32⟩
  | .hbm, ⟨14, _⟩ => ⟨S_, .f32⟩
  | .hbm, ⟨15, _⟩ => ⟨S2x16384x128, .f32⟩
  | .hbm, ⟨16, _⟩ => ⟨S2x16384x6400, .f32⟩
  | .hbm, ⟨17, _⟩ => ⟨S2x16384x512, .bf16⟩
  | .hbm, ⟨18, _⟩ => ⟨S2x16384x512, .bf16⟩
  | .hbm, ⟨19, _⟩ => ⟨S2x16384x512, .bf16⟩
  | .hbm, ⟨20, _⟩ => ⟨S2x16384x512, .f32⟩
  | .hbm, ⟨21, _⟩ => ⟨S2x16384x512, .f32⟩
  | .hbm, ⟨22, _⟩ => ⟨S2x16384x8x64, .f32⟩
  | .hbm, ⟨23, _⟩ => ⟨S2x16384x8x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x16384x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvRefIdeal.lean ====
abbrev S2x16384x6056 : Shape := ⟨3, ![2, 16384, 6056]⟩
abbrev S2x16384x1536 : Shape := ⟨3, ![2, 16384, 1536]⟩
abbrev S2x16384x512 : Shape := ⟨3, ![2, 16384, 512]⟩
abbrev S2x16384x8x64 : Shape := ⟨4, ![2, 16384, 8, 64]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x6056, .f32⟩
  | .hbm, ⟨1, _⟩ => ⟨S2x16384x1536, .f32⟩
  | .hbm, ⟨2, _⟩ => ⟨S2x16384x512, .f32⟩
  | .hbm, ⟨3, _⟩ => ⟨S2x16384x8x64, .f32⟩
  | .hbm, ⟨4, _⟩ => ⟨S2x16384x512, .f32⟩
  | .hbm, ⟨5, _⟩ => ⟨S2x16384x8x64, .f32⟩
  | _, _ => ⟨S2x16384x6056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== KvS.lean ====
abbrev S16x64x6056 : Shape := ⟨3, ![16, 64, 6056]⟩
abbrev S16x64x1696 : Shape := ⟨3, ![16, 64, 1696]⟩
abbrev S16x64x512 : Shape := ⟨3, ![16, 64, 512]⟩
abbrev S16x64x1536 : Shape := ⟨3, ![16, 64, 1536]⟩
abbrev S16x64x2056 : Shape := ⟨3, ![16, 64, 2056]⟩
abbrev S16x64x256 : Shape := ⟨3, ![16, 64, 256]⟩
abbrev S16x64x160 : Shape := ⟨3, ![16, 64, 160]⟩
abbrev S16x64x8 : Shape := ⟨3, ![16, 64, 8]⟩
abbrev S16x64x2048 : Shape := ⟨3, ![16, 64, 2048]⟩
abbrev S_ : Shape := ⟨0, ![]⟩
abbrev S16x64x96 : Shape := ⟨3, ![16, 64, 96]⟩
abbrev S16x64x120 : Shape := ⟨3, ![16, 64, 120]⟩
abbrev S16x64x128 : Shape := ⟨3, ![16, 64, 128]⟩
abbrev S16x64x6400 : Shape := ⟨3, ![16, 64, 6400]⟩
abbrev S1x64x512 : Shape := ⟨3, ![1, 64, 512]⟩
abbrev S64x512 : Shape := ⟨2, ![64, 512]⟩
abbrev S16x64x8x64 : Shape := ⟨4, ![16, 64, 8, 64]⟩

abbrev nBuf : Space → Nat
  | .hbm => 24
  | .vmem => 16
  | .smem => 0
  | _ => 0

abbrev bufTy : (tb : Table) → Fin (tcTables nBuf tb) → BufTy
  | .hbm, ⟨0, _⟩ => ⟨S16x64x6056, .f32⟩
  | .hbm, ⟨1, _⟩ => ⟨S16x64x1696, .f32⟩
  | .hbm, ⟨2, _⟩ => ⟨S16x64x512, .f32⟩
  | .hbm, ⟨3, _⟩ => ⟨S16x64x1536, .f32⟩
  | .hbm, ⟨4, _⟩ => ⟨S16x64x2056, .f32⟩
  | .hbm, ⟨5, _⟩ => ⟨S16x64x256, .f32⟩
  | .hbm, ⟨6, _⟩ => ⟨S16x64x160, .f32⟩
  | .hbm, ⟨7, _⟩ => ⟨S16x64x8, .f32⟩
  | .hbm, ⟨8, _⟩ => ⟨S16x64x2048, .f32⟩
  | .hbm, ⟨9, _⟩ => ⟨S16x64x1536, .f32⟩
  | .hbm, ⟨10, _⟩ => ⟨S_, .f32⟩
  | .hbm, ⟨11, _⟩ => ⟨S16x64x96, .f32⟩
  | .hbm, ⟨12, _⟩ => ⟨S_, .f32⟩
  | .hbm, ⟨13, _⟩ => ⟨S16x64x120, .f32⟩
  | .hbm, ⟨14, _⟩ => ⟨S_, .f32⟩
  | .hbm, ⟨15, _⟩ => ⟨S16x64x128, .f32⟩
  | .hbm, ⟨16, _⟩ => ⟨S16x64x6400, .f32⟩
  | .hbm, ⟨17, _⟩ => ⟨S16x64x512, .bf16⟩
  | .hbm, ⟨18, _⟩ => ⟨S16x64x512, .bf16⟩
  | .hbm, ⟨19, _⟩ => ⟨S16x64x512, .bf16⟩
  | .hbm, ⟨20, _⟩ => ⟨S16x64x512, .f32⟩
  | .hbm, ⟨21, _⟩ => ⟨S16x64x512, .f32⟩
  | .hbm, ⟨22, _⟩ => ⟨S16x64x8x64, .f32⟩
  | .hbm, ⟨23, _⟩ => ⟨S16x64x8x64, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x64x512, .bf16⟩
  | .local _ .vmem, ⟨11, _⟩ => ⟨S1x64x512, .bf16⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | _, _ => ⟨S16x64x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvSRefIdeal.lean ====
abbrev S16x64x6056 : Shape := ⟨3, ![16, 64, 6056]⟩
abbrev S16x64x1536 : Shape := ⟨3, ![16, 64, 1536]⟩
abbrev S16x64x512 : Shape := ⟨3, ![16, 64, 512]⟩
abbrev S16x64x8x64 : Shape := ⟨4, ![16, 64, 8, 64]⟩

abbrev nBuf : Space → Nat
  | .hbm => 6
  | .vmem => 0
  | .smem => 0
  | _ => 0

abbrev bufTy : (tb : Table) → Fin (tcTables nBuf tb) → BufTy
  | .hbm, ⟨0, _⟩ => ⟨S16x64x6056, .f32⟩
  | .hbm, ⟨1, _⟩ => ⟨S16x64x1536, .f32⟩
  | .hbm, ⟨2, _⟩ => ⟨S16x64x512, .f32⟩
  | .hbm, ⟨3, _⟩ => ⟨S16x64x8x64, .f32⟩
  | .hbm, ⟨4, _⟩ => ⟨S16x64x512, .f32⟩
  | .hbm, ⟨5, _⟩ => ⟨S16x64x8x64, .f32⟩
  | _, _ => ⟨S16x64x6056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== MoeS.lean ====
abbrev S16x64x2048 : Shape := ⟨3, ![16, 64, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S1024x2048 : Shape := ⟨2, ![1024, 2048]⟩
abbrev S_ : Shape := ⟨0, ![]⟩
abbrev S2048x128 : Shape := ⟨2, ![2048, 128]⟩
abbrev S8x2048x768 : Shape := ⟨3, ![8, 2048, 768]⟩
abbrev S8x768x2048 : Shape := ⟨3, ![8, 768, 2048]⟩
abbrev S1x2048 : Shape := ⟨2, ![1, 2048]⟩
abbrev S512x2048 : Shape := ⟨2, ![512, 2048]⟩
abbrev S1x2048x768 : Shape := ⟨3, ![1, 2048, 768]⟩
abbrev S1x768x2048 : Shape := ⟨3, ![1, 768, 2048]⟩
abbrev S512x128 : Shape := ⟨2, ![512, 128]⟩
abbrev S512 : Shape := ⟨1, ![512]⟩
abbrev S512x1 : Shape := ⟨2, ![512, 1]⟩
abbrev S2048x768 : Shape := ⟨2, ![2048, 768]⟩
abbrev S512x768 : Shape := ⟨2, ![512, 768]⟩
abbrev S768x2048 : Shape := ⟨2, ![768, 2048]⟩

abbrev nBuf : Space → Nat
  | .hbm => 26
  | .vmem => 16
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x8, .f32⟩
  | .hbm, ⟨3, _⟩ => ⟨S8x2048x704, .f32⟩
  | .hbm, ⟨4, _⟩ => ⟨S8x2048x704, .f32⟩
  | .hbm, ⟨5, _⟩ => ⟨S8x704x2048, .f32⟩
  | .hbm, ⟨6, _⟩ => ⟨S2048, .f32⟩
  | .hbm, ⟨7, _⟩ => ⟨S1024x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S_, .f32⟩
  | .hbm, ⟨13, _⟩ => ⟨S8x2048x768, .f32⟩
  | .hbm, ⟨14, _⟩ => ⟨S8x2048x768, .bf16⟩
  | .hbm, ⟨15, _⟩ => ⟨S_, .i32⟩
  | .hbm, ⟨16, _⟩ => ⟨S_, .f32⟩
  | .hbm, ⟨17, _⟩ => ⟨S8x2048x768, .f32⟩
  | .hbm, ⟨18, _⟩ => ⟨S8x2048x768, .bf16⟩
  | .hbm, ⟨19, _⟩ => ⟨S_, .i32⟩
  | .hbm, ⟨20, _⟩ => ⟨S_, .f32⟩
  | .hbm, ⟨21, _⟩ => ⟨S8x768x2048, .f32⟩
  | .hbm, ⟨22, _⟩ => ⟨S8x768x2048, .bf16⟩
  | .hbm, ⟨23, _⟩ => ⟨S1x2048, .f32⟩
  | .hbm, ⟨24, _⟩ => ⟨S1x2048, .f32⟩
  | .hbm, ⟨25, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S1x2048x768, .bf16⟩
  | .local _ .vmem, ⟨5, _⟩ => ⟨S1x2048x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x768x2048, .bf16⟩
  | .local _ .vmem, ⟨9, _⟩ => ⟨S1x768x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | .local _ .vmem, ⟨15, _⟩ => ⟨S512x128, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeSRefIdeal.lean ====
abbrev S16x64x2048 : Shape := ⟨3, ![16, 64, 2048]⟩
abbrev S2048 : Shape := ⟨1, ![2048]⟩
abbrev S2048x8 : Shape := ⟨2, ![2048, 8]⟩
abbrev S8x2048x704 : Shape := ⟨3, ![8, 2048, 704]⟩
abbrev S8x704x2048 : Shape := ⟨3, ![8, 704, 2048]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S16x64x8 : Shape := ⟨3, ![16, 64, 8]⟩
abbrev S16x64x2 : Shape := ⟨3, ![16, 64, 2]⟩
abbrev S16x64x2x1 : Shape := ⟨4, ![16, 64, 2, 1]⟩
abbrev S1x1x1x8 : Shape := ⟨4, ![1, 1, 1, 8]⟩
abbrev S16x64x2x8 : Shape := ⟨4, ![16, 64, 2, 8]⟩
abbrev S1x2048x704 : Shape := ⟨3, ![1, 2048, 704]⟩
abbrev S2048x704 : Shape := ⟨2, ![2048, 704]⟩
abbrev S1x704x2048 : Shape := ⟨3, ![1, 704, 2048]⟩
abbrev S704x2048 : Shape := ⟨2, ![704, 2048]⟩
abbrev S16x64x704 : Shape := ⟨3, ![16, 64, 704]⟩
abbrev S1024x2048 : Shape := ⟨2, ![1024, 2048]⟩

abbrev nBuf : Space → Nat
  | .hbm => 252
  | .vmem => 0
  | .smem => 0
  | _ => 0

abbrev hbmTy0_0 (i : Nat) : BufTy := match i % 128 with
  | 0 => ⟨S16x64x2048, .f32⟩
  | 1 => ⟨S2048, .f32⟩
  | 2 => ⟨S2048x8, .f32⟩
  | 3 => ⟨S8x2048x704, .f32⟩
  | 4 => ⟨S8x2048x704, .f32⟩
  | 5 => ⟨S8x704x2048, .f32⟩
  | 6 => ⟨S2048, .f32⟩
  | 7 => ⟨S16x64x2048, .f32⟩
  | 8 => ⟨S_, .f32⟩
  | 9 => ⟨S16x64, .f32⟩
  | 10 => ⟨S16x64x1, .f32⟩
  | 11 => ⟨S_, .f32⟩
  | 12 => ⟨S16x64x1, .f32⟩
  | 13 => ⟨S16x64x1, .f32⟩
  | 14 => ⟨S_, .f32⟩
  | 15 => ⟨S16x64x1, .f32⟩
  | 16 => ⟨S16x64x1, .f32⟩
  | 17 => ⟨S16x64x1, .f32⟩
  | 18 => ⟨S16x64x2048, .f32⟩
  | 19 => ⟨S16x64x2048, .f32⟩
  | 20 => ⟨S1x1x2048, .f32⟩
  | 21 => ⟨S16x64x2048, .f32⟩
  | 22 => ⟨S16x64x2048, .f32⟩
  | 23 => ⟨S16x64x8, .f32⟩
  | 24 => ⟨S16x64x2, .f32⟩
  | 25 => ⟨S16x64x2, .i32⟩
  | 26 => ⟨S_, .f32⟩
  | 27 => ⟨S16x64, .f32⟩
  | 28 => ⟨S_, .f32⟩
  | 29 => ⟨S16x64, .f32⟩
  | 30 => ⟨S16x64, .f32⟩
  | 31 => ⟨S16x64x1, .f32⟩
  | 32 => ⟨S16x64x2, .f32⟩
  | 33 => ⟨S16x64x2, .f32⟩
  | 34 => ⟨S16x64x2, .f32⟩
  | 35 => ⟨S_, .f32⟩
  | 36 => ⟨S16x64, .f32⟩
  | 37 => ⟨S16x64x1, .f32⟩
  | 38 => ⟨S16x64x2, .f32⟩
  | 39 => ⟨S16x64x2, .f32⟩
  | 40 => ⟨S16x64x2x1, .i32⟩
  | 41 => ⟨S1x1x1x8, .i32⟩
  | 42 => ⟨S16x64x2x8, .i32⟩
  | 43 => ⟨S16x64x2x8, .i32⟩
  | 44 => ⟨S16x64x2x8, .i1⟩
  | 45 => ⟨S16x64x2x8, .f32⟩
  | 46 => ⟨S16x64x2x1, .f32⟩
  | 47 => ⟨S16x64x2x8, .f32⟩
  | 48 => ⟨S16x64x2x8, .f32⟩
  | 49 => ⟨S_, .f32⟩
  | 50 => ⟨S16x64x8, .f32⟩
  | 51 => ⟨S16x64x1, .f32⟩
  | 52 => ⟨S1x2048x704, .f32⟩
  | 53 => ⟨S2048x704, .f32⟩
  | 54 => ⟨S1x2048x704, .f32⟩
  | 55 => ⟨S2048x704, .f32⟩
  | 56 => ⟨S1x704x2048, .f32⟩
  | 57 => ⟨S704x2048, .f32⟩
  | 58 => ⟨S16x64x704, .f32⟩
  | 59 => ⟨S16x64x704, .f32⟩
  | 60 => ⟨S16x64x704, .f32⟩
  | 61 => ⟨S_, .f32⟩
  | 62 => ⟨S16x64x704, .f32⟩
  | 63 => ⟨S16x64x704, .f32⟩
  | 64 => ⟨S_, .f32⟩
  | 65 => ⟨S16x64x704, .f32⟩
  | 66 => ⟨S16x64x704, .f32⟩
  | 67 => ⟨S16x64x704, .f32⟩
  | 68 => ⟨S16x64x704, .f32⟩
  | 69 => ⟨S16x64x704, .f32⟩
  | 70 => ⟨S16x64x2048, .f32⟩
  | 71 => ⟨S16x64x2048, .f32⟩
  | 72 => ⟨S16x64x2048, .f32⟩
  | 73 => ⟨S16x64x1, .f32⟩
  | 74 => ⟨S1x2048x704, .f32⟩
  | 75 => ⟨S2048x704, .f32⟩
  | 76 => ⟨S1x2048x704, .f32⟩
  | 77 => ⟨S2048x704, .f32⟩
  | 78 => ⟨S1x704x2048, .f32⟩
  | 79 => ⟨S704x2048, .f32⟩
  | 80 => ⟨S16x64x704, .f32⟩
  | 81 => ⟨S16x64x704, .f32⟩
  | 82 => ⟨S16x64x704, .f32⟩
  | 83 => ⟨S_, .f32⟩
  | 84 => ⟨S16x64x704, .f32⟩
  | 85 => ⟨S16x64x704, .f32⟩
  | 86 => ⟨S_, .f32⟩
  | 87 => ⟨S16x64x704, .f32⟩
  | 88 => ⟨S16x64x704, .f32⟩
  | 89 => ⟨S16x64x704, .f32⟩
  | 90 => ⟨S16x64x704, .f32⟩
  | 91 => ⟨S16x64x704, .f32⟩
  | 92 => ⟨S16x64x2048, .f32⟩
  | 93 => ⟨S16x64x2048, .f32⟩
  | 94 => ⟨S16x64x2048, .f32⟩
  | 95 => ⟨S16x64x2048, .f32⟩
  | 96 => ⟨S16x64x1, .f32⟩
  | 97 => ⟨S1x2048x704, .f32⟩
  | 98 => ⟨S2048x704, .f32⟩
  | 99 => ⟨S1x2048x704, .f32⟩
  | 100 => ⟨S2048x704, .f32⟩
  | 101 => ⟨S1x704x2048, .f32⟩
  | 102 => ⟨S704x2048, .f32⟩
  | 103 => ⟨S16x64x704, .f32⟩
  | 104 => ⟨S16x64x704, .f32⟩
  | 105 => ⟨S16x64x704, .f32⟩
  | 106 => ⟨S_, .f32⟩
  | 107 => ⟨S16x64x704, .f32⟩
  | 108 => ⟨S16x64x704, .f32⟩
  | 109 => ⟨S_, .f32⟩
  | 110 => ⟨S16x64x704, .f32⟩
  | 111 => ⟨S16x64x704, .f32⟩
  | 112 => ⟨S16x64x704, .f32⟩
  | 113 => ⟨S16x64x704, .f32⟩
  | 114 => ⟨S16x64x704, .f32⟩
  | 115 => ⟨S16x64x2048, .f32⟩
  | 116 => ⟨S16x64x2048, .f32⟩
  | 117 => ⟨S16x64x2048, .f32⟩
  | 118 => ⟨S16x64x2048, .f32⟩
  | 119 => ⟨S16x64x1, .f32⟩
  | 120 => ⟨S1x2048x704, .f32⟩
  | 121 => ⟨S2048x704, .f32⟩
  | 122 => ⟨S1x2048x704, .f32⟩
  | 123 => ⟨S2048x704, .f32⟩
  | 124 => ⟨S1x704x2048, .f32⟩
  | 125 => ⟨S704x2048, .f32⟩
  | 126 => ⟨S16x64x704, .f32⟩
  | 127 => ⟨S16x64x704, .f32⟩
  | _ => ⟨S16x64x2048, .f32⟩

abbrev hbmTy0_1 (i : Nat) : BufTy := match i % 128 with
  | 0 => ⟨S16x64x704, .f32⟩
  | 1 => ⟨S_, .f32⟩
  | 2 => ⟨S16x64x704, .f32⟩
  | 3 => ⟨S16x64x704, .f32⟩
  | 4 => ⟨S_, .f32⟩
  | 5 => ⟨S16x64x704, .f32⟩
  | 6 => ⟨S16x64x704, .f32⟩
  | 7 => ⟨S16x64x704, .f32⟩
  | 8 => ⟨S16x64x704, .f32⟩
  | 9 => ⟨S16x64x704, .f32⟩
  | 10 => ⟨S16x64x2048, .f32⟩
  | 11 => ⟨S16x64x2048, .f32⟩
  | 12 => ⟨S16x64x2048, .f32⟩
  | 13 => ⟨S16x64x2048, .f32⟩
  | 14 => ⟨S16x64x1, .f32⟩
  | 15 => ⟨S1x2048x704, .f32⟩
  | 16 => ⟨S2048x704, .f32⟩
  | 17 => ⟨S1x2048x704, .f32⟩
  | 18 => ⟨S2048x704, .f32⟩
  | 19 => ⟨S1x704x2048, .f32⟩
  | 20 => ⟨S704x2048, .f32⟩
  | 21 => ⟨S16x64x704, .f32⟩
  | 22 => ⟨S16x64x704, .f32⟩
  | 23 => ⟨S16x64x704, .f32⟩
  | 24 => ⟨S_, .f32⟩
  | 25 => ⟨S16x64x704, .f32⟩
  | 26 => ⟨S16x64x704, .f32⟩
  | 27 => ⟨S_, .f32⟩
  | 28 => ⟨S16x64x704, .f32⟩
  | 29 => ⟨S16x64x704, .f32⟩
  | 30 => ⟨S16x64x704, .f32⟩
  | 31 => ⟨S16x64x704, .f32⟩
  | 32 => ⟨S16x64x704, .f32⟩
  | 33 => ⟨S16x64x2048, .f32⟩
  | 34 => ⟨S16x64x2048, .f32⟩
  | 35 => ⟨S16x64x2048, .f32⟩
  | 36 => ⟨S16x64x2048, .f32⟩
  | 37 => ⟨S16x64x1, .f32⟩
  | 38 => ⟨S1x2048x704, .f32⟩
  | 39 => ⟨S2048x704, .f32⟩
  | 40 => ⟨S1x2048x704, .f32⟩
  | 41 => ⟨S2048x704, .f32⟩
  | 42 => ⟨S1x704x2048, .f32⟩
  | 43 => ⟨S704x2048, .f32⟩
  | 44 => ⟨S16x64x704, .f32⟩
  | 45 => ⟨S16x64x704, .f32⟩
  | 46 => ⟨S16x64x704, .f32⟩
  | 47 => ⟨S_, .f32⟩
  | 48 => ⟨S16x64x704, .f32⟩
  | 49 => ⟨S16x64x704, .f32⟩
  | 50 => ⟨S_, .f32⟩
  | 51 => ⟨S16x64x704, .f32⟩
  | 52 => ⟨S16x64x704, .f32⟩
  | 53 => ⟨S16x64x704, .f32⟩
  | 54 => ⟨S16x64x704, .f32⟩
  | 55 => ⟨S16x64x704, .f32⟩
  | 56 => ⟨S16x64x2048, .f32⟩
  | 57 => ⟨S16x64x2048, .f32⟩
  | 58 => ⟨S16x64x2048, .f32⟩
  | 59 => ⟨S16x64x2048, .f32⟩
  | 60 => ⟨S16x64x1, .f32⟩
  | 61 => ⟨S1x2048x704, .f32⟩
  | 62 => ⟨S2048x704, .f32⟩
  | 63 => ⟨S1x2048x704, .f32⟩
  | 64 => ⟨S2048x704, .f32⟩
  | 65 => ⟨S1x704x2048, .f32⟩
  | 66 => ⟨S704x2048, .f32⟩
  | 67 => ⟨S16x64x704, .f32⟩
  | 68 => ⟨S16x64x704, .f32⟩
  | 69 => ⟨S16x64x704, .f32⟩
  | 70 => ⟨S_, .f32⟩
  | 71 => ⟨S16x64x704, .f32⟩
  | 72 => ⟨S16x64x704, .f32⟩
  | 73 => ⟨S_, .f32⟩
  | 74 => ⟨S16x64x704, .f32⟩
  | 75 => ⟨S16x64x704, .f32⟩
  | 76 => ⟨S16x64x704, .f32⟩
  | 77 => ⟨S16x64x704, .f32⟩
  | 78 => ⟨S16x64x704, .f32⟩
  | 79 => ⟨S16x64x2048, .f32⟩
  | 80 => ⟨S16x64x2048, .f32⟩
  | 81 => ⟨S16x64x2048, .f32⟩
  | 82 => ⟨S16x64x2048, .f32⟩
  | 83 => ⟨S16x64x1, .f32⟩
  | 84 => ⟨S1x2048x704, .f32⟩
  | 85 => ⟨S2048x704, .f32⟩
  | 86 => ⟨S1x2048x704, .f32⟩
  | 87 => ⟨S2048x704, .f32⟩
  | 88 => ⟨S1x704x2048, .f32⟩
  | 89 => ⟨S704x2048, .f32⟩
  | 90 => ⟨S16x64x704, .f32⟩
  | 91 => ⟨S16x64x704, .f32⟩
  | 92 => ⟨S16x64x704, .f32⟩
  | 93 => ⟨S_, .f32⟩
  | 94 => ⟨S16x64x704, .f32⟩
  | 95 => ⟨S16x64x704, .f32⟩
  | 96 => ⟨S_, .f32⟩
  | 97 => ⟨S16x64x704, .f32⟩
  | 98 => ⟨S16x64x704, .f32⟩
  | 99 => ⟨S16x64x704, .f32⟩
  | 100 => ⟨S16x64x704, .f32⟩
  | 101 => ⟨S16x64x704, .f32⟩
  | 102 => ⟨S16x64x2048, .f32⟩
  | 103 => ⟨S16x64x2048, .f32⟩
  | 104 => ⟨S16x64x2048, .f32⟩
  | 105 => ⟨S16x64x2048, .f32⟩
  | 106 => ⟨S16x64x2048, .f32⟩
  | 107 => ⟨S16x64x2048, .f32⟩
  | 108 => ⟨S_, .f32⟩
  | 109 => ⟨S16x64, .f32⟩
  | 110 => ⟨S16x64x1, .f32⟩
  | 111 => ⟨S_, .f32⟩
  | 112 => ⟨S16x64x1, .f32⟩
  | 113 => ⟨S16x64x1, .f32⟩
  | 114 => ⟨S_, .f32⟩
  | 115 => ⟨S16x64x1, .f32⟩
  | 116 => ⟨S16x64x1, .f32⟩
  | 117 => ⟨S16x64x1, .f32⟩
  | 118 => ⟨S16x64x2048, .f32⟩
  | 119 => ⟨S16x64x2048, .f32⟩
  | 120 => ⟨S1x1x2048, .f32⟩
  | 121 => ⟨S16x64x2048, .f32⟩
  | 122 => ⟨S16x64x2048, .f32⟩
  | 123 => ⟨S1024x2048, .f32⟩
  | _ => ⟨S16x64x2048, .f32⟩

abbrev hbmTy (i : Nat) : BufTy := match i / 128 with
  | 0 => hbmTy0_0 i
  | 1 => hbmTy0_1 i
  | _ => ⟨S16x64x2048, .f32⟩

abbrev bufTy : (tb : Table) → Fin (tcTables nBuf tb) → BufTy
  | .hbm, ⟨i, _⟩ => hbmTy i
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_call6_v0 : Ref sig .tc := ⟨.hbm, 173, rfl⟩
abbrev main_call6_v1 : Ref sig .tc := ⟨.hbm, 174, rfl⟩
abbrev main_call6_cst : Ref sig .tc := ⟨.hbm, 175, rfl⟩
abbrev main_call6_v2 : Ref sig .tc := ⟨.hbm, 176, rfl⟩
abbrev main_call6_v3 : Ref sig .tc := ⟨.hbm, 177, rfl⟩
abbrev main_call6_cst_0 : Ref sig .tc := ⟨.hbm, 178, rfl⟩
abbrev main_call6_v4 : Ref sig .tc := ⟨.hbm, 179, rfl⟩
abbrev main_call6_v5 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_call7_v0 : Ref sig .tc := ⟨.hbm, 196, rfl⟩
abbrev main_call7_v1 : Ref sig .tc := ⟨.hbm, 197, rfl⟩
abbrev main_call7_cst : Ref sig .tc := ⟨.hbm, 198, rfl⟩
abbrev main_call7_v2 : Ref sig .tc := ⟨.hbm, 199, rfl⟩
abbrev main_call7_v3 : Ref sig .tc := ⟨.hbm, 200, rfl⟩
abbrev main_call7_cst_0 : Ref sig .tc := ⟨.hbm, 201, rfl⟩
abbrev main_call7_v4 : Ref sig .tc := ⟨.hbm, 202, rfl⟩
abbrev main_call7_v5 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_call8_v0 : Ref sig .tc := ⟨.hbm, 219, rfl⟩
abbrev main_call8_v1 : Ref sig .tc := ⟨.hbm, 220, rfl⟩
abbrev main_call8_cst : Ref sig .tc := ⟨.hbm, 221, rfl⟩
abbrev main_call8_v2 : Ref sig .tc := ⟨.hbm, 222, rfl⟩
abbrev main_call8_v3 : Ref sig .tc := ⟨.hbm, 223, rfl⟩
abbrev main_call8_cst_0 : Ref sig .tc := ⟨.hbm, 224, rfl⟩
abbrev main_call8_v4 : Ref sig .tc := ⟨.hbm, 225, rfl⟩
abbrev main_call8_v5 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_6 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩

abbrev nD : Nat := 1
abbrev τ : Topo := Topo.v7x

variable {F : FTy → Type} [FloatOps F]
-- ==== Conv.lean ====
abbrev S2x16384x6056 : Shape := ⟨3, ![2, 16384, 6056]⟩
abbrev S2x3x1024 : Shape := ⟨3, ![2, 3, 1024]⟩
abbrev S2x4x128x128 : Shape := ⟨4, ![2, 4, 128, 128]⟩
abbrev S2x4x128 : Shape := ⟨3, ![2, 4, 128]⟩
abbrev S2x4 : Shape := ⟨2, ![2, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S2x16384x1696 : Shape := ⟨3, ![2, 16384, 1696]⟩
abbrev S2x16384x512 : Shape := ⟨3, ![2, 16384, 512]⟩
abbrev S2x16384x1536 : Shape := ⟨3, ![2, 16384, 1536]⟩
abbrev S2x16384x2056 : Shape := ⟨3, ![2, 16384, 2056]⟩
abbrev S2x16384x256 : Shape := ⟨3, ![2, 16384, 256]⟩
abbrev S2x16384x160 : Shape := ⟨3, ![2, 16384, 160]⟩
abbrev S2x16384x8 : Shape := ⟨3, ![2, 16384, 8]⟩
abbrev S2x16384x2048 : Shape := ⟨3, ![2, 16384, 2048]⟩
abbrev S_ : Shape := ⟨0, ![]⟩
abbrev S2x16384x96 : Shape := ⟨3, ![2, 16384, 96]⟩
abbrev S2x16384x120 : Shape := ⟨3, ![2, 16384, 120]⟩
abbrev S2x16384x128 : Shape := ⟨3, ![2, 16384, 128]⟩
abbrev S2x16384x6400 : Shape := ⟨3, ![2, 16384, 6400]⟩
abbrev S1x1024 : Shape := ⟨2, ![1, 1024]⟩
abbrev S8 : Shape := ⟨1, ![8]⟩
abbrev S128 : Shape := ⟨1, ![128]⟩
abbrev S1x128 : Shape := ⟨2, ![1, 128]⟩
abbrev S1x512 : Shape := ⟨2, ![1, 512]⟩
abbrev S2x8x1024 : Shape := ⟨3, ![2, 8, 1024]⟩
abbrev S2x8x128 : Shape := ⟨3, ![2, 8, 128]⟩
abbrev S2x4x1 : Shape := ⟨3, ![2, 4, 1]⟩
abbrev S1x256x1024 : Shape := ⟨3, ![1, 256, 1024]⟩
abbrev S1x256x512 : Shape := ⟨3, ![1, 256, 512]⟩
abbrev S1x256x128 : Shape := ⟨3, ![1, 256, 128]⟩
abbrev S1x8x1024 : Shape := ⟨3, ![1, 8, 1024]⟩
abbrev S1x4x128x128 : Shape := ⟨4, ![1, 4, 128, 128]⟩
abbrev S1x8x128 : Shape := ⟨3, ![1, 8, 128]⟩
abbrev S8x1024 : Shape := ⟨2, ![8, 1024]⟩
abbrev S256x512 : Shape := ⟨2, ![256, 512]⟩
abbrev S4x128x128 : Shape := ⟨3, ![4, 128, 128]⟩
abbrev S8x128 : Shape := ⟨2, ![8, 128]⟩
abbrev S256x1024 : Shape := ⟨2, ![256, 1024]⟩
abbrev S264x1024 : Shape := ⟨2, ![264, 1024]⟩
abbrev S256x256 : Shape := ⟨2, ![256, 256]⟩
abbrev S256x128 : Shape := ⟨2, ![256, 128]⟩
abbrev S128x256 : Shape := ⟨2, ![128, 256]⟩
abbrev S4x256x128 : Shape := ⟨3, ![4, 256, 128]⟩
abbrev S256x1 : Shape := ⟨2, ![256, 1]⟩
abbrev S1x256x1 : Shape := ⟨3, ![1, 256, 1]⟩
abbrev S4x256x1 : Shape := ⟨3, ![4, 256, 1]⟩
abbrev S1x256 : Shape := ⟨2, ![1, 256]⟩
abbrev S1x1x256 : Shape := ⟨3, ![1, 1, 256]⟩
abbrev S4x1x256 : Shape := ⟨3, ![4, 1, 256]⟩
abbrev S1x1 : Shape := ⟨2, ![1, 1]⟩
abbrev S1x1x1 : Shape := ⟨3, ![1, 1, 1]⟩
abbrev S4x1x1 : Shape := ⟨3, ![4, 1, 1]⟩
abbrev S1x1x128 : Shape := ⟨3, ![1, 1, 128]⟩
abbrev S4x1x128 : Shape := ⟨3, ![4, 1, 128]⟩
abbrev S1x256x256 : Shape := ⟨3, ![1, 256, 256]⟩
abbrev S4x256x256 : Shape := ⟨3, ![4, 256, 256]⟩
abbrev S4x256 : Shape := ⟨2, ![4, 256]⟩
abbrev S4x128 : Shape := ⟨2, ![4, 128]⟩

abbrev nBuf : Space → Nat
  | .hbm => 53
  | .vmem => 36
  | .smem => 0
  | _ => 0

abbrev bufTy : (tb : Table) → Fin (tcTables nBuf tb) → BufTy
  | .hbm, ⟨0, _⟩ => ⟨S2x16384x6056, .f32⟩
  | .hbm, ⟨1, _⟩ => ⟨S2x3x1024, .f32⟩
  | .hbm, ⟨2, _⟩ => ⟨S2x4x128x128, .f32⟩
  | .hbm, ⟨3, _⟩ => ⟨S2x4x128, .f32⟩
  | .hbm, ⟨4, _⟩ => ⟨S2x4, .f32⟩
  | .hbm, ⟨5, _⟩ => ⟨S4x1024, .f32⟩
  | .hbm, ⟨6, _⟩ => ⟨S1024, .f32⟩
  | .hbm, ⟨7, _⟩ => ⟨S4, .f32⟩
  | .hbm, ⟨8, _⟩ => ⟨S4, .f32⟩
  | .hbm, ⟨9, _⟩ => ⟨S512, .f32⟩
  | .hbm, ⟨10, _⟩ => ⟨S2x16384x1696, .f32⟩
  | .hbm, ⟨11, _⟩ => ⟨S2x16384x512, .f32⟩
  | .hbm, ⟨12, _⟩ => ⟨S2x16384x1536, .f32⟩
  | .hbm, ⟨13, _⟩ => ⟨S2x16384x2056, .f32⟩
  | .hbm, ⟨14, _⟩ => ⟨S2x16384x256, .f32⟩
  | .hbm, ⟨15, _⟩ => ⟨S2x16384x160, .f32⟩
  | .hbm, ⟨16, _⟩ => ⟨S2x16384x8, .f32⟩
  | .hbm, ⟨17, _⟩ => ⟨S2x16384x2048, .f32⟩
  | .hbm, ⟨18, _⟩ => ⟨S2x16384x1536, .f32⟩
  | .hbm, ⟨19, _⟩ => ⟨S_, .f32⟩
  | .hbm, ⟨20, _⟩ => ⟨S2x16384x96, .f32⟩
  | .hbm, ⟨21, _⟩ => ⟨S_, .f32⟩
  | .hbm, ⟨22, _⟩ => ⟨S2x16384x120, .f32⟩
  | .hbm, ⟨23, _⟩ => ⟨S_, .f32⟩
  | .hbm, ⟨24, _⟩ => ⟨S2x16384x128, .f32⟩
  | .hbm, ⟨25, _⟩ => ⟨S2x16384x6400, .f32⟩
  | .hbm, ⟨26, _⟩ => ⟨S1x1024, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x512, .f32⟩
  | .hbm, ⟨33, _⟩ => ⟨S_, .i32⟩
  | .hbm, ⟨34, _⟩ => ⟨S_, .f32⟩
  | .hbm, ⟨35, _⟩ => ⟨S2x8x1024, .f32⟩
  | .hbm, ⟨36, _⟩ => ⟨S_, .i32⟩
  | .hbm, ⟨37, _⟩ => ⟨S_, .f32⟩
  | .hbm, ⟨38, _⟩ => ⟨S2x8x128, .f32⟩
  | .hbm, ⟨39, _⟩ => ⟨S2x4x1, .f32⟩
  | .hbm, ⟨40, _⟩ => ⟨S2x4x128, .f32⟩
  | .hbm, ⟨41, _⟩ => ⟨S_, .i32⟩
  | .hbm, ⟨42, _⟩ => ⟨S_, .f32⟩
  | .hbm, ⟨43, _⟩ => ⟨S2x8x128, .f32⟩
  | .hbm, ⟨44, _⟩ => ⟨S2x16384x512, .bf16⟩
  | .hbm, ⟨45, _⟩ => ⟨S2x8x1024, .f32⟩
  | .hbm, ⟨46, _⟩ => ⟨S2x4x128x128, .f32⟩
  | .hbm, ⟨47, _⟩ => ⟨S2x8x128, .f32⟩
  | .hbm, ⟨48, _⟩ => ⟨S2x8x128, .f32⟩
  | .hbm, ⟨49, _⟩ => ⟨S2x3x1024, .f32⟩
  | .hbm, ⟨50, _⟩ => ⟨S2x4x128, .f32⟩
  | .hbm, ⟨51, _⟩ => ⟨S2x4x1, .f32⟩
  | .hbm, ⟨52, _⟩ => ⟨S2x4, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x128, .f32⟩
  | .local _ .vmem, ⟨7, _⟩ => ⟨S1x256x128, .f32⟩
  | .local _ .vmem, ⟨8, _⟩ => ⟨S1x8x1024, .f32⟩
  | .local _ .vmem, ⟨9, _⟩ => ⟨S1x8x1024, .f32⟩
  | .local _ .vmem, ⟨10, _⟩ => ⟨S1x4x128x128, .f32⟩
  | .local _ .vmem, ⟨11, _⟩ => ⟨S1x4x128x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S4x1024, .f32⟩
  | .local _ .vmem, ⟨17, _⟩ => ⟨S1x1024, .f32⟩
  | .local _ .vmem, ⟨18, _⟩ => ⟨S1x128, .f32⟩
  | .local _ .vmem, ⟨19, _⟩ => ⟨S1x512, .f32⟩
  | .local _ .vmem, ⟨20, _⟩ => ⟨S1x256x512, .bf16⟩
  | .local _ .vmem, ⟨21, _⟩ => ⟨S1x256x512, .bf16⟩
  | .local _ .vmem, ⟨22, _⟩ => ⟨S1x8x1024, .f32⟩
  | .local _ .vmem, ⟨23, _⟩ => ⟨S1x8x1024, .f32⟩
  | .local _ .vmem, ⟨24, _⟩ => ⟨S1x4x128x128, .f32⟩
  | .local _ .vmem, ⟨25, _⟩ => ⟨S1x4x128x128, .f32⟩
  | .local _ .vmem, ⟨26, _⟩ => ⟨S1x8x128, .f32⟩
  | .local _ .vmem, ⟨27, _⟩ => ⟨S1x8x128, .f32⟩
  | .local _ .vmem, ⟨28, _⟩ => ⟨S1x8x128, .f32⟩
  | .local _ .vmem, ⟨29, _⟩ => ⟨S1x8x128, .f32⟩
  | .local _ .vmem, ⟨30, _⟩ => ⟨S8x1024, .f32⟩
  | .local _ .vmem, ⟨31, _⟩ => ⟨S256x512, .f32⟩
  | .local _ .vmem, ⟨32, _⟩ => ⟨S256x512, .f32⟩
  | .local _ .vmem, ⟨33, _⟩ => ⟨S4x128x128, .f32⟩
  | .local _ .vmem, ⟨34, _⟩ => ⟨S8x128, .f32⟩
  | .local _ .vmem, ⟨35, _⟩ => ⟨S8x128, .f32⟩
  | _, _ => ⟨S2x16384x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_call1_v0 : Ref sig .tc := ⟨.hbm, 34, rfl⟩
abbrev main_v18 : Ref sig .tc := ⟨.hbm, 35, rfl⟩
abbrev main_c_3 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_call3_v0 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 64], ![false, false]⟩

def k0_mult1 : BitVec 32 :=
  let c0_i32_21 : BitVec 32 := 0#32
  let c256_i32 : BitVec 32 := 256#32
  let v60 : BitVec 32 := Scalar.muli c0_i32_21 c256_i32
  v60
def k0_off1 : Fin 3 → Nat :=
  let c0_22 : Index := 0#32
  let c0_i32_21 : BitVec 32 := 0#32
  let c256_i32 : BitVec 32 := 256#32
  let v60 : BitVec 32 := Scalar.muli c0_i32_21 c256_i32
  let v61 : BitVec 32 := v60
  let v62 : Index := Scalar.indexCast v61
  let c0_23 : Index := 0#32
  ![0, v62.toNat, 0]
def k0_off2 : Fin 2 → Nat :=
  let c0_i32_21 : BitVec 32 := 0#32
  let c256_i32 : BitVec 32 := 256#32
  let v60 : BitVec 32 := Scalar.muli c0_i32_21 c256_i32
  let v61 : BitVec 32 := v60
  let v91 : Index := Scalar.indexCast v61
  let c0_31 : Index := 0#32
  ![v91.toNat, 0]
def k0_off3 : Fin 2 → Nat :=
  let c0_i32_21 : BitVec 32 := 0#32
  let c256_i32 : BitVec 32 := 256#32
  let v60 : BitVec 32 := Scalar.muli c0_i32_21 c256_i32
  let v61 : BitVec 32 := v60
  let v93 : Index := Scalar.indexCast v61
  let c128 : Index := 128#32
  ![v93.toNat, 128]
def k0_off4 : Fin 2 → Nat :=
  let c0_i32_21 : BitVec 32 := 0#32
  let c256_i32 : BitVec 32 := 256#32
  let v60 : BitVec 32 := Scalar.muli c0_i32_21 c256_i32
  let v61 : BitVec 32 := v60
  let v95 : Index := Scalar.indexCast v61
  let c256 : Index := 256#32
  ![v95.toNat, 256]
def k0_off5 : Fin 2 → Nat :=
  let c0_i32_21 : BitVec 32 := 0#32
  let c256_i32 : BitVec 32 := 256#32
  let v60 : BitVec 32 := Scalar.muli c0_i32_21 c256_i32
  let v61 : BitVec 32 := v60
  let v97 : Index := Scalar.indexCast v61
  let c384 : Index := 384#32
  ![v97.toNat, 384]
def k0_off6 : Fin 3 → Nat :=
  let c0_36 : Index := 0#32
  let c0_i32_21 : BitVec 32 := 0#32
  let c256_i32 : BitVec 32 := 256#32
  let v60 : BitVec 32 := Scalar.muli c0_i32_21 c256_i32
  let v61 : BitVec 32 := v60
  let v117 : Index := Scalar.indexCast v61
  let c0_37 : Index := 0#32
  ![0, v117.toNat, 0]
def k0_off7 : Fin 3 → Nat :=
  let c0_38 : Index := 0#32
  let c0_i32_21 : BitVec 32 := 0#32
  let c256_i32 : BitVec 32 := 256#32
  let v60 : BitVec 32 := Scalar.muli c0_i32_21 c256_i32
  let v61 : BitVec 32 := v60
  let v120 : Index := Scalar.indexCast v61
  let c128_39 : Index := 128#32
  ![0, v120.toNat, 128]
def k0_off8 : Fin 3 → Nat :=
  let c0_40 : Index := 0#32
  let c0_i32_21 : BitVec 32 := 0#32
  let c256_i32 : BitVec 32 := 256#32
  let v60 : BitVec 32 := Scalar.muli c0_i32_21 c256_i32
  let v61 : BitVec 32 := v60
  let v123 : Index := Scalar.indexCast v61
  let c256_41 : Index := 256#32
  ![0, v123.toNat, 256]
def k0_off9 : Fin 3 → Nat :=
  let c0_42 : Index := 0#32
  let c0_i32_21 : BitVec 32 := 0#32
  let c256_i32 : BitVec 32 := 256#32
  let v60 : BitVec 32 := Scalar.muli c0_i32_21 c256_i32
  let v61 : BitVec 32 := v60
  let v126 : Index := Scalar.indexCast v61
  let c384_43 : Index := 384#32
  ![0, v126.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ConvIdeal.lean ====
abbrev S2x16384x6056 : Shape := ⟨3, ![2, 16384, 6056]⟩
abbrev S2x3x1024 : Shape := ⟨3, ![2, 3, 1024]⟩
abbrev S2x4x128x128 : Shape := ⟨4, ![2, 4, 128, 128]⟩
abbrev S2x4x128 : Shape := ⟨3, ![2, 4, 128]⟩
abbrev S2x4 : Shape := ⟨2, ![2, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S2x16384x1696 : Shape := ⟨3, ![2, 16384, 1696]⟩
abbrev S2x16384x512 : Shape := ⟨3, ![2, 16384, 512]⟩
abbrev S2x16384x1536 : Shape := ⟨3, ![2, 16384, 1536]⟩
abbrev S2x16384x2056 : Shape := ⟨3, ![2, 16384, 2056]⟩
abbrev S2x16384x256 : Shape := ⟨3, ![2, 16384, 256]⟩
abbrev S2x16384x160 : Shape := ⟨3, ![2, 16384, 160]⟩
abbrev S2x16384x8 : Shape := ⟨3, ![2, 16384, 8]⟩
abbrev S2x16384x2048 : Shape := ⟨3, ![2, 16384, 2048]⟩
abbrev S_ : Shape := ⟨0, ![]⟩
abbrev S2x16384x96 : Shape := ⟨3, ![2, 16384, 96]⟩
abbrev S2x16384x120 : Shape := ⟨3, ![2, 16384, 120]⟩
abbrev S2x16384x128 : Shape := ⟨3, ![2, 16384, 128]⟩
abbrev S2x16384x6400 : Shape := ⟨3, ![2, 16384, 6400]⟩
abbrev S1x1024 : Shape := ⟨2, ![1, 1024]⟩
abbrev S8 : Shape := ⟨1, ![8]⟩
abbrev S128 : Shape := ⟨1, ![128]⟩
abbrev S1x128 : Shape := ⟨2, ![1, 128]⟩
abbrev S1x512 : Shape := ⟨2, ![1, 512]⟩
abbrev S2x8x1024 : Shape := ⟨3, ![2, 8, 1024]⟩
abbrev S2x8x128 : Shape := ⟨3, ![2, 8, 128]⟩
abbrev S2x4x1 : Shape := ⟨3, ![2, 4, 1]⟩
abbrev S1x256x1024 : Shape := ⟨3, ![1, 256, 1024]⟩
abbrev S1x256x512 : Shape := ⟨3, ![1, 256, 512]⟩
abbrev S1x256x128 : Shape := ⟨3, ![1, 256, 128]⟩
abbrev S1x8x1024 : Shape := ⟨3, ![1, 8, 1024]⟩
abbrev S1x4x128x128 : Shape := ⟨4, ![1, 4, 128, 128]⟩
abbrev S1x8x128 : Shape := ⟨3, ![1, 8, 128]⟩
abbrev S8x1024 : Shape := ⟨2, ![8, 1024]⟩
abbrev S256x512 : Shape := ⟨2, ![256, 512]⟩
abbrev S4x128x128 : Shape := ⟨3, ![4, 128, 128]⟩
abbrev S8x128 : Shape := ⟨2, ![8, 128]⟩
abbrev S256x1024 : Shape := ⟨2, ![256, 1024]⟩
abbrev S264x1024 : Shape := ⟨2, ![264, 1024]⟩
abbrev S256x256 : Shape := ⟨2, ![256, 256]⟩
abbrev S256x128 : Shape := ⟨2, ![256, 128]⟩
abbrev S128x256 : Shape := ⟨2, ![128, 256]⟩
abbrev S4x256x128 : Shape := ⟨3, ![4, 256, 128]⟩
abbrev S256x1 : Shape := ⟨2, ![256, 1]⟩
abbrev S1x256x1 : Shape := ⟨3, ![1, 256, 1]⟩
abbrev S4x256x1 : Shape := ⟨3, ![4, 256, 1]⟩
abbrev S1x256 : Shape := ⟨2, ![1, 256]⟩
abbrev S1x1x256 : Shape := ⟨3, ![1, 1, 256]⟩
abbrev S4x1x256 : Shape := ⟨3, ![4, 1, 256]⟩
abbrev S1x1 : Shape := ⟨2, ![1, 1]⟩
abbrev S1x1x1 : Shape := ⟨3, ![1, 1, 1]⟩
abbrev S4x1x1 : Shape := ⟨3, ![4, 1, 1]⟩
abbrev S1x1x128 : Shape := ⟨3, ![1, 1, 128]⟩
abbrev S4x1x128 : Shape := ⟨3, ![4, 1, 128]⟩
abbrev S1x256x256 : Shape := ⟨3, ![1, 256, 256]⟩
abbrev S4x256x256 : Shape := ⟨3, ![4, 256, 256]⟩
abbrev S4x256 : Shape := ⟨2, ![4, 256]⟩
abbrev S4x128 : Shape := ⟨2, ![4, 128]⟩

abbrev nBuf : Space → Nat
  | .hbm => 53
  | .vmem => 36
  | .smem => 0
  | _ => 0

abbrev bufTy : (tb : Table) → Fin (tcTables nBuf tb) → BufTy
  | .hbm, ⟨0, _⟩ => ⟨S2x16384x6056, .f32⟩
  | .hbm, ⟨1, _⟩ => ⟨S2x3x1024, .f32⟩
  | .hbm, ⟨2, _⟩ => ⟨S2x4x128x128, .f32⟩
  | .hbm, ⟨3, _⟩ => ⟨S2x4x128, .f32⟩
  | .hbm, ⟨4, _⟩ => ⟨S2x4, .f32⟩
  | .hbm, ⟨5, _⟩ => ⟨S4x1024, .f32⟩
  | .hbm, ⟨6, _⟩ => ⟨S1024, .f32⟩
  | .hbm, ⟨7, _⟩ => ⟨S4, .f32⟩
  | .hbm, ⟨8, _⟩ => ⟨S4, .f32⟩
  | .hbm, ⟨9, _⟩ => ⟨S512, .f32⟩
  | .hbm, ⟨10, _⟩ => ⟨S2x16384x1696, .f32⟩
  | .hbm, ⟨11, _⟩ => ⟨S2x16384x512, .f32⟩
  | .hbm, ⟨12, _⟩ => ⟨S2x16384x1536, .f32⟩
  | .hbm, ⟨13, _⟩ => ⟨S2x16384x2056, .f32⟩
  | .hbm, ⟨14, _⟩ => ⟨S2x16384x256, .f32⟩
  | .hbm, ⟨15, _⟩ => ⟨S2x16384x160, .f32⟩
  | .hbm, ⟨16, _⟩ => ⟨S2x16384x8, .f32⟩
  | .hbm, ⟨17, _⟩ => ⟨S2x16384x2048, .f32⟩
  | .hbm, ⟨18, _⟩ => ⟨S2x16384x1536, .f32⟩
  | .hbm, ⟨19, _⟩ => ⟨S_, .f32⟩
  | .hbm, ⟨20, _⟩ => ⟨S2x16384x96, .f32⟩
  | .hbm, ⟨21, _⟩ => ⟨S_, .f32⟩
  | .hbm, ⟨22, _⟩ => ⟨S2x16384x120, .f32⟩
  | .hbm, ⟨23, _⟩ => ⟨S_, .f32⟩
  | .hbm, ⟨24, _⟩ => ⟨S2x16384x128, .f32⟩
  | .hbm, ⟨25, _⟩ => ⟨S2x16384x6400, .f32⟩
  | .hbm, ⟨26, _⟩ => ⟨S1x1024, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x512, .f32⟩
  | .hbm, ⟨33, _⟩ => ⟨S_, .i32⟩
  | .hbm, ⟨34, _⟩ => ⟨S_, .f32⟩
  | .hbm, ⟨35, _⟩ => ⟨S2x8x1024, .f32⟩
  | .hbm, ⟨36, _⟩ => ⟨S_, .i32⟩
  | .hbm, ⟨37, _⟩ => ⟨S_, .f32⟩
  | .hbm, ⟨38, _⟩ => ⟨S2x8x128, .f32⟩
  | .hbm, ⟨39, _⟩ => ⟨S2x4x1, .f32⟩
  | .hbm, ⟨40, _⟩ => ⟨S2x4x128, .f32⟩
  | .hbm, ⟨41, _⟩ => ⟨S_, .i32⟩
  | .hbm, ⟨42, _⟩ => ⟨S_, .f32⟩
  | .hbm, ⟨43, _⟩ => ⟨S2x8x128, .f32⟩
  | .hbm, ⟨44, _⟩ => ⟨S2x16384x512, .bf16⟩
  | .hbm, ⟨45, _⟩ => ⟨S2x8x1024, .f32⟩
  | .hbm, ⟨46, _⟩ => ⟨S2x4x128x128, .f32⟩
  | .hbm, ⟨47, _⟩ => ⟨S2x8x128, .f32⟩
  | .hbm, ⟨48, _⟩ => ⟨S2x8x128, .f32⟩
  | .hbm, ⟨49, _⟩ => ⟨S2x3x1024, .f32⟩
  | .hbm, ⟨50, _⟩ => ⟨S2x4x128, .f32⟩
  | .hbm, ⟨51, _⟩ => ⟨S2x4x1, .f32⟩
  | .hbm, ⟨52, _⟩ => ⟨S2x4, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x128, .f32⟩
  | .local _ .vmem, ⟨7, _⟩ => ⟨S1x256x128, .f32⟩
  | .local _ .vmem, ⟨8, _⟩ => ⟨S1x8x1024, .f32⟩
  | .local _ .vmem, ⟨9, _⟩ => ⟨S1x8x1024, .f32⟩
  | .local _ .vmem, ⟨10, _⟩ => ⟨S1x4x128x128, .f32⟩
  | .local _ .vmem, ⟨11, _⟩ => ⟨S1x4x128x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S4x1024, .f32⟩
  | .local _ .vmem, ⟨17, _⟩ => ⟨S1x1024, .f32⟩
  | .local _ .vmem, ⟨18, _⟩ => ⟨S1x128, .f32⟩
  | .local _ .vmem, ⟨19, _⟩ => ⟨S1x512, .f32⟩
  | .local _ .vmem, ⟨20, _⟩ => ⟨S1x256x512, .bf16⟩
  | .local _ .vmem, ⟨21, _⟩ => ⟨S1x256x512, .bf16⟩
  | .local _ .vmem, ⟨22, _⟩ => ⟨S1x8x1024, .f32⟩
  | .local _ .vmem, ⟨23, _⟩ => ⟨S1x8x1024, .f32⟩
  | .local _ .vmem, ⟨24, _⟩ => ⟨S1x4x128x128, .f32⟩
  | .local _ .vmem, ⟨25, _⟩ => ⟨S1x4x128x128, .f32⟩
  | .local _ .vmem, ⟨26, _⟩ => ⟨S1x8x128, .f32⟩
  | .local _ .vmem, ⟨27, _⟩ => ⟨S1x8x128, .f32⟩
  | .local _ .vmem, ⟨28, _⟩ => ⟨S1x8x128, .f32⟩
  | .local _ .vmem, ⟨29, _⟩ => ⟨S1x8x128, .f32⟩
  | .local _ .vmem, ⟨30, _⟩ => ⟨S8x1024, .f32⟩
  | .local _ .vmem, ⟨31, _⟩ => ⟨S256x512, .f32⟩
  | .local _ .vmem, ⟨32, _⟩ => ⟨S256x512, .f32⟩
  | .local _ .vmem, ⟨33, _⟩ => ⟨S4x128x128, .f32⟩
  | .local _ .vmem, ⟨34, _⟩ => ⟨S8x128, .f32⟩
  | .local _ .vmem, ⟨35, _⟩ => ⟨S8x128, .f32⟩
  | _, _ => ⟨S2x16384x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_call1_v0 : Ref sig .tc := ⟨.hbm, 34, rfl⟩
abbrev main_v18 : Ref sig .tc := ⟨.hbm, 35, rfl⟩
abbrev main_c_3 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_call3_v0 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 64], ![false, false]⟩

def k0_mult1 : BitVec 32 :=
  let c0_i32_21 : BitVec 32 := 0#32
  let c256_i32 : BitVec 32 := 256#32
  let v60 : BitVec 32 := Scalar.muli c0_i32_21 c256_i32
  v60
def k0_off1 : Fin 3 → Nat :=
  let c0_22 : Index := 0#32
  let c0_i32_21 : BitVec 32 := 0#32
  let c256_i32 : BitVec 32 := 256#32
  let v60 : BitVec 32 := Scalar.muli c0_i32_21 c256_i32
  let v61 : BitVec 32 := v60
  let v62 : Index := Scalar.indexCast v61
  let c0_23 : Index := 0#32
  ![0, v62.toNat, 0]
def k0_off2 : Fin 2 → Nat :=
  let c0_i32_21 : BitVec 32 := 0#32
  let c256_i32 : BitVec 32 := 256#32
  let v60 : BitVec 32 := Scalar.muli c0_i32_21 c256_i32
  let v61 : BitVec 32 := v60
  let v91 : Index := Scalar.indexCast v61
  let c0_31 : Index := 0#32
  ![v91.toNat, 0]
def k0_off3 : Fin 2 → Nat :=
  let c0_i32_21 : BitVec 32 := 0#32
  let c256_i32 : BitVec 32 := 256#32
  let v60 : BitVec 32 := Scalar.muli c0_i32_21 c256_i32
  let v61 : BitVec 32 := v60
  let v93 : Index := Scalar.indexCast v61
  let c128 : Index := 128#32
  ![v93.toNat, 128]
def k0_off4 : Fin 2 → Nat :=
  let c0_i32_21 : BitVec 32 := 0#32
  let c256_i32 : BitVec 32 := 256#32
  let v60 : BitVec 32 := Scalar.muli c0_i32_21 c256_i32
  let v61 : BitVec 32 := v60
  let v95 : Index := Scalar.indexCast v61
  let c256 : Index := 256#32
  ![v95.toNat, 256]
def k0_off5 : Fin 2 → Nat :=
  let c0_i32_21 : BitVec 32 := 0#32
  let c256_i32 : BitVec 32 := 256#32
  let v60 : BitVec 32 := Scalar.muli c0_i32_21 c256_i32
  let v61 : BitVec 32 := v60
  let v97 : Index := Scalar.indexCast v61
  let c384 : Index := 384#32
  ![v97.toNat, 384]
def k0_off6 : Fin 3 → Nat :=
  let c0_36 : Index := 0#32
  let c0_i32_21 : BitVec 32 := 0#32
  let c256_i32 : BitVec 32 := 256#32
  let v60 : BitVec 32 := Scalar.muli c0_i32_21 c256_i32
  let v61 : BitVec 32 := v60
  let v117 : Index := Scalar.indexCast v61
  let c0_37 : Index := 0#32
  ![0, v117.toNat, 0]
def k0_off7 : Fin 3 → Nat :=
  let c0_38 : Index := 0#32
  let c0_i32_21 : BitVec 32 := 0#32
  let c256_i32 : BitVec 32 := 256#32
  let v60 : BitVec 32 := Scalar.muli c0_i32_21 c256_i32
  let v61 : BitVec 32 := v60
  let v120 : Index := Scalar.indexCast v61
  let c128_39 : Index := 128#32
  ![0, v120.toNat, 128]
def k0_off8 : Fin 3 → Nat :=
  let c0_40 : Index := 0#32
  let c0_i32_21 : BitVec 32 := 0#32
  let c256_i32 : BitVec 32 := 256#32
  let v60 : BitVec 32 := Scalar.muli c0_i32_21 c256_i32
  let v61 : BitVec 32 := v60
  let v123 : Index := Scalar.indexCast v61
  let c256_41 : Index := 256#32
  ![0, v123.toNat, 256]
def k0_off9 : Fin 3 → Nat :=
  let c0_42 : Index := 0#32
  let c0_i32_21 : BitVec 32 := 0#32
  let c256_i32 : BitVec 32 := 256#32
  let v60 : BitVec 32 := Scalar.muli c0_i32_21 c256_i32
  let v61 : BitVec 32 := v60
  let v126 : Index := Scalar.indexCast v61
  let c384_43 : Index := 384#32
  ![0, v126.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ConvRefIdeal.lean ====
abbrev S2x16384x6056 : Shape := ⟨3, ![2, 16384, 6056]⟩
abbrev S2x3x1024 : Shape := ⟨3, ![2, 3, 1024]⟩
abbrev S2x4x128x128 : Shape := ⟨4, ![2, 4, 128, 128]⟩
abbrev S2x4x128 : Shape := ⟨3, ![2, 4, 128]⟩
abbrev S2x4 : Shape := ⟨2, ![2, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S2x16384x2056 : Shape := ⟨3, ![2, 16384, 2056]⟩
abbrev S2x16384x1024 : Shape := ⟨3, ![2, 16384, 1024]⟩
abbrev S2x16387x1024 : Shape := ⟨3, ![2, 16387, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x16384x6056, .f32⟩
  | .hbm, ⟨1, _⟩ => ⟨S2x3x1024, .f32⟩
  | .hbm, ⟨2, _⟩ => ⟨S2x4x128x128, .f32⟩
  | .hbm, ⟨3, _⟩ => ⟨S2x4x128, .f32⟩
  | .hbm, ⟨4, _⟩ => ⟨S2x4, .f32⟩
  | .hbm, ⟨5, _⟩ => ⟨S4x1024, .f32⟩
  | .hbm, ⟨6, _⟩ => ⟨S1024, .f32⟩
  | .hbm, ⟨7, _⟩ => ⟨S4, .f32⟩
  | .hbm, ⟨8, _⟩ => ⟨S4, .f32⟩
  | .hbm, ⟨9, _⟩ => ⟨S512, .f32⟩
  | .hbm, ⟨10, _⟩ => ⟨S2x16384x2056, .f32⟩
  | .hbm, ⟨11, _⟩ => ⟨S2x16384x1024, .f32⟩
  | .hbm, ⟨12, _⟩ => ⟨S2x16387x1024, .f32⟩
  | .hbm, ⟨13, _⟩ => ⟨S2x3x1024, .f32⟩
  | _, _ => ⟨S2x16384x6056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== ConvS.lean ====
abbrev S16x64x6056 : Shape := ⟨3, ![16, 64, 6056]⟩
abbrev S16x3x1024 : Shape := ⟨3, ![16, 3, 1024]⟩
abbrev S16x4x128x128 : Shape := ⟨4, ![16, 4, 128, 128]⟩
abbrev S16x4x128 : Shape := ⟨3, ![16, 4, 128]⟩
abbrev S16x4 : Shape := ⟨2, ![16, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S16x64x1696 : Shape := ⟨3, ![16, 64, 1696]⟩
abbrev S16x64x512 : Shape := ⟨3, ![16, 64, 512]⟩
abbrev S16x64x1536 : Shape := ⟨3, ![16, 64, 1536]⟩
abbrev S16x64x2056 : Shape := ⟨3, ![16, 64, 2056]⟩
abbrev S16x64x256 : Shape := ⟨3, ![16, 64, 256]⟩
abbrev S16x64x160 : Shape := ⟨3, ![16, 64, 160]⟩
abbrev S16x64x8 : Shape := ⟨3, ![16, 64, 8]⟩
abbrev S16x64x2048 : Shape := ⟨3, ![16, 64, 2048]⟩
abbrev S_ : Shape := ⟨0, ![]⟩
abbrev S16x64x96 : Shape := ⟨3, ![16, 64, 96]⟩
abbrev S16x64x120 : Shape := ⟨3, ![16, 64, 120]⟩
abbrev S16x64x128 : Shape := ⟨3, ![16, 64, 128]⟩
abbrev S16x64x6400 : Shape := ⟨3, ![16, 64, 6400]⟩
abbrev S1x1024 : Shape := ⟨2, ![1, 1024]⟩
abbrev S8 : Shape := ⟨1, ![8]⟩
abbrev S128 : Shape := ⟨1, ![128]⟩
abbrev S1x128 : Shape := ⟨2, ![1, 128]⟩
abbrev S1x512 : Shape := ⟨2, ![1, 512]⟩
abbrev S16x8x1024 : Shape := ⟨3, ![16, 8, 1024]⟩
abbrev S16x8x128 : Shape := ⟨3, ![16, 8, 128]⟩
abbrev S16x4x1 : Shape := ⟨3, ![16, 4, 1]⟩
abbrev S1x64x1024 : Shape := ⟨3, ![1, 64, 1024]⟩
abbrev S1x64x512 : Shape := ⟨3, ![1, 64, 512]⟩
abbrev S1x64x128 : Shape := ⟨3, ![1, 64, 128]⟩
abbrev S1x8x1024 : Shape := ⟨3, ![1, 8, 1024]⟩
abbrev S1x4x128x128 : Shape := ⟨4, ![1, 4, 128, 128]⟩
abbrev S1x8x128 : Shape := ⟨3, ![1, 8, 128]⟩
abbrev S8x1024 : Shape := ⟨2, ![8, 1024]⟩
abbrev S64x512 : Shape := ⟨2, ![64, 512]⟩
abbrev S4x128x128 : Shape := ⟨3, ![4, 128, 128]⟩
abbrev S8x128 : Shape := ⟨2, ![8, 128]⟩
abbrev S64x1024 : Shape := ⟨2, ![64, 1024]⟩
abbrev S72x1024 : Shape := ⟨2, ![72, 1024]⟩
abbrev S64x64 : Shape := ⟨2, ![64, 64]⟩
abbrev S64x128 : Shape := ⟨2, ![64, 128]⟩
abbrev S128x64 : Shape := ⟨2, ![128, 64]⟩
abbrev S4x64x128 : Shape := ⟨3, ![4, 64, 128]⟩
abbrev S64x1 : Shape := ⟨2, ![64, 1]⟩
abbrev S1x64x1 : Shape := ⟨3, ![1, 64, 1]⟩
abbrev S4x64x1 : Shape := ⟨3, ![4, 64, 1]⟩
abbrev S1x64 : Shape := ⟨2, ![1, 64]⟩
abbrev S1x1x64 : Shape := ⟨3, ![1, 1, 64]⟩
abbrev S4x1x64 : Shape := ⟨3, ![4, 1, 64]⟩
abbrev S1x1 : Shape := ⟨2, ![1, 1]⟩
abbrev S1x1x1 : Shape := ⟨3, ![1, 1, 1]⟩
abbrev S4x1x1 : Shape := ⟨3, ![4, 1, 1]⟩
abbrev S1x1x128 : Shape := ⟨3, ![1, 1, 128]⟩
abbrev S4x1x128 : Shape := ⟨3, ![4, 1, 128]⟩
abbrev S1x64x64 : Shape := ⟨3, ![1, 64, 64]⟩
abbrev S4x64x64 : Shape := ⟨3, ![4, 64, 64]⟩
abbrev S4x64 : Shape := ⟨2, ![4, 64]⟩
abbrev S4x128 : Shape := ⟨2, ![4, 128]⟩

abbrev nBuf : Space → Nat
  | .hbm => 53
  | .vmem => 36
  | .smem => 0
  | _ => 0

abbrev bufTy : (tb : Table) → Fin (tcTables nBuf tb) → BufTy
  | .hbm, ⟨0, _⟩ => ⟨S16x64x6056, .f32⟩
  | .hbm, ⟨1, _⟩ => ⟨S16x3x1024, .f32⟩
  | .hbm, ⟨2, _⟩ => ⟨S16x4x128x128, .f32⟩
  | .hbm, ⟨3, _⟩ => ⟨S16x4x128, .f32⟩
  | .hbm, ⟨4, _⟩ => ⟨S16x4, .f32⟩
  | .hbm, ⟨5, _⟩ => ⟨S4x1024, .f32⟩
  | .hbm, ⟨6, _⟩ => ⟨S1024, .f32⟩
  | .hbm, ⟨7, _⟩ => ⟨S4, .f32⟩
  | .hbm, ⟨8, _⟩ => ⟨S4, .f32⟩
  | .hbm, ⟨9, _⟩ => ⟨S512, .f32⟩
  | .hbm, ⟨10, _⟩ => ⟨S16x64x1696, .f32⟩
  | .hbm, ⟨11, _⟩ => ⟨S16x64x512, .f32⟩
  | .hbm, ⟨12, _⟩ => ⟨S16x64x1536, .f32⟩
  | .hbm, ⟨13, _⟩ => ⟨S16x64x2056, .f32⟩
  | .hbm, ⟨14, _⟩ => ⟨S16x64x256, .f32⟩
  | .hbm, ⟨15, _⟩ => ⟨S16x64x160, .f32⟩
  | .hbm, ⟨16, _⟩ => ⟨S16x64x8, .f32⟩
  | .hbm, ⟨17, _⟩ => ⟨S16x64x2048, .f32⟩
  | .hbm, ⟨18, _⟩ => ⟨S16x64x1536, .f32⟩
  | .hbm, ⟨19, _⟩ => ⟨S_, .f32⟩
  | .hbm, ⟨20, _⟩ => ⟨S16x64x96, .f32⟩
  | .hbm, ⟨21, _⟩ => ⟨S_, .f32⟩
  | .hbm, ⟨22, _⟩ => ⟨S16x64x120, .f32⟩
  | .hbm, ⟨23, _⟩ => ⟨S_, .f32⟩
  | .hbm, ⟨24, _⟩ => ⟨S16x64x128, .f32⟩
  | .hbm, ⟨25, _⟩ => ⟨S16x64x6400, .f32⟩
  | .hbm, ⟨26, _⟩ => ⟨S1x1024, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x512, .f32⟩
  | .hbm, ⟨33, _⟩ => ⟨S_, .i32⟩
  | .hbm, ⟨34, _⟩ => ⟨S_, .f32⟩
  | .hbm, ⟨35, _⟩ => ⟨S16x8x1024, .f32⟩
  | .hbm, ⟨36, _⟩ => ⟨S_, .i32⟩
  | .hbm, ⟨37, _⟩ => ⟨S_, .f32⟩
  | .hbm, ⟨38, _⟩ => ⟨S16x8x128, .f32⟩
  | .hbm, ⟨39, _⟩ => ⟨S16x4x1, .f32⟩
  | .hbm, ⟨40, _⟩ => ⟨S16x4x128, .f32⟩
  | .hbm, ⟨41, _⟩ => ⟨S_, .i32⟩
  | .hbm, ⟨42, _⟩ => ⟨S_, .f32⟩
  | .hbm, ⟨43, _⟩ => ⟨S16x8x128, .f32⟩
  | .hbm, ⟨44, _⟩ => ⟨S16x64x512, .bf16⟩
  | .hbm, ⟨45, _⟩ => ⟨S16x8x1024, .f32⟩
  | .hbm, ⟨46, _⟩ => ⟨S16x4x128x128, .f32⟩
  | .hbm, ⟨47, _⟩ => ⟨S16x8x128, .f32⟩
  | .hbm, ⟨48, _⟩ => ⟨S16x8x128, .f32⟩
  | .hbm, ⟨49, _⟩ => ⟨S16x3x1024, .f32⟩
  | .hbm, ⟨50, _⟩ => ⟨S16x4x128, .f32⟩
  | .hbm, ⟨51, _⟩ => ⟨S16x4x1, .f32⟩
  | .hbm, ⟨52, _⟩ => ⟨S16x4, .f32⟩
  | .local _ .vmem, ⟨0, _⟩ => ⟨S1x64x1024, .f32⟩
  | .local _ .vmem, ⟨1, _⟩ => ⟨S1x64x1024, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x128, .f32⟩
  | .local _ .vmem, ⟨7, _⟩ => ⟨S1x64x128, .f32⟩
  | .local _ .vmem, ⟨8, _⟩ => ⟨S1x8x1024, .f32⟩
  | .local _ .vmem, ⟨9, _⟩ => ⟨S1x8x1024, .f32⟩
  | .local _ .vmem, ⟨10, _⟩ => ⟨S1x4x128x128, .f32⟩
  | .local _ .vmem, ⟨11, _⟩ => ⟨S1x4x128x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S4x1024, .f32⟩
  | .local _ .vmem, ⟨17, _⟩ => ⟨S1x1024, .f32⟩
  | .local _ .vmem, ⟨18, _⟩ => ⟨S1x128, .f32⟩
  | .local _ .vmem, ⟨19, _⟩ => ⟨S1x512, .f32⟩
  | .local _ .vmem, ⟨20, _⟩ => ⟨S1x64x512, .bf16⟩
  | .local _ .vmem, ⟨21, _⟩ => ⟨S1x64x512, .bf16⟩
  | .local _ .vmem, ⟨22, _⟩ => ⟨S1x8x1024, .f32⟩
  | .local _ .vmem, ⟨23, _⟩ => ⟨S1x8x1024, .f32⟩
  | .local _ .vmem, ⟨24, _⟩ => ⟨S1x4x128x128, .f32⟩
  | .local _ .vmem, ⟨25, _⟩ => ⟨S1x4x128x128, .f32⟩
  | .local _ .vmem, ⟨26, _⟩ => ⟨S1x8x128, .f32⟩
  | .local _ .vmem, ⟨27, _⟩ => ⟨S1x8x128, .f32⟩
  | .local _ .vmem, ⟨28, _⟩ => ⟨S1x8x128, .f32⟩
  | .local _ .vmem, ⟨29, _⟩ => ⟨S1x8x128, .f32⟩
  | .local _ .vmem, ⟨30, _⟩ => ⟨S8x1024, .f32⟩
  | .local _ .vmem, ⟨31, _⟩ => ⟨S64x512, .f32⟩
  | .local _ .vmem, ⟨32, _⟩ => ⟨S64x512, .f32⟩
  | .local _ .vmem, ⟨33, _⟩ => ⟨S4x128x128, .f32⟩
  | .local _ .vmem, ⟨34, _⟩ => ⟨S8x128, .f32⟩
  | .local _ .vmem, ⟨35, _⟩ => ⟨S8x128, .f32⟩
  | _, _ => ⟨S16x64x6056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_call1_v0 : Ref sig .tc := ⟨.hbm, 34, rfl⟩
abbrev main_v18 : Ref sig .tc := ⟨.hbm, 35, rfl⟩
abbrev main_c_3 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_call3_v0 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![16, 1], ![false, false]⟩

def k0_mult1 : BitVec 32 :=
  let c0_i32_21 : BitVec 32 := 0#32
  let c64_i32 : BitVec 32 := 64#32
  let v60 : BitVec 32 := Scalar.muli c0_i32_21 c64_i32
  v60
def k0_off1 : Fin 3 → Nat :=
  let c0_22 : Index := 0#32
  let c0_i32_21 : BitVec 32 := 0#32
  let c64_i32 : BitVec 32 := 64#32
  let v60 : BitVec 32 := Scalar.muli c0_i32_21 c64_i32
  let v61 : BitVec 32 := v60
  let v62 : Index := Scalar.indexCast v61
  let c0_23 : Index := 0#32
  ![0, v62.toNat, 0]
def k0_off2 : Fin 2 → Nat :=
  let c0_i32_21 : BitVec 32 := 0#32
  let c64_i32 : BitVec 32 := 64#32
  let v60 : BitVec 32 := Scalar.muli c0_i32_21 c64_i32
  let v61 : BitVec 32 := v60
  let v91 : Index := Scalar.indexCast v61
  let c0_31 : Index := 0#32
  ![v91.toNat, 0]
def k0_off3 : Fin 2 → Nat :=
  let c0_i32_21 : BitVec 32 := 0#32
  let c64_i32 : BitVec 32 := 64#32
  let v60 : BitVec 32 := Scalar.muli c0_i32_21 c64_i32
  let v61 : BitVec 32 := v60
  let v93 : Index := Scalar.indexCast v61
  let c128 : Index := 128#32
  ![v93.toNat, 128]
def k0_off4 : Fin 2 → Nat :=
  let c0_i32_21 : BitVec 32 := 0#32
  let c64_i32 : BitVec 32 := 64#32
  let v60 : BitVec 32 := Scalar.muli c0_i32_21 c64_i32
  let v61 : BitVec 32 := v60
  let v95 : Index := Scalar.indexCast v61
  let c256 : Index := 256#32
  ![v95.toNat, 256]
def k0_off5 : Fin 2 → Nat :=
  let c0_i32_21 : BitVec 32 := 0#32
  let c64_i32 : BitVec 32 := 64#32
  let v60 : BitVec 32 := Scalar.muli c0_i32_21 c64_i32
  let v61 : BitVec 32 := v60
  let v97 : Index := Scalar.indexCast v61
  let c384 : Index := 384#32
  ![v97.toNat, 384]
def k0_off6 : Fin 3 → Nat :=
  let c0_36 : Index := 0#32
  let c0_i32_21 : BitVec 32 := 0#32
  let c64_i32 : BitVec 32 := 64#32
  let v60 : BitVec 32 := Scalar.muli c0_i32_21 c64_i32
  let v61 : BitVec 32 := v60
  let v117 : Index := Scalar.indexCast v61
  let c0_37 : Index := 0#32
  ![0, v117.toNat, 0]
def k0_off7 : Fin 3 → Nat :=
  let c0_38 : Index := 0#32
  let c0_i32_21 : BitVec 32 := 0#32
  let c64_i32 : BitVec 32 := 64#32
  let v60 : BitVec 32 := Scalar.muli c0_i32_21 c64_i32
  let v61 : BitVec 32 := v60
  let v120 : Index := Scalar.indexCast v61
  let c128_39 : Index := 128#32
  ![0, v120.toNat, 128]
def k0_off8 : Fin 3 → Nat :=
  let c0_40 : Index := 0#32
  let c0_i32_21 : BitVec 32 := 0#32
  let c64_i32 : BitVec 32 := 64#32
  let v60 : BitVec 32 := Scalar.muli c0_i32_21 c64_i32
  let v61 : BitVec 32 := v60
  let v123 : Index := Scalar.indexCast v61
  let c256_41 : Index := 256#32
  ![0, v123.toNat, 256]
def k0_off9 : Fin 3 → Nat :=
  let c0_42 : Index := 0#32
  let c0_i32_21 : BitVec 32 := 0#32
  let c64_i32 : BitVec 32 := 64#32
  let v60 : BitVec 32 := Scalar.muli c0_i32_21 c64_i32
  let v61 : BitVec 32 := v60
  let v126 : Index := Scalar.indexCast v61
  let c384_43 : Index := 384#32
  ![0, v126.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ConvSRefIdeal.lean ====
abbrev S16x64x6056 : Shape := ⟨3, ![16, 64, 6056]⟩
abbrev S16x3x1024 : Shape := ⟨3, ![16, 3, 1024]⟩
abbrev S16x4x128x128 : Shape := ⟨4, ![16, 4, 128, 128]⟩
abbrev S16x4x128 : Shape := ⟨3, ![16, 4, 128]⟩
abbrev S16x4 : Shape := ⟨2, ![16, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S16x64x2056 : Shape := ⟨3, ![16, 64, 2056]⟩
abbrev S16x64x1024 : Shape := ⟨3, ![16, 64, 1024]⟩
abbrev S16x67x1024 : Shape := ⟨3, ![16, 67, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16x64x6056, .f32⟩
  | .hbm, ⟨1, _⟩ => ⟨S16x3x1024, .f32⟩
  | .hbm, ⟨2, _⟩ => ⟨S16x4x128x128, .f32⟩
  | .hbm, ⟨3, _⟩ => ⟨S16x4x128, .f32⟩
  | .hbm, ⟨4, _⟩ => ⟨S16x4, .f32⟩
  | .hbm, ⟨5, _⟩ => ⟨S4x1024, .f32⟩
  | .hbm, ⟨6, _⟩ => ⟨S1024, .f32⟩
  | .hbm, ⟨7, _⟩ => ⟨S4, .f32⟩
  | .hbm, ⟨8, _⟩ => ⟨S4, .f32⟩
  | .hbm, ⟨9, _⟩ => ⟨S512, .f32⟩
  | .hbm, ⟨10, _⟩ => ⟨S16x64x2056, .f32⟩
  | .hbm, ⟨11, _⟩ => ⟨S16x64x1024, .f32⟩
  | .hbm, ⟨12, _⟩ => ⟨S16x67x1024, .f32⟩
  | .hbm, ⟨13, _⟩ => ⟨S16x3x1024, .f32⟩
  | _, _ => ⟨S16x64x6056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Owned.lean ====
/-
  Loads and stores stated over the values a buffer is held at: a load of a whole buffer reads its value, a load of a
  block reads that block of the value, and a store of a whole buffer leaves the value stored.
-/
module

public import Idealize.ShloMosaic.Lib.VecWindow
public import Idealize.ShloMosaic.Lib.Memref
public import Idealize.ShloMosaic.Lib.Tactic

@[expose] public section

noncomputable section

namespace Cert.Proof.Owned

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {α : Type} {cs : CoreSpace} {s : Shape} {e : EltTy}

/-- A load of a whole buffer held at `x` reads `x` and leaves the buffer held. -/
theorem load_full {Q : α → sProp 𝕄} {M : Memref sig c.2.kind cs s e} {off : Fin s.rank → ℕ} {inb : ∀ a, off a + s.size a ≤ s.size a}
    {hl : M.view.LoadsAt (Rect.unit off s.size inb).toLoadRect}
    {k : ((Rect.unit off s.size inb).toLoadRect.shape.Idx → Val e) → Prog (TpuEff nD τ sig Val Λ c.2) α}
    {q : PosShare TreeShare} {x : s.Idx → Val e} :
    (owns c M q x : sProp 𝕄)
      ⊢ iprop((owns c M q x -∗ wp frame (wpE defs 𝒱 c bd) E (k x) Q)
        -∗ wp frame (wpE defs 𝒱 c bd) E (.op (.load M (Rect.unit off s.size inb).toLoadRect hl) k) Q) := by
  unfold owns
  iintro ⟨%f, %hf, H⟩; iintro Hk
  iapply (wp_load 𝒱 c bd E (m := M) (View.setOn_subset_set _ _)) $$ H
  iintro H
  rw [View.readAt_full, hf]
  iapply Hk
  iexists f
  isplitr; · ipureintro; exact hf
  iexact H

/-- A load of a block of a buffer held at `x` reads that block of `x` and leaves the buffer held. -/
theorem load_block {Q : α → sProp 𝕄} {M : Memref sig c.2.kind cs s e} {off off' size : Fin s.rank → ℕ} {inb : ∀ a, off a + size a ≤ s.size a}
    {hl : M.view.LoadsAt (Rect.unit off size inb).toLoadRect}
    {k : ((Rect.unit off size inb).toLoadRect.shape.Idx → Val e) → Prog (TpuEff nD τ sig Val Λ c.2) α}
    {q : PosShare TreeShare} {x : s.Idx → Val e} (h : off = off') (inb' : ∀ a, off' a + size a ≤ s.size a) :
    (owns c M q x : sProp 𝕄)
      ⊢ iprop((owns c M q x -∗ wp frame (wpE defs 𝒱 c bd) E (k (VecWindow.window x off' size inb')) Q)
        -∗ wp frame (wpE defs 𝒱 c bd) E (.op (.load M (Rect.unit off size inb).toLoadRect hl) k) Q) := by
  unfold owns
  iintro ⟨%f, %hf, H⟩; iintro Hk
  iapply (wp_load 𝒱 c bd E (m := M) (View.setOn_subset_set _ _)) $$ H
  iintro H
  rw [View.readAt_unit _ _ inb h inb', hf]
  iapply Hk
  iexists f
  isplitr; · ipureintro; exact hf
  iexact H

/-- A store of a whole buffer leaves it held at what was stored. -/
theorem store_full {Q : α → sProp 𝕄} {M : Memref sig c.2.kind cs s e} {off : Fin s.rank → ℕ} {inb : ∀ a, off a + s.size a ≤ s.size a}
    {w : (Rect.unit off s.size inb).shape.Idx → Val e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {x : s.Idx → Val e} :
    (owns c M fullShare x : sProp 𝕄)
      ⊢ iprop((owns c M fullShare w -∗ wp frame (wpE defs 𝒱 c bd) E (k ⟨⟩) Q)
        -∗ wp frame (wpE defs 𝒱 c bd) E (.op (.store M (Rect.unit off s.size inb) w Finset.univ hx hm) k) Q) := by
  unfold owns
  iintro ⟨%f, %hf, H⟩; iintro Hk
  iapply (wp_store 𝒱 c bd E (m := M) (r := Rect.unit off s.size inb) (Mk := Finset.univ)
    (by rw [View.setOn_univ]; exact View.set_slice_subset _ _)) $$ H
  iintro H
  iapply Hk
  iexists _
  isplitr
  swap; · iexact H
  ipureintro
  exact View.read_writes_full M.view f inb w []

end Cert.Proof.Owned

end
-- ==== Proof.SbI.Kit.lean ====
/-
  The attention call's launch: what its arrays hold when the pipelined region is entered, the blocks its windows
  read, the scratch buffers, and how a run of the region gives back the argument arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The loop of the kernel is bounded by the number of blocks still to take. -/
abbrev 𝒱₀ : Variants := Variants.nat

variable (m : (ℓ : Loc nD τ sig) → Buf (Elt F) ℓ) (ρ : Dev nD → PrngReg)

/-- What a buffer of core `c` holds when the region is entered: the host operations before it applied in order. -/
abbrev V (c : Dev nD) (b : Ref sig .tc) : Buf (Elt F) ((c : Thread nD τ).loc b) :=
  StableHlo.after (List.flatten [hostOps0, hostOps0_1, hostOps0_2, hostOps0_3]) (fun b => m (c, b)) b

/-- The host operations before the region, as one list of lists, allocate nothing. -/
theorem host_fresh : ([hostOps0, hostOps0_1, hostOps0_2, hostOps0_3] : List (List (HloOp τ sig (Elt F)))).Forall
    fun ops => ops.Forall fun op => op.fresh = ∅ := by
  simp only [List.Forall]; repeat' constructor

set_option maxHeartbeats 800000 in
/-- The program up to the region: the host operations, then the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩) host_fresh main_chain

/-- A buffer that is not among the host operations' results is found by the region as launched. -/
theorem V_kept (c : Dev nD) (b : Ref sig .tc)
    (h : ∀ r ∈ [main_v0, main_v1, main_v2, main_v3, main_v4, main_v5, main_v6, main_v7, main_v8, main_v9, main_v10, main_v11, main_c,
      main_call0_v0, main_v12, main_c_0, main_call1_v0, main_v13], b ≠ r) :
    V m c b = m ((c : Thread nD τ).loc b) :=
  StableHlo.after_of_forall_not_mem (b := Proc.devRef .tc b) _ _ (List.forall_iff_forall_mem.mp (by
    simp only [List.mem_cons, List.not_mem_nil, or_false, forall_eq_or_imp, forall_eq] at h
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes,
      Finset.mem_singleton]
    obtain ⟨h0, h1, h2, h3, h4, h5, h6, h7, h8, h9, h10, h11, h12, h13, h14, h15, h16, h17⟩ := h
    refine ⟨?_, ?_, ?_, ?_, ?_, ?_, ?_, ?_, ?_, ?_, ?_, ?_, ?_, ?_, ?_, ?_, ?_, ?_⟩
    all_goals first
      | exact StableHlo.devRef_ne_of_ne h0 | exact StableHlo.devRef_ne_of_ne h1 | exact StableHlo.devRef_ne_of_ne h2
      | exact StableHlo.devRef_ne_of_ne h3 | exact StableHlo.devRef_ne_of_ne h4 | exact StableHlo.devRef_ne_of_ne h5
      | exact StableHlo.devRef_ne_of_ne h6 | exact StableHlo.devRef_ne_of_ne h7 | exact StableHlo.devRef_ne_of_ne h8
      | exact StableHlo.devRef_ne_of_ne h9 | exact StableHlo.devRef_ne_of_ne h10 | exact StableHlo.devRef_ne_of_ne h11
      | exact StableHlo.devRef_ne_of_ne h12 | exact StableHlo.devRef_ne_of_ne h13 | exact StableHlo.devRef_ne_of_ne h14
      | exact StableHlo.devRef_ne_of_ne h15 | exact StableHlo.devRef_ne_of_ne h16 | exact StableHlo.devRef_ne_of_ne h17))

/-- The block window `w` reads at point `t`, off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The three input windows hold their blocks at every point, if the arrays are as the region finds them and the body
    leaves the blocks in place. -/
theorem before_of {c : Dev nD} (dat : Dat τ (Elt F) Unit ℕ (UR sig nD τ) ℕ cfg0 c)
    (hA : ∀ w, dat.A w = V m c (Pipeline.arrRef spec0 w)) (t : Fin (cfg0 (F := F)).N) :
    ((∀ t, dat.after 0 t = iblk m c 0 t) → ∀ d, dat.before 0 t d = iblk m c 0 t)
      ∧ ((∀ t, dat.after 1 t = iblk m c 1 t) → ∀ d, dat.before 1 t d = iblk m c 1 t)
      ∧ ((∀ t, dat.after 2 t = iblk m c 2 t) → ∀ d, dat.before 2 t d = iblk m c 2 t) := by
  refine ⟨fun ha d => ?_, fun ha d => ?_, fun ha d => ?_⟩
  · exact (dat.before_in_eq_fetched 0 rfl (fun _ => rfl) (fun _ _ _ => rfl) (fun t => by rw [ha]; unfold Dat.blockOf iblk; rw [hA]; rfl) t d).trans
      (by unfold Dat.fetched Dat.blockOf iblk; rw [hA]; rfl)
  · exact (dat.before_in_eq_fetched 1 rfl (fun _ => rfl) (fun _ _ _ => rfl) (fun t => by rw [ha]; unfold Dat.blockOf iblk; rw [hA]; rfl) t d).trans
      (by unfold Dat.fetched Dat.blockOf iblk; rw [hA]; rfl)
  · exact (dat.before_in_eq_fetched 2 rfl (fun _ => rfl) (fun _ _ _ => rfl) (fun t => by rw [ha]; unfold Dat.blockOf iblk; rw [hA]; rfl) t d).trans
      (by unfold Dat.fetched Dat.blockOf iblk; rw [hA]; rfl)

/-- The five argument arrays end as they were launched, from a run that leaves every array of no window as the region
    found it. -/
theorem args_kept (dats : (p : Fin 1) → (c : Dev nD) → Dat τ (Elt F) Unit ℕ (UR sig nD τ) ℕ (cfgs (F := F) p) c)
    {r : PUnit × MemSt nD τ sig (Elt F)} (h : Pipeline.FramePost (cfgs (F := F)) dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by show ∀ w : Fin 4, (spec0 w).arr.view.ref ≠ _; decide))).trans (V_kept m c _ (by decide)),
    ((h c).2 main_arg1 (Pipeline.mem_restRefs_of main_arg1 (by decide) (by show ∀ w : Fin 4, (spec0 w).arr.view.ref ≠ _; decide))).trans (V_kept m c _ (by decide)),
    ((h c).2 main_arg2 (Pipeline.mem_restRefs_of main_arg2 (by decide) (by show ∀ w : Fin 4, (spec0 w).arr.view.ref ≠ _; decide))).trans (V_kept m c _ (by decide)),
    ((h c).2 main_arg3 (Pipeline.mem_restRefs_of main_arg3 (by decide) (by show ∀ w : Fin 4, (spec0 w).arr.view.ref ≠ _; decide))).trans (V_kept m c _ (by decide)),
    ((h c).2 main_arg4 (Pipeline.mem_restRefs_of main_arg4 (by decide) (by show ∀ w : Fin 4, (spec0 w).arr.view.ref ≠ _; decide))).trans (V_kept m c _ (by decide))⟩

/-- The current staging buffer of each window at point `t`, and that it is whole. -/
abbrev ms0 (t : Fin (cfg0 (F := F)).N) : Memref sig .tc .vmem S1x64x512 .bf16 := win0_0.stage ((cfg0 (F := F)).slots t 0)
abbrev ms1 (t : Fin (cfg0 (F := F)).N) : Memref sig .tc .vmem S1x2176x512 .bf16 := win0_1.stage ((cfg0 (F := F)).slots t 1)
abbrev ms2 (t : Fin (cfg0 (F := F)).N) : Memref sig .tc .vmem S1x2176x512 .bf16 := win0_2.stage ((cfg0 (F := F)).slots t 2)
abbrev ms3 (t : Fin (cfg0 (F := F)).N) : Memref sig .tc .vmem S1x64x512 .bf16 := win0_3.stage ((cfg0 (F := F)).slots t 3)

/-- The two scratch buffers: the running logarithm and the running output. -/
abbrev accM : Memref sig .tc .vmem S8x64x128 .f32 := Memref.whole cc0_scratch0
abbrev outM : Memref sig .tc .vmem S8x64x128 .f32 := Memref.whole cc0_scratch1

/-- The invariant between points: the two scratch buffers at some contents, and the generator register. -/
theorem inv_eq (c : Dev nD) :
    (Pipeline.ΦA spec0 c : sProp 𝕄)
      = iprop(iprop((∃ d, owns (c : Thread nD τ) accM fullShare d) ∗ (∃ d, owns (c : Thread nD τ) outM fullShare d)) ∗ (∃ r, prngReg c r)) := by
  unfold Pipeline.ΦA; rw [scopedRest0_eq]; simp only [accM, outM, owns_whole]; try rfl

end Cert.Proof.SbI

end
-- ==== Proof.SbI.Body.lean ====
/-
  The attention kernel's body: what one run of it leaves in the output block, as a function of the query block and
  of the key and value arrays of a batch element. The loop over the key blocks takes the blocks from the last to the
  first and stops early when every running logarithm has fallen below the named constant.
-/
module

public import proofs.«01_k».proof.Proof.Owned
public import proofs.«01_k».proof.Proof.SbI.Kit

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Owned (load_full load_block store_full)
open sWPT (consume produce)

variable {F : FTy → Type} [FloatOps F] [Named F]

local notation "𝕄" => MT nD τ sig Unit (Elt F) ℕ (UR sig nD τ) ℕ

/-! ## The values -/

/-- Every block of 128 rows lies within the array. -/
theorem rows_inb : ∀ (b : Fin 17) (a : Fin 3), (![0, 128 * b.val, 0] : Fin 3 → ℕ) a + S1x128x512.size a ≤ S1x2176x512.size a := by decide

/-- Block `b` of 128 rows of a batch element's keys or values. -/
def rows (x : Vec F S1x2176x512 .bf16) (b : Fin 17) : Vec F S1x128x512 .bf16 :=
  VecWindow.window x ![0, 128 * b.val, 0] S1x128x512.size (rows_inb b)

/-- The bound below which the loop stops. -/
def dead : F .f32 := Named.named κ "dead" 0xC2F00000#32

/-- The query block, scaled and split by heads. -/
def heads (x0 : Vec F S1x64x512 .bf16) : FVec F S4x2x64x128 .bf16 :=
  k0_pay13 (k0_pay7 x0) k0_pay8 (k0_pay9 (F := F)) (k0_pay10 x0) (k0_pay11 x0) (k0_pay12 x0)

/-- The running logarithm after one block `kb` of keys. -/
def accStep (q : FVec F S4x2x64x128 .bf16) (kb : Vec F S1x128x512 .bf16) (acc : Vec F S8x64x128 .f32) : Vec F S8x64x128 .f32 :=
  k0_pay6 (k0_pay14 (F := F)) (k0_pay33 q kb) (constant S512x256 .f32 0x00000000#32) acc

/-- The running output after one block of keys `kb` and values `vb`. -/
def outStep (q : FVec F S4x2x64x128 .bf16) (kb vb : Vec F S1x128x512 .bf16) (acc o : Vec F S8x64x128 .f32) : Vec F S8x64x128 .f32 :=
  k0_pay5 (k0_pay14 (F := F)) (k0_pay27 vb) (k0_pay32 q kb) (k0_pay33 q kb) (constant S512x256 .f32 0x00000000#32) acc o

/-- Whether some running logarithm is above the bound. -/
def alive (acc : Vec F S8x64x128 .f32) : BitVec 1 := Scalar.cmpf .ogt (k0_pay3 acc) dead

/-- The loop from `n` blocks still to take: the counter, the running logarithm and the running output at its end. -/
def loop (q : FVec F S4x2x64x128 .bf16) (x1 x2 : Vec F S1x2176x512 .bf16) :
    ℕ → Vec F S8x64x128 .f32 → Vec F S8x64x128 .f32 → BitVec 32 × Vec F S8x64x128 .f32 × Vec F S8x64x128 .f32
  | 0, acc, o => (16#32, acc, o)
  | n + 1, acc, o =>
    if alive acc = 1#1 then
      loop q x1 x2 n (accStep q (rows x1 (Fin.ofNat 17 n)) acc) (outStep q (rows x1 (Fin.ofNat 17 n)) (rows x2 (Fin.ofNat 17 n)) acc o)
    else (BitVec.ofNat 32 (15 - n), acc, o)

/-- The running logarithm after the first, masked, block. -/
def acc0 (q : FVec F S4x2x64x128 .bf16) (x1 : Vec F S1x2176x512 .bf16) : Vec F S8x64x128 .f32 :=
  k0_pay1 (k0_pay15 (F := F)) (k0_pay26 2048#32 (k0_pay14 (F := F)) 2048#32 (k0_pay22 q (rows x1 16)))

/-- The running output after the first, masked, block. -/
def out0 (q : FVec F S4x2x64x128 .bf16) (x1 x2 : Vec F S1x2176x512 .bf16) : Vec F S8x64x128 .f32 :=
  k0_pay25 2048#32 (k0_pay14 (F := F)) 2048#32 (k0_pay17 (rows x2 16)) (k0_pay20 q (rows x1 16)) (k0_pay21 q (rows x1 16))
    (k0_pay22 q (rows x1 16)) (k0_pay15 (F := F)) (k0_pay16 (F := F))

/-- What the body leaves in the output block. -/
def result (x0 : Vec F S1x64x512 .bf16) (x1 x2 : Vec F S1x2176x512 .bf16) : Vec F S1x64x512 .bf16 :=
  k0_pay2 k0_pay8 (loop (heads x0) x1 x2 16 (acc0 (heads x0) x1) (out0 (heads x0) x1 x2)).2.2

/-! ## The loop's words -/

/-- The second grid coordinate is always zero. -/
theorem coord1 : ∀ i : grid0.Coords, (i 1).val = 0 := by decide +kernel

/-- The masked block starts at row 2048. -/
theorem off1 : ∀ i : grid0.Coords, k0_off1 i = ![0, 128 * (16 : Fin 17).val, 0] := by decide +kernel

/-- With `n + 1` blocks to take the block taken is number `n`. -/
theorem off2 : ∀ (i : grid0.Coords) (n : Fin 16), k0_off2 i (BitVec.ofNat 32 (15 - n.val)) = ![0, 128 * (Fin.ofNat 17 n.val).val, 0] := by
  decide +kernel

/-- The side condition of a block's load holds of every counter the loop reaches. -/
theorem chk : ∀ (i : grid0.Coords) (n : Fin 16), k0_chk1 i (BitVec.ofNat 32 (15 - n.val)) := by decide +kernel

/-- The counter is below sixteen while blocks are left. -/
theorem counter_lt : ∀ n : Fin 16, Scalar.cmpi .slt (BitVec.ofNat 32 (15 - n.val)) 16#32 = 1#1 := by decide +kernel

/-- The counter steps to the next. -/
theorem counter_step : ∀ n : Fin 16, Scalar.addi (BitVec.ofNat 32 (15 - n.val)) 1#32 = BitVec.ofNat 32 (16 - n.val) := by decide +kernel

/-! ## The loop's specification -/

section Run

variable (c : Dev nD) (i : grid0.Coords)
  (arg3 : Memref sig .tc .vmem S1x2176x512 .bf16) (harg3 : arg3.IsWhole) (arg4 : Memref sig .tc .vmem S1x2176x512 .bf16) (harg4 : arg4.IsWhole)
  (arg6 : Memref sig .tc .vmem S8x64x128 .f32) (harg6 : arg6.IsWhole) (arg7 : Memref sig .tc .vmem S8x64x128 .f32) (harg7 : arg7.IsWhole)
  (x1 x2 : Vec F S1x2176x512 .bf16)

/-- The four buffers the loop works on. -/
def held (acc o : Vec F S8x64x128 .f32) : sProp 𝕄 :=
  iprop(owns (c : Thread nD τ) arg3 fullShare x1 ∗ owns (c : Thread nD τ) arg4 fullShare x2
    ∗ owns (c : Thread nD τ) arg6 fullShare acc ∗ owns (c : Thread nD τ) arg7 fullShare o)

/-- The loop with `n` blocks to take: from the four buffers to the four buffers at the loop's values. -/
def spec (q : FVec F S4x2x64x128 .bf16) (n : ℕ) (acc o : Vec F S8x64x128 .f32) : sWPT 𝕄 (BitVec 32) :=
  consume (held c arg3 arg4 arg6 arg7 x1 x2 acc o) >>= fun _ =>
    produce (held c arg3 arg4 arg6 arg7 x1 x2 (loop q x1 x2 n acc o).2.1 (loop q x1 x2 n acc o).2.2) >>= fun _ =>
      pure (loop q x1 x2 n acc o).1

/-- The loop's bound, computed from the grid coordinate, is sixteen. -/
theorem limit (i : grid0.Coords) {L : BitVec 32}
    (h : (Scalar.select (Scalar.andi (Scalar.cmpi .ne (Scalar.subi
        (Scalar.extui (Scalar.cmpi .sgt (Scalar.addi 2048#32 (Scalar.muli (BitVec.ofNat 32 (i 1).val) 64#32)) 0#32))
        (Scalar.extui (Scalar.cmpi .slt (Scalar.addi 2048#32 (Scalar.muli (BitVec.ofNat 32 (i 1).val) 64#32)) 0#32)))
        (Scalar.subi (Scalar.extui (Scalar.cmpi .sgt 128#32 0#32)) (Scalar.extui (Scalar.cmpi .slt 128#32 0#32))))
        (Scalar.cmpi .ne (Scalar.remsi (Scalar.addi 2048#32 (Scalar.muli (BitVec.ofNat 32 (i 1).val) 64#32)) 128#32) 0#32))
        (Scalar.subi (Scalar.divsi (Scalar.addi 2048#32 (Scalar.muli (BitVec.ofNat 32 (i 1).val) 64#32)) 128#32) 1#32)
        (Scalar.divsi (Scalar.addi 2048#32 (Scalar.muli (BitVec.ofNat 32 (i 1).val) 64#32)) 128#32)) = L) : L = 16#32 := by
  rw [← h, coord1]; decide +kernel

set_option maxHeartbeats 1000000 in
/-- The loop's body meets its specification, by induction on the blocks to take. -/
theorem spec_le (E : Set ℕ) (q : FVec F S4x2x64x128 .bf16) :
    ∀ n, n ≤ 16 → ∀ acc o, spec c arg3 arg4 arg6 arg7 x1 x2 q n acc o
      ≤ wp frame (wpE (defs₀ (F := F)) 𝒱₀ (c : Thread nD τ) (some n)) E
          (defs₀ (F := F) .tc (1 : (Λ₀ F).Label)
            ⟨i, arg6, harg6, arg3, harg3, arg4, harg4, q, k0_pay14 (F := F), arg7, harg7, BitVec.ofNat 32 (16 - n)⟩) := by
  intro n
  induction n with
  | zero =>
    intro _ acc o K
    show _ ⊢ wp frame (wpE (defs₀ (F := F)) 𝒱₀ (c : Thread nD τ) (some 0)) E (cc0_while1 i arg6 harg6 arg3 harg3 arg4 harg4 q (k0_pay14 (F := F)) arg7 harg7 16#32) K
    simp only [spec, spec_simps, loop]
    simp only [cc0_while1_eq_skeleton]; unfold cc0_while1_skel
    simp only [Prog.lift, Prog.bind_op, Prog.bind_ret, Prog.pure_eq_ret]
    generalize hL : (Scalar.select _ _ _ : BitVec 32) = L
    obtain rfl := limit i hL
    clear hL
    unfold held
    iintro ⟨⟨H3, H4, H6, H7⟩, HK⟩
    iapply (load_full 𝒱₀ (c : Thread nD τ) (some 0) E) $$ H6; iintro H6
    rw [if_neg (by generalize (Scalar.cmpf (F := F) _ _ _) = b; revert b; decide), wp_ret]
    imodintro
    iapply HK
    isplitl [H3]; · iexact H3
    isplitl [H4]; · iexact H4
    isplitl [H6]; · iexact H6
    iexact H7
  | succ n ih =>
    intro hn acc o K
    show _ ⊢ wp frame (wpE (defs₀ (F := F)) 𝒱₀ (c : Thread nD τ) (some (n + 1))) E (cc0_while1 i arg6 harg6 arg3 harg3 arg4 harg4 q (k0_pay14 (F := F)) arg7 harg7 (BitVec.ofNat 32 (16 - (n + 1)))) K
    rw [show 16 - (n + 1) = 15 - n by omega]
    simp only [spec, spec_simps]
    simp only [cc0_while1_eq_skeleton]; unfold cc0_while1_skel
    simp only [k0_part5_eq_skeleton]; unfold k0_part5_skel
    simp only [Prog.lift, Prog.bind_op, Prog.bind_ret, Prog.pure_eq_ret]
    generalize hL : (Scalar.select _ _ _ : BitVec 32) = L
    obtain rfl := limit i hL
    clear hL
    rw [counter_lt ⟨n, by omega⟩]
    unfold held
    iintro ⟨⟨H3, H4, H6, H7⟩, HK⟩
    iapply (load_full 𝒱₀ (c : Thread nD τ) (some (n + 1)) E) $$ H6; iintro H6
    rw [show ∀ b : BitVec 1, Scalar.andi 1#1 b = b by decide]
    by_cases ha : alive acc = 1#1
    · have hloop : loop q x1 x2 (n + 1) acc o = loop q x1 x2 n (accStep q (rows x1 (Fin.ofNat 17 n)) acc)
          (outStep q (rows x1 (Fin.ofNat 17 n)) (rows x2 (Fin.ofNat 17 n)) acc o) := by rw [loop, if_pos ha]
      rw [if_pos (show Scalar.cmpf .ogt (k0_pay3 acc) (Named.named κ "dead" 0xC2F00000#32) = 1#1 from ha)]
      iapply (wp_assume 𝒱₀ (c : Thread nD τ) (some (n + 1)) E (chk i ⟨n, by omega⟩))
      iapply (load_block 𝒱₀ (c : Thread nD τ) (some (n + 1)) E (off2 i ⟨n, by omega⟩) (by exact (rows_inb (Fin.ofNat 17 n)))) $$ H3; iintro H3
      iapply (load_block 𝒱₀ (c : Thread nD τ) (some (n + 1)) E (off2 i ⟨n, by omega⟩) (by exact (rows_inb (Fin.ofNat 17 n)))) $$ H4; iintro H4
      iapply (load_full 𝒱₀ (c : Thread nD τ) (some (n + 1)) E) $$ H6; iintro H6
      iapply (load_full 𝒱₀ (c : Thread nD τ) (some (n + 1)) E) $$ H7; iintro H7
      iapply (load_full 𝒱₀ (c : Thread nD τ) (some (n + 1)) E) $$ H7; iintro H7
      iapply (store_full 𝒱₀ (c : Thread nD τ) (some (n + 1)) E) $$ H7; iintro H7
      iapply (load_full 𝒱₀ (c : Thread nD τ) (some (n + 1)) E) $$ H6; iintro H6
      iapply (load_full 𝒱₀ (c : Thread nD τ) (some (n + 1)) E) $$ H6; iintro H6
      iapply (store_full 𝒱₀ (c : Thread nD τ) (some (n + 1)) E) $$ H6; iintro H6
      rw [counter_step ⟨n, by omega⟩]
      iapply (wp_call_spec 𝒱₀ (c : Thread nD τ) (some (n + 1)) E
        (spec c arg3 arg4 arg6 arg7 x1 x2 q n (accStep q (rows x1 (Fin.ofNat 17 n)) acc)
          (outStep q (rows x1 (Fin.ofNat 17 n)) (rows x2 (Fin.ofNat 17 n)) acc o)) n
        (fun u hu => by cases hu; exact Nat.lt_succ_self n) (ih (by omega) _ _))
      simp only [spec, spec_simps]
      unfold held
      isplitl [H3 H4 H6 H7]
      · isplitl [H3]; · iexact H3
        isplitl [H4]; · iexact H4
        isplitl [H6]; · iexact H6
        iexact H7
      iintro H
      rw [wp_ret]
      imodintro
      rw [hloop]
      iapply HK
      iexact H
    · have hloop : loop q x1 x2 (n + 1) acc o = (BitVec.ofNat 32 (15 - n), acc, o) := by rw [loop, if_neg ha]
      rw [if_neg (show ¬ Scalar.cmpf .ogt (k0_pay3 acc) (Named.named κ "dead" 0xC2F00000#32) = 1#1 from ha), hloop, wp_ret]
      imodintro
      iapply HK
      isplitl [H3]; · iexact H3
      isplitl [H4]; · iexact H4
      isplitl [H6]; · iexact H6
      iexact H7

/-- The first query's position, computed from the grid coordinate, is 2048. -/
theorem first_query (i : grid0.Coords) : Scalar.addi 2048#32 (Scalar.muli (BitVec.ofNat 32 (i 1).val) 64#32) = 2048#32 := by
  rw [coord1]; decide +kernel

set_option maxHeartbeats 1000000 in
/-- One run of the body: the three input blocks stay, and the output block ends at `result` of them. -/
theorem body_run (E : Set ℕ) (K : PUnit → sProp 𝕄) (arg2 : Memref sig .tc .vmem S1x64x512 .bf16) (harg2 : arg2.IsWhole)
    (arg5 : Memref sig .tc .vmem S1x64x512 .bf16) (harg5 : arg5.IsWhole) (x0 x5 : Vec F S1x64x512 .bf16) (x6 x7 : Vec F S8x64x128 .f32) :
    iprop((owns (c : Thread nD τ) arg2 fullShare x0 ∗ owns (c : Thread nD τ) arg3 fullShare x1 ∗ owns (c : Thread nD τ) arg4 fullShare x2
        ∗ owns (c : Thread nD τ) arg5 fullShare x5 ∗ owns (c : Thread nD τ) arg6 fullShare x6 ∗ owns (c : Thread nD τ) arg7 fullShare x7)
      ∗ ((owns (c : Thread nD τ) arg2 fullShare x0 ∗ owns (c : Thread nD τ) arg3 fullShare x1 ∗ owns (c : Thread nD τ) arg4 fullShare x2
        ∗ owns (c : Thread nD τ) arg5 fullShare (result x0 x1 x2) ∗ (∃ d, owns (c : Thread nD τ) arg6 fullShare d)
        ∗ (∃ d, owns (c : Thread nD τ) arg7 fullShare d)) -∗ K ⟨⟩))
      ⊢ wp frame (wpE (defs₀ (F := F)) 𝒱₀ (c : Thread nD τ) none) E
          (cc0_sb_attention i arg2 harg2 arg3 harg3 arg4 harg4 arg5 harg5 arg6 harg6 arg7 harg7) K := by
  simp only [cc0_sb_attention_eq_skeleton]; unfold cc0_sb_attention_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, first_query]
  iintro ⟨⟨H2, H3, H4, H5, H6, H7⟩, HK⟩
  iapply (load_full 𝒱₀ (c : Thread nD τ) none E) $$ H2; iintro H2
  iapply (load_full 𝒱₀ (c : Thread nD τ) none E) $$ H6; iintro H6
  iapply (store_full 𝒱₀ (c : Thread nD τ) none E) $$ H6; iintro H6
  iapply (load_full 𝒱₀ (c : Thread nD τ) none E) $$ H7; iintro H7
  iapply (store_full 𝒱₀ (c : Thread nD τ) none E) $$ H7; iintro H7
  generalize hw : (Scalar.muli (Scalar.addi (Scalar.select _ _ _) 0#32) 128#32 : BitVec 32) = w
  obtain rfl : w = 2048#32 := by rw [← hw]; decide +kernel
  clear hw
  iapply (load_block 𝒱₀ (c : Thread nD τ) none E (off1 i) (by exact (rows_inb 16))) $$ H3; iintro H3
  iapply (load_block 𝒱₀ (c : Thread nD τ) none E (off1 i) (by exact (rows_inb 16))) $$ H4; iintro H4
  iapply (load_full 𝒱₀ (c : Thread nD τ) none E) $$ H6; iintro H6
  iapply (load_full 𝒱₀ (c : Thread nD τ) none E) $$ H7; iintro H7
  iapply (load_full 𝒱₀ (c : Thread nD τ) none E) $$ H7; iintro H7
  iapply (store_full 𝒱₀ (c : Thread nD τ) none E) $$ H7; iintro H7
  iapply (load_full 𝒱₀ (c : Thread nD τ) none E) $$ H6; iintro H6
  iapply (load_full 𝒱₀ (c : Thread nD τ) none E) $$ H6; iintro H6
  iapply (store_full 𝒱₀ (c : Thread nD τ) none E) $$ H6; iintro H6
  iapply (wp_call_spec 𝒱₀ (c : Thread nD τ) none E
    (spec c arg3 arg4 arg6 arg7 x1 x2 (heads x0) 16 (acc0 (heads x0) x1) (out0 (heads x0) x1 x2)) 16
    (fun u hu => nomatch hu) (spec_le c i arg3 harg3 arg4 harg4 arg6 harg6 arg7 harg7 x1 x2 E (heads x0) 16 le_rfl _ _))
  simp only [spec, spec_simps]
  unfold held
  isplitl [H3 H4 H6 H7]
  · isplitl [H3]; · iexact H3
    isplitl [H4]; · iexact H4
    isplitl [H6]; · iexact H6
    iexact H7
  iintro ⟨H3, H4, H6, H7⟩
  iapply (load_full 𝒱₀ (c : Thread nD τ) none E) $$ H7; iintro H7
  iapply (load_full 𝒱₀ (c : Thread nD τ) none E) $$ H5; iintro H5
  iapply (store_full 𝒱₀ (c : Thread nD τ) none E) $$ H5; iintro H5
  rw [wp_ret]
  imodintro
  iapply HK
  isplitl [H2]; · iexact H2
  isplitl [H3]; · iexact H3
  isplitl [H4]; · iexact H4
  isplitl [H5]; · iexact H5
  isplitl [H6]; · iexists _; iexact H6
  iexists _; iexact H7

end Run

end Cert.Proof.SbI

end
-- ==== Proof.SbI.Run.lean ====
/-
  The attention call's run: from any memory it terminates with the five arguments unchanged, every counter at zero and
  the result array holding, block by block, what the body computes from the blocks it reads.
-/
module

public import proofs.«01_k».proof.Proof.SbI.Body
public import Idealize.ShloMosaic.Lib.Claim

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def resultAt (c : Dev nD) (t : Fin (cfg0 (F := F)).N) : Vec F S1x64x512 .bf16 := result (iblk m c 0 t) (iblk m c 1 t) (iblk m c 2 t)

/-- The pipeline's data: the arrays as the region finds them, each input's buffer left at its block, the output's at the
    body's result. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => resultAt m c t
  Φ _ := Pipeline.ΦA spec0 c
  q _ := fullShare
  owed _ := 0

/-- The data's arrays are the ones the region finds. -/
theorem A_eq (c : Dev nD) (w : Fin (cfg0 (F := F)).W) : (dats m 0 c).A w = V m c (Pipeline.arrRef spec0 w) := by
  dsimp only [dats]

/-- What the body leaves in each window's buffer. -/
theorem after_eq (c : Dev nD) (t : Fin (cfg0 (F := F)).N) :
    (dats m 0 c).after 0 t = iblk m c 0 t ∧ (dats m 0 c).after 1 t = iblk m c 1 t ∧ (dats m 0 c).after 2 t = iblk m c 2 t
      ∧ (dats m 0 c).after 3 t = resultAt m c t := by
  refine ⟨?_, ?_, ?_, ?_⟩ <;> (dsimp only [dats]; rfl)

/-- What each input window's buffer holds before the body. -/
theorem before_eq (c : Dev nD) (t : Fin (cfg0 (F := F)).N) :
    (∀ d, (dats m 0 c).before 0 t d = iblk m c 0 t) ∧ (∀ d, (dats m 0 c).before 1 t d = iblk m c 1 t)
      ∧ (∀ d, (dats m 0 c).before 2 t d = iblk m c 2 t) :=
  have h := before_of m (dats m 0 c) (A_eq m c) t
  ⟨h.1 fun t => (after_eq m c t).1, h.2.1 fun t => (after_eq m c t).2.1, h.2.2 fun t => (after_eq m c t).2.2.1⟩

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0 (F := F) t) fullShare ((dats m 0 c).after 0 t)
    ∗ owns (c : Thread nD τ) (ms1 (F := F) t) fullShare ((dats m 0 c).after 1 t)
    ∗ owns (c : Thread nD τ) (ms2 (F := F) t) fullShare ((dats m 0 c).after 2 t)
    ∗ owns (c : Thread nD τ) (ms3 (F := F) t) fullShare ((dats m 0 c).after 3 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_eq]
  rw [show (dats m 0 c).Φ t.succ = (dats m 0 c).Φ t.castSucc from rfl,
    show (dats m 0 c).owesAt () t.succ = (dats m 0 c).owesAt () t.castSucc from rfl,
    (after_eq m c t).1, (after_eq m c t).2.1, (after_eq m c t).2.2.1, (after_eq m c t).2.2.2]
  rw [show (dats m 0 c).Φ t.castSucc = Pipeline.ΦA spec0 c from rfl, inv_eq]
  unfold resultAt
  iintro ⟨⟨⟨⟨%d6, H6⟩, ⟨%d7, H7⟩⟩, Hg⟩, Ho, ⟨%d0, H0⟩, ⟨%d1, H1⟩, ⟨%d2, H2⟩, ⟨%d3, H3⟩⟩
  iapply (body_run c (grid0.coords t) _ _ _ _ _ _ _ _ (iblk m c 1 t) (iblk m c 2 t) Set.univ _ _ _ _ _ (iblk m c 0 t) _ d6 d7)
  isplitl [H0 H1 H2 H3 H6 H7]
  · isplitl [H0]; · iexact H0
    isplitl [H1]; · iexact H1
    isplitl [H2]; · iexact H2
    isplitl [H3]; · iexact H3
    isplitl [H6]; · iexact H6
    iexact H7
  iintro ⟨H0, H1, H2, H3, H6, H7⟩
  isplitl [H6 H7 Hg]
  · isplitl [H6 H7]
    · isplitl [H6]; · iexact H6
      iexact H7
    iexact Hg
  isplitl [Ho]; · iexact Ho
  isplitl [H0]; · iexact H0
  isplitl [H1]; · iexact H1
  isplitl [H2]; · iexact H2
  iexact H3

/-- The body table's row at point `t` is the body called at that point. -/
theorem body_row (t : Fin (cfg0 (F := F)).N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

set_option backward.isDefEq.respectTransparency.types false in
/-- The run of the whole program: the arrays end as the data says, everything else as the region found it, and every
    counter is zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame: the arguments end unchanged and every counter is zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m (dats m) h.1 c, h.2⟩) (run m ρ)

end Cert.Proof.SbI

end
-- ==== Proof.SbV.Math.lean ====
/-
  Stick-breaking attention over the real numbers: the softplus that both programs compute, in the kernel's spelling and
  in the reference's, and the weights of one query row.
-/
module

public import Idealize.ShloMosaic.Lib.Pointwise

@[expose] public section

noncomputable section

namespace Cert.Proof.SbV

open Idealize.ShloMosaic

/-- The softplus of a real number, `log (1 + exp z)`, computed without overflow. -/
def sp (z : ℝ) : ℝ := max z 0 + Real.log (1 + Real.exp (-|z|))

theorem one_add_exp_pos (z : ℝ) : ¬ 1 + Real.exp z ≤ 0 := by have := Real.exp_pos z; linarith

/-- The smaller of `z` and zero less the larger is the negated absolute value. -/
theorem min_sub_max (z : ℝ) : min z 0 - max z 0 = -|z| := by
  rcases le_total z 0 with h | h
  · rw [min_eq_left h, max_eq_right h, abs_of_nonpos h]; ring
  · rw [min_eq_right h, max_eq_left h, abs_of_nonneg h]; ring

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- A sum of real numbers, summed as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real choice, chosen among extended reals. -/
theorem coe_ite (p : Prop) [Decidable p] (s : ℝ) : (if p then (s : EReal) else 0) = ((if p then s else 0 : ℝ) : EReal) := by
  split_ifs <;> simp

/-- The same with a factor. -/
theorem coe_ite_mul (p : Prop) [Decidable p] (s : ℝ) (c : EReal) : (if p then (s : EReal) * c else 0) = ((if p then s else 0 : ℝ) : EReal) * c := by
  split_ifs <;> simp

/-- The logarithm the kernel takes. -/
theorem log_eq (z : ℝ) : Ideal.log (1 + Ideal.exp (min (z : EReal) 0 - max (z : EReal) 0)) = ((Real.log (1 + Real.exp (-|z|)) : ℝ) : EReal) := by
  have h : min (z : EReal) 0 - max (z : EReal) 0 = ((-|z| : ℝ) : EReal) := by
    rw [← min_sub_max, EReal.coe_sub, coe_max, coe_min, EReal.coe_zero]
  rw [h, Ideal.exp_coe, ← EReal.coe_one, ← EReal.coe_add, Ideal.log_coe, if_neg (one_add_exp_pos _)]

/-- The kernel's softplus. -/
theorem softplus_kernel (z : ℝ) :
    max (z : EReal) 0 + Ideal.log (1 + Ideal.exp (min (z : EReal) 0 - max (z : EReal) 0)) = ((sp z : ℝ) : EReal) := by
  rw [log_eq, ← EReal.coe_zero, ← coe_max, ← EReal.coe_add]; rfl

/-- The kernel's log-sigmoid. -/
theorem logsig_kernel (z : ℝ) :
    min (z : EReal) 0 - Ideal.log (1 + Ideal.exp (min (z : EReal) 0 - max (z : EReal) 0)) = ((z - sp z : ℝ) : EReal) := by
  rw [log_eq, ← EReal.coe_zero, ← coe_min, ← EReal.coe_sub]
  congr 1
  unfold sp
  have : min z 0 + max z 0 = z := by rw [min_add_max]; ring
  linarith

/-- The reference's softplus. -/
theorem softplus_ref (z : ℝ) :
    max (z : EReal) 0 + Ideal.log1p (Ideal.exp (-(max (z : EReal) (-z)))) = ((sp z : ℝ) : EReal) := by
  rw [← EReal.coe_neg, ← coe_max, ← EReal.coe_neg, Ideal.exp_coe]
  show _ + Ideal.log (1 + _) = _
  rw [← EReal.coe_one, ← EReal.coe_add, Ideal.log_coe, if_neg (one_add_exp_pos _), ← EReal.coe_zero, ← coe_max, ← EReal.coe_add]
  rfl

/-! ## One query row -/

section Row

variable (Z : ℕ → ℝ) (n : ℕ)

/-- What key `j` takes from the logarithm of the stick that is left: a query that sees `n` keys. -/
def stick (j : ℕ) : ℝ := if j < n then sp (Z j) else 0

/-- What the keys from `j` up to 2176 take together. -/
def taken (j : ℕ) : ℝ := ∑ i ∈ Finset.Ico j 2176, stick Z n i

/-- The first of the keys taken apart. -/
theorem taken_succ (j : ℕ) (h : j < 2176) : taken Z n j = stick Z n j + taken Z n (j + 1) := Finset.sum_eq_sum_Ico_succ_bot h _

/-- The weight of key `j`. -/
def weight (j : ℕ) : ℝ := if j < n then Real.exp (Z j - sp (Z j) - taken Z n (j + 1)) else 0

end Row

/-- The score of query `t` and key `j` in head `a`: an eighth of the product over the head's 64 lanes. -/
def score (Q K : ℕ → ℕ → ℝ) (a t j : ℕ) : ℝ := (∑ d ∈ Finset.range 64, Q t (64 * a + d) * K j (64 * a + d)) * (1 / 8)

/-- An interval of length 128 summed. -/
theorem sum_block {M : Type*} [AddCommMonoid M] (f : ℕ → M) (b : ℕ) (h : 128 * b + 128 ≤ 2176) :
    ∑ i ∈ Finset.Ico (128 * b) 2176, f i = (∑ x : Fin 128, f (128 * b + x.val)) + ∑ i ∈ Finset.Ico (128 * (b + 1)) 2176, f i := by
  rw [← Finset.sum_Ico_consecutive f (show 128 * b ≤ 128 * (b + 1) by omega) (show 128 * (b + 1) ≤ 2176 by omega), Finset.sum_Ico_eq_sum_range,
    show 128 * (b + 1) - 128 * b = 128 by omega, Finset.sum_range]

/-- The part of a block after its element `x`. -/
theorem sum_block_after (f : ℕ → ℝ) (b : ℕ) (h : 128 * b + 128 ≤ 2176) (x : Fin 128) :
    ∑ i ∈ Finset.Ico (128 * b + x.val + 1) 2176, f i
      = (∑ y : Fin 128, if x.val < y.val then f (128 * b + y.val) else 0) + ∑ i ∈ Finset.Ico (128 * (b + 1)) 2176, f i := by
  rw [← Finset.sum_Ico_consecutive f (show 128 * b + x.val + 1 ≤ 128 * (b + 1) by omega) (show 128 * (b + 1) ≤ 2176 by omega)]
  congr 1
  rw [Finset.sum_fin_eq_sum_range, ← Finset.sum_filter_add_sum_filter_not (Finset.range 128) (fun y => x.val < y),
    Finset.sum_eq_zero (s := (Finset.range 128).filter fun y => ¬ x.val < y), add_zero]
  · refine Finset.sum_bij' (fun i _ => i - 128 * b) (fun y _ => 128 * b + y) ?_ ?_ ?_ ?_ ?_
    · intro i hi; simp only [Finset.mem_Ico, Finset.mem_filter, Finset.mem_range] at *; omega
    · intro i hi; simp only [Finset.mem_Ico, Finset.mem_filter, Finset.mem_range] at *; omega
    · intro i hi; simp only [Finset.mem_Ico] at *; omega
    · intro i hi; omega
    · intro i hi
      simp only [Finset.mem_Ico] at hi
      rw [dif_pos (by omega), if_pos (by simp only []; omega)]
      congr 1; simp only []; omega
  · intro y hy
    simp only [Finset.mem_filter, Finset.mem_range] at hy
    rw [dif_pos hy.1, if_neg hy.2]

end Cert.Proof.SbV
-- ==== Proof.SbV.Block.lean ====
/-
  One block of keys in the kernel's body, read at an index: the scores, the running logarithm and the running output
  after the block, over the extended reals.
-/
module

public import proofs.«01_k».proof.Proof.SbI.Body
public import proofs.«01_k».proof.Proof.SbV.Math
public import Idealize.ShloMosaic.Lib.WordCmp

@[expose] public section

set_option maxRecDepth 16384

noncomputable section

namespace Cert.Proof.SbV

open Cert.KernelIdeal Cert.KernelIdeal.Gen Cert.Proof.SbI
open Idealize.ShloMosaic

/-- One eighth, as the kernel writes it. -/
theorem eighth_bf16 : Ideal.ofBits .bf16 0x3E00#16 = (((1 : ℝ) / 8 : ℝ) : EReal) := by
  simp [Ideal.ofBits, Ideal.ieee, -EReal.coe_mul]; norm_num

/-- Minus one, as the kernel writes it. -/
theorem neg_one_f32 : Ideal.ofBits .f32 0xBF800000#32 = ((-1 : ℝ) : EReal) := by
  simp [Ideal.ofBits, Ideal.ieee, -EReal.coe_mul, -EReal.coe_neg]; norm_num

/-- A block's rows split by head pairs. -/
theorem stack_apply (vb : Vec Ideal S1x128x512 .bf16) (p : Fin 4) (j l : Fin 128) :
    k0_pay27 vb (ix3 p j l) = vb (ix3 0 j ⟨128 * p.val + l.val, by omega⟩) := by
  pointwise [k0_pay27]
  fin_vals p with hp
  all_goals simp only [hp, Nat.reduceSub, Nat.reduceLT, ↓reduceDIte]
  all_goals exact congrArg vb (congrArg (ix3 0 j) (Fin.ext (by simp)))

/-- The query block split by heads: head `2 p + e` keeps its own 64 lanes of the pair's 128, scaled by an eighth. -/
theorem heads_apply (x0 : Vec Ideal S1x64x512 .bf16) (p : Fin 4) (e : Fin 2) (t : Fin 64) (k : Fin 128) :
    heads x0 (ix4 p e t k) = if (k.val < 64 ↔ e.val = 0) then x0 (ix3 0 t ⟨128 * p.val + k.val, by omega⟩) * (((1 : ℝ) / 8 : ℝ) : EReal) else 0 := by
  have hw : IntOp.cmpi CmpIPredicate.slt (BitVec.ofNat 32 ↑k) 64#32 = BitVec.ofBool (decide (k.val < 64)) :=
    WordCmp.cmpi_slt_ofNat (by omega) (by decide)
  pointwise [heads, k0_pay13, k0_pay7, k0_pay8, k0_pay9, k0_pay10, k0_pay11, k0_pay12]
  fin_vals p with hp
  all_goals fin_vals e with he
  all_goals simp only [hp, he, Nat.reduceSub, Nat.reduceLT, ↓reduceDIte]
  all_goals rw [hw, eighth_bf16]
  all_goals by_cases hk : k.val < 64 <;> simp [hk, Scalar.select]

/-- A row's number within its half, as the kernel computes it. -/
theorem cs_row : ∀ r : Fin 256, (Scalar.select
            (IntOp.andi
              (IntOp.xori
                (IntOp.cmpi CmpIPredicate.slt
                  (IntOp.remsi ArithUnit.vector (BitVec.ofNat 32 ↑r)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑r)
                  (Scalar.select (Scalar.cmpi CmpIPredicate.eq 128#32 0#32) 1#32 128#32))
                0#32))
            (IntOp.addi
              (IntOp.remsi ArithUnit.vector (BitVec.ofNat 32 ↑r)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑r)
              (Scalar.select (Scalar.cmpi CmpIPredicate.eq 128#32 0#32) 1#32 128#32))) = BitVec.ofNat 32 (r.val % 128) := by
  decide +kernel

/-- The matrix of the running sums: minus one in the columns that add a row's elements after a position, and in the
    columns that add all of them. -/
theorem cs_apply (r c : Fin 256) :
    k0_pay14 (F := Ideal) (ix2 r c) = ((if 128 ≤ c.val ∨ c.val < r.val % 128 then -1 else 0 : ℝ) : EReal) := by
  pointwise [k0_pay14]
  rw [cs_row, WordCmp.cmpi_sge_ofNat (by omega) (by decide), WordCmp.cmpi_sgt_ofNat (by omega) (by omega), neg_one_f32, WordCmp.ori_ofBool, WordCmp.select_ofBool]
  by_cases h1 : 128 ≤ c.val <;> by_cases h2 : c.val < r.val % 128 <;> simp [h1, h2, Scalar.select, IntOp.ori]

/-- The product with the matrix of the running sums: the columns' sums, negated. The second half of each row is the part
    of the first that its rounding lost, which is zero. -/
theorem sums_apply (n : Fin 128 → ℝ) (j : Fin 256) :
    ∑ x : Fin 128, (n x : EReal) * k0_pay14 (F := Ideal) (ix2 ⟨x.val, by omega⟩ j)
        + ∑ x : Fin 128, ((n x : EReal) - (n x : EReal)) * k0_pay14 (F := Ideal) (ix2 ⟨128 + x.val, by omega⟩ j)
      = ((-∑ x : Fin 128, if 128 ≤ j.val ∨ j.val < x.val then n x else 0 : ℝ) : EReal) := by
  have h0 : ∀ x : Fin 128, ((n x : EReal) - (n x : EReal)) * k0_pay14 (F := Ideal) (ix2 ⟨128 + x.val, by omega⟩ j) = 0 := fun x => by
    rw [← EReal.coe_sub, sub_self, EReal.coe_zero, zero_mul]
  have h1 : ∀ x : Fin 128, (n x : EReal) * k0_pay14 (F := Ideal) (ix2 ⟨x.val, by omega⟩ j)
      = ((-(if 128 ≤ j.val ∨ j.val < x.val then n x else 0) : ℝ) : EReal) := fun x => by
    rw [cs_apply, ← EReal.coe_mul]
    congr 1
    simp only [Nat.mod_eq_of_lt x.isLt]
    split_ifs <;> ring
  rw [Finset.sum_congr rfl fun x _ => h0 x, Finset.sum_const_zero, add_zero, Finset.sum_congr rfl fun x _ => h1 x, ← coe_sum, Finset.sum_neg_distrib]

section Step

variable (q : FVec Ideal S4x2x64x128 .bf16) (kb vb : Vec Ideal S1x128x512 .bf16) (acc o : Vec Ideal S8x64x128 .f32) (a : Fin 8) (t : Fin 64)
  (z : Fin 128 → ℝ) (hz : ∀ x, k0_pay28 q kb (ix3 a t x) = (z x : EReal))

include hz in
/-- The running logarithm after a block whose scores are the real numbers `z`. -/
theorem accStep_apply (j : Fin 128) : accStep q kb acc (ix3 a t j) = acc (ix3 a t j) + ((-∑ x : Fin 128, sp (z x) : ℝ) : EReal) := by
  pointwise [accStep, k0_pay6, k0_pay4, k0_pay33, k0_pay29, k0_pay30, k0_pay31]
  simp only [hz, softplus_kernel]
  rw [sums_apply (fun x => sp (z x))]
  simp

include hz in
/-- The running output after a block whose scores are the real numbers `z`, where the running logarithm is real. -/
theorem outStep_apply (r : ℝ) (hr : ∀ x : Fin 128, acc (ix3 a t x) = (r : EReal)) (l : Fin 128) :
    outStep q kb vb acc o (ix3 a t l) = o (ix3 a t l) + ∑ x : Fin 128,
      ((Real.exp (z x - sp (z x) + -(∑ y : Fin 128, if x.val < y.val then sp (z y) else 0) + r) : ℝ) : EReal)
        * vb (ix3 0 x ⟨128 * (a.val / 2) + l.val, by omega⟩) := by
  pointwise [outStep, k0_pay5, k0_pay4, k0_pay32, k0_pay33, k0_pay29, k0_pay30, k0_pay31, stack_apply]
  simp only [hz, softplus_kernel, logsig_kernel, hr]
  refine congrArg _ (Finset.sum_congr rfl fun x _ => ?_)
  rw [sums_apply (fun x => sp (z x)), ← EReal.coe_add, ← EReal.coe_add, Ideal.exp_coe]
  have : ∀ y : Fin 128, (128 ≤ x.val ∨ x.val < y.val) ↔ x.val < y.val := fun y => by omega
  simp only [this]

/-- The masked block's mask: key `x` of the block is before the query's position. -/
theorem mask_word (x : Fin 128) : IntOp.cmpi CmpIPredicate.slt (IntOp.addi (2048#32) (BitVec.ofNat 32 x.val))
    (IntOp.addi (Scalar.addi 2048#32 0#32) (BitVec.ofNat 32 t.val)) = BitVec.ofBool (decide (x.val < t.val)) := by
  rw [show (Scalar.addi 2048#32 0#32 : BitVec 32) = BitVec.ofNat 32 2048 from rfl, show (2048#32 : BitVec 32) = BitVec.ofNat 32 2048 from rfl,
    WordCmp.addi_ofNat, WordCmp.addi_ofNat, WordCmp.cmpi_slt_ofNat (by omega) (by omega)]
  congr 2
  simp

include hz in
/-- The masked block's effect on the running logarithm: only the keys before the query's position count. -/
theorem accMasked_apply (j : Fin 128) :
    k0_pay1 (k0_pay15 (F := Ideal)) (k0_pay26 2048#32 (k0_pay14 (F := Ideal)) 2048#32 (k0_pay22 q kb)) (ix3 a t j)
      = ((-∑ x : Fin 128, (if x.val < t.val then sp (z x) else 0) : ℝ) : EReal) := by
  have h18 : ∀ i, k0_pay18 q kb i = k0_pay28 q kb i := fun _ => rfl
  pointwise [k0_pay1, k0_pay15, k0_pay26, k0_pay24, k0_pay23, k0_pay22, k0_pay19, k0_pay20, k0_pay21, h18, hz]
  simp only [softplus_kernel, mask_word, WordCmp.select_ofBool, decide_eq_true_eq, coe_ite, coe_ite_mul]
  rw [sums_apply (fun x => if x.val < t.val then sp (z x) else 0)]
  simp

include hz in
/-- The masked block's output. -/
theorem outMasked_apply (l : Fin 128) :
    k0_pay25 2048#32 (k0_pay14 (F := Ideal)) 2048#32 (k0_pay17 vb) (k0_pay20 q kb) (k0_pay21 q kb)
      (k0_pay22 q kb) (k0_pay15 (F := Ideal)) (k0_pay16 (F := Ideal)) (ix3 a t l) = ∑ x : Fin 128,
      ((if x.val < t.val then Real.exp (z x - sp (z x) + -(∑ y : Fin 128, if x.val < y.val then (if y.val < t.val then sp (z y) else 0) else 0)) else 0 : ℝ) : EReal)
        * vb (ix3 0 x ⟨128 * (a.val / 2) + l.val, by omega⟩) := by
  have h17 : k0_pay17 vb = k0_pay27 vb := rfl
  have h18 : ∀ i, k0_pay18 q kb i = k0_pay28 q kb i := fun _ => rfl
  pointwise [k0_pay25, k0_pay15, k0_pay16, k0_pay26, k0_pay24, k0_pay23, k0_pay22, k0_pay19, k0_pay20, k0_pay21, stack_apply, h17, h18, hz]
  simp only [softplus_kernel, logsig_kernel, mask_word, WordCmp.select_ofBool, decide_eq_true_eq, coe_ite, coe_ite_mul]
  refine Finset.sum_congr rfl fun x _ => ?_
  rw [sums_apply (fun x => if x.val < t.val then sp (z x) else 0), ← EReal.coe_add, Ideal.exp_coe, coe_ite_mul]
  have : ∀ y : Fin 128, (128 ≤ x.val ∨ x.val < y.val) ↔ x.val < y.val := fun y => by omega
  simp only [this]

end Step

/-! ## The scores, the loop's condition and the assembled output -/

/-- A block's rows at an index. -/
theorem rows_apply (x : Vec Ideal S1x2176x512 .bf16) (b : Fin 17) (j : Fin 128) (c : Fin 512) :
    rows x b (ix3 0 j c) = x (ix3 0 ⟨128 * b.val + j.val, by omega⟩ c) := by
  refine congrArg x (funext fun a => Fin.ext ?_)
  fin_cases a <;> simp [ix3, Rect.emb, Rect.unit]

/-- The scores of a block of keys are the real scores. -/
theorem scores_apply (x0 : Vec Ideal S1x64x512 .bf16) (x1 : Vec Ideal S1x2176x512 .bf16) (Q K : ℕ → ℕ → ℝ)
    (hQ : ∀ (t : Fin 64) (c : Fin 512), x0 (ix3 0 t c) = (Q t.val c.val : EReal))
    (hK : ∀ (j : Fin 2176) (c : Fin 512), x1 (ix3 0 j c) = (K j.val c.val : EReal))
    (b : Fin 17) (a : Fin 8) (t : Fin 64) (j : Fin 128) :
    k0_pay28 (heads x0) (rows x1 b) (ix3 a t j) = (score Q K a.val t.val (128 * b.val + j.val) : EReal) := by
  have e : k0_pay28 (heads x0) (rows x1 b) = shapeCast S8x64x128 (matmul dot_S4x128x128_S4x128x128_S4x128x128_2_2_1_1_0_0 none
      (shapeCast S4x128x128 (heads x0) shapeCasts_S4x2x64x128_S4x128x128) (k0_pay27 (rows x1 b)) (constant S4x128x128 .f32 0x00000000#32)) shapeCasts_S4x128x128_S8x64x128 := rfl
  rw [e]
  pointwise [stack_apply, rows_apply]
  have h : ∀ x : Fin 128, heads x0 (ix4 ⟨a.val / 2, by omega⟩ ⟨(a.val % 2 * 64 + t.val) / 64, by omega⟩ t x)
        * x1 (ix3 0 ⟨128 * b.val + j.val, by omega⟩ ⟨128 * (a.val / 2) + x.val, by omega⟩)
      = ((if (x.val < 64 ↔ a.val % 2 = 0) then Q t.val (128 * (a.val / 2) + x.val) * (1 / 8) * K (128 * b.val + j.val) (128 * (a.val / 2) + x.val) else 0 : ℝ) : EReal) := fun x => by
    have : (a.val % 2 * 64 + t.val) / 64 = a.val % 2 := by omega
    rw [heads_apply]
    simp only [this]
    rw [hQ, hK, ← EReal.coe_mul, coe_ite, ← EReal.coe_mul]
    congr 1
    split_ifs <;> simp
  refine (Finset.sum_congr rfl fun x _ => h x).trans ?_
  rw [← coe_sum]
  congr 1
  rw [Fin.sum_univ_eq_sum_range (fun x => if (x < 64 ↔ a.val % 2 = 0) then Q t.val (128 * (a.val / 2) + x) * (1 / 8) * K (128 * b.val + j.val) (128 * (a.val / 2) + x) else 0) 128,
    show Finset.range 128 = Finset.range (64 + 64) from rfl, Finset.sum_range_add]
  unfold score
  rw [Finset.sum_mul]
  rcases Nat.mod_two_eq_zero_or_one a.val with h0 | h1
  · rw [Finset.sum_eq_zero (s := Finset.range 64) (f := fun x => if (64 + x < 64 ↔ a.val % 2 = 0) then _ else _) (fun x _ => if_neg (by omega)), add_zero]
    refine Finset.sum_congr rfl fun x hx => ?_
    rw [Finset.mem_range] at hx
    rw [if_pos (by omega), show 128 * (a.val / 2) + x = 64 * a.val + x by omega]
    ring
  · rw [Finset.sum_eq_zero (s := Finset.range 64) (f := fun x => if (x < 64 ↔ a.val % 2 = 0) then _ else _) (fun x hx => if_neg (by rw [Finset.mem_range] at hx; omega)), zero_add]
    refine Finset.sum_congr rfl fun x hx => ?_
    rw [Finset.mem_range] at hx
    rw [if_pos (by omega), show 128 * (a.val / 2) + (64 + x) = 64 * a.val + x by omega]
    ring

/-- A running logarithm with a real element is above the bound, which is minus infinity. -/
theorem alive_of_real (acc : Vec Ideal S8x64x128 .f32) (r : ℝ) (h : acc (ix3 0 0 0) = (r : EReal)) : alive acc = 1#1 := by
  have hd : (dead : Ideal .f32) = (⊥ : EReal) := IdealRules.named_const.ideal_named_scalar _ _ _ _ rfl
  have hm : ((r : ℝ) : EReal) ≤ k0_pay3 acc := by
    pointwise [k0_pay3]
    rw [Finset.le_fold_max]
    refine Or.inr ⟨ix4 0 0 0 0, ?_, ?_⟩
    · rw [Finset.mem_filter]
      exact ⟨Finset.mem_univ _, funext fun a => by fin_cases a; exact Subsingleton.elim (α := Fin 1) _ _⟩
    · exact h.ge
  unfold alive
  generalize k0_pay3 acc = u at hm ⊢
  generalize (dead : Ideal .f32) = d at hd ⊢
  subst hd
  exact congrArg BitVec.ofBool (decide_eq_true (lt_of_lt_of_le (EReal.bot_lt_coe r) hm))

/-- The output block picks each head's own 64 lanes. -/
theorem pick_apply (o : Vec Ideal S8x64x128 .f32) (t : Fin 64) (c : Fin 512) :
    k0_pay2 k0_pay8 o (ix3 0 t c) = o (ix3 ⟨c.val / 64, by omega⟩ t ⟨c.val % 128, by omega⟩) := by
  pointwise [k0_pay2, k0_pay8]
  have hw : ∀ k, k < 128 → IntOp.cmpi CmpIPredicate.slt (BitVec.ofNat 32 k) 64#32 = BitVec.ofBool (decide (k < 64)) :=
    fun k hk => WordCmp.cmpi_slt_ofNat (by omega) (by decide)
  have key : ∀ (a a' : Fin 8) (l : Fin 128), a = ⟨c.val / 64, by omega⟩ → l = ⟨c.val % 128, by omega⟩ →
      o (ix3 a t l) = o (ix3 ⟨c.val / 64, by omega⟩ t ⟨c.val % 128, by omega⟩) := fun a _ l h1 h2 => by rw [h1, h2]
  split_ifs with h1 h2 h3
  all_goals rw [hw _ (by omega), WordCmp.select_ofBool]
  all_goals simp only [decide_eq_true_eq]
  all_goals split_ifs
  all_goals exact key _ 0 _ (Fin.ext (by simp; omega)) (Fin.ext (by simp; omega))

end Cert.Proof.SbV
-- ==== Proof.SbV.Loop.lean ====
/-
  The attention loop's invariant: when the blocks from `n` on are done, the running logarithm of a query and head is the
  negated sum of what the keys of those blocks take, and the running output is the sum of their values, each weighted.
-/
module

public import proofs.«01_k».proof.Proof.SbV.Block

@[expose] public section

set_option maxRecDepth 16384

noncomputable section

namespace Cert.Proof.SbV

open Cert.KernelIdeal Cert.KernelIdeal.Gen Cert.Proof.SbI
open Idealize.ShloMosaic

variable (x0 : Vec Ideal S1x64x512 .bf16) (x1 x2 : Vec Ideal S1x2176x512 .bf16) (Q K : ℕ → ℕ → ℝ) (V : ℕ → ℕ → EReal)
  (hQ : ∀ (t : Fin 64) (c : Fin 512), x0 (ix3 0 t c) = (Q t.val c.val : EReal))
  (hK : ∀ (j : Fin 2176) (c : Fin 512), x1 (ix3 0 j c) = (K j.val c.val : EReal))
  (hV : ∀ (j : Fin 2176) (c : Fin 512), x2 (ix3 0 j c) = V j.val c.val)

/-- The weight of key `j` for query `t` of head `a`. -/
def wt (a t j : ℕ) : ℝ := weight (score Q K a t) (2048 + t) j

/-- What the keys from `j` on take of query `t` of head `a`. -/
def tk (a t j : ℕ) : ℝ := taken (score Q K a t) (2048 + t) j

/-- The two running quantities when the blocks from `n` on are done. -/
def Inv (n : ℕ) (acc o : Vec Ideal S8x64x128 .f32) : Prop :=
  ∀ (a : Fin 8) (t : Fin 64) (l : Fin 128), acc (ix3 a t l) = ((-tk Q K a.val t.val (128 * n) : ℝ) : EReal)
    ∧ o (ix3 a t l) = ∑ j ∈ Finset.Ico (128 * n) 2176, (wt Q K a.val t.val j : EReal) * V j (128 * (a.val / 2) + l.val)

include hQ hK hV in
/-- The masked block establishes the invariant. -/
theorem inv_first : Inv Q K V 16 (acc0 (heads x0) x1) (out0 (heads x0) x1 x2) := by
  intro a t l
  have hz : ∀ x : Fin 128, k0_pay28 (heads x0) (rows x1 16) (ix3 a t x) = (score Q K a.val t.val (128 * 16 + x.val) : EReal) :=
    fun x => scores_apply x0 x1 Q K hQ hK 16 a t x
  have hend : Finset.Ico (128 * (16 + 1)) 2176 = ∅ := Finset.Ico_self 2176
  have hs : ∀ y : Fin 128, stick (score Q K a.val t.val) (2048 + t.val) (128 * 16 + y.val)
      = if y.val < t.val then sp (score Q K a.val t.val (128 * 16 + y.val)) else 0 := fun y => by
    unfold stick
    exact if_congr (by omega) rfl rfl
  constructor
  · refine (accMasked_apply (heads x0) (rows x1 16) a t _ hz l).trans ?_
    unfold tk taken
    rw [sum_block _ 16 (by omega), hend, Finset.sum_empty, add_zero]
    simp only [hs]
  · refine (outMasked_apply (heads x0) (rows x1 16) (rows x2 16) a t _ hz l).trans ?_
    rw [sum_block _ 16 (by omega), hend, Finset.sum_empty, add_zero]
    refine Finset.sum_congr rfl fun x _ => ?_
    rw [rows_apply, hV]
    refine congrArg₂ (fun (u : ℝ) (v : EReal) => (u : EReal) * v) ?_ rfl
    unfold wt weight taken
    rw [sum_block_after _ 16 (by omega) x, hend, Finset.sum_empty, add_zero]
    simp only [hs]
    refine if_congr (by omega) ?_ rfl
    rw [← sub_eq_add_neg]

include hQ hK hV in
/-- A further block keeps it. -/
theorem inv_step (n : ℕ) (hn : n < 16) (acc o : Vec Ideal S8x64x128 .f32) (h : Inv Q K V (n + 1) acc o) :
    Inv Q K V n (accStep (heads x0) (rows x1 (Fin.ofNat 17 n)) acc)
      (outStep (heads x0) (rows x1 (Fin.ofNat 17 n)) (rows x2 (Fin.ofNat 17 n)) acc o) := by
  intro a t l
  have hb : (Fin.ofNat 17 n).val = n := Nat.mod_eq_of_lt (by omega)
  have hz : ∀ x : Fin 128, k0_pay28 (heads x0) (rows x1 (Fin.ofNat 17 n)) (ix3 a t x) = (score Q K a.val t.val (128 * n + x.val) : EReal) :=
    fun x => by rw [scores_apply x0 x1 Q K hQ hK (Fin.ofNat 17 n) a t x, hb]
  have hs : ∀ y : Fin 128, stick (score Q K a.val t.val) (2048 + t.val) (128 * n + y.val)
      = sp (score Q K a.val t.val (128 * n + y.val)) := fun y => if_pos (by omega)
  constructor
  · refine (accStep_apply (heads x0) (rows x1 (Fin.ofNat 17 n)) acc a t _ hz l).trans ?_
    rw [(h a t l).1, ← EReal.coe_add]
    congr 1
    unfold tk taken
    rw [sum_block _ n (by omega)]
    simp only [hs]
    ring
  · refine (outStep_apply (heads x0) (rows x1 (Fin.ofNat 17 n)) (rows x2 (Fin.ofNat 17 n)) acc o a t _ hz _ (fun x => (h a t x).1) l).trans ?_
    rw [(h a t l).2, sum_block _ n (by omega), add_comm]
    congr 1
    refine Finset.sum_congr rfl fun x _ => ?_
    rw [rows_apply, hV]
    simp only [hb]
    refine congrArg₂ (fun (u : ℝ) (v : EReal) => (u : EReal) * v) ?_ rfl
    unfold wt weight tk taken
    rw [if_pos (by omega), sum_block_after _ n (by omega) x]
    simp only [hs]
    congr 1
    ring

include hQ hK hV in
/-- The loop, taken from a state of the invariant, ends with every block done: some running logarithm is always real. -/
theorem loop_inv (n : ℕ) : n ≤ 16 → ∀ acc o : Vec Ideal S8x64x128 .f32, Inv Q K V n acc o →
    Inv Q K V 0 (loop (heads x0) x1 x2 n acc o).2.1 (loop (heads x0) x1 x2 n acc o).2.2 := by
  induction n with
  | zero => exact fun _ acc o h => h
  | succ n ih =>
    intro hn acc o h
    unfold loop
    rw [if_pos (alive_of_real acc _ (h 0 0 0).1)]
    exact ih (by omega) _ _ (inv_step x0 x1 x2 Q K V hQ hK hV n (by omega) acc o h)

include hQ hK hV in
/-- What the body leaves in the output block. -/
theorem result_apply (t : Fin 64) (c : Fin 512) :
    result x0 x1 x2 (ix3 0 t c) = ∑ j ∈ Finset.range 2176, (wt Q K (c.val / 64) t.val j : EReal) * V j c.val := by
  unfold result
  rw [pick_apply, (loop_inv x0 x1 x2 Q K V hQ hK hV 16 le_rfl _ _ (inv_first x0 x1 x2 Q K V hQ hK hV) _ _ _).2,
    Finset.range_eq_Ico, show 128 * 0 = 0 from rfl]
  refine Finset.sum_congr rfl fun j _ => ?_
  rw [show 128 * (c.val / 64 / 2) + c.val % 128 = c.val by omega]

end Cert.Proof.SbV

end
-- ==== Proof.SbV.RefTerms.lean ====
/-
  The reference's result read at an index: stick-breaking attention of each query row, as a sum over the keys of the
  real weights times the values.
-/
module

public import proofs.«01_k».proof.Proof.SbV.Math
public import proofs.«01_k».proof.Proof.Gen.ReferenceIdeal.Run

@[expose] public section

set_option maxRecDepth 16384

noncomputable section

namespace Cert.Proof.SbV

open Cert.ReferenceIdeal Cert.ReferenceIdeal.Gen
open Idealize.ShloMosaic Idealize.ShloMosaic.TcCoe

/-! ## The reference's terms -/

/-- The scores of all queries and keys. -/
def refZ (q k : FVec Ideal S16x64x8x64 .f32) (kc : FVec Ideal S16x2048x8x64 .f32) : FVec Ideal S16x8x64x2112 .f32 :=
  (mulf (Host.dotGeneral dot_S16x64x8x64_S16x2112x8x64_S16x8x64x2112_3_3_1_1_02_02 none q (concatenate S16x2112x8x64 1 [⟨S16x2048x8x64, kc⟩, ⟨S16x64x8x64, k⟩] concatenates_S16x2048x8x64_S16x64x8x64_S16x2112x8x64_d1)) (broadcastInDim S16x8x64x2112 ![] bcast_S_S16x8x64x2112 (constant S_ .f32 0x3E000000#32)))

/-- Which keys a query sees. -/
def refMask : IVec S16x8x64x2112 1 :=
  (broadcastInDim S16x8x64x2112 ![2, 3] bcast_S64x2112_S16x8x64x2112_2_3 (cmpi .slt (broadcastInDim S64x2112 ![0, 1] bcast_S1x2112_S64x2112_0_1 (broadcastInDim S1x2112 ![1] bcast_S2112_S1x2112_1 (iotaInDim S2112 32 0))) (broadcastInDim S64x2112 ![0, 1] bcast_S64x1_S64x2112_0_1 (broadcastInDim S64x1 ![0] bcast_S64_S64x1_0 (addi (broadcastInDim S64 ![] bcast_S_S64 (constantI S_ 32 2048#32)) (iotaInDim S64 32 0))))))

/-- The logarithm of what is left of the stick after each key. -/
def refLf (z : FVec Ideal S16x8x64x2112 .f32) : FVec Ideal S16x8x64x2112 .f32 :=
  (select refMask (Host.negf (select (cmpf .une (subf (Host.negf (Host.negf z)) (broadcastInDim S16x8x64x2112 ![] bcast_S_S16x8x64x2112 (constant S_ .f32 0x00000000#32))) (subf (Host.negf (Host.negf z)) (broadcastInDim S16x8x64x2112 ![] bcast_S_S16x8x64x2112 (constant S_ .f32 0x00000000#32)))) (addf (Host.negf (Host.negf z)) (broadcastInDim S16x8x64x2112 ![] bcast_S_S16x8x64x2112 (constant S_ .f32 0x00000000#32))) (addf (maximumf (Host.negf (Host.negf z)) (broadcastInDim S16x8x64x2112 ![] bcast_S_S16x8x64x2112 (constant S_ .f32 0x00000000#32))) (Host.log1p (Host.exp (Host.negf (Host.absf (subf (Host.negf (Host.negf z)) (broadcastInDim S16x8x64x2112 ![] bcast_S_S16x8x64x2112 (constant S_ .f32 0x00000000#32)))))))))) (broadcastInDim S16x8x64x2112 ![] bcast_S_S16x8x64x2112 (id (constant S_ .f32 0x00000000#32))))

/-- The sums of a vector from each position of the last axis to its end. -/
def refSuffix (x : FVec Ideal S16x8x64x2112 .f32) : FVec Ideal S16x8x64x2112 .f32 :=
  Host.reduceWindowAdd ![1, 1, 1, 2112] ![1, 1, 1, 1] ![0, 0, 0, 0] ![0, 0, 0, 2111] x (broadcastInDim S_ ![] bcast_S_S_ (constant S_ .f32 0x00000000#32)) reduceWindows_S16x8x64x2112_S16x8x64x2112_w1s1p0_0_w1s1p0_0_w1s1p0_0_w2112s1p0_2111 h_S_

/-- The weights. -/
def refAtt (z : FVec Ideal S16x8x64x2112 .f32) : FVec Ideal S16x8x64x2112 .f32 :=
  select refMask (Host.exp (addf (addf (refLf z) z) (subf (refSuffix (refLf z)) (refLf z)))) (broadcastInDim S16x8x64x2112 ![] bcast_S_S16x8x64x2112 (id (constant S_ .f32 0x00000000#32)))

/-- The result. -/
def refOut (q k v : FVec Ideal S16x64x8x64 .f32) (kc vc : FVec Ideal S16x2048x8x64 .f32) : FVec Ideal S16x64x512 .bf16 :=
  truncf .bf16 (shapeCast _ (transpose S16x64x8x64 [0, 3, 1, 2] (Host.dotGeneral dot_S16x2112x8x64_S16x8x64x2112_S16x8x64x64_1_3_3_2_02_01 none (concatenate S16x2112x8x64 1 [⟨S16x2048x8x64, vc⟩, ⟨S16x64x8x64, v⟩] concatenates_S16x2048x8x64_S16x64x8x64_S16x2112x8x64_d1) (refAtt (refZ q k kc))) transposes_S16x8x64x64_S16x64x8x64_0_3_1_2) shapeCasts_S16x64x8x64_S16x64x512) bitsLt_bf16_f32

/-- The generated run's result is this term. -/
theorem res_eq (m : (ℓ : Loc nD τ sig) → Buf (Elt Ideal) ℓ) (c : Dev nD) :
    Value.res_main_v26 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Proof.SbV
-- ==== Proof.SbV.Ref.lean ====
/-
  The reference's result read at an index: for finite queries and keys, the sum over the keys of the real weights of
  stick-breaking attention times the values.
-/
module

public import proofs.«01_k».proof.Proof.SbV.RefTerms
public import Idealize.ShloMosaic.Lib.WordCmp

@[expose] public section

set_option maxRecDepth 16384

noncomputable section

namespace Cert.Proof.SbV

open Cert.ReferenceIdeal Cert.ReferenceIdeal.Gen
open Idealize.ShloMosaic Idealize.ShloMosaic.TcCoe

/-- One eighth, as the reference writes it. -/
theorem eighth_f32 : Ideal.ofBits .f32 0x3E000000#32 = (((1 : ℝ) / 8 : ℝ) : EReal) := by
  simp [Ideal.ofBits, Ideal.ieee, -EReal.coe_mul]; norm_num

/-- A left fold that adds is a sum. -/
theorem foldl_add_sum {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The suffix sum at an index. -/
theorem suffix_apply (x : FVec Ideal S16x8x64x2112 .f32) (b : Fin 16) (h : Fin 8) (t : Fin 64) (j : Fin 2112) :
    refSuffix x (ix4 b h t j) = ∑ w : Fin 2112, if h' : j.val + w.val < 2112 then x (ix4 b h t ⟨j.val + w.val, h'⟩) else 0 := by
  unfold refSuffix Host.reduceWindowAdd
  simp only [Ideal.hostReduceWindowAdd_def, Ideal.hostReduceWindowAdd, Host.reduceWindow]
  have h0 : broadcastInDim S_ ![] bcast_S_S_ (constant (F := Ideal) S_ FTy.f32 0#32) (Shape.Idx.first h_S_) = 0 := Ideal.ofBits_zero_f32
  rw [foldl_add_sum, h0, zero_add, ← Fin.sum_univ_def]
  refine (Equiv.sum_comp ((⟨4, ![1, 1, 1, 2112]⟩ : Shape).rowMajor.symm) (fun i => if h_1 :
              ∀ (a : Fin 4),
                (![0, 0, 0, 0] : Fin 4 → ℕ) a ≤ ((ix4 b h t j) a).val * (![1, 1, 1, 1] : Fin 4 → ℕ) a + (i a).val ∧
                  ((ix4 b h t j) a).val * (![1, 1, 1, 1] : Fin 4 → ℕ) a + (i a).val - (![0, 0, 0, 0] : Fin 4 → ℕ) a < (![16, 8, 64, 2112] : Fin 4 → ℕ) a then
            x fun a => ⟨((ix4 b h t j) a).val * (![1, 1, 1, 1] : Fin 4 → ℕ) a + (i a).val - (![0, 0, 0, 0] : Fin 4 → ℕ) a, (h_1 a).2⟩
          else 0)).trans ?_
  rw [sum_idx4]
  simp only [Fin.sum_univ_one]
  refine Finset.sum_congr rfl fun w _ => ?_
  by_cases hw : j.val + w.val < 2112
  · rw [dif_pos hw, dif_pos]
    · refine congrArg x (funext fun a => Fin.ext ?_)
      fin_cases a <;> simp [ix4]
    · intro a
      fin_cases a <;> simp [ix4, hw]
  · rw [dif_neg hw, dif_neg]
    intro hall
    have := (hall 3).2
    simp [ix4] at this
    omega

/-- The scores at an index. -/
theorem refZ_apply (q k : FVec Ideal S16x64x8x64 .f32) (kc : FVec Ideal S16x2048x8x64 .f32) (b : Fin 16) (h : Fin 8) (t : Fin 64) (j : Fin 2112) :
    refZ q k kc (ix4 b h t j) = (∑ d : Fin 64, q (ix4 b t h d)
      * concatenate S16x2112x8x64 1 [⟨S16x2048x8x64, kc⟩, ⟨S16x64x8x64, k⟩] concatenates_S16x2048x8x64_S16x64x8x64_S16x2112x8x64_d1 (ix4 b j h d)) * (((1 : ℝ) / 8 : ℝ) : EReal) := by
  unfold refZ
  generalize concatenate S16x2112x8x64 1 _ _ = kk
  pointwise
  rw [eighth_f32]

/-- The mask at an index: query `t` of 64 sees the keys before position `2048 + t`. -/
theorem refMask_apply (b : Fin 16) (h : Fin 8) (t : Fin 64) (j : Fin 2112) :
    refMask (ix4 b h t j) = BitVec.ofBool (decide (j.val < 2048 + t.val)) := by
  pointwise [refMask]
  rw [show (2048#32 : BitVec 32) = BitVec.ofNat 32 2048 from rfl, WordCmp.addi_ofNat, WordCmp.cmpi_slt_ofNat (by omega) (by omega)]

/-- The logarithm that a key leaves, at an index where the score is real. -/
theorem refLf_apply (z : FVec Ideal S16x8x64x2112 .f32) (b : Fin 16) (h : Fin 8) (t : Fin 64) (Z : ℕ → ℝ)
    (hz : ∀ j : Fin 2112, z (ix4 b h t j) = (Z j.val : EReal)) (j : Fin 2112) :
    refLf z (ix4 b h t j) = ((-stick Z (2048 + t.val) j.val : ℝ) : EReal) := by
  pointwise [refLf]
  rw [refMask_apply, hz, WordCmp.select_ofBool]
  simp only [neg_neg, ne_eq, not_true_eq_false, if_false]
  show (if decide (j.val < 2048 + t.val) = true then -(max ((Z j.val : ℝ) : EReal) 0 + Ideal.log1p (Ideal.exp (-(max ((Z j.val : ℝ) : EReal) (-((Z j.val : ℝ) : EReal)))))) else Ideal.ofBits .f32 0#32) = _
  rw [softplus_ref, Ideal.ofBits_zero_f32]
  unfold stick
  by_cases hj : j.val < 2048 + t.val <;> simp [hj]

/-- The weights at an index where the scores are real. -/
theorem refAtt_apply (z : FVec Ideal S16x8x64x2112 .f32) (b : Fin 16) (h : Fin 8) (t : Fin 64) (Z : ℕ → ℝ)
    (hz : ∀ j : Fin 2112, z (ix4 b h t j) = (Z j.val : EReal)) (j : Fin 2112) :
    refAtt z (ix4 b h t j) = ((weight Z (2048 + t.val) j.val : ℝ) : EReal) := by
  have hs : refSuffix (refLf z) (ix4 b h t j) = ((-taken Z (2048 + t.val) j.val : ℝ) : EReal) := by
    rw [suffix_apply]
    have : ∀ w : Fin 2112, (if h' : j.val + w.val < 2112 then refLf z (ix4 b h t ⟨j.val + w.val, h'⟩) else 0)
        = ((if j.val + w.val < 2112 then -stick Z (2048 + t.val) (j.val + w.val) else 0 : ℝ) : EReal) := fun w => by
      by_cases hw : j.val + w.val < 2112
      · rw [dif_pos hw, if_pos hw, refLf_apply z b h t Z hz]
      · rw [dif_neg hw, if_neg hw, EReal.coe_zero]
    rw [Finset.sum_congr rfl fun w _ => this w, ← coe_sum]
    congr 1
    unfold taken
    rw [← Finset.sum_neg_distrib, ← Finset.sum_Ico_consecutive _ (show j.val ≤ 2112 by omega) (show 2112 ≤ 2176 by omega),
      Finset.sum_eq_zero (s := Finset.Ico 2112 2176) (fun i hi => by
        rw [Finset.mem_Ico] at hi
        unfold stick; rw [if_neg (by omega), neg_zero]), add_zero, Finset.sum_Ico_eq_sum_range]
    rw [Fin.sum_univ_eq_sum_range (fun w => if j.val + w < 2112 then -stick Z (2048 + t.val) (j.val + w) else 0) 2112]
    rw [← Finset.sum_filter]
    refine Finset.sum_congr ?_ fun _ _ => rfl
    ext i; simp only [Finset.mem_filter, Finset.mem_range]; omega
  pointwise [refAtt]
  rw [refMask_apply, hs, hz, refLf_apply z b h t Z hz, WordCmp.select_ofBool, ← EReal.coe_add, ← EReal.coe_sub, ← EReal.coe_add, Ideal.exp_coe]
  show (if decide (j.val < 2048 + t.val) = true then _ else Ideal.ofBits .f32 0#32) = _
  rw [Ideal.ofBits_zero_f32]
  unfold weight
  by_cases hj : j.val < 2048 + t.val
  · have e : -stick Z (2048 + t.val) j.val + Z j.val + (-taken Z (2048 + t.val) j.val - -stick Z (2048 + t.val) j.val)
        = Z j.val - sp (Z j.val) - taken Z (2048 + t.val) (j.val + 1) := by
      rw [taken_succ _ _ _ (by omega)]
      unfold stick
      rw [if_pos hj]
      ring
    rw [e, if_pos hj, if_pos (decide_eq_true hj)]
  · simp [hj]

/-- The reference's result at an index, for real queries `Q` and keys `K` and any values `V` of batch element `b`. -/
theorem refOut_apply (q k v : FVec Ideal S16x64x8x64 .f32) (kc vc : FVec Ideal S16x2048x8x64 .f32) (b : Fin 16)
    (Q K : ℕ → ℕ → ℝ) (V : ℕ → ℕ → EReal)
    (hQ : ∀ (t : Fin 64) (h : Fin 8) (d : Fin 64), q (ix4 b t h d) = (Q t.val (64 * h.val + d.val) : EReal))
    (hK : ∀ (j : Fin 2112) (h : Fin 8) (d : Fin 64), concatenate S16x2112x8x64 1 [⟨S16x2048x8x64, kc⟩, ⟨S16x64x8x64, k⟩] concatenates_S16x2048x8x64_S16x64x8x64_S16x2112x8x64_d1 (ix4 b j h d) = (K j.val (64 * h.val + d.val) : EReal))
    (hV : ∀ (j : Fin 2112) (h : Fin 8) (d : Fin 64), concatenate S16x2112x8x64 1 [⟨S16x2048x8x64, vc⟩, ⟨S16x64x8x64, v⟩] concatenates_S16x2048x8x64_S16x64x8x64_S16x2112x8x64_d1 (ix4 b j h d) = V j.val (64 * h.val + d.val))
    (t : Fin 64) (c : Fin 512) :
    refOut q k v kc vc (ix3 b t c)
      = ∑ j ∈ Finset.range 2112, ((weight (score Q K (c.val / 64) t.val) (2048 + t.val) j : ℝ) : EReal) * V j c.val := by
  have hz : ∀ j : Fin 2112, refZ q k kc (ix4 b ⟨c.val / 64, by omega⟩ t j) = (score Q K (c.val / 64) t.val j.val : EReal) := fun j => by
    rw [refZ_apply]
    simp only [hQ, hK]
    unfold score
    rw [Finset.sum_range, EReal.coe_mul, coe_sum]
    simp only [EReal.coe_mul]
  have key : refOut q k v kc vc (ix3 b t c) = ∑ j : Fin 2112, concatenate S16x2112x8x64 1 [⟨S16x2048x8x64, vc⟩, ⟨S16x64x8x64, v⟩] concatenates_S16x2048x8x64_S16x64x8x64_S16x2112x8x64_d1 (ix4 b j ⟨c.val / 64, by omega⟩ ⟨c.val % 64, by omega⟩)
      * refAtt (refZ q k kc) (ix4 b ⟨c.val / 64, by omega⟩ t j) := by
    unfold refOut
    generalize concatenate S16x2112x8x64 1 _ _ = kk
    pointwise
  rw [key, Finset.sum_range]
  refine Finset.sum_congr rfl fun j _ => ?_
  rw [hV, refAtt_apply _ _ _ _ _ hz, mul_comm]
  congr 2
  simp only []; omega

end Cert.Proof.SbV
-- ==== Proof.SbV.Final.lean ====
/-
  The attention call's result array after the run, at the ideal instance and with finite queries and keys: the
  reference's own closed form of the same five arguments.
-/
module

public import proofs.«01_k».proof.Proof.SbV.Loop
public import proofs.«01_k».proof.Proof.SbV.Ref
public import proofs.«01_k».proof.Proof.SbI.Run
public import proofs.«01_k».proof.Proof.Gen.Pre_finite_qk
public import Idealize.ShloMosaic.Lib.Pipeline.ValueKit
public import Idealize.ShloMosaic.Lib.ReduceAll

@[expose] public section

set_option maxRecDepth 16384

noncomputable section

namespace Cert.Proof.SbV

open Cert.KernelIdeal Cert.KernelIdeal.Gen Cert.Proof.SbI
open Idealize.ShloMosaic Idealize.ShloMosaic.TcCoe Idealize.SL.Sem
open Idealize.ShloMosaic.Pipeline (Dat)

variable (m : (ℓ : Loc nD τ sig) → Buf (Elt Ideal) ℓ) (c : Dev nD)

/-- The four windows' blocks: point `t` takes batch `t`, whole. -/
theorem idx : ∀ t : Fin grid0.N, win0_0.index t = ![t.val, 0, 0] ∧ win0_1.index t = ![t.val, 0, 0] ∧ win0_2.index t = ![t.val, 0, 0] ∧ win0_3.index t = ![t.val, 0, 0] := by
  decide +kernel

/-! ## The arrays the attention reads -/

/-- Element `c` of the 512 of query `t` of batch `b`. -/
def queryAt (q : FVec Ideal S16x64x8x64 .f32) (b : Fin 16) (t c : ℕ) : EReal :=
  q (ix4 b (Fin.ofNat 64 t) (Fin.ofNat 8 (c / 64)) (Fin.ofNat 64 c))

/-- Element `c` of the 512 of key (or value) `j` of batch `b`: the first 2048 are the cache's, the next 64 the new ones,
    and the rest are the padding's zeros. -/
def keyAt (cache : FVec Ideal S16x2048x8x64 .f32) (new : FVec Ideal S16x64x8x64 .f32) (b : Fin 16) (j c : ℕ) : EReal :=
  if j < 2048 then cache (ix4 b (Fin.ofNat 2048 j) (Fin.ofNat 8 (c / 64)) (Fin.ofNat 64 c))
  else if j < 2112 then new (ix4 b (Fin.ofNat 64 (j - 2048)) (Fin.ofNat 8 (c / 64)) (Fin.ofNat 64 c)) else 0

/-- The array the kernel is given for the keys (or values): the cache and the new ones, flattened by heads and padded. -/
def padded (cache : FVec Ideal S16x2048x8x64 .f32) (new : FVec Ideal S16x64x8x64 .f32) : FVec Ideal S16x2176x512 .bf16 :=
  pad S16x2176x512 ![0, 0, 0] ![0, 64, 0] ![0, 0, 0] (concatenate S16x2112x512 1
    [⟨S16x2048x512, shapeCast S16x2048x512 (truncf .bf16 cache bitsLt_bf16_f32) shapeCasts_S16x2048x8x64_S16x2048x512⟩,
     ⟨S16x64x512, shapeCast S16x64x512 (truncf .bf16 new bitsLt_bf16_f32) shapeCasts_S16x64x8x64_S16x64x512⟩]
    concatenates_S16x2048x512_S16x64x512_S16x2112x512_d1) (sitofp .bf16 (constantI S_ 32 0#32)) pads_S16x2112x512_S16x2176x512_000_0640_000 h_S_

/-- The integer zero as a float. -/
theorem sitofp_zero : (FloatOps.sitofp FTy.bf16 0#32 : Ideal .bf16) = (0 : EReal) := by
  show (((0#32 : BitVec 32).toInt : ℝ) : EReal) = 0
  simp

/-- It at an index. -/
theorem padded_apply (cache : FVec Ideal S16x2048x8x64 .f32) (new : FVec Ideal S16x64x8x64 .f32) (b : Fin 16) (j : Fin 2176) (c : Fin 512) :
    padded cache new (ix3 b j c) = keyAt cache new b j.val c.val := by
  pointwise [padded, keyAt]
  rw [show (FloatOps.sitofp FTy.bf16 0#32 : Ideal .bf16) = (0 : EReal) from sitofp_zero]
  by_cases h1 : j.val < 2048
  · rw [dif_pos (by omega), dif_pos h1, if_pos h1]
    congr 2 <;> exact Fin.ext (by simp <;> omega)
  · rw [if_neg h1]
    by_cases h2 : j.val < 2112
    · rw [dif_pos h2, dif_neg h1, if_pos h2]
      congr 2 <;> exact Fin.ext (by simp <;> omega)
    · rw [dif_neg h2, if_neg h2]

/-- The reference's own array of the keys (or values), split by heads, at an index. -/
theorem concat_apply (cache : FVec Ideal S16x2048x8x64 .f32) (new : FVec Ideal S16x64x8x64 .f32) (b : Fin 16) (j : Fin 2112) (h : Fin 8) (d : Fin 64) :
    concatenate Cert.ReferenceIdeal.S16x2112x8x64 1 [⟨Cert.ReferenceIdeal.S16x2048x8x64, cache⟩, ⟨Cert.ReferenceIdeal.S16x64x8x64, new⟩]
      Cert.ReferenceIdeal.Gen.concatenates_S16x2048x8x64_S16x64x8x64_S16x2112x8x64_d1 (ix4 b j h d) = keyAt cache new b j.val (64 * h.val + d.val) := by
  pointwise [keyAt]
  by_cases h1 : j.val < 2048
  · rw [dif_pos h1, if_pos h1]
    congr 2 <;> exact Fin.ext (by simp <;> omega)
  · rw [dif_neg h1, if_neg h1]
    congr 2 <;> exact Fin.ext (by simp <;> omega)

/-- The region finds the queries flattened by heads, and the keys and values padded. -/
theorem V_v1 : V m c main_v1 = shapeCast S16x64x512 (m ((c : Thread nD τ).loc main_arg0) : FVec Ideal S16x64x8x64 .f32) shapeCasts_S16x64x8x64_S16x64x512 := by
  simp only [V, hostOps0, hostOps0_1, hostOps0_2, hostOps0_3, List.flatten_cons, List.flatten_nil, List.append_nil, List.cons_append, List.nil_append]
  entry_read
  rfl

theorem V_v12 : V m c main_v12 = padded (m ((c : Thread nD τ).loc main_arg3)) (m ((c : Thread nD τ).loc main_arg1)) := by
  simp only [V, hostOps0, hostOps0_1, hostOps0_2, hostOps0_3, List.flatten_cons, List.flatten_nil, List.append_nil, List.cons_append, List.nil_append]
  entry_read
  rfl

theorem V_v13 : V m c main_v13 = padded (m ((c : Thread nD τ).loc main_arg4)) (m ((c : Thread nD τ).loc main_arg2)) := by
  simp only [V, hostOps0, hostOps0_1, hostOps0_2, hostOps0_3, List.flatten_cons, List.flatten_nil, List.append_nil, List.cons_append, List.nil_append]
  entry_read
  rfl

/-- What the body reads at point `t`. -/
theorem iblk0 (t : Fin (cfg0 (F := Ideal)).N) (i : Fin 64) (l : Fin 512) :
    iblk m c 0 t (ix3 0 i l) = queryAt (m ((c : Thread nD τ).loc main_arg0)) (t : Fin 16) i.val l.val := by
  have h : iblk m c 0 t (ix3 0 i l) = V m c main_v1 (ix3 (t : Fin 16) i l) := by
    blk_ext! [iblk, idx t]
  rw [h, V_v1]
  pointwise [queryAt]
  congr 2 <;> exact Fin.ext (by simp <;> omega)

theorem iblk1 (t : Fin (cfg0 (F := Ideal)).N) (i : Fin 2176) (l : Fin 512) :
    iblk m c 1 t (ix3 0 i l) = keyAt (m ((c : Thread nD τ).loc main_arg3)) (m ((c : Thread nD τ).loc main_arg1)) (t : Fin 16) i.val l.val := by
  have h : iblk m c 1 t (ix3 0 i l) = V m c main_v12 (ix3 (t : Fin 16) i l) := by
    blk_ext! [iblk, idx t]
  rw [h, V_v12]
  exact padded_apply _ _ _ _ _

theorem iblk2 (t : Fin (cfg0 (F := Ideal)).N) (i : Fin 2176) (l : Fin 512) :
    iblk m c 2 t (ix3 0 i l) = keyAt (m ((c : Thread nD τ).loc main_arg4)) (m ((c : Thread nD τ).loc main_arg2)) (t : Fin 16) i.val l.val := by
  have h : iblk m c 2 t (ix3 0 i l) = V m c main_v13 (ix3 (t : Fin 16) i l) := by
    blk_ext! [iblk, idx t]
  rw [h, V_v13]
  exact padded_apply _ _ _ _ _

/-! ## The precondition, and the result -/

/-- A number whose absolute value is below infinity is real. -/
theorem fin_of_lt (x : EReal) (h : Ideal.cmp .olt (max x (-x)) (Ideal.ofBits .f32 0x7F800000#32) = 1#1) : ((x.toReal : ℝ) : EReal) = x := by
  have e : Ideal.ofBits .f32 0x7F800000#32 = (⊤ : EReal) := by simp [Ideal.ofBits, Ideal.ieee]
  rw [e] at h
  have h' : max x (-x) < ⊤ := by
    by_contra hn
    rw [show Ideal.cmp .olt (max x (-x)) ⊤ = BitVec.ofBool (decide (max x (-x) < ⊤)) from rfl, decide_eq_false hn] at h
    exact absurd h (by decide)
  refine EReal.coe_toReal (fun hx => ?_) (fun hx => ?_)
  · subst hx; simp at h'
  · subst hx; simp at h'

/-- Under the precondition the queries and the keys, cached and new, are real numbers. -/
theorem finite (q k v : FVec Ideal S16x64x8x64 .f32) (kc vc : FVec Ideal S16x2048x8x64 .f32) (h : Cert.Pre_finite_qk.fn (F := Ideal) q k v kc vc = fun _ => 1#1) :
   (∀ i, ((EReal.toReal (q i) : ℝ) : EReal) = q i) ∧ (∀ i, ((EReal.toReal (k i) : ℝ) : EReal) = k i) ∧ (∀ i, ((EReal.toReal (kc i) : ℝ) : EReal) = kc i) := by
  dsimp only [Cert.Pre_finite_qk.fn] at h
  have h0 := congrFun h (fun a => a.elim0)
  obtain ⟨h1, h2⟩ := IntOp.andi_eq_one.mp h0
  obtain ⟨h3, h4⟩ := IntOp.andi_eq_one.mp h1
  haveI : Subsingleton Cert.Pre_finite_qk.S_.Idx := ⟨fun a b => funext fun x => x.elim0⟩
  exact ⟨fun i => fin_of_lt _ (Host.reduce_andi_all _ _ _ _ _ h3 i), fun i => fin_of_lt _ (Host.reduce_andi_all _ _ _ _ _ h4 i),
    fun i => fin_of_lt _ (Host.reduce_andi_all _ _ _ _ _ h2 i)⟩

/-- What the body leaves at point `t`, with finite queries and keys, is the reference's result for batch `t`. -/
theorem point (q k v : FVec Ideal S16x64x8x64 .f32) (kc vc : FVec Ideal S16x2048x8x64 .f32)
    (hpre : Cert.Pre_finite_qk.fn (F := Ideal) q k v kc vc = fun _ => 1#1) (b : Fin 16)
    (x0 : Vec Ideal S1x64x512 .bf16) (x1 x2 : Vec Ideal S1x2176x512 .bf16)
    (h0 : ∀ (t : Fin 64) (c : Fin 512), x0 (ix3 0 t c) = queryAt q b t.val c.val)
    (h1 : ∀ (j : Fin 2176) (c : Fin 512), x1 (ix3 0 j c) = keyAt kc k b j.val c.val)
    (h2 : ∀ (j : Fin 2176) (c : Fin 512), x2 (ix3 0 j c) = keyAt vc v b j.val c.val) (t : Fin 64) (c : Fin 512) :
    result x0 x1 x2 (ix3 0 t c) = refOut q k v kc vc (ix3 b t c) := by
  obtain ⟨fq, fk, fkc⟩ := finite q k v kc vc hpre
  have hQ : ∀ t c : ℕ, (((queryAt q b t c).toReal : ℝ) : EReal) = queryAt q b t c := fun t c => fq _
  have hK : ∀ j c : ℕ, (((keyAt kc k b j c).toReal : ℝ) : EReal) = keyAt kc k b j c := fun j c => by
    unfold keyAt
    split_ifs
    · exact fkc _
    · exact fk _
    · simp
  rw [result_apply x0 x1 x2 (fun t c => (queryAt q b t c).toReal) (fun j c => (keyAt kc k b j c).toReal) (keyAt vc v b)
      (fun t c => (h0 t c).trans (hQ _ _).symm) (fun j c => (h1 j c).trans (hK _ _).symm) h2,
    refOut_apply q k v kc vc b (fun t c => (queryAt q b t c).toReal) (fun j c => (keyAt kc k b j c).toReal) (keyAt vc v b)
      (fun t h d => ?_) (fun j h d => (concat_apply kc k b j h d).trans (hK _ _).symm) (concat_apply vc v b)]
  · rw [show Finset.range 2176 = Finset.range (2112 + 64) from rfl, Finset.sum_range_add]
    refine (congrArg _ (Finset.sum_eq_zero fun x _ => ?_)).trans (add_zero _)
    unfold wt weight
    rw [if_neg (by omega), EReal.coe_zero, zero_mul]
  · rw [hQ]
    unfold queryAt
    congr 2 <;> exact Fin.ext (by simp <;> omega)

/-- The result array after the run. -/
theorem final (hpre : Cert.Pre_finite_qk.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (dats m 0 c).arrAt 3 (cfgs (F := Ideal) 0).N = refOut (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 3 _ (by decide +kernel) fun t hf y => ?_
  blk_simp
  rw [(after_eq m c t).2.2.2]
  have hy : y = ix3 0 (y 1) (y 2) := by blk_ext!
  have he : (win0_3.blk t).view.emb y = ix3 (t : Fin 16) (y 1 : Fin 64) (y 2 : Fin 512) := by blk_ext! [idx t]
  rw [he, hy]
  exact point _ _ _ _ _ hpre (t : Fin 16) _ _ _ (iblk0 m c t) (iblk1 m c t) (iblk2 m c t) (y 1) (y 2)

end Cert.Proof.SbV

end
-- ==== Proof.Ffn.Spec.lean ====
/-
  The arithmetic of one row of a feed-forward block, over the extended reals: the normalised row, the gated
  activation, and sums over a range cut into equal pieces.
-/
module

public import Idealize.ShloMosaic.Lib.Pipeline.ValueKit

@[expose] public section

noncomputable section

namespace Cert.Proof.Ffn

open Idealize.ShloMosaic

/-- A row divided by its root mean square (with the small constant under the root), times the scale vector. -/
def rms (x g : Fin 2048 → EReal) (k : Fin 2048) : EReal :=
  x k * Ideal.rsqrt (Ideal.div (∑ j, x j * x j) (Ideal.ofBits .f32 0x45000000#32) + Ideal.ofBits .f32 0x358637BD#32) * g k

/-- A number times its logistic function. -/
def silu (a : EReal) : EReal := a * Ideal.div 1 (1 + Ideal.exp (-a))

/-- The gated activation of a row at hidden unit `k`. -/
def act {f : ℕ} (h : Fin 2048 → EReal) (wg wu : Fin 2048 → Fin f → EReal) (k : Fin f) : EReal :=
  silu (∑ j, h j * wg j k) * ∑ j, h j * wu j k

/-- Row `r` of the two batches' tokens, counted through both. -/
def row (X : FVec Ideal ⟨3, ![2, 16384, 2048]⟩ .f32) (r : Fin 32768) (k : Fin 2048) : EReal :=
  X (ix3 ⟨r.val / 16384, by omega⟩ ⟨r.val % 16384, by omega⟩ k)

/-- The term of number `l` of a family over `Fin n`, zero past its end. -/
def pad {n : ℕ} (f : Fin n → EReal) (l : ℕ) : EReal := if h : l < n then f ⟨l, h⟩ else 0

/-- Inside the range it is the family. -/
theorem pad_of_lt {n : ℕ} (f : Fin n → EReal) {l : ℕ} (h : l < n) : pad f l = f ⟨l, h⟩ := dif_pos h

/-- The sum of a family over `Fin n` as a sum over numbers. -/
theorem sum_pad {n : ℕ} (f : Fin n → EReal) : ∑ l ∈ Finset.range n, pad f l = ∑ i, f i := by
  rw [Finset.sum_range]
  exact Finset.sum_congr rfl fun i _ => pad_of_lt f i.isLt

/-- A sum over `a * b` numbers taken in `a` pieces of `b`. -/
theorem sum_pieces (f : ℕ → EReal) (a b : ℕ) :
    ∑ s ∈ Finset.range a, ∑ k : Fin b, f (s * b + k.val) = ∑ l ∈ Finset.range (a * b), f l := by
  induction a with
  | zero => simp
  | succ a ih =>
    rw [Finset.sum_range_succ, ih, Nat.succ_mul, Finset.sum_range_add]
    congr 1
    exact (Finset.sum_range (fun k => f (a * b + k))).symm

end Cert.Proof.Ffn

end
-- ==== Proof.Dense.Value.lean ====
/-
  What the dense feed-forward kernel leaves in its result: every token's entry plus the sum over the hidden units,
  accumulated over eleven pieces of 512 units.
-/
module

public import proofs.«01_k».proof.Proof.Ffn.Spec
public import proofs.«01_k».proof.Proof.Gen.DenseIdeal.Value

@[expose] public section

set_option maxRecDepth 16384

noncomputable section

namespace Cert.Proof.Dense

open Cert.DenseIdeal Cert.DenseIdeal.Gen
open Idealize.ShloMosaic Idealize.ShloMosaic.TcCoe Idealize.SL.Sem Cert.Proof.Ffn
open Idealize.ShloMosaic.Pipeline (Dat)

variable (m : (ℓ : Loc nD τ sig) → Buf (Elt Ideal) ℓ)

/-- Where each window's block lies at each grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] ∧ win0_6.index t = ![t.val / 11, 0] :=
  (by decide +kernel : ∀ t : Fin grid0.N, _)

/-- The tokens, the scale and the three weights as launched. -/
abbrev aX (c : Dev nD) : FVec Ideal S2x16384x2048 .f32 := m ((c : Thread nD τ).loc main_arg0)
abbrev aG (c : Dev nD) : FVec Ideal S2048 .f32 := m ((c : Thread nD τ).loc main_arg1)
abbrev aWG (c : Dev nD) : FVec Ideal S2048x5632 .f32 := m ((c : Thread nD τ).loc main_arg2)
abbrev aWU (c : Dev nD) : FVec Ideal S2048x5632 .f32 := m ((c : Thread nD τ).loc main_arg3)
abbrev aWD (c : Dev nD) : FVec Ideal S5632x2048 .f32 := m ((c : Thread nD τ).loc main_arg4)

/-- What the region finds in its windows' arrays: the tokens and the scale reshaped, the weights as launched. -/
theorem V_v0 (c : Dev nD) : V m c main_v0 = shapeCast S32768x2048 (aX m c) shapeCasts_S2x16384x2048_S32768x2048 := by
  simp only [V, hostOps0, List.flatten_cons, List.flatten_nil, List.append_nil, List.cons_append, List.nil_append]
  entry_read
  try rfl

theorem V_v4 (c : Dev nD) : V m c main_v4 = shapeCast S1x2048 (aG m c) shapeCasts_S2048_S1x2048 := by
  simp only [V, hostOps0, List.flatten_cons, List.flatten_nil, List.append_nil, List.cons_append, List.nil_append]
  entry_read
  try rfl

theorem V_v1 (c : Dev nD) : V m c main_v1 = aWG m c := by
  simp only [V, hostOps0, List.flatten_cons, List.flatten_nil, List.append_nil, List.cons_append, List.nil_append]
  entry_read
  try rfl

theorem V_v2 (c : Dev nD) : V m c main_v2 = aWU m c := by
  simp only [V, hostOps0, List.flatten_cons, List.flatten_nil, List.append_nil, List.cons_append, List.nil_append]
  entry_read
  try rfl

theorem V_v3 (c : Dev nD) : V m c main_v3 = aWD m c := by
  simp only [V, hostOps0, List.flatten_cons, List.flatten_nil, List.append_nil, List.cons_append, List.nil_append]
  entry_read
  try rfl

/-- A block of tokens at an index. -/
theorem blk_x (c : Dev nD) (t : Fin cfg0.N) (a : Fin 512) (k : Fin 2048) (r : Fin 32768) (hr : r.val = 512 * (t.val / 11) + a.val) :
    iblk m c 0 t (ix2 a k) = row (aX m c) r k := by
  have h : iblk m c 0 t (ix2 a k) = V m c main_v0 (ix2 r k) := by blk_ext! [iblk, idx t]
  rw [h, V_v0]
  pointwise [row]

/-- The scale's block at an index. -/
theorem blk_g (c : Dev nD) (t : Fin cfg0.N) (k : Fin 2048) : iblk m c 1 t (ix2 0 k) = aG m c (ix1 k) := by
  have h : iblk m c 1 t (ix2 0 k) = V m c main_v4 (ix2 0 k) := by blk_ext! [iblk, idx t]
  rw [h, V_v4]
  pointwise

/-- A piece of the first weight at an index. -/
theorem blk_wg (c : Dev nD) (t : Fin cfg0.N) (j : Fin 2048) (k : Fin 512) (l : Fin 5632) (hl : l.val = (t.val % 11) * 512 + k.val) :
    iblk m c 2 t (ix2 j k) = aWG m c (ix2 j l) := by
  have h : iblk m c 2 t (ix2 j k) = V m c main_v1 (ix2 j l) := by blk_ext! [iblk, idx t]
  rw [h, V_v1]

/-- A piece of the second weight at an index. -/
theorem blk_wu (c : Dev nD) (t : Fin cfg0.N) (j : Fin 2048) (k : Fin 512) (l : Fin 5632) (hl : l.val = (t.val % 11) * 512 + k.val) :
    iblk m c 3 t (ix2 j k) = aWU m c (ix2 j l) := by
  have h : iblk m c 3 t (ix2 j k) = V m c main_v2 (ix2 j l) := by blk_ext! [iblk, idx t]
  rw [h, V_v2]

/-- A piece of the third weight at an index. -/
theorem blk_wd (c : Dev nD) (t : Fin cfg0.N) (k : Fin 512) (q : Fin 2048) (l : Fin 5632) (hl : l.val = (t.val % 11) * 512 + k.val) :
    iblk m c 4 t (ix2 k q) = aWD m c (ix2 l q) := by
  have h : iblk m c 4 t (ix2 k q) = V m c main_v3 (ix2 l q) := by blk_ext! [iblk, idx t]
  rw [h, V_v3]

/-- The normalised rows a run of points begins with. -/
theorem pay_norm (x : Vec Ideal S512x2048 .f32) (g : Vec Ideal S1x2048 .f32) (y : S512x2048.Idx) :
    k0_pay2 x g y = rms (fun k => x (ix2 (y 0) k)) (fun k => g (ix2 0 k)) (y 1) := by
  pointwise [k0_pay2, k0_pay1, rms]

/-- The sum a run of points begins with. -/
theorem pay_start (x : Vec Ideal S512x2048 .f32) (y : S512x2048.Idx) : k0_pay3 x y = x y := by
  pointwise [k0_pay3, k0_pay1]

/-- What a point adds. -/
theorem pay_add (h : Vec Ideal S512x2048 .bf16) (wg wu : Vec Ideal S2048x512 .bf16) (acc : Vec Ideal S512x2048 .f32) (wd : Vec Ideal S512x2048 .bf16) (y : S512x2048.Idx) :
    k0_pay4 h wg wu acc wd y = acc y + ∑ k : Fin 512, act (fun j => h (ix2 (y 0) j)) (fun j k => wg (ix2 j k)) (fun j k => wu (ix2 j k)) k * wd (ix2 k (y 1)) := by
  pointwise [k0_pay4, act, silu]
  simp only [zero_sub]

/-- What the two buffers carried between points hold at the first point of a run. -/
theorem outs_A (c : Dev nD) (t : Fin cfg0.N) (h0 : t.val % 11 = 0) (h1 : ¬t.val % 11 = 10) :
    (outsAt0 m c t.val t.isLt).2 = (k0_pay2 (iblk m c 0 t) (iblk m c 1 t), k0_pay4 (k0_pay2 (iblk m c 0 t) (iblk m c 1 t)) (iblk m c 2 t) (iblk m c 3 t) (k0_pay3 (iblk m c 0 t)) (iblk m c 4 t)) := by
  refine Prod.ext ?_ ?_
  · show (outsAt0 m c t.val t.isLt).2.1 = _
    rw [outsAt0_A m c t h0 h1]; frame_out
  · show (outsAt0 m c t.val t.isLt).2.2 = _
    rw [outsAt0_A m c t h0 h1]; frame_out

/-- And at a later point of it. -/
theorem outs_BC (c : Dev nD) (t : Fin cfg0.N) (h0 : ¬t.val % 11 = 0) (hp : t.val - 1 < cfg0.N) :
    (outsAt0 m c t.val t.isLt).2 = ((outsAt0 m c (t.val - 1) hp).2.1, k0_pay4 (outsAt0 m c (t.val - 1) hp).2.1 (iblk m c 2 t) (iblk m c 3 t) (outsAt0 m c (t.val - 1) hp).2.2 (iblk m c 4 t)) := by
  by_cases h1 : t.val % 11 = 10
  · refine Prod.ext ?_ ?_
    · show (outsAt0 m c t.val t.isLt).2.1 = _
      rw [outsAt0_C m c t h0 h1]; rfl
    · show (outsAt0 m c t.val t.isLt).2.2 = _
      rw [outsAt0_C m c t h0 h1]; frame_out
      exact congrArg₂ (fun a b => k0_pay4 a (iblk m c 2 t) (iblk m c 3 t) b (iblk m c 4 t))
        ((Memref.isWhole_whole cc0_scratch0).read_unread _) ((Memref.isWhole_whole cc0_scratch1).read_unread _)
  · refine Prod.ext ?_ ?_
    · show (outsAt0 m c t.val t.isLt).2.1 = _
      rw [outsAt0_B m c t h0 h1]; rfl
    · show (outsAt0 m c t.val t.isLt).2.2 = _
      rw [outsAt0_B m c t h0 h1]; frame_out
      exact congrArg₂ (fun a b => k0_pay4 a (iblk m c 2 t) (iblk m c 3 t) b (iblk m c 4 t))
        ((Memref.isWhole_whole cc0_scratch0).read_unread _) ((Memref.isWhole_whole cc0_scratch1).read_unread _)

/-- What is written back at the last point of a run. -/
theorem out_C (c : Dev nD) (t : Fin cfg0.N) (h0 : ¬t.val % 11 = 0) (h1 : t.val % 11 = 10) :
    (outsAt0 m c t.val t.isLt).1 = (outsAt0 m c t.val t.isLt).2.2 := by
  rw [outsAt0_C m c t h0 h1]; frame_out

/-- The normalised row `r`. -/
abbrev nrow (c : Dev nD) (r : Fin 32768) : Fin 2048 → EReal := rms (row (aX m c) r) (fun j => aG m c (ix1 j))

/-- What hidden unit `l` adds to entry `q` of row `r`. -/
def unit (c : Dev nD) (r : Fin 32768) (q : Fin 2048) (l : Fin 5632) : EReal :=
  act (nrow m c r) (fun j k => aWG m c (ix2 j k)) (fun j k => aWU m c (ix2 j k)) l * aWD m c (ix2 l q)

/-- What a point's body adds to an entry of the running sum. -/
theorem step (c : Dev nD) (t : Fin cfg0.N) (y : S512x2048.Idx) (r : Fin 32768) (h : FVec Ideal S512x2048 .bf16) (acc : FVec Ideal S512x2048 .f32)
    (hh : ∀ j, h (ix2 (y 0) j) = nrow m c r j) :
    k0_pay4 h (iblk m c 2 t) (iblk m c 3 t) acc (iblk m c 4 t) y = acc y + ∑ k : Fin 512, pad (unit m c r (y 1)) (t.val % 11 * 512 + k.val) := by
  rw [pay_add]
  congr 1
  refine Finset.sum_congr rfl fun k _ => ?_
  have hl : t.val % 11 * 512 + k.val < 5632 := by omega
  rw [pad_of_lt _ hl]
  unfold unit act
  simp only [hh, fun j => blk_wg m c t j k ⟨_, hl⟩ rfl, fun j => blk_wu m c t j k ⟨_, hl⟩ rfl, blk_wd m c t k (y 1) ⟨_, hl⟩ rfl]

/-- The sum of the pieces of 512 hidden units before number `s`. -/
def pieces (c : Dev nD) (r : Fin 32768) (q : Fin 2048) (s : ℕ) : EReal :=
  ∑ s' ∈ Finset.range s, ∑ k : Fin 512, pad (unit m c r q) (s' * 512 + k.val)

/-- The first point of a run. -/
theorem carried_A (c : Dev nD) (t : Fin cfg0.N) (h0 : t.val % 11 = 0) (y : S512x2048.Idx) (r : Fin 32768) (hr : r.val = 512 * (t.val / 11) + (y 0).val) :
    (outsAt0 m c t.val t.isLt).2.1 y = nrow m c r (y 1)
    ∧ (outsAt0 m c t.val t.isLt).2.2 y = row (aX m c) r (y 1) + pieces m c r (y 1) (t.val % 11 + 1) := by
  have hn : ∀ j, k0_pay2 (F := Ideal) (iblk m c 0 t) (iblk m c 1 t) (ix2 (y 0) j) = nrow m c r j := by
    intro j
    rw [pay_norm]
    exact congrFun (congrArg₂ rms (funext fun k => blk_x m c t (y 0) k r hr) (funext fun k => blk_g m c t k)) j
  have hx : k0_pay3 (F := Ideal) (iblk m c 0 t) y = row (aX m c) r (y 1) := by
    rw [pay_start]
    refine Eq.trans ?_ (blk_x m c t (y 0) (y 1) r hr)
    blk_ext!
  rw [outs_A m c t h0 (by omega)]
  constructor
  · refine Eq.trans ?_ (hn (y 1))
    blk_ext!
  · refine (step m c t y r _ _ hn).trans ?_
    rw [hx, h0]
    simp only [pieces, Finset.sum_range_succ, Finset.sum_range_zero, zero_add]

/-- A later point of it. -/
theorem carried_BC (c : Dev nD) (t : Fin cfg0.N) (h0 : ¬t.val % 11 = 0) (hp : t.val - 1 < cfg0.N) (y : S512x2048.Idx) (r : Fin 32768)
    (i1 : ∀ j, (outsAt0 m c (t.val - 1) hp).2.1 (ix2 (y 0) j) = nrow m c r j) (e1 : (outsAt0 m c (t.val - 1) hp).2.1 y = nrow m c r (y 1))
    (i2 : (outsAt0 m c (t.val - 1) hp).2.2 y = row (aX m c) r (y 1) + pieces m c r (y 1) ((t.val - 1) % 11 + 1)) :
    (outsAt0 m c t.val t.isLt).2.1 y = nrow m c r (y 1)
    ∧ (outsAt0 m c t.val t.isLt).2.2 y = row (aX m c) r (y 1) + pieces m c r (y 1) (t.val % 11 + 1) := by
  rw [outs_BC m c t h0 hp]
  refine ⟨e1, (step m c t y r _ _ i1).trans ?_⟩
  rw [i2, show (t.val - 1) % 11 + 1 = t.val % 11 by omega, add_assoc]
  simp only [pieces, Finset.sum_range_succ]

/-- What the carried buffers hold after point `n`: the normalised rows, and the rows plus the pieces so far. -/
theorem carried (c : Dev nD) : ∀ (n : ℕ) (h : n < cfg0.N) (y : S512x2048.Idx) (r : Fin 32768), r.val = 512 * (n / 11) + (y 0).val →
    (outsAt0 m c n h).2.1 y = nrow m c r (y 1)
    ∧ (outsAt0 m c n h).2.2 y = row (aX m c) r (y 1) + pieces m c r (y 1) (n % 11 + 1) := by
  intro n
  induction n with
  | zero => exact fun h y r hr => carried_A m c ⟨0, h⟩ rfl y r hr
  | succ n ih =>
    intro h y r hr
    by_cases h0 : (n + 1) % 11 = 0
    · exact carried_A m c ⟨n + 1, h⟩ h0 y r hr
    · have hq : (n + 1) / 11 = n / 11 := by omega
      exact carried_BC m c ⟨n + 1, h⟩ h0 (Nat.lt_of_succ_lt h) y r
        (fun j => (ih (Nat.lt_of_succ_lt h) (ix2 (y 0) j) r (by rw [hr, hq]; rfl)).1)
        (ih (Nat.lt_of_succ_lt h) y r (by rw [hr, hq])).1 (ih (Nat.lt_of_succ_lt h) y r (by rw [hr, hq])).2

/-- All pieces together are the sum over the hidden units. -/
theorem pieces_all (c : Dev nD) (r : Fin 32768) (q : Fin 2048) : pieces m c r q 11 = ∑ l, unit m c r q l := by
  unfold pieces
  rw [sum_pieces (pad (unit m c r q)) 11 512]
  exact sum_pad (unit m c r q)

/-- The last point of a run at an index. -/
theorem last (c : Dev nD) (t : Fin cfg0.N) (hm : t.val % 11 = 10) (y : S512x2048.Idx) (r : Fin 32768) (q : Fin 2048)
    (hr : r.val = 512 * (t.val / 11) + (y 0).val) (hq : q = y 1) :
    (outsAt0 m c t.val t.isLt).2.2 y = row (aX m c) r q + ∑ l, unit m c r q l := by
  subst hq
  refine ((carried m c t.val t.isLt y r hr).2).trans ?_
  exact congrArg (row (aX m c) r (y 1) + ·) ((congrArg (pieces m c r (y 1)) (by omega)).trans (pieces_all m c r (y 1)))

/-- The kernel's result at an index. -/
theorem result (c : Dev nD) (r : Fin 32768) (q : Fin 2048) :
    (dats m 0 c).arrAt 6 cfg0.N (ix2 r q) = row (aX m c) r q + ∑ l, unit m c r q l := by
  have h := (dats m 0 c).arrAt_eq_of_covers 6 (fun i => row (aX m c) (i 0) (i 1) + ∑ l, unit m c (i 0) (i 1) l : FVec Ideal S32768x2048 .f32) (by decide +kernel) fun t hf y => by
    have hm : t.val % 11 = 10 := (flush0_6 t).mp hf
    blk_simp
    rw [after0_6, out_C m c t (by omega) hm]
    exact last m c t hm y _ _ (by blk_simp [idx t]; omega) (Fin.ext (by blk_simp [idx t]))
  exact congrFun h (ix2 r q)

end Cert.Proof.Dense

end
-- ==== Proof.Dense.Ref.lean ====
/-
  The reference's dense feed-forward block read at an index.
-/
module

public import proofs.«01_k».proof.Proof.Ffn.Spec
public import proofs.«01_k».proof.Proof.Gen.DenseRefIdeal

@[expose] public section

set_option maxRecDepth 16384

noncomputable section

namespace Cert.Proof.Dense

open Cert.DenseRefIdeal Cert.DenseRefIdeal.Gen
open Idealize.ShloMosaic Idealize.ShloMosaic.TcCoe Cert.Proof.Ffn

/-- The normalised rows, as the reference computes them. -/
def refNorm (X : FVec Ideal S2x16384x2048 .f32) (G : FVec Ideal S2048 .f32) : FVec Ideal S2x16384x2048 .f32 :=
  mulf (mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))

/-- The gated activations, as the reference computes them from the normalised rows. -/
def refAct (H : FVec Ideal S2x16384x2048 .f32) (WG WU : FVec Ideal S2048x5632 .f32) : FVec Ideal S2x16384x5632 .f32 :=
  mulf (mulf (Host.dotGeneral dot_S2x16384x2048_S2048x5632_S2x16384x5632_2_0_01_1_n_n none H WG) (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf (Host.dotGeneral dot_S2x16384x2048_S2048x5632_S2x16384x5632_2_0_01_1_n_n none H WG)))))) (Host.dotGeneral dot_S2x16384x2048_S2048x5632_S2x16384x5632_2_0_01_1_n_n none H WU)

/-- The reference's result. -/
def refOut (X : FVec Ideal S2x16384x2048 .f32) (G : FVec Ideal S2048 .f32) (WG WU : FVec Ideal S2048x5632 .f32)
    (WD : FVec Ideal S5632x2048 .f32) : FVec Ideal S32768x2048 .f32 :=
  shapeCast _ (addf X (Host.dotGeneral dot_S2x16384x5632_S5632x2048_S2x16384x2048_2_0_01_1_n_n none (refAct (refNorm X G) WG WU) WD)) shapeCasts_S2x16384x2048_S32768x2048

/-- The normalised rows at an index. -/
theorem refNorm_apply (X : FVec Ideal S2x16384x2048 .f32) (G : FVec Ideal S2048 .f32) (b : Fin 2) (t : Fin 16384) (k : Fin 2048) :
    refNorm X G (ix3 b t k) = rms (fun j => X (ix3 b t j)) (fun j => G (ix1 j)) k := by
  pointwise [refNorm, rms]

/-- The activations at an index. -/
theorem refAct_apply (H : FVec Ideal S2x16384x2048 .f32) (WG WU : FVec Ideal S2048x5632 .f32) (b : Fin 2) (t : Fin 16384) (k : Fin 5632) :
    refAct H WG WU (ix3 b t k) = act (fun j => H (ix3 b t j)) (fun j k => WG (ix2 j k)) (fun j k => WU (ix2 j k)) k := by
  pointwise [refAct, act, silu]

/-- The result at an index: the token's entry plus the sum over the hidden units. -/
theorem refOut_apply (X : FVec Ideal S2x16384x2048 .f32) (G : FVec Ideal S2048 .f32) (WG WU : FVec Ideal S2048x5632 .f32)
    (WD : FVec Ideal S5632x2048 .f32) (r : Fin 32768) (q : Fin 2048) :
    refOut X G WG WU WD (ix2 r q) = row X r q + ∑ k, act (rms (row X r) (fun j => G (ix1 j))) (fun j k => WG (ix2 j k))
      (fun j k => WU (ix2 j k)) k * WD (ix2 k q) := by
  have e : refOut X G WG WU WD (ix2 r q) = row X r q + ∑ k, refAct (refNorm X G) WG WU (ix3 ⟨r.val / 16384, by omega⟩ ⟨r.val % 16384, by omega⟩ k) * WD (ix2 k q) := by
    pointwise [refOut, row]
  rw [e]
  simp only [refAct_apply, refNorm_apply]
  rfl

end Cert.Proof.Dense

end
-- ==== Proof.Moe.Route.lean ====
/-
  The routing of one token: the two experts with the greatest logits, and their weights. The kernel finds them by a
  maximum over 128 lanes and the least lane that holds it, twice; the reference by a stable sort.
-/
module

public import proofs.«01_k».proof.Proof.Ffn.Spec
public import Idealize.ShloMosaic.Lib.WordCmp
public import Idealize.ShloMosaic.Lib.SortPrefix
public import Idealize.ShloMosaic.Lib.SortNet.Extract

@[expose] public section

noncomputable section

namespace Cert.Proof.Moe

open Idealize.ShloMosaic

/-- `i` is the first place of the greatest entry, and `j` the first place of the greatest entry but it. -/
structure Top {n : ℕ} (l : Fin n → EReal) (i j : Fin n) : Prop where
  ne : i ≠ j
  first : ∀ p, l p ≤ l i ∧ (l p = l i → i ≤ p)
  second : ∀ p, p ≠ i → l p ≤ l j ∧ (l p = l j → j ≤ p)

/-- A nonempty set of places has a first place of its greatest entry. -/
theorem exists_first {n : ℕ} (l : Fin n → EReal) (s : Finset (Fin n)) (hs : s.Nonempty) :
    ∃ i ∈ s, ∀ p ∈ s, l p ≤ l i ∧ (l p = l i → i ≤ p) := by
  obtain ⟨a, ha, hm⟩ := s.exists_max_image l hs
  have hn : (s.filter fun p => l p = l a).Nonempty := ⟨a, Finset.mem_filter.mpr ⟨ha, rfl⟩⟩
  obtain ⟨i, hi, hmin⟩ := (s.filter fun p => l p = l a).exists_min_image id hn
  obtain ⟨his, hia⟩ := Finset.mem_filter.mp hi
  exact ⟨i, his, fun p hp => ⟨hia ▸ hm p hp, fun e => hmin p (Finset.mem_filter.mpr ⟨hp, e.trans hia⟩)⟩⟩

/-- Eight logits have two greatest. -/
theorem exists_top (l : Fin 8 → EReal) : ∃ i j, Top l i j := by
  obtain ⟨i, -, hi⟩ := exists_first l Finset.univ ⟨0, Finset.mem_univ _⟩
  have hn : (Finset.univ.erase i).Nonempty := by
    rw [← Finset.card_pos, Finset.card_erase_of_mem (Finset.mem_univ i)]
    simp
  obtain ⟨j, hj, h⟩ := exists_first l (Finset.univ.erase i) hn
  exact ⟨i, j, (Finset.ne_of_mem_erase hj).symm, fun p => hi p (Finset.mem_univ p),
    fun p hp => h p (Finset.mem_erase.mpr ⟨hp, Finset.mem_univ p⟩)⟩

/-- The weights of the two: the logistic weights of their logits; the other experts have weight zero. -/
def gate (l : Fin 8 → EReal) (i j e : Fin 8) : EReal :=
  (if e = i then Ideal.div 1 (1 + Ideal.exp (l j - l i)) else 0)
    + (if e = j then Ideal.div (Ideal.exp (l j - l i)) (1 + Ideal.exp (l j - l i)) else 0)

/-- The word of minus infinity. -/
theorem word_bot : Ideal.ofBits .f32 0xFF800000#32 = ⊥ := by simp [Ideal.ofBits, Ideal.ieee]

/-- The greatest of 128 lanes. -/
def lmax (f : Fin 128 → EReal) : EReal := Finset.univ.fold max (Ideal.ofBits .f32 0xFF800000#32) f

/-- The least lane that holds the greatest. -/
def larg (f : Fin 128 → EReal) : BitVec 32 :=
  Finset.univ.fold IntOp.minsi 2147483647#32 fun x => if f x = lmax f then BitVec.ofNat 32 x.val else 128#32

/-- The lanes with that lane at minus infinity. -/
def lrest (f : Fin 128 → EReal) (x : Fin 128) : EReal :=
  Scalar.select (IntOp.cmpi .eq (BitVec.ofNat 32 x.val) (larg f)) (Ideal.ofBits .f32 0xFF800000#32) (f x)

/-- The lanes with those past the eight experts at minus infinity. -/
def lcut (f : Fin 128 → EReal) (x : Fin 128) : EReal :=
  Scalar.select (IntOp.cmpi .slt (BitVec.ofNat 32 x.val) 8#32) (f x) (Ideal.ofBits .f32 0xFF800000#32)

/-- The lanes of weights, as the kernel computes them. -/
def lgate (f : Fin 128 → EReal) (x : Fin 128) : EReal :=
  Scalar.select (IntOp.cmpi .eq (BitVec.ofNat 32 x.val) (larg f)) (Ideal.div 1 (1 + Ideal.exp (lmax (lrest f) - lmax f))) 0
    + Scalar.select (IntOp.cmpi .eq (BitVec.ofNat 32 x.val) (larg (lrest f)))
        (Ideal.div (Ideal.exp (lmax (lrest f) - lmax f)) (1 + Ideal.exp (lmax (lrest f) - lmax f))) 0

/-- The maximum is an entry no other is above. -/
theorem lmax_eq (f : Fin 128 → EReal) (i : Fin 128) (h : ∀ p, f p ≤ f i) : lmax f = f i := by
  unfold lmax
  refine le_antisymm (Finset.fold_max_le _ |>.mpr ⟨word_bot ▸ bot_le, fun p _ => h p⟩) ?_
  exact (Finset.le_fold_max _).mpr (Or.inr ⟨i, Finset.mem_univ i, le_refl _⟩)

/-- The least lane that holds the maximum is its first place. -/
theorem larg_eq (f : Fin 128 → EReal) (i : Fin 128) (h : ∀ p, f p ≤ f i ∧ (f p = f i → i ≤ p)) :
    larg f = BitVec.ofNat 32 i.val := by
  have hw : ∀ x : Fin 128, (BitVec.ofNat 32 x.val).toInt = (x.val : ℤ) := fun x => WordCmp.toInt_ofNat_of_lt (by have := x.isLt; omega)
  have e := Finset.fold_hom (op := IntOp.minsi (w := 32)) (op' := min) (m := BitVec.toInt) (s := Finset.univ) (b := 2147483647#32)
    (f := fun x : Fin 128 => if f x = lmax f then BitVec.ofNat 32 x.val else 128#32) (fun x y => SortNet.toInt_minsi x y)
  refine BitVec.eq_of_toInt_eq ?_
  rw [larg, ← e, hw, lmax_eq f i fun p => (h p).1]
  refine le_antisymm ((Finset.fold_min_le _).mpr (Or.inr ⟨i, Finset.mem_univ i, ?_⟩)) ((Finset.le_fold_min _).mpr ⟨?_, fun p _ => ?_⟩)
  · rw [if_pos rfl, hw]
  · have := i.isLt
    rw [show (2147483647#32).toInt = 2147483647 from by decide]; omega
  · by_cases hp : f p = f i
    · rw [if_pos hp, hw]; exact_mod_cast (h p).2 hp
    · have := i.isLt
      rw [if_neg hp, show (128#32).toInt = 128 from by decide]; omega

/-- Equality of two lanes' words. -/
theorem select_lane (x y : Fin 128) (a b : EReal) :
    Scalar.select (IntOp.cmpi .eq (BitVec.ofNat 32 x.val) (BitVec.ofNat 32 y.val)) a b = if x = y then a else b := by
  rw [WordCmp.cmpi_eq_ofNat (by have := x.isLt; omega) (by have := y.isLt; omega)]
  simp only [Scalar.select, WordCmp.ofBool_eq_one_iff', decide_eq_true_eq, Fin.ext_iff]

/-- The lanes of the eight experts. -/
theorem lcut_eq (f : Fin 128 → EReal) (x : Fin 128) : lcut f x = if x.val < 8 then f x else ⊥ := by
  unfold lcut
  rw [word_bot, show (8#32 : BitVec 32) = BitVec.ofNat 32 8 from rfl, WordCmp.cmpi_slt_ofNat (by have := x.isLt; omega) (by omega)]
  simp only [Scalar.select, WordCmp.ofBool_eq_one_iff', decide_eq_true_eq]

/-- The kernel's weights are the weights of the two greatest logits. -/
theorem lgate_eq (f : Fin 128 → EReal) (l : Fin 8 → EReal) (hl : ∀ p : Fin 8, f (p.castLE (by omega)) = l p) (hb : ∀ p, l p ≠ ⊥)
    (i j : Fin 8) (h : Top l i j) (e : Fin 8) : lgate (lcut f) (e.castLE (by omega)) = gate l i j e := by
  have hc : ∀ p : Fin 8, lcut f (p.castLE (by omega)) = l p := fun p => by
    rw [lcut_eq, if_pos (show (p.castLE (by omega : 8 ≤ 128)).val < 8 from p.isLt), hl]
  have hc' : ∀ x : Fin 128, ¬x.val < 8 → lcut f x = ⊥ := fun x hx => by rw [lcut_eq, if_neg hx]
  have h1 : ∀ x, lcut f x ≤ lcut f (i.castLE (by omega)) ∧ (lcut f x = lcut f (i.castLE (by omega)) → i.castLE (by omega) ≤ x) := by
    intro x
    by_cases hx : x.val < 8
    · have e1 : x = (⟨x.val, hx⟩ : Fin 8).castLE (by omega) := rfl
      rw [e1, hc, hc]
      exact h.first ⟨x.val, hx⟩
    · rw [hc' x hx, hc]
      exact ⟨bot_le, fun _ => by rw [Fin.le_def]; have := i.isLt; simp only [Fin.val_castLE]; omega⟩
  have a1 := larg_eq _ _ h1
  have m1 := lmax_eq _ _ fun x => (h1 x).1
  have hr : ∀ x, lrest (lcut f) x = if x = i.castLE (by omega) then ⊥ else lcut f x := fun x => by
    rw [lrest, a1, select_lane, word_bot]
  have hj : lrest (lcut f) (j.castLE (by omega)) = l j := by
    rw [hr, if_neg (fun e => h.ne (Fin.castLE_injective _ e).symm), hc]
  have h2 : ∀ x, lrest (lcut f) x ≤ lrest (lcut f) (j.castLE (by omega))
      ∧ (lrest (lcut f) x = lrest (lcut f) (j.castLE (by omega)) → j.castLE (by omega) ≤ x) := by
    intro x
    rw [hj, hr]
    by_cases hxi : x = i.castLE (by omega)
    · rw [if_pos hxi]
      exact ⟨bot_le, fun e => absurd e.symm (hb j)⟩
    · rw [if_neg hxi]
      by_cases hx : x.val < 8
      · have e1 : x = (⟨x.val, hx⟩ : Fin 8).castLE (by omega) := rfl
        rw [e1, hc]
        exact h.second ⟨x.val, hx⟩ fun e => hxi (e1.trans (congrArg (Fin.castLE (by omega)) e))
      · rw [hc' x hx]
        exact ⟨bot_le, fun e => absurd e.symm (hb j)⟩
  have a2 := larg_eq _ _ h2
  have m2 := lmax_eq _ _ fun x => (h2 x).1
  unfold lgate gate
  rw [a1, a2, m1, m2, hj, hc, select_lane, select_lane]
  simp only [(Fin.castLE_injective (by omega : 8 ≤ 128)).eq_iff]

/-- A stable sort of places in order may break ties by the place. -/
theorem stableSort_tie {n : ℕ} (B R : Fin n → Fin n → Bool) (h : ∀ a b, a < b → B b a = R b a) (l : List (Fin n)) (hl : l.Pairwise (· < ·)) :
    stableSort B l = stableSort R l := by
  induction l with
  | nil => rfl
  | cons a l ih =>
    obtain ⟨ha, hl⟩ := List.pairwise_cons.mp hl
    unfold stableSort
    rw [ih hl]
    exact insertBefore_congr B R a _ fun b hb => h a b (ha b ((perm_stableSort R l).mem_iff.mp hb))

/-- The reference's order of two places. -/
def above (l : Fin 8 → EReal) (k k' : Fin 8) : Bool := Ideal.cmp .ogt (l k) (l k') == 1#1

/-- The first two places of the reference's sort are the two greatest. -/
theorem sorted_eq (l : Fin 8 → EReal) (i j : Fin 8) (h : Top l i j) : sortedFrom (above l) 0 = i ∧ sortedFrom (above l) 1 = j := by
  have hab : ∀ k k', above l k k' = decide (l k' < l k) := fun k k' => by
    unfold above
    by_cases hk : l k' < l k <;> simp [Ideal.cmp, hk]
  let R : Fin 8 → Fin 8 → Bool := fun k k' => (fun a b : EReal => decide (b < a)) (l k) (l k') || (decide (l k = l k') && decide (k < k'))
  have hR : StrictTotalBefore R := StrictTotalBefore.of_key_then_position (fun a b : EReal => decide (b < a)) l (by simp)
    (fun a b c => by simp only [decide_eq_true_eq]; exact fun x y => y.trans x)
    (fun a b => by
      simp only [decide_eq_true_eq]
      rcases lt_trichotomy b a with x | x | x
      · exact Or.inl x
      · exact Or.inr (Or.inl x.symm)
      · exact Or.inr (Or.inr x))
  have es : sortedFrom (above l) = sortedFrom R := by
    have e : sortPositions 8 (above l) = sortPositions 8 R := by
      refine stableSort_tie _ _ (fun a b hlt => ?_) _ (List.pairwise_lt_finRange 8)
      rw [hab]
      simp [R, not_lt.mpr hlt.le]
    funext k
    unfold sortedFrom
    rw [List.get_of_eq e]
    rfl
  have hf : ∀ a b, (l a ≤ l b ∧ (l a = l b → b ≤ a)) → R a b = false := by
    intro a b hh
    simp only [R, Bool.or_eq_false_iff, decide_eq_false_iff_not, Bool.and_eq_false_imp, decide_eq_true_eq, not_lt]
    exact ⟨hh.1, hh.2⟩
  have key := hR.sortedFrom_eq_of_prefix (k := 2) (by omega) ![i, j]
    (by
      intro a b e
      fin_cases a <;> fin_cases b <;> first | rfl | exact absurd e h.ne | exact absurd e.symm h.ne)
    (by
      intro a b hlt
      fin_cases a <;> fin_cases b <;> first | exact absurd hlt (by decide) | exact hf _ _ (h.first j))
    (by
      intro a p hp
      have hpi : p ≠ i := fun e => hp 0 e.symm
      fin_cases a
      · exact hf _ _ (h.first p)
      · exact hf _ _ (h.second p hpi))
  rw [es]
  exact ⟨key 0, key 1⟩

end Cert.Proof.Moe

end
-- ==== Proof.Moe.Finite.lean ====
/-
  With a finite scale and router the normalised rows and the logits are real numbers.
-/
module

public import proofs.«01_k».proof.Proof.Ffn.Spec
public import proofs.«01_k».proof.Proof.SbV.Final
public import proofs.«01_k».proof.Proof.Gen.Pre_finite_route

@[expose] public section

set_option maxRecDepth 16384

noncomputable section

namespace Cert.Proof.Moe

open Idealize.ShloMosaic Cert.Proof.Ffn

/-- `x` is a real number. -/
def Real1 (x : EReal) : Prop := ((x.toReal : ℝ) : EReal) = x

/-- A real number is one. -/
theorem real_coe (r : ℝ) : Real1 r := by simp [Real1]

/-- Products of real numbers are real. -/
theorem real_mul {x y : EReal} (hx : Real1 x) (hy : Real1 y) : Real1 (x * y) := by
  rw [← hx, ← hy, ← EReal.coe_mul]
  exact real_coe _

/-- Sums of real numbers are real. -/
theorem real_sum {n : ℕ} {f : Fin n → EReal} (h : ∀ i, Real1 (f i)) : ∑ i, f i = ((∑ i, (f i).toReal : ℝ) : EReal) := by
  rw [SbV.coe_sum]
  exact Finset.sum_congr rfl fun i _ => (h i).symm

/-- The number of entries of a row, as the programs write it. -/
theorem word_count : Ideal.ofBits .f32 0x45000000#32 = ((2048 : ℝ) : EReal) := by
  simp [Ideal.ofBits, Ideal.ieee]
  rw [← EReal.coe_mul]
  norm_num

/-- The small constant under the root is a positive real number. -/
theorem word_small : ∃ e : ℝ, 0 < e ∧ Ideal.ofBits .f32 0x358637BD#32 = (e : EReal) := by
  simp [Ideal.ofBits, Ideal.ieee]
  exact ⟨8796093 * (2 ^ 43)⁻¹, by norm_num, (EReal.coe_mul _ _).symm⟩

/-- A real row with a real scale has a real normalised row. -/
theorem rms_real_of_real {x g : Fin 2048 → EReal} (hx : ∀ k, Real1 (x k)) (hg : ∀ k, Real1 (g k)) (k : Fin 2048) : Real1 (rms x g k) := by
  obtain ⟨e, he, hw⟩ := word_small
  have hs : ∑ j, x j * x j = ((∑ j, (x j).toReal * (x j).toReal : ℝ) : EReal) := by
    rw [SbV.coe_sum]
    exact Finset.sum_congr rfl fun i _ => by rw [EReal.coe_mul, hx i]
  have hp : 0 ≤ ∑ j, (x j).toReal * (x j).toReal := Finset.sum_nonneg fun i _ => mul_self_nonneg _
  unfold rms
  rw [hs, word_count, hw]
  generalize ∑ j, (x j).toReal * (x j).toReal = s at hp
  have hd : Ideal.div (s : EReal) ((2048 : ℝ) : EReal) = ((s / 2048 : ℝ) : EReal) := by
    unfold Ideal.div
    rw [if_neg (by exact_mod_cast (by norm_num : (2048 : ℝ) ≠ 0)), div_eq_mul_inv, EReal.coe_mul, EReal.coe_inv]
  have hq : 0 < s / 2048 + e := by positivity
  have hr : Ideal.rsqrt ((s / 2048 + e : ℝ) : EReal) = (((Real.sqrt (s / 2048 + e))⁻¹ : ℝ) : EReal) := by
    show (if s / 2048 + e < 0 then ⊥ else if s / 2048 + e = 0 then ⊤ else (((Real.sqrt (s / 2048 + e))⁻¹ : ℝ) : EReal)) = _
    rw [if_neg hq.not_gt, if_neg hq.ne']
  rw [hd, ← EReal.coe_add, hr]
  exact real_mul (real_mul (hx k) (real_coe _)) (hg k)

/-- Any row with a real scale has a real normalised row: with an infinite entry its root mean square is infinite, and the row zero. -/
theorem rms_real {x g : Fin 2048 → EReal} (hg : ∀ k, Real1 (g k)) (k : Fin 2048) : Real1 (rms x g k) := by
  by_cases hx : ∀ k, Real1 (x k)
  · exact rms_real_of_real hx hg k
  obtain ⟨i, hi⟩ := not_forall.mp hx
  have hsq : ∀ j, 0 ≤ x j * x j := fun j => by
    rcases le_total 0 (x j) with h | h
    · exact mul_nonneg h h
    · rw [← neg_mul_neg]; exact mul_nonneg (EReal.neg_nonneg.mpr h) (EReal.neg_nonneg.mpr h)
  have hii : x i * x i = ⊤ := by
    unfold Real1 at hi
    induction h : x i with
    | bot => exact EReal.bot_mul_bot
    | top => exact EReal.top_mul_top
    | coe r => rw [h] at hi; simp at hi
  have hs : ∑ j, x j * x j = ⊤ := top_le_iff.mp (hii ▸ Finset.single_le_sum (f := fun j => x j * x j) (fun j _ => hsq j) (Finset.mem_univ i))
  obtain ⟨e, he, hw⟩ := word_small
  have hd : Ideal.div ⊤ ((2048 : ℝ) : EReal) = ⊤ := by
    unfold Ideal.div
    rw [if_neg (by exact_mod_cast (by norm_num : (2048 : ℝ) ≠ 0)), ← EReal.coe_inv]
    exact EReal.top_mul_coe_of_pos (by norm_num)
  have hz : rms x g k = 0 := by
    unfold rms
    rw [hs, word_count, hw, hd, EReal.top_add_coe, show Ideal.rsqrt ⊤ = 0 from rfl, mul_zero, zero_mul]
  rw [hz]
  exact real_coe 0

/-- A sum of products of real numbers is real. -/
theorem dot_real {n : ℕ} {f g : Fin n → EReal} (hf : ∀ i, Real1 (f i)) (hg : ∀ i, Real1 (g i)) : Real1 (∑ i, f i * g i) := by
  rw [real_sum fun i => real_mul (hf i) (hg i)]
  exact real_coe _

/-- A real number less itself is zero. -/
theorem real_sub {x : EReal} (h : Real1 x) : x - x = 0 := by
  rw [← h, ← EReal.coe_sub, sub_self, EReal.coe_zero]

/-- A real number is above the least element. -/
theorem real_ne_bot {x : EReal} (h : Real1 x) : x ≠ ⊥ := by
  rw [← h]
  exact EReal.coe_ne_bot _

/-- Under the precondition the scale and the router are real numbers. -/
theorem finite (x : FVec Ideal ⟨3, ![2, 16384, 2048]⟩ .f32) (g : FVec Ideal ⟨1, ![2048]⟩ .f32) (r : FVec Ideal ⟨2, ![2048, 8]⟩ .f32)
    (wg wu : FVec Ideal ⟨3, ![8, 2048, 704]⟩ .f32) (wd : FVec Ideal ⟨3, ![8, 704, 2048]⟩ .f32) (z : FVec Ideal ⟨1, ![2048]⟩ .f32)
    (h : Cert.Pre_finite_route.fn (F := Ideal) x g r wg wu wd z = fun _ => 1#1) : (∀ i, Real1 (g i)) ∧ (∀ i, Real1 (r i)) := by
  dsimp only [Cert.Pre_finite_route.fn] at h
  obtain ⟨h1, h2⟩ := IntOp.andi_eq_one.mp (congrFun h fun a => a.elim0)
  haveI : Subsingleton Cert.Pre_finite_route.S_.Idx := ⟨fun a b => funext fun x => x.elim0⟩
  exact ⟨fun i => SbV.fin_of_lt _ (Host.reduce_andi_all _ _ _ _ _ h1 i), fun i => SbV.fin_of_lt _ (Host.reduce_andi_all _ _ _ _ _ h2 i)⟩

end Cert.Proof.Moe

end
-- ==== Proof.Moe.Value.lean ====
/-
  What the routed feed-forward kernel leaves in its result: every token's entry plus the eight experts' weighted
  contributions, accumulated over the eight grid points of a block of rows, and the last norm of that.
-/
module

public import proofs.«01_k».proof.Proof.Moe.Route
public import proofs.«01_k».proof.Proof.Moe.Finite
public import proofs.«01_k».proof.Proof.Gen.MoeIdeal.Value

@[expose] public section

set_option maxRecDepth 16384

noncomputable section

namespace Cert.Proof.Moe

open Cert.MoeIdeal Cert.MoeIdeal.Gen
open Idealize.ShloMosaic Idealize.ShloMosaic.TcCoe Idealize.SL.Sem Cert.Proof.Ffn
open Idealize.ShloMosaic.Pipeline (Dat)

variable (m : (ℓ : Loc nD τ sig) → Buf (Elt Ideal) ℓ)

/-- Where each window's block lies at each grid point. -/
theorem idx : ∀ t : Fin cfg0.N, win0_0.index t = ![t.val / 8, 0] ∧ win0_1.index t = ![0, 0] ∧ win0_2.index t = ![0, 0]
    ∧ win0_3.index t = ![t.val % 8, 0, 0] ∧ win0_4.index t = ![t.val % 8, 0, 0] ∧ win0_5.index t = ![t.val % 8, 0, 0] ∧ win0_6.index t = ![0, 0]
    ∧ win0_7.index t = ![t.val / 8, 0] :=
  (by decide +kernel : ∀ t : Fin grid0.N, _)

/-- The grid's second coordinate is the expert. -/
theorem coord : ∀ t : Fin cfg0.N, (grid0.coords t 1).val = t.val % 8 :=
  (by decide +kernel : ∀ t : Fin grid0.N, _)

/-- The tokens, the scale, the router, the experts' three weights and the last scale as launched. -/
abbrev aX (c : Dev nD) : FVec Ideal S2x16384x2048 .f32 := m ((c : Thread nD τ).loc main_arg0)
abbrev aG (c : Dev nD) : FVec Ideal S2048 .f32 := m ((c : Thread nD τ).loc main_arg1)
abbrev aR (c : Dev nD) : FVec Ideal S2048x8 .f32 := m ((c : Thread nD τ).loc main_arg2)
abbrev aWG (c : Dev nD) : FVec Ideal S8x2048x704 .f32 := m ((c : Thread nD τ).loc main_arg3)
abbrev aWU (c : Dev nD) : FVec Ideal S8x2048x704 .f32 := m ((c : Thread nD τ).loc main_arg4)
abbrev aWD (c : Dev nD) : FVec Ideal S8x704x2048 .f32 := m ((c : Thread nD τ).loc main_arg5)
abbrev aZ (c : Dev nD) : FVec Ideal S2048 .f32 := m ((c : Thread nD τ).loc main_arg6)

/-- The router and the weights with zeros up to whole tiles. -/
def padR (R : FVec Ideal S2048x8 .f32) : FVec Ideal S2048x128 .f32 :=
  pad S2048x128 ![0, 0] ![0, 120] ![0, 0] R (sitofp .f32 (constantI S_ 32 0#32)) pads_S2048x8_S2048x128_000_01200 h_S_
def padUp (W : FVec Ideal S8x2048x704 .f32) : FVec Ideal S8x2048x768 .f32 :=
  pad S8x2048x768 ![0, 0, 0] ![0, 0, 64] ![0, 0, 0] W (sitofp .f32 (constantI S_ 32 0#32)) pads_S8x2048x704_S8x2048x768_000_000_0640 h_S_
def padDown (W : FVec Ideal S8x704x2048 .f32) : FVec Ideal S8x768x2048 .f32 :=
  pad S8x768x2048 ![0, 0, 0] ![0, 64, 0] ![0, 0, 0] W (sitofp .f32 (constantI S_ 32 0#32)) pads_S8x704x2048_S8x768x2048_000_0640_000 h_S_

/-- The word zero as a number. -/
theorem word_zero : (FloatOps.sitofp FTy.f32 0#32 : Ideal .f32) = (0 : EReal) := by simp [FloatOps.sitofp]

/-- The padded router inside. -/
theorem padR_apply (R : FVec Ideal S2048x8 .f32) (j : Fin 2048) (e : Fin 8) : padR R (ix2 j (e.castLE (by omega))) = R (ix2 j e) := by
  pointwise [padR]
  simp

/-- The padded first weights, inside and outside. -/
theorem padUp_apply (W : FVec Ideal S8x2048x704 .f32) (e : Fin 8) (j : Fin 2048) (k : Fin 768) :
    padUp W (ix3 e j k) = if h : k.val < 704 then W (ix3 e j ⟨k.val, h⟩) else 0 := by
  pointwise [padUp]
  rw [word_zero]

/-- The padded last weight, inside and outside. -/
theorem padDown_apply (W : FVec Ideal S8x704x2048 .f32) (e : Fin 8) (k : Fin 768) (q : Fin 2048) :
    padDown W (ix3 e k q) = if h : k.val < 704 then W (ix3 e ⟨k.val, h⟩ q) else 0 := by
  pointwise [padDown]
  rw [word_zero]

/-- What the region finds in its windows' arrays. -/
theorem V_v0 (c : Dev nD) : V m c main_v0 = shapeCast S32768x2048 (aX m c) shapeCasts_S2x16384x2048_S32768x2048 := by
  simp only [V, hostOps0, List.flatten_cons, List.flatten_nil, List.append_nil, List.cons_append, List.nil_append]
  entry_read
  try rfl

theorem V_v8 (c : Dev nD) : V m c main_v8 = shapeCast S1x2048 (aG m c) shapeCasts_S2048_S1x2048 := by
  simp only [V, hostOps0, List.flatten_cons, List.flatten_nil, List.append_nil, List.cons_append, List.nil_append]
  entry_read
  try rfl

theorem V_v1 (c : Dev nD) : V m c main_v1 = padR (aR m c) := by
  simp only [V, hostOps0, List.flatten_cons, List.flatten_nil, List.append_nil, List.cons_append, List.nil_append]
  entry_read
  try rfl

theorem V_v3 (c : Dev nD) : V m c main_v3 = padUp (aWG m c) := by
  simp only [V, hostOps0, List.flatten_cons, List.flatten_nil, List.append_nil, List.cons_append, List.nil_append]
  entry_read
  try rfl

theorem V_v5 (c : Dev nD) : V m c main_v5 = padUp (aWU m c) := by
  simp only [V, hostOps0, List.flatten_cons, List.flatten_nil, List.append_nil, List.cons_append, List.nil_append]
  entry_read
  try rfl

theorem V_v7 (c : Dev nD) : V m c main_v7 = padDown (aWD m c) := by
  simp only [V, hostOps0, List.flatten_cons, List.flatten_nil, List.append_nil, List.cons_append, List.nil_append]
  entry_read
  try rfl

theorem V_v9 (c : Dev nD) : V m c main_v9 = shapeCast S1x2048 (aZ m c) shapeCasts_S2048_S1x2048 := by
  simp only [V, hostOps0, List.flatten_cons, List.flatten_nil, List.append_nil, List.cons_append, List.nil_append]
  entry_read
  try rfl

/-- A block of tokens at an index. -/
theorem blk_x (c : Dev nD) (t : Fin cfg0.N) (a : Fin 512) (k : Fin 2048) (r : Fin 32768) (hr : r.val = 512 * (t.val / 8) + a.val) :
    iblk m c 0 t (ix2 a k) = row (aX m c) r k := by
  have h : iblk m c 0 t (ix2 a k) = V m c main_v0 (ix2 r k) := by blk_ext! [iblk, idx t]
  rw [h, V_v0]
  pointwise [row]

/-- The scale's block at an index. -/
theorem blk_g (c : Dev nD) (t : Fin cfg0.N) (k : Fin 2048) : iblk m c 1 t (ix2 0 k) = aG m c (ix1 k) := by
  have h : iblk m c 1 t (ix2 0 k) = V m c main_v8 (ix2 0 k) := by blk_ext! [iblk, idx t]
  rw [h, V_v8]
  pointwise

/-- The router's block at one of the experts' lanes. -/
theorem blk_r (c : Dev nD) (t : Fin cfg0.N) (j : Fin 2048) (e : Fin 8) : iblk m c 2 t (ix2 j (e.castLE (by omega) : Fin 128)) = aR m c (ix2 j e) := by
  have h : iblk m c 2 t (ix2 j (e.castLE (by omega) : Fin 128)) = V m c main_v1 (ix2 j (e.castLE (by omega) : Fin 128)) := by blk_ext! [iblk, idx t]
  rw [h, V_v1, padR_apply]

/-- The first weight's block at an index. -/
theorem blk_wg (c : Dev nD) (t : Fin cfg0.N) (j : Fin 2048) (k : Fin 768) (e : Fin 8) (he : e.val = t.val % 8) :
    iblk m c 3 t (ix3 0 j k) = if h : k.val < 704 then aWG m c (ix3 e j ⟨k.val, h⟩) else 0 := by
  have h : iblk m c 3 t (ix3 0 j k) = V m c main_v3 (ix3 e j k) := by blk_ext! [iblk, idx t]
  rw [h, V_v3, padUp_apply]

/-- The second weight's block at an index. -/
theorem blk_wu (c : Dev nD) (t : Fin cfg0.N) (j : Fin 2048) (k : Fin 768) (e : Fin 8) (he : e.val = t.val % 8) :
    iblk m c 4 t (ix3 0 j k) = if h : k.val < 704 then aWU m c (ix3 e j ⟨k.val, h⟩) else 0 := by
  have h : iblk m c 4 t (ix3 0 j k) = V m c main_v5 (ix3 e j k) := by blk_ext! [iblk, idx t]
  rw [h, V_v5, padUp_apply]

/-- The third weight's block at an index. -/
theorem blk_wd (c : Dev nD) (t : Fin cfg0.N) (k : Fin 768) (q : Fin 2048) (e : Fin 8) (he : e.val = t.val % 8) :
    iblk m c 5 t (ix3 0 k q) = if h : k.val < 704 then aWD m c (ix3 e ⟨k.val, h⟩ q) else 0 := by
  have h : iblk m c 5 t (ix3 0 k q) = V m c main_v7 (ix3 e k q) := by blk_ext! [iblk, idx t]
  rw [h, V_v7, padDown_apply]

/-- The last scale's block at an index. -/
theorem blk_z (c : Dev nD) (t : Fin cfg0.N) (k : Fin 2048) : iblk m c 6 t (ix2 0 k) = aZ m c (ix1 k) := by
  have h : iblk m c 6 t (ix2 0 k) = V m c main_v9 (ix2 0 k) := by blk_ext! [iblk, idx t]
  rw [h, V_v9]
  pointwise

/-! ## The body's values at an index -/

/-- The normalised rows a run of points begins with. -/
theorem pay_norm (x : Vec Ideal S512x2048 .f32) (g : Vec Ideal S1x2048 .f32) (a : Fin 512) (k : Fin 2048) :
    k0_pay5 x g (ix2 a k) = rms (fun k => x (ix2 a k)) (fun k => g (ix2 0 k)) k := by
  pointwise [k0_pay5, k0_pay4, k0_pay3, rms]

/-- The sum a run of points begins with. -/
theorem pay_start (x : Vec Ideal S512x2048 .f32) (a : Fin 512) (k : Fin 2048) : k0_pay6 x (ix2 a k) = x (ix2 a k) := by
  pointwise [k0_pay6, k0_pay3]

/-- The logits, with the rows and the router cut into a high part and the rest. -/
theorem pay_logit (x : Vec Ideal S512x2048 .f32) (g : Vec Ideal S1x2048 .f32) (r : Vec Ideal S2048x128 .f32) (a : Fin 512) (b : Fin 128)
    (h : Fin 2048 → EReal) (hh : rms (fun k => x (ix2 a k)) (fun k => g (ix2 0 k)) = h) : k0_pay7 x g r (ix2 a b)
      = ∑ j, h j * r (ix2 j b) + ∑ j, (h j - h j) * r (ix2 j b) + ∑ j, h j * (r (ix2 j b) - r (ix2 j b)) := by
  subst hh
  pointwise [k0_pay7, k0_pay4, k0_pay3, rms]

/-- With real rows and a real column of the router the parts add up. -/
theorem parts_add (h r : Fin 2048 → EReal) (hh : ∀ j, Real1 (h j)) (hr : ∀ j, Real1 (r j)) :
    ∑ j, h j * r j + ∑ j, (h j - h j) * r j + ∑ j, h j * (r j - r j) = ∑ j, h j * r j := by
  simp only [fun j => real_sub (hh j), fun j => real_sub (hr j), zero_mul, mul_zero, Finset.sum_const_zero, add_zero]

/-- The weights of the experts, from the logits. -/
theorem pay_gates (x : FVec Ideal S512x128 .f32) (a : Fin 512) (b : Fin 128) :
    k0_pay9 x (iota .tc S512x128 32 [1] iota_S512x128_d1_w32) k0_pay8 (ix2 a b) = lgate (lcut fun p => x (ix2 a p)) b := by
  pointwise [k0_pay9, k0_pay8]
  rfl

/-- The weight of the point's expert. -/
theorem pay_pick (i : grid0.Coords) (x : Vec Ideal S512x128 .f32) (a : Fin 512) (e : Fin 8) (he : (i 1).val = e.val) :
    k0_pay10 i x (ix2 a 0) = x (ix2 a (e.castLE (by omega) : Fin 128)) := by
  have h : k0_pay10 i x (ix2 a 0) = ∑ p : Fin 128, Scalar.select (IntOp.cmpi .eq (BitVec.ofNat 32 p.val) (BitVec.ofNat 32 (i 1).val)) (x (ix2 a p)) 0 := by
    pointwise [k0_pay10]
  rw [h, he]
  refine (Finset.sum_congr rfl fun p _ => select_lane p (e.castLE (by omega)) _ _).trans ?_
  exact (Finset.sum_ite_eq' Finset.univ _ _).trans (if_pos (Finset.mem_univ _))

/-- What the point's expert makes of the rows. -/
theorem pay_expert (h : Vec Ideal S512x2048 .bf16) (wg wu : Vec Ideal S1x2048x768 .bf16) (wd : Vec Ideal S1x768x2048 .bf16) (a : Fin 512) (q : Fin 2048) :
    k0_pay11 h wg wu wd (ix2 a q)
      = ∑ k : Fin 768, act (fun j => h (ix2 a j)) (fun j k => wg (ix3 0 j k)) (fun j k => wu (ix3 0 j k)) k * wd (ix3 0 k q) := by
  pointwise [k0_pay11, act, silu]
  simp only [zero_sub]

/-- What a point adds. -/
theorem pay_add (w : Vec Ideal S512x1 .f32) (acc p : Vec Ideal S512x2048 .f32) (a : Fin 512) (q : Fin 2048) :
    k0_pay1 w acc p (ix2 a q) = acc (ix2 a q) + w (ix2 a 0) * p (ix2 a q) := by
  pointwise [k0_pay1]

/-- The last norm. -/
theorem pay_last (acc : Vec Ideal S512x2048 .f32) (z : Vec Ideal S1x2048 .f32) (a : Fin 512) (q : Fin 2048) :
    k0_pay2 acc z (ix2 a q) = rms (fun k => acc (ix2 a k)) (fun k => z (ix2 0 k)) q := by
  pointwise [k0_pay2, rms]

/-! ## What the buffers hold -/

/-- What the three buffers carried between points hold at the first point of a run. -/
theorem outs_A (c : Dev nD) (t : Fin cfg0.N) (h0 : t.val % 8 = 0) (h1 : ¬t.val % 8 = 7) :
    (outsAt0 m c t.val t.isLt).2 = (k0_pay5 (iblk m c 0 t) (iblk m c 1 t),
      k0_pay1 (k0_pay10 (grid0.coords t) (k0_pay9 (k0_pay7 (iblk m c 0 t) (iblk m c 1 t) (iblk m c 2 t)) (iota .tc S512x128 32 [1] iota_S512x128_d1_w32) k0_pay8))
        (k0_pay6 (iblk m c 0 t)) (k0_pay11 (k0_pay5 (iblk m c 0 t) (iblk m c 1 t)) (iblk m c 3 t) (iblk m c 4 t) (iblk m c 5 t)),
      k0_pay9 (k0_pay7 (iblk m c 0 t) (iblk m c 1 t) (iblk m c 2 t)) (iota .tc S512x128 32 [1] iota_S512x128_d1_w32) k0_pay8) := by
  refine Prod.ext ?_ (Prod.ext ?_ ?_)
  · show (outsAt0 m c t.val t.isLt).2.1 = _
    rw [outsAt0_A m c t h0 h1]; frame_out
  · show (outsAt0 m c t.val t.isLt).2.2.1 = _
    rw [outsAt0_A m c t h0 h1]; frame_out
  · show (outsAt0 m c t.val t.isLt).2.2.2 = _
    rw [outsAt0_A m c t h0 h1]; frame_out

/-- What a later point makes of the sum. -/
abbrev next (c : Dev nD) (t : Fin cfg0.N) (h : FVec Ideal S512x2048 .bf16) (acc : FVec Ideal S512x2048 .f32) (w : FVec Ideal S512x128 .f32) : FVec Ideal S512x2048 .f32 :=
  k0_pay1 (k0_pay10 (grid0.coords t) w) acc (k0_pay11 h (iblk m c 3 t) (iblk m c 4 t) (iblk m c 5 t))

/-- And at a later point of it. -/
theorem outs_BC (c : Dev nD) (t : Fin cfg0.N) (h0 : ¬t.val % 8 = 0) (hp : t.val - 1 < cfg0.N) :
    (outsAt0 m c t.val t.isLt).2 = ((outsAt0 m c (t.val - 1) hp).2.1,
      next m c t (outsAt0 m c (t.val - 1) hp).2.1 (outsAt0 m c (t.val - 1) hp).2.2.1 (outsAt0 m c (t.val - 1) hp).2.2.2,
      (outsAt0 m c (t.val - 1) hp).2.2.2) := by
  have hk : ∀ (f : FVec Ideal S512x2048 .bf16 → FVec Ideal S512x2048 .f32 → FVec Ideal S512x128 .f32 → FVec Ideal S512x2048 .f32) {a a' b b' d d'},
      a = a' → b = b' → d = d' → f a b d = f a' b' d' := fun f _ _ _ _ _ _ e1 e2 e3 => by rw [e1, e2, e3]
  by_cases h1 : t.val % 8 = 7
  · refine Prod.ext ?_ (Prod.ext ?_ ?_)
    · show (outsAt0 m c t.val t.isLt).2.1 = _
      rw [outsAt0_C m c t h0 h1]; rfl
    · show (outsAt0 m c t.val t.isLt).2.2.1 = _
      rw [outsAt0_C m c t h0 h1]; frame_out
      exact hk (next m c t) ((Memref.isWhole_whole cc0_scratch0).read_unread _) ((Memref.isWhole_whole cc0_scratch1).read_unread _)
        ((Memref.isWhole_whole cc0_scratch2).read_unread _)
    · show (outsAt0 m c t.val t.isLt).2.2.2 = _
      rw [outsAt0_C m c t h0 h1]; rfl
  · refine Prod.ext ?_ (Prod.ext ?_ ?_)
    · show (outsAt0 m c t.val t.isLt).2.1 = _
      rw [outsAt0_B m c t h0 h1]; rfl
    · show (outsAt0 m c t.val t.isLt).2.2.1 = _
      rw [outsAt0_B m c t h0 h1]; frame_out
      exact hk (next m c t) ((Memref.isWhole_whole cc0_scratch0).read_unread _) ((Memref.isWhole_whole cc0_scratch1).read_unread _)
        ((Memref.isWhole_whole cc0_scratch2).read_unread _)
    · show (outsAt0 m c t.val t.isLt).2.2.2 = _
      rw [outsAt0_B m c t h0 h1]; rfl

/-- What is written back at the last point of a run. -/
theorem out_C (c : Dev nD) (t : Fin cfg0.N) (h0 : ¬t.val % 8 = 0) (h1 : t.val % 8 = 7) :
    (outsAt0 m c t.val t.isLt).1 = k0_pay2 (outsAt0 m c t.val t.isLt).2.2.1 (iblk m c 6 t) := by
  rw [outsAt0_C m c t h0 h1]; frame_out

/-- The normalised row `r`, and its logits. -/
abbrev nrow (c : Dev nD) (r : Fin 32768) : Fin 2048 → EReal := rms (row (aX m c) r) (fun j => aG m c (ix1 j))
abbrev lrow (c : Dev nD) (r : Fin 32768) (e : Fin 8) : EReal := ∑ j, nrow m c r j * aR m c (ix2 j e)

/-- The places of its two greatest logits. -/
def topI (c : Dev nD) (r : Fin 32768) : Fin 8 := (exists_top (lrow m c r)).choose
def topJ (c : Dev nD) (r : Fin 32768) : Fin 8 := (exists_top (lrow m c r)).choose_spec.choose
theorem top (c : Dev nD) (r : Fin 32768) : Top (lrow m c r) (topI m c r) (topJ m c r) := (exists_top (lrow m c r)).choose_spec.choose_spec

/-- The weight of expert `e` for row `r`. -/
def wt (c : Dev nD) (r : Fin 32768) (e : Fin 8) : EReal := gate (lrow m c r) (topI m c r) (topJ m c r) e

/-- What expert `e` makes of entry `q` of row `r`. -/
def part (c : Dev nD) (r : Fin 32768) (q : Fin 2048) (e : Fin 8) : EReal :=
  ∑ k, act (nrow m c r) (fun j k => aWG m c (ix3 e j k)) (fun j k => aWU m c (ix3 e j k)) k * aWD m c (ix3 e k q)

/-- What expert `e` adds to entry `q` of row `r`. -/
def term (c : Dev nD) (r : Fin 32768) (q : Fin 2048) (e : Fin 8) : EReal := wt m c r e * part m c r q e

/-- The first points' sum at an entry. -/
def upto (c : Dev nD) (r : Fin 32768) (q : Fin 2048) (s : ℕ) : EReal := row (aX m c) r q + ∑ e ∈ Finset.range s, Ffn.pad (term m c r q) e

/-- What the buffers hold of row `r` after point `n`: the normalised row, the row plus the terms so far, the weights. -/
structure Held (c : Dev nD) (n : ℕ) (b : Vec Ideal S512x2048 .bf16 × Vec Ideal S512x2048 .f32 × Vec Ideal S512x128 .f32) (a : Fin 512) (r : Fin 32768) : Prop where
  norm : ∀ j, b.1 (ix2 a j) = nrow m c r j
  acc : ∀ q, b.2.1 (ix2 a q) = upto m c r q (n % 8 + 1)
  weight : ∀ e : Fin 8, b.2.2 (ix2 a (e.castLE (by omega) : Fin 128)) = wt m c r e

/-- A sum over 768 hidden units, zero past 704. -/
theorem sum_cut (f : Fin 768 → EReal) (g : Fin 704 → EReal) (h : ∀ k : Fin 768, f k = if h : k.val < 704 then g ⟨k.val, h⟩ else 0) : ∑ k, f k = ∑ k, g k := by
  rw [show ∑ k, f k = ∑ k : Fin (704 + 64), f k from rfl, Fin.sum_univ_add, Finset.sum_eq_zero (s := Finset.univ) (f := fun k : Fin 64 => f (Fin.natAdd 704 k)), add_zero]
  · exact Finset.sum_congr rfl fun k _ => (h _).trans (dif_pos k.isLt)
  · exact fun k _ => (h _).trans (dif_neg (by simp))

/-- What a point's body adds to an entry of the running sum. -/
theorem step (c : Dev nD) (t : Fin cfg0.N) (a : Fin 512) (q : Fin 2048) (r : Fin 32768) (h : FVec Ideal S512x2048 .bf16) (acc : FVec Ideal S512x2048 .f32)
    (w : FVec Ideal S512x128 .f32) (hh : ∀ j, h (ix2 a j) = nrow m c r j) (hw : ∀ e : Fin 8, w (ix2 a (e.castLE (by omega) : Fin 128)) = wt m c r e) :
    next m c t h acc w (ix2 a q) = acc (ix2 a q) + Ffn.pad (term m c r q) (t.val % 8) := by
  have he : t.val % 8 < 8 := by omega
  rw [next, pay_add, pay_pick _ _ _ ⟨t.val % 8, he⟩ (coord t), hw, pay_expert, pad_of_lt _ he, term]
  congr 2
  refine sum_cut _ _ fun k => ?_
  rw [blk_wd m c t k q ⟨t.val % 8, he⟩ rfl]
  split
  · rename_i hk
    unfold act
    simp only [hh, fun j => blk_wg m c t j k ⟨t.val % 8, he⟩ rfl, fun j => blk_wu m c t j k ⟨t.val % 8, he⟩ rfl, dif_pos hk]
  · exact mul_zero _

/-- The first point of a run. -/
theorem held_A (c : Dev nD) (fg : ∀ i, Real1 (aG m c i)) (fr : ∀ i, Real1 (aR m c i))
    (t : Fin cfg0.N) (h0 : t.val % 8 = 0) (a : Fin 512) (r : Fin 32768) (hr : r.val = 512 * (t.val / 8) + a.val) :
    Held m c t.val (outsAt0 m c t.val t.isLt).2 a r := by
  have hs : rms (fun k => iblk m c 0 t (ix2 a k)) (fun k => iblk m c 1 t (ix2 0 k)) = nrow m c r :=
    congrArg₂ rms (funext fun k => blk_x m c t a k r hr) (funext fun k => blk_g m c t k)
  have hn : ∀ j, k0_pay5 (F := Ideal) (iblk m c 0 t) (iblk m c 1 t) (ix2 a j) = nrow m c r j := fun j => (pay_norm _ _ a j).trans (congrFun hs j)
  have fn : ∀ j, Real1 (nrow m c r j) := rms_real (fun k => fg _)
  have hl : ∀ e : Fin 8, k0_pay7 (F := Ideal) (iblk m c 0 t) (iblk m c 1 t) (iblk m c 2 t) (ix2 a (e.castLE (by omega) : Fin 128)) = lrow m c r e := by
    intro e
    rw [pay_logit _ _ _ _ _ _ hs]
    simp only [fun j => blk_r m c t j e]
    exact parts_add _ _ fn fun j => fr _
  have hw : ∀ e : Fin 8, k0_pay9 (F := Ideal) (k0_pay7 (iblk m c 0 t) (iblk m c 1 t) (iblk m c 2 t)) (iota .tc S512x128 32 [1] iota_S512x128_d1_w32) k0_pay8
      (ix2 a (e.castLE (by omega) : Fin 128)) = wt m c r e := by
    intro e
    rw [pay_gates]
    exact lgate_eq _ (lrow m c r) hl (fun p => real_ne_bot (dot_real fn fun j => fr _)) _ _ (top m c r) e
  rw [outs_A m c t h0 (by omega)]
  refine ⟨hn, fun q => ?_, hw⟩
  refine (step m c t a q r _ _ _ hn hw).trans ?_
  rw [pay_start, blk_x m c t a q r hr, h0]
  simp only [upto, Finset.sum_range_succ, Finset.sum_range_zero, zero_add]

/-- A later point of it. -/
theorem held_BC (c : Dev nD) (t : Fin cfg0.N) (h0 : ¬t.val % 8 = 0) (hp : t.val - 1 < cfg0.N) (a : Fin 512) (r : Fin 32768)
    (ih : Held m c (t.val - 1) (outsAt0 m c (t.val - 1) hp).2 a r) : Held m c t.val (outsAt0 m c t.val t.isLt).2 a r := by
  rw [outs_BC m c t h0 hp]
  refine ⟨ih.norm, fun q => ?_, ih.weight⟩
  refine (step m c t a q r _ _ _ ih.norm ih.weight).trans ?_
  rw [ih.acc q, show (t.val - 1) % 8 + 1 = t.val % 8 by omega]
  simp only [upto, Finset.sum_range_succ, add_assoc]

/-- What the carried buffers hold after point `n`. -/
theorem held (c : Dev nD) (fg : ∀ i, Real1 (aG m c i)) (fr : ∀ i, Real1 (aR m c i)) :
    ∀ (n : ℕ) (h : n < cfg0.N) (a : Fin 512) (r : Fin 32768), r.val = 512 * (n / 8) + a.val → Held m c n (outsAt0 m c n h).2 a r := by
  intro n
  induction n with
  | zero => exact fun h a r hr => held_A m c fg fr ⟨0, h⟩ rfl a r hr
  | succ n ih =>
    intro h a r hr
    by_cases h0 : (n + 1) % 8 = 0
    · exact held_A m c fg fr ⟨n + 1, h⟩ h0 a r hr
    · exact held_BC m c ⟨n + 1, h⟩ h0 (Nat.lt_of_succ_lt h) a r (ih (Nat.lt_of_succ_lt h) a r (by rw [hr, show (n + 1) / 8 = n / 8 by omega]))

/-- Row `r` before the last norm. -/
def mixed (c : Dev nD) (r : Fin 32768) (q : Fin 2048) : EReal := row (aX m c) r q + ∑ e, term m c r q e

/-- The last point of a run at an index. -/
theorem last (c : Dev nD) (fg : ∀ i, Real1 (aG m c i)) (fr : ∀ i, Real1 (aR m c i))
    (t : Fin cfg0.N) (hm : t.val % 8 = 7) (y : S512x2048.Idx) (r : Fin 32768) (q : Fin 2048)
    (hr : r.val = 512 * (t.val / 8) + (y 0).val) (hq : q = y 1) :
    (outsAt0 m c t.val t.isLt).1 y = rms (mixed m c r) (fun j => aZ m c (ix1 j)) q := by
  subst hq
  rw [out_C m c t (by omega) hm, show y = ix2 (y 0 : Fin 512) (y 1 : Fin 2048) by blk_ext!]
  refine (pay_last _ _ (y 0) (y 1)).trans ?_
  refine congrFun (congrArg₂ rms (funext fun k => ?_) (funext fun k => blk_z m c t k)) (y 1)
  refine ((held m c fg fr t.val t.isLt (y 0) r hr).acc k).trans ?_
  rw [hm]
  exact congrArg (row (aX m c) r k + ·) (sum_pad (term m c r k))

/-- The kernel's result at an index. -/
theorem result (c : Dev nD) (fg : ∀ i, Real1 (aG m c i)) (fr : ∀ i, Real1 (aR m c i)) (r : Fin 32768) (q : Fin 2048) :
    (dats m 0 c).arrAt 7 cfg0.N (ix2 r q) = rms (mixed m c r) (fun j => aZ m c (ix1 j)) q := by
  have h := (dats m 0 c).arrAt_eq_of_covers 7 (fun i => rms (mixed m c (i 0)) (fun j => aZ m c (ix1 j)) (i 1) : FVec Ideal S32768x2048 .f32) (by decide +kernel) fun t hf y => by
    have hm : t.val % 8 = 7 := (flush0_7 t).mp hf
    blk_simp
    rw [after0_7]
    exact last m c fg fr t hm y _ _ (by blk_simp [idx t]; omega) (Fin.ext (by blk_simp [idx t]))
  exact congrFun h (ix2 r q)

end Cert.Proof.Moe

end
-- ==== Proof.Moe.Ref.lean ====
/-
  The reference's routed feed-forward block read at an index.
-/
module

public import proofs.«01_k».proof.Proof.Moe.Route
public import proofs.«01_k».proof.Proof.Gen.MoeRefIdeal

@[expose] public section

set_option maxRecDepth 16384

noncomputable section

namespace Cert.Proof.Moe.Ref

open Cert.MoeRefIdeal Cert.MoeRefIdeal.Gen
open Idealize.ShloMosaic Idealize.ShloMosaic.TcCoe Cert.Proof.Ffn

/-- The normalised rows, as the reference computes them. -/
def norm (X : FVec Ideal S2x16384x2048 .f32) (G : FVec Ideal S2048 .f32) : FVec Ideal S2x16384x2048 .f32 :=
  mulf (mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))

/-- The logits of the eight experts. -/
def logits (H : FVec Ideal S2x16384x2048 .f32) (R : FVec Ideal S2048x8 .f32) : FVec Ideal S2x16384x8 .f32 :=
  Host.dotGeneral dot_S2x16384x2048_S2048x8_S2x16384x8_2_0_01_1_n_n none H R

/-- The two greatest logits. -/
def vals (L : FVec Ideal S2x16384x8 .f32) : FVec Ideal S2x16384x2 .f32 :=
  (Host.topK S2x16384x2 2 (FloatOps.cmpfTotal .gt) L sliceFits_S2x16384x8_S2x16384x2).1

/-- Their places. -/
def places (L : FVec Ideal S2x16384x8 .f32) : IVec S2x16384x2 32 :=
  (Host.topK S2x16384x2 2 (FloatOps.cmpfTotal .gt) L sliceFits_S2x16384x8_S2x16384x2).2

/-- The exponentials of the two, less the greater. -/
def exps (V : FVec Ideal S2x16384x2 .f32) : FVec Ideal S2x16384x2 .f32 :=
  Host.exp (subf V (broadcastInDim S2x16384x2 ![0, 1, 2] bcast_S2x16384x1_S2x16384x2_0_1_2 (broadcastInDim S2x16384x1 ![0, 1] bcast_S2x16384_S2x16384x1_0_1 (maximumf (broadcastInDim S2x16384 ![] bcast_S_S2x16384 (constant S_ .f32 0xFF800000#32)) (Host.reduce FloatOps.maximumf V (constant S_ .f32 0xFF800000#32) reducesTo_S2x16384x2_S2x16384_d2 h_S_)))))

/-- The weights of the eight experts, from the exponentials and the places of the two. -/
def spread (E : FVec Ideal S2x16384x2 .f32) (I : IVec S2x16384x2 32) : FVec Ideal S2x16384x8 .f32 :=
  Host.reduceAdd (mulf (uitofp .f32 (cmpi .eq (broadcastInDim S2x16384x2x8 ![0, 1, 2, 3] bcast_S2x16384x2x1_S2x16384x2x8_0_1_2_3 (broadcastInDim S2x16384x2x1 ![0, 1, 2] bcast_S2x16384x2_S2x16384x2x1_0_1_2 I)) (broadcastInDim S2x16384x2x8 ![0, 1, 2, 3] bcast_S1x1x1x8_S2x16384x2x8_0_1_2_3 (iotaInDim S1x1x1x8 32 3)))) (broadcastInDim S2x16384x2x8 ![0, 1, 2, 3] bcast_S2x16384x2x1_S2x16384x2x8_0_1_2_3 (broadcastInDim S2x16384x2x1 ![0, 1, 2] bcast_S2x16384x2_S2x16384x2x1_0_1_2 (Host.divf E (broadcastInDim S2x16384x2 ![0, 1, 2] bcast_S2x16384x1_S2x16384x2_0_1_2 (broadcastInDim S2x16384x1 ![0, 1] bcast_S2x16384_S2x16384x1_0_1 (Host.reduceAdd E (constant S_ .f32 0x00000000#32) reducesTo_S2x16384x2_S2x16384_d2 h_S_))))))) (constant S_ .f32 0x00000000#32) reducesTo_S2x16384x2x8_S2x16384x8_d2 h_S_

/-- The weights of the eight experts, from the logits. -/
def gates (L : FVec Ideal S2x16384x8 .f32) : FVec Ideal S2x16384x8 .f32 := spread (exps (vals L)) (places L)

/-- The product of the rows with one expert's first or second weight. -/
def up (H : FVec Ideal S2x16384x2048 .f32) (A : FVec Ideal S1x2048x704 .f32) : FVec Ideal S2x16384x704 .f32 :=
  Host.dotGeneral dot_S2x16384x2048_S2048x704_S2x16384x704_2_0_01_1_n_n none H (shapeCast _ A shapeCasts_S1x2048x704_S2048x704)

/-- One expert's contribution, from the slices of its weights. -/
def expert (H : FVec Ideal S2x16384x2048 .f32) (G : FVec Ideal S2x16384x1 .f32) (A B : FVec Ideal S1x2048x704 .f32) (C : FVec Ideal S1x704x2048 .f32) :
    FVec Ideal S2x16384x2048 .f32 :=
  mulf (broadcastInDim S2x16384x2048 ![0, 1, 2] bcast_S2x16384x1_S2x16384x2048_0_1_2 G) (Host.dotGeneral dot_S2x16384x704_S704x2048_S2x16384x2048_2_0_01_1_n_n none (mulf (mulf (up H A) (Host.divf (broadcastInDim S2x16384x704 ![] bcast_S_S2x16384x704 (constant S_ .f32 0x3F800000#32)) (addf (broadcastInDim S2x16384x704 ![] bcast_S_S2x16384x704 (constant S_ .f32 0x3F800000#32)) (Host.exp (Host.negf (up H A)))))) (up H B)) (shapeCast _ C shapeCasts_S1x704x2048_S704x2048))

/-- Expert 0's contribution. -/
def term0 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 0] G slices_S2x16384x8_S2x16384x1_0_0_0) (extractStridedSlice S1x2048x704 ![0, 0, 0] WG slices_S8x2048x704_S1x2048x704_0_0_0) (extractStridedSlice S1x2048x704 ![0, 0, 0] WU slices_S8x2048x704_S1x2048x704_0_0_0) (extractStridedSlice S1x704x2048 ![0, 0, 0] WD slices_S8x704x2048_S1x704x2048_0_0_0)

/-- Expert 1's contribution. -/
def term1 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 1] G slices_S2x16384x8_S2x16384x1_0_0_1) (extractStridedSlice S1x2048x704 ![1, 0, 0] WG slices_S8x2048x704_S1x2048x704_1_0_0) (extractStridedSlice S1x2048x704 ![1, 0, 0] WU slices_S8x2048x704_S1x2048x704_1_0_0) (extractStridedSlice S1x704x2048 ![1, 0, 0] WD slices_S8x704x2048_S1x704x2048_1_0_0)

/-- Expert 2's contribution. -/
def term2 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 2] G slices_S2x16384x8_S2x16384x1_0_0_2) (extractStridedSlice S1x2048x704 ![2, 0, 0] WG slices_S8x2048x704_S1x2048x704_2_0_0) (extractStridedSlice S1x2048x704 ![2, 0, 0] WU slices_S8x2048x704_S1x2048x704_2_0_0) (extractStridedSlice S1x704x2048 ![2, 0, 0] WD slices_S8x704x2048_S1x704x2048_2_0_0)

/-- Expert 3's contribution. -/
def term3 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 3] G slices_S2x16384x8_S2x16384x1_0_0_3) (extractStridedSlice S1x2048x704 ![3, 0, 0] WG slices_S8x2048x704_S1x2048x704_3_0_0) (extractStridedSlice S1x2048x704 ![3, 0, 0] WU slices_S8x2048x704_S1x2048x704_3_0_0) (extractStridedSlice S1x704x2048 ![3, 0, 0] WD slices_S8x704x2048_S1x704x2048_3_0_0)

/-- Expert 4's contribution. -/
def term4 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 4] G slices_S2x16384x8_S2x16384x1_0_0_4) (extractStridedSlice S1x2048x704 ![4, 0, 0] WG slices_S8x2048x704_S1x2048x704_4_0_0) (extractStridedSlice S1x2048x704 ![4, 0, 0] WU slices_S8x2048x704_S1x2048x704_4_0_0) (extractStridedSlice S1x704x2048 ![4, 0, 0] WD slices_S8x704x2048_S1x704x2048_4_0_0)

/-- Expert 5's contribution. -/
def term5 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 5] G slices_S2x16384x8_S2x16384x1_0_0_5) (extractStridedSlice S1x2048x704 ![5, 0, 0] WG slices_S8x2048x704_S1x2048x704_5_0_0) (extractStridedSlice S1x2048x704 ![5, 0, 0] WU slices_S8x2048x704_S1x2048x704_5_0_0) (extractStridedSlice S1x704x2048 ![5, 0, 0] WD slices_S8x704x2048_S1x704x2048_5_0_0)

/-- Expert 6's contribution. -/
def term6 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 6] G slices_S2x16384x8_S2x16384x1_0_0_6) (extractStridedSlice S1x2048x704 ![6, 0, 0] WG slices_S8x2048x704_S1x2048x704_6_0_0) (extractStridedSlice S1x2048x704 ![6, 0, 0] WU slices_S8x2048x704_S1x2048x704_6_0_0) (extractStridedSlice S1x704x2048 ![6, 0, 0] WD slices_S8x704x2048_S1x704x2048_6_0_0)

/-- Expert 7's contribution. -/
def term7 (H : FVec Ideal S2x16384x2048 .f32) (G : FVec Ideal S2x16384x8 .f32) (WG WU : FVec Ideal S8x2048x704 .f32) (WD : FVec Ideal S8x704x2048 .f32) : FVec Ideal S2x16384x2048 .f32 :=
  expert H (extractStridedSlice S2x16384x1 ![0, 0, 7] G slices_S2x16384x8_S2x16384x1_0_0_7) (extractStridedSlice S1x2048x704 ![7, 0, 0] WG slices_S8x2048x704_S1x2048x704_7_0_0) (extractStridedSlice S1x2048x704 ![7, 0, 0] WU slices_S8x2048x704_S1x2048x704_7_0_0) (extractStridedSlice S1x704x2048 ![7, 0, 0] WD slices_S8x704x2048_S1x704x2048_7_0_0)

/-- The tokens plus the eight contributions. -/
def mix (X : FVec Ideal S2x16384x2048 .f32) (H : FVec Ideal S2x16384x2048 .f32) (G : FVec Ideal S2x16384x8 .f32) (WG WU : FVec Ideal S8x2048x704 .f32) (WD : FVec Ideal S8x704x2048 .f32) : FVec Ideal S2x16384x2048 .f32 :=
  addf X (addf (addf (addf (addf (addf (addf (addf (term0 H G WG WU WD) (term1 H G WG WU WD)) (term2 H G WG WU WD)) (term3 H G WG WU WD)) (term4 H G WG WU WD)) (term5 H G WG WU WD)) (term6 H G WG WU WD)) (term7 H G WG WU WD))

/-- The reference's result. -/
def out (X : FVec Ideal S2x16384x2048 .f32) (G : FVec Ideal S2048 .f32) (R : FVec Ideal S2048x8 .f32) (WG WU : FVec Ideal S8x2048x704 .f32) (WD : FVec Ideal S8x704x2048 .f32) (Z : FVec Ideal S2048 .f32) :
    FVec Ideal S32768x2048 .f32 :=
  shapeCast _ (norm (mix X (norm X G) (gates (logits (norm X G) R)) WG WU WD) Z) shapeCasts_S2x16384x2048_S32768x2048

/-- The normalised rows at an index. -/
theorem norm_apply (X : FVec Ideal S2x16384x2048 .f32) (G : FVec Ideal S2048 .f32) (b : Fin 2) (t : Fin 16384) (k : Fin 2048) :
    norm X G (ix3 b t k) = rms (fun j => X (ix3 b t j)) (fun j => G (ix1 j)) k := by
  pointwise [norm, rms]

/-- The logits at an index. -/
theorem logits_apply (H : FVec Ideal S2x16384x2048 .f32) (R : FVec Ideal S2048x8 .f32) (b : Fin 2) (t : Fin 16384) (e : Fin 8) :
    logits H R (ix3 b t e) = ∑ j, H (ix3 b t j) * R (ix2 j e) := by
  pointwise [logits]

/-- The places along a row of logits. -/
theorem along_eq (b : Fin 2) (t : Fin 16384) (c k : Fin 8) : Shape.Idx.along (s := S2x16384x8) (ix3 b t c) 2 k = ix3 b t k := by
  funext a
  fin_cases a <;> rfl

/-- The two greatest logits and their places are the sort's first two. -/
theorem top_apply (L : FVec Ideal S2x16384x8 .f32) (b : Fin 2) (t : Fin 16384) (c : Fin 2) :
    vals L (ix3 b t c) = L (ix3 b t (sortedFrom (above fun p => L (ix3 b t p)) (c.castLE (by omega))))
    ∧ places L (ix3 b t c) = BitVec.ofNat 32 (sortedFrom (above fun p => L (ix3 b t p)) (c.castLE (by omega))).val := by
  have hk : (fun k k' : Fin 8 => FloatOps.cmpfTotal .gt (L (Shape.Idx.along (s := S2x16384x8) (ix3 b t (c.castLE (by omega))) 2 k)) (L (Shape.Idx.along (s := S2x16384x8) (ix3 b t (c.castLE (by omega))) 2 k')) == 1#1)
      = above fun p => L (ix3 b t p) := by
    funext k k'
    rw [along_eq, along_eq]
    rfl
  have hj : ∀ i : S2x16384x8.Idx, (∀ a, (i a).val = (ix3 b t (c.castLE (by omega) : Fin 8) a).val) → i = ix3 b t (c.castLE (by omega)) :=
    fun i hi => funext fun a => Fin.ext (hi a)
  rw [← hk]
  constructor
  · simp only [vals, Host.topK, extractStridedSlice]
    refine (congrArg _ (hj _ fun a => ?_)).trans ((show _ = L (Shape.Idx.along (s := S2x16384x8) (ix3 b t (c.castLE (by omega))) 2 _) from rfl).trans (congrArg L (along_eq b t _ _)))
    fin_cases a <;> exact Nat.zero_add _
  · simp only [places, Host.topK, extractStridedSlice]
    refine (congrArg _ (hj _ fun a => ?_)).trans rfl
    fin_cases a <;> exact Nat.zero_add _

/-- A compared pair of places as a number. -/
theorem one_hot (p q : Fin 8) : FloatOps.uitofp (F := Ideal) .f32 (IntOp.cmpi .eq (BitVec.ofNat 32 p.val) (BitVec.ofNat 32 q.val)) = if q = p then 1 else 0 := by
  have h : IntOp.cmpi .eq (BitVec.ofNat 32 p.val) (BitVec.ofNat 32 q.val) = if q = p then 1#1 else 0#1 := by
    revert p q
    decide
  rw [h]
  split
  · simp [FloatOps.uitofp]
  · simp [FloatOps.uitofp]

/-- With finite logits the weights are those of the two greatest. -/
theorem gates_apply (L : FVec Ideal S2x16384x8 .f32) (b : Fin 2) (t : Fin 16384) (hf : ∀ e, (((L (ix3 b t e)).toReal : ℝ) : EReal) = L (ix3 b t e))
    (i j : Fin 8) (h : Top (fun p => L (ix3 b t p)) i j) (e : Fin 8) : gates L (ix3 b t e) = gate (fun p => L (ix3 b t p)) i j e := by
  obtain ⟨si, sj⟩ := sorted_eq _ i j h
  have v0 : vals L (ix3 b t 0) = L (ix3 b t i) := by rw [(top_apply L b t 0).1]; exact congrArg (fun p => L (ix3 b t p)) si
  have v1 : vals L (ix3 b t 1) = L (ix3 b t j) := by rw [(top_apply L b t 1).1]; exact congrArg (fun p => L (ix3 b t p)) sj
  have p0 : places L (ix3 b t 0) = BitVec.ofNat 32 i.val := by rw [(top_apply L b t 0).2]; exact congrArg (fun p : Fin 8 => BitVec.ofNat 32 p.val) si
  have p1 : places L (ix3 b t 1) = BitVec.ofNat 32 j.val := by rw [(top_apply L b t 1).2]; exact congrArg (fun p : Fin 8 => BitVec.ofNat 32 p.val) sj
  have hE : ∀ V : FVec Ideal S2x16384x2 .f32, V (ix3 b t 1) ≤ V (ix3 b t 0) → ∀ c, exps V (ix3 b t c) = Ideal.exp (V (ix3 b t c) - V (ix3 b t 0)) := by
    intro V hV c
    pointwise [exps]
    rw [word_bot]
    have hm : Finset.univ.fold max ⊥ (fun x : Fin 2 => V (ix3 b t x)) = V (ix3 b t 0) := by
      refine le_antisymm ((Finset.fold_max_le _).mpr ⟨bot_le, fun x _ => ?_⟩) ((Finset.le_fold_max _).mpr (Or.inr ⟨0, Finset.mem_univ _, le_rfl⟩))
      fin_cases x
      · exact le_rfl
      · exact hV
    rw [hm, max_eq_right bot_le]
  have hle : vals L (ix3 b t 1) ≤ vals L (ix3 b t 0) := by rw [v0, v1]; exact (h.first j).1
  have e0 : exps (vals L) (ix3 b t 0) = 1 := by
    rw [hE _ hle, v0, ← hf i, ← EReal.coe_sub, sub_self]
    show ((Real.exp 0 : ℝ) : EReal) = 1
    simp
  have e1 : exps (vals L) (ix3 b t 1) = Ideal.exp (L (ix3 b t j) - L (ix3 b t i)) := by rw [hE _ hle, v0, v1]
  have hS : ∀ (E : FVec Ideal S2x16384x2 .f32) (I : IVec S2x16384x2 32), spread E I (ix3 b t e)
      = FloatOps.uitofp (F := Ideal) .f32 (IntOp.cmpi .eq (I (ix3 b t 0)) (BitVec.ofNat 32 e.val)) * Ideal.div (E (ix3 b t 0)) (E (ix3 b t 0) + E (ix3 b t 1))
      + FloatOps.uitofp (F := Ideal) .f32 (IntOp.cmpi .eq (I (ix3 b t 1)) (BitVec.ofNat 32 e.val)) * Ideal.div (E (ix3 b t 1)) (E (ix3 b t 0) + E (ix3 b t 1)) := by
    intro E I
    pointwise [spread]
    simp only [Fin.sum_univ_two]
  rw [gates, hS, e0, e1, p0, p1, one_hot, one_hot, gate]
  simp only [ite_mul, one_mul, zero_mul]

/-- The product of the rows with one weight at an index. -/
theorem up_apply (H : FVec Ideal S2x16384x2048 .f32) (A : FVec Ideal S1x2048x704 .f32) (b : Fin 2) (t : Fin 16384) (k : Fin 704) :
    up H A (ix3 b t k) = ∑ j, H (ix3 b t j) * A (ix3 0 j k) := by
  pointwise [up]

/-- One expert's contribution at an index. -/
theorem expert_apply (H : FVec Ideal S2x16384x2048 .f32) (G : FVec Ideal S2x16384x1 .f32) (A B : FVec Ideal S1x2048x704 .f32) (C : FVec Ideal S1x704x2048 .f32)
    (b : Fin 2) (t : Fin 16384) (q : Fin 2048) : expert H G A B C (ix3 b t q)
      = G (ix3 b t 0) * ∑ k, act (fun j => H (ix3 b t j)) (fun j k => A (ix3 0 j k)) (fun j k => B (ix3 0 j k)) k * C (ix3 0 k q) := by
  pointwise [expert, up, act, silu]

/-- What expert `e` adds to a row, apart from its weight. -/
def part (h : Fin 2048 → EReal) (WG WU : FVec Ideal S8x2048x704 .f32) (WD : FVec Ideal S8x704x2048 .f32) (q : Fin 2048) (e : Fin 8) : EReal :=
  ∑ k, act h (fun j k => WG (ix3 e j k)) (fun j k => WU (ix3 e j k)) k * WD (ix3 e k q)

/-- Expert 0's contribution at an index. -/
theorem term0_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term0 H G WG WU WD (ix3 b t q) = G (ix3 b t 0) * part (fun j => H (ix3 b t j)) WG WU WD q 0 := by
  rw [term0, expert_apply]
  pointwise [part, act]

/-- Expert 1's contribution at an index. -/
theorem term1_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term1 H G WG WU WD (ix3 b t q) = G (ix3 b t 1) * part (fun j => H (ix3 b t j)) WG WU WD q 1 := by
  rw [term1, expert_apply]
  pointwise [part, act]

/-- Expert 2's contribution at an index. -/
theorem term2_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term2 H G WG WU WD (ix3 b t q) = G (ix3 b t 2) * part (fun j => H (ix3 b t j)) WG WU WD q 2 := by
  rw [term2, expert_apply]
  pointwise [part, act]

/-- Expert 3's contribution at an index. -/
theorem term3_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term3 H G WG WU WD (ix3 b t q) = G (ix3 b t 3) * part (fun j => H (ix3 b t j)) WG WU WD q 3 := by
  rw [term3, expert_apply]
  pointwise [part, act]

/-- Expert 4's contribution at an index. -/
theorem term4_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term4 H G WG WU WD (ix3 b t q) = G (ix3 b t 4) * part (fun j => H (ix3 b t j)) WG WU WD q 4 := by
  rw [term4, expert_apply]
  pointwise [part, act]

/-- Expert 5's contribution at an index. -/
theorem term5_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term5 H G WG WU WD (ix3 b t q) = G (ix3 b t 5) * part (fun j => H (ix3 b t j)) WG WU WD q 5 := by
  rw [term5, expert_apply]
  pointwise [part, act]

/-- Expert 6's contribution at an index. -/
theorem term6_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term6 H G WG WU WD (ix3 b t q) = G (ix3 b t 6) * part (fun j => H (ix3 b t j)) WG WU WD q 6 := by
  rw [term6, expert_apply]
  pointwise [part, act]

/-- Expert 7's contribution at an index. -/
theorem term7_apply (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    term7 H G WG WU WD (ix3 b t q) = G (ix3 b t 7) * part (fun j => H (ix3 b t j)) WG WU WD q 7 := by
  rw [term7, expert_apply]
  pointwise [part, act]

/-- The sum at an index. -/
theorem mix_apply (X : FVec Ideal S2x16384x2048 .f32) (H : FVec Ideal S2x16384x2048 .f32) (G : FVec Ideal S2x16384x8 .f32) (WG WU : FVec Ideal S8x2048x704 .f32) (WD : FVec Ideal S8x704x2048 .f32) (b : Fin 2) (t : Fin 16384) (q : Fin 2048) :
    mix X H G WG WU WD (ix3 b t q) = X (ix3 b t q) + ∑ e, G (ix3 b t e) * part (fun j => H (ix3 b t j)) WG WU WD q e := by
  simp only [mix, addf_apply, term0_apply, term1_apply, term2_apply, term3_apply, term4_apply, term5_apply, term6_apply, term7_apply, Fin.sum_univ_eight]
  rfl

/-- The result at an index, from the rows before the last norm. -/
theorem out_apply (X : FVec Ideal S2x16384x2048 .f32) (G : FVec Ideal S2048 .f32) (R : FVec Ideal S2048x8 .f32) (WG WU : FVec Ideal S8x2048x704 .f32) (WD : FVec Ideal S8x704x2048 .f32) (Z : FVec Ideal S2048 .f32)
    (r : Fin 32768) (q : Fin 2048) :
    out X G R WG WU WD Z (ix2 r q) = rms (fun k => mix X (norm X G) (gates (logits (norm X G) R)) WG WU WD (ix3 ⟨r.val / 16384, by omega⟩ ⟨r.val % 16384, by omega⟩ k))
      (fun j => Z (ix1 j)) q := by
  rw [← norm_apply]
  unfold out
  generalize norm (mix X (norm X G) (gates (logits (norm X G) R)) WG WU WD) Z = Y
  pointwise

end Cert.Proof.Moe.Ref

end
-- ==== Proof.In.Tail.lean ====
/-
  What the host operations after the projection's call leave in its three results, read at an index from the call's array.
-/
module

public import proofs.«01_k».proof.Proof.Ffn.Spec
public import proofs.«01_k».proof.Proof.Gen.InIdeal.Frame

@[expose] public section

set_option maxRecDepth 16384

noncomputable section

namespace Cert.Proof.In

open Cert.InIdeal Cert.InIdeal.Gen
open Idealize.ShloMosaic Idealize.ShloMosaic.TcCoe Idealize.SL.Sem

variable (m : (ℓ : Loc nD τ sig) → Buf (Elt Ideal) ℓ)

/-- The call's array by batch and token. -/
def cube (P : FVec Ideal S32768x6400 .f32) : FVec Ideal S2x16384x6400 .f32 := shapeCast _ P shapeCasts_S32768x6400_S2x16384x6400

/-- The projected rows, their columns in the reference's order. -/
def rows (P : FVec Ideal S32768x6400 .f32) : FVec Ideal S2x16384x6056 .f32 :=
  concatenate S2x16384x6056 2 [⟨S2x16384x1536, extractStridedSlice S2x16384x1536 ![0, 0, 2048] (cube P) slices_S2x16384x6400_S2x16384x1536_0_0_2048⟩,
    ⟨S2x16384x160, extractStridedSlice S2x16384x160 ![0, 0, 5632] (cube P) slices_S2x16384x6400_S2x16384x160_0_0_5632⟩,
    ⟨S2x16384x2048, extractStridedSlice S2x16384x2048 ![0, 0, 3584] (cube P) slices_S2x16384x6400_S2x16384x2048_0_0_3584⟩,
    ⟨S2x16384x2048, extractStridedSlice S2x16384x2048 ![0, 0, 0] (cube P) slices_S2x16384x6400_S2x16384x2048_0_0_0⟩,
    ⟨S2x16384x8, extractStridedSlice S2x16384x8 ![0, 0, 6144] (cube P) slices_S2x16384x6400_S2x16384x8_0_0_6144⟩,
    ⟨S2x16384x256, extractStridedSlice S2x16384x256 ![0, 0, 5888] (cube P) slices_S2x16384x6400_S2x16384x256_0_0_5888⟩]
    concatenates_S2x16384x1536_S2x16384x160_S2x16384x2048_S2x16384x2048_S2x16384x8_S2x16384x256_S2x16384x6056_d2

/-- The last token's row. -/
def lastRow (P : FVec Ideal S32768x6400 .f32) : FVec Ideal S2x6400 .f32 :=
  shapeCast _ (extractStridedSlice S2x1x6400 ![0, 16383, 0] (cube P) slices_S2x16384x6400_S2x1x6400_0_16383_0) shapeCasts_S2x1x6400_S2x6400

/-- The last token's columns for the recurrence. -/
def shift (P : FVec Ideal S32768x6400 .f32) : FVec Ideal S2x1696 .f32 :=
  concatenate S2x1696 1 [⟨S2x1536, extractStridedSlice S2x1536 ![0, 2048] (lastRow P) slices_S2x6400_S2x1536_0_2048⟩,
    ⟨S2x160, extractStridedSlice S2x160 ![0, 5632] (lastRow P) slices_S2x6400_S2x160_0_5632⟩] concatenates_S2x1536_S2x160_S2x1696_d1

/-- The last fifteen tokens' columns for the pooling, of the history and this call's tokens. -/
def pool (P : FVec Ideal S32768x6400 .f32) (H : FVec Ideal S2x15x512 .f32) : FVec Ideal S2x15x512 .f32 :=
  extractStridedSlice S2x15x512 ![0, 15, 0] (concatenate S2x30x512 1 [⟨S2x15x512, H⟩,
    ⟨S2x15x512, extractStridedSlice S2x15x512 ![0, 16369, 0] (extractStridedSlice S2x16384x512 ![0, 0, 3584] (cube P) slices_S2x16384x6400_S2x16384x512_0_0_3584) slices_S2x16384x512_S2x15x512_0_16369_0⟩]
    concatenates_S2x15x512_S2x15x512_S2x30x512_d1) slices_S2x30x512_S2x15x512_0_15_0

/-- The number of the packed column where a column of the reference lies. -/
def pos (q : ℕ) : ℕ :=
  if q < 1536 then q + 2048
  else if q < 1696 then q - 1536 + 5632
  else if q < 3744 then q - 1696 + 3584
  else if q < 5792 then q - 3744
  else if q < 5800 then q - 5792 + 6144
  else q - 5800 + 5888

theorem pos_lt (q : Fin 6056) : pos q.val < 6400 := by
  unfold pos
  split_ifs <;> omega

/-- That packed column. -/
def place (q : Fin 6056) : Fin 6400 := ⟨pos q.val, pos_lt q⟩

/-- Entries whose coordinates are the same numbers are the same. -/
theorem at2 {n k : ℕ} {e : FTy} (P : FVec Ideal ⟨2, ![n, k]⟩ e) {r r' : Fin n} {l l' : Fin k} (hr : r.val = r'.val) (hl : l.val = l'.val) :
    P (ix2 r l) = P (ix2 r' l') := by
  rw [Fin.ext hr, Fin.ext hl]

/-- The rows at an index. -/
theorem rows_apply (P : FVec Ideal S32768x6400 .f32) (b : Fin 2) (t : Fin 16384) (q : Fin 6056) :
    rows P (ix3 b t q) = P (ix2 ⟨16384 * b.val + t.val, by omega⟩ (place q)) := by
  pointwise [rows, cube]
  split_ifs <;> first | omega | (refine at2 P ?_ ?_ <;> dsimp only [place, pos] <;> (try split_ifs) <;> omega)

/-- The recurrence's state at an index. -/
theorem shift_apply (P : FVec Ideal S32768x6400 .f32) (b : Fin 2) (q : Fin 1696) :
    shift P (ix2 b q) = P (ix2 ⟨16384 * b.val + 16383, by omega⟩ (place ⟨q.val, by omega⟩)) := by
  pointwise [shift, lastRow, cube]
  split_ifs <;> first | omega | (refine at2 P ?_ ?_ <;> dsimp only [place, pos] <;> (try split_ifs) <;> omega)

/-- The pooling's state at an index. -/
theorem pool_apply (P : FVec Ideal S32768x6400 .f32) (H : FVec Ideal S2x15x512 .f32) (b : Fin 2) (p : Fin 15) (q : Fin 512) :
    pool P H (ix3 b p q) = P (ix2 ⟨16384 * b.val + (p.val + 16369), by omega⟩ (place ⟨q.val + 1696, by omega⟩)) := by
  pointwise [pool, cube]
  refine at2 P ?_ ?_ <;> dsimp only [place, pos] <;> (try split_ifs) <;> omega

/-- What the call leaves in its array is what the operations after it find there. -/
theorem found (c : Dev nD) :
    Pipeline.withArrays spec0 c (V0 m c) (fun w => (dats m 0 c).arrAt w cfg0.N) (Proc.devRef .tc main_v16) = (dats m 0 c).arrAt 3 cfg0.N :=
  Pipeline.withArrays_arr spec0 (by decide) c _ _ 3

/-- And the history they find is the one launched. -/
theorem history (c : Dev nD) :
    Pipeline.withArrays spec0 c (V0 m c) (fun w => (dats m 0 c).arrAt w cfg0.N) (Proc.devRef .tc main_arg3) = m ((c : Thread nD τ).loc main_arg3) := by
  refine (Pipeline.withArrays_of_ne spec0 c _ _ main_arg3 (by decide)).trans ?_
  simp only [V0, hostOps0, List.flatten_cons, List.flatten_nil, List.append_nil, List.cons_append, List.nil_append]
  after_results
  try rfl

/-- The first result. -/
theorem after_rows (c : Dev nD) : Pipeline.afterTail₀ cfgs (dats m) 0 (V0 m) [hostOps1] c main_v33 = rows ((dats m 0 c).arrAt 3 cfg0.N) := by
  unfold Pipeline.afterTail₀
  have h := found m c
  generalize Pipeline.withArrays _ _ _ _ = U at h ⊢
  simp only [hostOps1, List.flatten_cons, List.flatten_nil, List.append_nil, List.cons_append, List.nil_append]
  rw [← h]
  after_results
  try rfl

/-- The second result. -/
theorem after_shift (c : Dev nD) : Pipeline.afterTail₀ cfgs (dats m) 0 (V0 m) [hostOps1] c main_v22 = shift ((dats m 0 c).arrAt 3 cfg0.N) := by
  unfold Pipeline.afterTail₀
  have h := found m c
  generalize Pipeline.withArrays _ _ _ _ = U at h ⊢
  simp only [hostOps1, List.flatten_cons, List.flatten_nil, List.append_nil, List.cons_append, List.nil_append]
  rw [← h]
  after_results
  try rfl

/-- The third result. -/
theorem after_pool (c : Dev nD) : Pipeline.afterTail₀ cfgs (dats m) 0 (V0 m) [hostOps1] c main_v26 = pool ((dats m 0 c).arrAt 3 cfg0.N) (m ((c : Thread nD τ).loc main_arg3)) := by
  unfold Pipeline.afterTail₀
  have h := found m c
  have h' := history m c
  generalize Pipeline.withArrays _ _ _ _ = U at h h' ⊢
  simp only [hostOps1, List.flatten_cons, List.flatten_nil, List.append_nil, List.cons_append, List.nil_append]
  rw [← h, ← h']
  after_results
  try rfl

end Cert.Proof.In

end
-- ==== Proof.In.Value.lean ====
/-
  What the projection's call leaves in its array: every entry the product of a normalised row with a packed column.
-/
module

public import proofs.«01_k».proof.Proof.Ffn.Spec
public import proofs.«01_k».proof.Proof.In.Tail

@[expose] public section

set_option maxRecDepth 16384

noncomputable section

namespace Cert.Proof.In

open Cert.InIdeal Cert.InIdeal.Gen
open Idealize.ShloMosaic Idealize.ShloMosaic.TcCoe Idealize.SL.Sem Cert.Proof.Ffn
open Idealize.ShloMosaic.Pipeline (Dat)

variable (m : (ℓ : Loc nD τ sig) → Buf (Elt Ideal) ℓ)

/-- Where each window's block lies at each grid point. -/
theorem idx : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- The tokens, the scale, the weight and the history as launched. -/
abbrev aX (c : Dev nD) : FVec Ideal S2x16384x2048 .f32 := m ((c : Thread nD τ).loc main_arg0)
abbrev aG (c : Dev nD) : FVec Ideal S2048 .f32 := m ((c : Thread nD τ).loc main_arg1)
abbrev aW (c : Dev nD) : FVec Ideal S2048x6056 .f32 := m ((c : Thread nD τ).loc main_arg2)
abbrev aH (c : Dev nD) : FVec Ideal S2x15x512 .f32 := m ((c : Thread nD τ).loc main_arg3)

/-- The weight with its columns packed. -/
def pack (A : FVec Ideal S2048x6056 .f32) : FVec Ideal S2048x6400 .bf16 :=
  truncf .bf16 (concatenate S2048x6400 1 [⟨S2048x2048, extractStridedSlice S2048x2048 ![0, 0] (extractStridedSlice S2048x2056 ![0, 3744] A slices_S2048x6056_S2048x2056_0_3744) slices_S2048x2056_S2048x2048_0_0⟩,
    ⟨S2048x1536, extractStridedSlice S2048x1536 ![0, 0] (extractStridedSlice S2048x1696 ![0, 0] A slices_S2048x6056_S2048x1696_0_0) slices_S2048x1696_S2048x1536_0_0⟩,
    ⟨S2048x512, extractStridedSlice S2048x512 ![0, 1696] A slices_S2048x6056_S2048x512_0_1696⟩,
    ⟨S2048x1536, extractStridedSlice S2048x1536 ![0, 2208] A slices_S2048x6056_S2048x1536_0_2208⟩,
    ⟨S2048x160, extractStridedSlice S2048x160 ![0, 1536] (extractStridedSlice S2048x1696 ![0, 0] A slices_S2048x6056_S2048x1696_0_0) slices_S2048x1696_S2048x160_0_1536⟩,
    ⟨S2048x96, broadcastInDim S2048x96 ![] bcast_S_S2048x96 (constant S_ .f32 0x00000000#32)⟩,
    ⟨S2048x256, extractStridedSlice S2048x256 ![0, 5800] A slices_S2048x6056_S2048x256_0_5800⟩,
    ⟨S2048x8, extractStridedSlice S2048x8 ![0, 2048] (extractStridedSlice S2048x2056 ![0, 3744] A slices_S2048x6056_S2048x2056_0_3744) slices_S2048x2056_S2048x8_0_2048⟩,
    ⟨S2048x120, broadcastInDim S2048x120 ![] bcast_S_S2048x120 (constant S_ .f32 0x00000000#32)⟩,
    ⟨S2048x128, broadcastInDim S2048x128 ![] bcast_S_S2048x128 (constant S_ .f32 0x00000000#32)⟩]
    concatenates_S2048x2048_S2048x1536_S2048x512_S2048x1536_S2048x160_S2048x96_S2048x256_S2048x8_S2048x120_S2048x128_S2048x6400_d1) bitsLt_bf16_f32

set_option maxHeartbeats 2000000 in
/-- The packed column at a column's place is that column. -/
theorem pack_apply (A : FVec Ideal S2048x6056 .f32) (j : Fin 2048) (q : Fin 6056) : pack A (ix2 j (place q)) = A (ix2 j q) := by
  pointwise [pack]
  have hp : (place q).val = pos q.val := rfl
  unfold pos at hp
  have hq := q.isLt
  rcases Nat.lt_or_ge q.val 2208 with hb | hb <;> split_ifs at hp
  all_goals try (exfalso; omega)
  all_goals
    rw [hp]
    repeat' first | rw [dif_neg (by omega)] | rw [dif_pos (by omega)]
  all_goals refine at2 A ?_ ?_ <;> dsimp only <;> omega

/-- What the region finds in its windows' arrays: the tokens and the scale reshaped, the weight packed. -/
theorem V_v0 (c : Dev nD) : V m c main_v0 = shapeCast S32768x2048 (aX m c) shapeCasts_S2x16384x2048_S32768x2048 := by
  simp only [V, V0, hostOps0, List.flatten_cons, List.flatten_nil, List.append_nil, List.cons_append, List.nil_append]
  entry_read
  try rfl

theorem V_v15 (c : Dev nD) : V m c main_v15 = shapeCast S1x2048 (aG m c) shapeCasts_S2048_S1x2048 := by
  simp only [V, V0, hostOps0, List.flatten_cons, List.flatten_nil, List.append_nil, List.cons_append, List.nil_append]
  entry_read
  try rfl

set_option maxHeartbeats 4000000 in
theorem V_v14 (c : Dev nD) : V m c main_v14 = pack (aW m c) := by
  simp only [V, V0, hostOps0, List.flatten_cons, List.flatten_nil, List.append_nil, List.cons_append, List.nil_append]
  after_results
  rfl

/-- A block of tokens at an index. -/
theorem blk_x (c : Dev nD) (t : Fin cfg0.N) (a : Fin 1024) (k : Fin 2048) (r : Fin 32768) (hr : r.val = 1024 * (t.val / 5) + a.val) :
    iblk m c 0 t (ix2 a k) = row (aX m c) r k := by
  have h : iblk m c 0 t (ix2 a k) = V m c main_v0 (ix2 r k) := by blk_ext! [iblk, idx t]
  rw [h, V_v0]
  pointwise [row]

/-- The scale's block at an index. -/
theorem blk_g (c : Dev nD) (t : Fin cfg0.N) (k : Fin 2048) : iblk m c 1 t (ix2 0 k) = aG m c (ix1 k) := by
  have h : iblk m c 1 t (ix2 0 k) = V m c main_v15 (ix2 0 k) := by blk_ext! [iblk, idx t]
  rw [h, V_v15]
  pointwise

/-- A piece of the packed weight at an index. -/
theorem blk_w (c : Dev nD) (t : Fin cfg0.N) (j : Fin 2048) (k : Fin 1280) (l : Fin 6400) (hl : l.val = (t.val % 5) * 1280 + k.val) :
    iblk m c 2 t (ix2 j k) = pack (aW m c) (ix2 j l) := by
  have h : iblk m c 2 t (ix2 j k) = V m c main_v14 (ix2 j l) := by blk_ext! [iblk, idx t]
  rw [h, V_v14]

/-- The normalised rows a run of points begins with. -/
theorem pay_norm (x : Vec Ideal S1024x2048 .f32) (g : Vec Ideal S1x2048 .f32) (y : S1024x2048.Idx) :
    k0_pay1 x g y = rms (fun k => x (ix2 (y 0) k)) (fun k => g (ix2 0 k)) (y 1) := by
  pointwise [k0_pay1, rms]

/-- What a point writes. -/
theorem pay_dot (h : Vec Ideal S1024x2048 .bf16) (w : Vec Ideal S2048x1280 .bf16) (y : S1024x1280.Idx) :
    k0_pay2 h w y = ∑ j : Fin 2048, h (ix2 (y 0) j) * w (ix2 j (y 1)) := by
  pointwise [k0_pay2]

/-- What the first point of a run writes and keeps. -/
theorem outs_A (c : Dev nD) (t : Fin cfg0.N) (h0 : t.val % 5 = 0) :
    outsAt0 m c t.val t.isLt = (k0_pay2 (k0_pay1 (iblk m c 0 t) (iblk m c 1 t)) (iblk m c 2 t), k0_pay1 (iblk m c 0 t) (iblk m c 1 t)) := by
  refine Prod.ext ?_ ?_
  · show (outsAt0 m c t.val t.isLt).1 = _
    rw [outsAt0_A m c t h0]; frame_out
  · show (outsAt0 m c t.val t.isLt).2 = _
    rw [outsAt0_A m c t h0]; frame_out

/-- And a later point of it. -/
theorem outs_B (c : Dev nD) (t : Fin cfg0.N) (h0 : ¬t.val % 5 = 0) (hp : t.val - 1 < cfg0.N) :
    outsAt0 m c t.val t.isLt = (k0_pay2 (outsAt0 m c (t.val - 1) hp).2 (iblk m c 2 t), (outsAt0 m c (t.val - 1) hp).2) := by
  refine Prod.ext ?_ ?_
  · show (outsAt0 m c t.val t.isLt).1 = _
    rw [outsAt0_B m c t h0]; frame_out
    exact congrArg (fun a => k0_pay2 a (iblk m c 2 t)) ((Memref.isWhole_whole cc0_scratch0).read_unread _)
  · show (outsAt0 m c t.val t.isLt).2 = _
    rw [outsAt0_B m c t h0]; rfl

/-- The normalised row `r`. -/
abbrev nrow (c : Dev nD) (r : Fin 32768) : Fin 2048 → EReal := rms (row (aX m c) r) (fun j => aG m c (ix1 j))

/-- The first point of a run keeps the normalised rows. -/
theorem kept_A (c : Dev nD) (t : Fin cfg0.N) (a : Fin 1024) (r : Fin 32768) (hr : r.val = 1024 * (t.val / 5) + a.val) (j : Fin 2048) :
    k0_pay1 (F := Ideal) (iblk m c 0 t) (iblk m c 1 t) (ix2 a j) = nrow m c r j := by
  rw [pay_norm]
  exact congrFun (congrArg₂ rms (funext fun k => blk_x m c t a k r hr) (funext fun k => blk_g m c t k)) j

/-- What is kept after point `n`: the normalised rows of its block. -/
theorem kept (c : Dev nD) : ∀ (n : ℕ) (h : n < cfg0.N) (a : Fin 1024) (r : Fin 32768), r.val = 1024 * (n / 5) + a.val →
    ∀ j : Fin 2048, (outsAt0 m c n h).2 (ix2 a j) = nrow m c r j := by
  intro n
  induction n with
  | zero =>
    intro h a r hr j
    exact (congrFun (congrArg Prod.snd (outs_A m c ⟨0, h⟩ rfl)) _).trans (kept_A m c ⟨0, h⟩ a r hr j)
  | succ n ih =>
    intro h a r hr j
    by_cases h0 : (n + 1) % 5 = 0
    · exact (congrFun (congrArg Prod.snd (outs_A m c ⟨n + 1, h⟩ h0)) _).trans (kept_A m c ⟨n + 1, h⟩ a r hr j)
    · exact (congrFun (congrArg Prod.snd (outs_B m c ⟨n + 1, h⟩ h0 (Nat.lt_of_succ_lt h))) _).trans
        (ih (Nat.lt_of_succ_lt h) a r (by rw [hr]; omega) j)

/-- What a point writes is the product of the rows it keeps with its piece of the weight. -/
theorem wrote (c : Dev nD) (t : Fin cfg0.N) : (outsAt0 m c t.val t.isLt).1 = k0_pay2 (F := Ideal) (outsAt0 m c t.val t.isLt).2 (iblk m c 2 t) := by
  by_cases h0 : t.val % 5 = 0
  · rw [outs_A m c t h0]
  · rw [outs_B m c t h0 (Nat.lt_of_le_of_lt (Nat.sub_le _ _) t.isLt)]

/-- The entry a point writes. -/
theorem entry (c : Dev nD) (t : Fin cfg0.N) (y : S1024x1280.Idx) (r : Fin 32768) (l : Fin 6400)
    (hr : r.val = 1024 * (t.val / 5) + (y 0).val) (hl : l.val = (t.val % 5) * 1280 + (y 1).val) :
    (outsAt0 m c t.val t.isLt).1 y = ∑ j, nrow m c r j * pack (aW m c) (ix2 j l) := by
  rw [wrote m c t, pay_dot]
  refine Finset.sum_congr rfl fun j _ => ?_
  exact congrArg₂ (· * ·) (kept m c t.val t.isLt (y 0) r hr j) (blk_w m c t j (y 1) l hl)

/-- The call's array at an index. -/
theorem result (c : Dev nD) (r : Fin 32768) (l : Fin 6400) :
    (dats m 0 c).arrAt 3 cfg0.N (ix2 r l) = ∑ j, nrow m c r j * pack (aW m c) (ix2 j l) := by
  have h := (dats m 0 c).arrAt_eq_of_covers 3 (fun i => ∑ j, nrow m c (i 0) j * pack (aW m c) (ix2 j (i 1)) : FVec Ideal S32768x6400 .f32) (by decide +kernel) fun t hf y => by
    blk_simp
    rw [after0_3]
    exact entry m c t y _ _ (by blk_simp [idx t]; omega) (by blk_simp [idx t])
  exact congrFun h (ix2 r l)

end Cert.Proof.In

end
-- ==== Proof.In.Ref.lean ====
/-
  The reference's projection read at an index, with the two states it hands on.
-/
module

public import proofs.«01_k».proof.Proof.Ffn.Spec
public import proofs.«01_k».proof.Proof.Gen.InRefIdeal

@[expose] public section

set_option maxRecDepth 16384

noncomputable section

namespace Cert.Proof.In.Ref

open Cert.InRefIdeal Cert.InRefIdeal.Gen
open Idealize.ShloMosaic Idealize.ShloMosaic.TcCoe Cert.Proof.Ffn

/-- The normalised rows, as the reference computes them. -/
def norm (X : FVec Ideal S2x16384x2048 .f32) (G : FVec Ideal S2048 .f32) : FVec Ideal S2x16384x2048 .f32 :=
  mulf (mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))

/-- The projected rows. -/
def proj (H : FVec Ideal S2x16384x2048 .f32) (A : FVec Ideal S2048x6056 .f32) : FVec Ideal S2x16384x6056 .f32 :=
  Host.dotGeneral dot_S2x16384x2048_S2048x6056_S2x16384x6056_2_0_01_1_n_n none H A

/-- The last token's columns for the recurrence. -/
def shift (U : FVec Ideal S2x16384x6056 .f32) : FVec Ideal S2x1696 .f32 :=
  shapeCast _ (extractStridedSlice S2x1x1696 ![0, 16383, 0] (extractStridedSlice S2x16384x1696 ![0, 0, 0] U slices_S2x16384x6056_S2x16384x1696_0_0_0) slices_S2x16384x1696_S2x1x1696_0_16383_0) shapeCasts_S2x1x1696_S2x1696

/-- The last fifteen tokens' columns for the pooling, of the history and this call's tokens. -/
def pool (U : FVec Ideal S2x16384x6056 .f32) (H : FVec Ideal S2x15x512 .f32) : FVec Ideal S2x15x512 .f32 :=
  extractStridedSlice S2x15x512 ![0, 16384, 0] (concatenate S2x16399x512 1 [⟨S2x15x512, H⟩, ⟨S2x16384x512, (extractStridedSlice S2x16384x512 ![0, 0, 1696] U slices_S2x16384x6056_S2x16384x512_0_0_1696)⟩] concatenates_S2x15x512_S2x16384x512_S2x16399x512_d1) slices_S2x16399x512_S2x15x512_0_16384_0

/-- The normalised rows at an index. -/
theorem norm_apply (X : FVec Ideal S2x16384x2048 .f32) (G : FVec Ideal S2048 .f32) (b : Fin 2) (t : Fin 16384) (k : Fin 2048) :
    norm X G (ix3 b t k) = rms (fun j => X (ix3 b t j)) (fun j => G (ix1 j)) k := by
  pointwise [norm, rms]

/-- The projected rows at an index. -/
theorem proj_apply (X : FVec Ideal S2x16384x2048 .f32) (G : FVec Ideal S2048 .f32) (A : FVec Ideal S2048x6056 .f32) (b : Fin 2) (t : Fin 16384)
    (q : Fin 6056) : proj (norm X G) A (ix3 b t q) = ∑ j, rms (fun j => X (ix3 b t j)) (fun j => G (ix1 j)) j * A (ix2 j q) := by
  have e : proj (norm X G) A (ix3 b t q) = ∑ j, norm X G (ix3 b t j) * A (ix2 j q) := by
    pointwise [proj]
  rw [e]
  simp only [norm_apply]

/-- The recurrence's state at an index. -/
theorem shift_apply (U : FVec Ideal S2x16384x6056 .f32) (b : Fin 2) (q : Fin 1696) :
    shift U (ix2 b q) = U (ix3 b 16383 ⟨q.val, by omega⟩) := by
  pointwise [shift]

/-- The pooling's state at an index. -/
theorem pool_apply (U : FVec Ideal S2x16384x6056 .f32) (H : FVec Ideal S2x15x512 .f32) (b : Fin 2) (p : Fin 15) (q : Fin 512) :
    pool U H (ix3 b p q) = U (ix3 b ⟨p.val + 16369, by omega⟩ ⟨q.val + 1696, by omega⟩) := by
  pointwise [pool]
  rw [dif_neg (by omega)]
  exact congrArg₂ (fun a l => U (ix3 b a l)) (Fin.ext (by show 16384 + p.val - 15 = p.val + 16369; omega)) (Fin.ext (Nat.add_comm 1696 q.val))

end Cert.Proof.In.Ref

end
-- ==== Proof.In.Agree.lean ====
/-
  The projection's three results are the reference's.
-/
module

public import proofs.«01_k».proof.Proof.In.Value
public import proofs.«01_k».proof.Proof.In.Ref

@[expose] public section

set_option maxRecDepth 16384

noncomputable section

namespace Cert.Proof.In

open Cert.InIdeal Cert.InIdeal.Gen
open Idealize.ShloMosaic Idealize.ShloMosaic.TcCoe Idealize.SL.Sem Cert.Proof.Ffn

variable (m : (ℓ : Loc nD τ sig) → Buf (Elt Ideal) ℓ)

/-- The projected rows of the reference on the arrays as launched. -/
abbrev refRows (c : Dev nD) : FVec Ideal S2x16384x6056 .f32 := Ref.proj (Ref.norm (aX m c) (aG m c)) (aW m c)

/-- The row of a batch and token. -/
theorem row_eq (c : Dev nD) (b : Fin 2) (t : Fin 16384) (h : 16384 * b.val + t.val < 32768) :
    row (aX m c) ⟨16384 * b.val + t.val, h⟩ = fun j => aX m c (ix3 b t j) := by
  have hb : (⟨(16384 * b.val + t.val) / 16384, by omega⟩ : Fin 2) = b := Fin.ext (by dsimp only; omega)
  have ht : (⟨(16384 * b.val + t.val) % 16384, by omega⟩ : Fin 16384) = t := Fin.ext (by dsimp only; omega)
  funext j
  exact congrArg₂ (fun b' t' => aX m c (ix3 b' t' j)) hb ht

/-- The product of a row with the packed column at a column's place is the reference's entry at that column. -/
theorem product (c : Dev nD) (b : Fin 2) (t : Fin 16384) (q : Fin 6056) (h : 16384 * b.val + t.val < 32768) :
    (∑ j : Fin 2048, nrow m c ⟨16384 * b.val + t.val, h⟩ j * pack (aW m c) (ix2 j (place q)) : EReal) = refRows m c (ix3 b t q) := by
  refine Eq.trans (Finset.sum_congr rfl fun j _ => ?_) (Ref.proj_apply (aX m c) (aG m c) (aW m c) b t q).symm
  rw [pack_apply, nrow, row_eq m c b t h]

/-- An entry of the call's array at a column's place is the reference's entry at that column. -/
theorem entry_eq (c : Dev nD) (b : Fin 2) (t : Fin 16384) (q : Fin 6056) (h : 16384 * b.val + t.val < 32768) :
    (dats m 0 c).arrAt 3 cfg0.N (ix2 ⟨16384 * b.val + t.val, h⟩ (place q)) = refRows m c (ix3 b t q) :=
  (result m c _ _).trans (product m c b t q h)

/-- The projected rows. -/
theorem rows_eq (c : Dev nD) : rows ((dats m 0 c).arrAt 3 cfg0.N) = refRows m c := by
  funext i
  have hi := (ix3_eta (n0 := 2) (n1 := 16384) (n2 := 6056) i).symm
  refine (congrArg _ hi).trans (Eq.trans ?_ (congrArg (refRows m c) hi.symm))
  exact (rows_apply _ (i 0) (i 1) (i 2)).trans (entry_eq m c (i 0) (i 1) (i 2) _)

/-- The recurrence's state. -/
theorem shift_eq (c : Dev nD) : shift ((dats m 0 c).arrAt 3 cfg0.N) = Ref.shift (refRows m c) := by
  funext i
  have hi := (ix2_eta (n0 := 2) (n1 := 1696) i).symm
  refine (congrArg _ hi).trans (Eq.trans ?_ (congrArg (Ref.shift (refRows m c)) hi.symm))
  exact (shift_apply _ (i 0) (i 1)).trans ((entry_eq m c (i 0) 16383 _ _).trans (Ref.shift_apply _ (i 0) (i 1)).symm)

/-- The pooling's state. -/
theorem pool_eq (c : Dev nD) : pool ((dats m 0 c).arrAt 3 cfg0.N) (aH m c) = Ref.pool (refRows m c) (aH m c) := by
  funext i
  have hi := (ix3_eta (n0 := 2) (n1 := 15) (n2 := 512) i).symm
  refine (congrArg _ hi).trans (Eq.trans ?_ (congrArg (Ref.pool (refRows m c) (aH m c)) hi.symm))
  exact (pool_apply _ _ (i 0) (i 1) (i 2)).trans ((entry_eq m c (i 0) ⟨(i 1).val + 16369, by have : (i 1).val < 15 := (i 1).isLt; omega⟩ _ _).trans
    (Ref.pool_apply _ _ (i 0) (i 1) (i 2)).symm)

end Cert.Proof.In

end
-- ==== Proof.Ffn.Sample.lean ====
/-
  The rows of the sample call's tokens, counted through its batches.
-/
module

public import proofs.«01_k».proof.Proof.Ffn.Spec

@[expose] public section

noncomputable section

namespace Cert.Proof.Ffn

open Idealize.ShloMosaic

/-- Row `r` of the sixteen batches' tokens, counted through all of them. -/
def srow (X : FVec Ideal ⟨3, ![16, 64, 2048]⟩ .f32) (r : Fin 1024) (k : Fin 2048) : EReal :=
  X (ix3 ⟨r.val / 64, by omega⟩ ⟨r.val % 64, by omega⟩ k)

end Cert.Proof.Ffn

end
-- ==== Proof.InS.Tail.lean ====
/-
  What the host operations after the projection's call leave in its three results, read at an index from the call's array.
-/
module

public import proofs.«01_k».proof.Proof.Ffn.Sample
public import proofs.«01_k».proof.Proof.Gen.InSIdeal.Frame

@[expose] public section

set_option maxRecDepth 16384

noncomputable section

namespace Cert.Proof.InS

open Cert.InSIdeal Cert.InSIdeal.Gen
open Idealize.ShloMosaic Idealize.ShloMosaic.TcCoe Idealize.SL.Sem

variable (m : (ℓ : Loc nD τ sig) → Buf (Elt Ideal) ℓ)

/-- The call's array by batch and token. -/
def cube (P : FVec Ideal S1024x6400 .f32) : FVec Ideal S16x64x6400 .f32 := shapeCast _ P shapeCasts_S1024x6400_S16x64x6400

/-- The projected rows, their columns in the reference's order. -/
def rows (P : FVec Ideal S1024x6400 .f32) : FVec Ideal S16x64x6056 .f32 :=
  concatenate S16x64x6056 2 [⟨S16x64x1536, extractStridedSlice S16x64x1536 ![0, 0, 2048] (cube P) slices_S16x64x6400_S16x64x1536_0_0_2048⟩,
    ⟨S16x64x160, extractStridedSlice S16x64x160 ![0, 0, 5632] (cube P) slices_S16x64x6400_S16x64x160_0_0_5632⟩,
    ⟨S16x64x2048, extractStridedSlice S16x64x2048 ![0, 0, 3584] (cube P) slices_S16x64x6400_S16x64x2048_0_0_3584⟩,
    ⟨S16x64x2048, extractStridedSlice S16x64x2048 ![0, 0, 0] (cube P) slices_S16x64x6400_S16x64x2048_0_0_0⟩,
    ⟨S16x64x8, extractStridedSlice S16x64x8 ![0, 0, 6144] (cube P) slices_S16x64x6400_S16x64x8_0_0_6144⟩,
    ⟨S16x64x256, extractStridedSlice S16x64x256 ![0, 0, 5888] (cube P) slices_S16x64x6400_S16x64x256_0_0_5888⟩]
    concatenates_S16x64x1536_S16x64x160_S16x64x2048_S16x64x2048_S16x64x8_S16x64x256_S16x64x6056_d2

/-- The last token's row. -/
def lastRow (P : FVec Ideal S1024x6400 .f32) : FVec Ideal S16x6400 .f32 :=
  shapeCast _ (extractStridedSlice S16x1x6400 ![0, 63, 0] (cube P) slices_S16x64x6400_S16x1x6400_0_63_0) shapeCasts_S16x1x6400_S16x6400

/-- The last token's columns for the recurrence. -/
def shift (P : FVec Ideal S1024x6400 .f32) : FVec Ideal S16x1696 .f32 :=
  concatenate S16x1696 1 [⟨S16x1536, extractStridedSlice S16x1536 ![0, 2048] (lastRow P) slices_S16x6400_S16x1536_0_2048⟩,
    ⟨S16x160, extractStridedSlice S16x160 ![0, 5632] (lastRow P) slices_S16x6400_S16x160_0_5632⟩] concatenates_S16x1536_S16x160_S16x1696_d1

/-- The last fifteen tokens' columns for the pooling, of the history and this call's tokens. -/
def pool (P : FVec Ideal S1024x6400 .f32) (H : FVec Ideal S16x15x512 .f32) : FVec Ideal S16x15x512 .f32 :=
  extractStridedSlice S16x15x512 ![0, 15, 0] (concatenate S16x30x512 1 [⟨S16x15x512, H⟩,
    ⟨S16x15x512, extractStridedSlice S16x15x512 ![0, 49, 0] (extractStridedSlice S16x64x512 ![0, 0, 3584] (cube P) slices_S16x64x6400_S16x64x512_0_0_3584) slices_S16x64x512_S16x15x512_0_49_0⟩]
    concatenates_S16x15x512_S16x15x512_S16x30x512_d1) slices_S16x30x512_S16x15x512_0_15_0

/-- The number of the packed column where a column of the reference lies. -/
def pos (q : ℕ) : ℕ :=
  if q < 1536 then q + 2048
  else if q < 1696 then q - 1536 + 5632
  else if q < 3744 then q - 1696 + 3584
  else if q < 5792 then q - 3744
  else if q < 5800 then q - 5792 + 6144
  else q - 5800 + 5888

theorem pos_lt (q : Fin 6056) : pos q.val < 6400 := by
  unfold pos
  split_ifs <;> omega

/-- That packed column. -/
def place (q : Fin 6056) : Fin 6400 := ⟨pos q.val, pos_lt q⟩

/-- Entries whose coordinates are the same numbers are the same. -/
theorem at2 {n k : ℕ} {e : FTy} (P : FVec Ideal ⟨2, ![n, k]⟩ e) {r r' : Fin n} {l l' : Fin k} (hr : r.val = r'.val) (hl : l.val = l'.val) :
    P (ix2 r l) = P (ix2 r' l') := by
  rw [Fin.ext hr, Fin.ext hl]

/-- The rows at an index. -/
theorem rows_apply (P : FVec Ideal S1024x6400 .f32) (b : Fin 16) (t : Fin 64) (q : Fin 6056) :
    rows P (ix3 b t q) = P (ix2 ⟨64 * b.val + t.val, by omega⟩ (place q)) := by
  pointwise [rows, cube]
  split_ifs <;> first | omega | (refine at2 P ?_ ?_ <;> dsimp only [place, pos] <;> (try split_ifs) <;> omega)

/-- The recurrence's state at an index. -/
theorem shift_apply (P : FVec Ideal S1024x6400 .f32) (b : Fin 16) (q : Fin 1696) :
    shift P (ix2 b q) = P (ix2 ⟨64 * b.val + 63, by omega⟩ (place ⟨q.val, by omega⟩)) := by
  pointwise [shift, lastRow, cube]
  split_ifs <;> first | omega | (refine at2 P ?_ ?_ <;> dsimp only [place, pos] <;> (try split_ifs) <;> omega)

/-- The pooling's state at an index. -/
theorem pool_apply (P : FVec Ideal S1024x6400 .f32) (H : FVec Ideal S16x15x512 .f32) (b : Fin 16) (p : Fin 15) (q : Fin 512) :
    pool P H (ix3 b p q) = P (ix2 ⟨64 * b.val + (p.val + 49), by omega⟩ (place ⟨q.val + 1696, by omega⟩)) := by
  pointwise [pool, cube]
  refine at2 P ?_ ?_ <;> dsimp only [place, pos] <;> (try split_ifs) <;> omega

/-- What the call leaves in its array is what the operations after it find there. -/
theorem found (c : Dev nD) :
    Pipeline.withArrays spec0 c (V0 m c) (fun w => (dats m 0 c).arrAt w cfg0.N) (Proc.devRef .tc main_v16) = (dats m 0 c).arrAt 3 cfg0.N :=
  Pipeline.withArrays_arr spec0 (by decide) c _ _ 3

/-- And the history they find is the one launched. -/
theorem history (c : Dev nD) :
    Pipeline.withArrays spec0 c (V0 m c) (fun w => (dats m 0 c).arrAt w cfg0.N) (Proc.devRef .tc main_arg3) = m ((c : Thread nD τ).loc main_arg3) := by
  refine (Pipeline.withArrays_of_ne spec0 c _ _ main_arg3 (by decide)).trans ?_
  simp only [V0, hostOps0, List.flatten_cons, List.flatten_nil, List.append_nil, List.cons_append, List.nil_append]
  after_results
  try rfl

/-- The first result. -/
theorem after_rows (c : Dev nD) : Pipeline.afterTail₀ cfgs (dats m) 0 (V0 m) [hostOps1] c main_v33 = rows ((dats m 0 c).arrAt 3 cfg0.N) := by
  unfold Pipeline.afterTail₀
  have h := found m c
  generalize Pipeline.withArrays _ _ _ _ = U at h ⊢
  simp only [hostOps1, List.flatten_cons, List.flatten_nil, List.append_nil, List.cons_append, List.nil_append]
  rw [← h]
  after_results
  try rfl

/-- The second result. -/
theorem after_shift (c : Dev nD) : Pipeline.afterTail₀ cfgs (dats m) 0 (V0 m) [hostOps1] c main_v22 = shift ((dats m 0 c).arrAt 3 cfg0.N) := by
  unfold Pipeline.afterTail₀
  have h := found m c
  generalize Pipeline.withArrays _ _ _ _ = U at h ⊢
  simp only [hostOps1, List.flatten_cons, List.flatten_nil, List.append_nil, List.cons_append, List.nil_append]
  rw [← h]
  after_results
  try rfl

/-- The third result. -/
theorem after_pool (c : Dev nD) : Pipeline.afterTail₀ cfgs (dats m) 0 (V0 m) [hostOps1] c main_v26 = pool ((dats m 0 c).arrAt 3 cfg0.N) (m ((c : Thread nD τ).loc main_arg3)) := by
  unfold Pipeline.afterTail₀
  have h := found m c
  have h' := history m c
  generalize Pipeline.withArrays _ _ _ _ = U at h h' ⊢
  simp only [hostOps1, List.flatten_cons, List.flatten_nil, List.append_nil, List.cons_append, List.nil_append]
  rw [← h, ← h']
  after_results
  try rfl

end Cert.Proof.InS

end
-- ==== Proof.InS.Value.lean ====
/-
  What the projection's call leaves in its array: every entry the product of a normalised row with a packed column.
-/
module

public import proofs.«01_k».proof.Proof.Ffn.Sample
public import proofs.«01_k».proof.Proof.InS.Tail

@[expose] public section

set_option maxRecDepth 16384

noncomputable section

namespace Cert.Proof.InS

open Cert.InSIdeal Cert.InSIdeal.Gen
open Idealize.ShloMosaic Idealize.ShloMosaic.TcCoe Idealize.SL.Sem Cert.Proof.Ffn
open Idealize.ShloMosaic.Pipeline (Dat)

variable (m : (ℓ : Loc nD τ sig) → Buf (Elt Ideal) ℓ)

/-- Where each window's block lies at each grid point. -/
theorem idx : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- The tokens, the scale, the weight and the history as launched. -/
abbrev aX (c : Dev nD) : FVec Ideal S16x64x2048 .f32 := m ((c : Thread nD τ).loc main_arg0)
abbrev aG (c : Dev nD) : FVec Ideal S2048 .f32 := m ((c : Thread nD τ).loc main_arg1)
abbrev aW (c : Dev nD) : FVec Ideal S2048x6056 .f32 := m ((c : Thread nD τ).loc main_arg2)
abbrev aH (c : Dev nD) : FVec Ideal S16x15x512 .f32 := m ((c : Thread nD τ).loc main_arg3)

/-- The weight with its columns packed. -/
def pack (A : FVec Ideal S2048x6056 .f32) : FVec Ideal S2048x6400 .bf16 :=
  truncf .bf16 (concatenate S2048x6400 1 [⟨S2048x2048, extractStridedSlice S2048x2048 ![0, 0] (extractStridedSlice S2048x2056 ![0, 3744] A slices_S2048x6056_S2048x2056_0_3744) slices_S2048x2056_S2048x2048_0_0⟩,
    ⟨S2048x1536, extractStridedSlice S2048x1536 ![0, 0] (extractStridedSlice S2048x1696 ![0, 0] A slices_S2048x6056_S2048x1696_0_0) slices_S2048x1696_S2048x1536_0_0⟩,
    ⟨S2048x512, extractStridedSlice S2048x512 ![0, 1696] A slices_S2048x6056_S2048x512_0_1696⟩,
    ⟨S2048x1536, extractStridedSlice S2048x1536 ![0, 2208] A slices_S2048x6056_S2048x1536_0_2208⟩,
    ⟨S2048x160, extractStridedSlice S2048x160 ![0, 1536] (extractStridedSlice S2048x1696 ![0, 0] A slices_S2048x6056_S2048x1696_0_0) slices_S2048x1696_S2048x160_0_1536⟩,
    ⟨S2048x96, broadcastInDim S2048x96 ![] bcast_S_S2048x96 (constant S_ .f32 0x00000000#32)⟩,
    ⟨S2048x256, extractStridedSlice S2048x256 ![0, 5800] A slices_S2048x6056_S2048x256_0_5800⟩,
    ⟨S2048x8, extractStridedSlice S2048x8 ![0, 2048] (extractStridedSlice S2048x2056 ![0, 3744] A slices_S2048x6056_S2048x2056_0_3744) slices_S2048x2056_S2048x8_0_2048⟩,
    ⟨S2048x120, broadcastInDim S2048x120 ![] bcast_S_S2048x120 (constant S_ .f32 0x00000000#32)⟩,
    ⟨S2048x128, broadcastInDim S2048x128 ![] bcast_S_S2048x128 (constant S_ .f32 0x00000000#32)⟩]
    concatenates_S2048x2048_S2048x1536_S2048x512_S2048x1536_S2048x160_S2048x96_S2048x256_S2048x8_S2048x120_S2048x128_S2048x6400_d1) bitsLt_bf16_f32

set_option maxHeartbeats 2000000 in
/-- The packed column at a column's place is that column. -/
theorem pack_apply (A : FVec Ideal S2048x6056 .f32) (j : Fin 2048) (q : Fin 6056) : pack A (ix2 j (place q)) = A (ix2 j q) := by
  pointwise [pack]
  have hp : (place q).val = pos q.val := rfl
  unfold pos at hp
  have hq := q.isLt
  rcases Nat.lt_or_ge q.val 2208 with hb | hb <;> split_ifs at hp
  all_goals try (exfalso; omega)
  all_goals
    rw [hp]
    repeat' first | rw [dif_neg (by omega)] | rw [dif_pos (by omega)]
  all_goals refine at2 A ?_ ?_ <;> dsimp only <;> omega

/-- What the region finds in its windows' arrays: the tokens and the scale reshaped, the weight packed. -/
theorem V_v0 (c : Dev nD) : V m c main_v0 = shapeCast S1024x2048 (aX m c) shapeCasts_S16x64x2048_S1024x2048 := by
  simp only [V, V0, hostOps0, List.flatten_cons, List.flatten_nil, List.append_nil, List.cons_append, List.nil_append]
  entry_read
  try rfl

theorem V_v15 (c : Dev nD) : V m c main_v15 = shapeCast S1x2048 (aG m c) shapeCasts_S2048_S1x2048 := by
  simp only [V, V0, hostOps0, List.flatten_cons, List.flatten_nil, List.append_nil, List.cons_append, List.nil_append]
  entry_read
  try rfl

set_option maxHeartbeats 4000000 in
theorem V_v14 (c : Dev nD) : V m c main_v14 = pack (aW m c) := by
  simp only [V, V0, hostOps0, List.flatten_cons, List.flatten_nil, List.append_nil, List.cons_append, List.nil_append]
  after_results
  rfl

/-- A block of tokens at an index. -/
theorem blk_x (c : Dev nD) (t : Fin cfg0.N) (a : Fin 1024) (k : Fin 2048) (r : Fin 1024) (hr : r.val = 1024 * (t.val / 5) + a.val) :
    iblk m c 0 t (ix2 a k) = srow (aX m c) r k := by
  have h : iblk m c 0 t (ix2 a k) = V m c main_v0 (ix2 r k) := by blk_ext! [iblk, idx t]
  rw [h, V_v0]
  pointwise [srow]

/-- The scale's block at an index. -/
theorem blk_g (c : Dev nD) (t : Fin cfg0.N) (k : Fin 2048) : iblk m c 1 t (ix2 0 k) = aG m c (ix1 k) := by
  have h : iblk m c 1 t (ix2 0 k) = V m c main_v15 (ix2 0 k) := by blk_ext! [iblk, idx t]
  rw [h, V_v15]
  pointwise

/-- A piece of the packed weight at an index. -/
theorem blk_w (c : Dev nD) (t : Fin cfg0.N) (j : Fin 2048) (k : Fin 1280) (l : Fin 6400) (hl : l.val = (t.val % 5) * 1280 + k.val) :
    iblk m c 2 t (ix2 j k) = pack (aW m c) (ix2 j l) := by
  have h : iblk m c 2 t (ix2 j k) = V m c main_v14 (ix2 j l) := by blk_ext! [iblk, idx t]
  rw [h, V_v14]

/-- The normalised rows a run of points begins with. -/
theorem pay_norm (x : Vec Ideal S1024x2048 .f32) (g : Vec Ideal S1x2048 .f32) (y : S1024x2048.Idx) :
    k0_pay1 x g y = rms (fun k => x (ix2 (y 0) k)) (fun k => g (ix2 0 k)) (y 1) := by
  pointwise [k0_pay1, rms]

/-- What a point writes. -/
theorem pay_dot (h : Vec Ideal S1024x2048 .bf16) (w : Vec Ideal S2048x1280 .bf16) (y : S1024x1280.Idx) :
    k0_pay2 h w y = ∑ j : Fin 2048, h (ix2 (y 0) j) * w (ix2 j (y 1)) := by
  pointwise [k0_pay2]

/-- What the first point of a run writes and keeps. -/
theorem outs_A (c : Dev nD) (t : Fin cfg0.N) (h0 : t.val % 5 = 0) :
    outsAt0 m c t.val t.isLt = (k0_pay2 (k0_pay1 (iblk m c 0 t) (iblk m c 1 t)) (iblk m c 2 t), k0_pay1 (iblk m c 0 t) (iblk m c 1 t)) := by
  refine Prod.ext ?_ ?_
  · show (outsAt0 m c t.val t.isLt).1 = _
    rw [outsAt0_A m c t h0]; frame_out
  · show (outsAt0 m c t.val t.isLt).2 = _
    rw [outsAt0_A m c t h0]; frame_out

/-- And a later point of it. -/
theorem outs_B (c : Dev nD) (t : Fin cfg0.N) (h0 : ¬t.val % 5 = 0) (hp : t.val - 1 < cfg0.N) :
    outsAt0 m c t.val t.isLt = (k0_pay2 (outsAt0 m c (t.val - 1) hp).2 (iblk m c 2 t), (outsAt0 m c (t.val - 1) hp).2) := by
  refine Prod.ext ?_ ?_
  · show (outsAt0 m c t.val t.isLt).1 = _
    rw [outsAt0_B m c t h0]; frame_out
    exact congrArg (fun a => k0_pay2 a (iblk m c 2 t)) ((Memref.isWhole_whole cc0_scratch0).read_unread _)
  · show (outsAt0 m c t.val t.isLt).2 = _
    rw [outsAt0_B m c t h0]; rfl

/-- The normalised row `r`. -/
abbrev nrow (c : Dev nD) (r : Fin 1024) : Fin 2048 → EReal := rms (srow (aX m c) r) (fun j => aG m c (ix1 j))

/-- The first point of a run keeps the normalised rows. -/
theorem kept_A (c : Dev nD) (t : Fin cfg0.N) (a : Fin 1024) (r : Fin 1024) (hr : r.val = 1024 * (t.val / 5) + a.val) (j : Fin 2048) :
    k0_pay1 (F := Ideal) (iblk m c 0 t) (iblk m c 1 t) (ix2 a j) = nrow m c r j := by
  rw [pay_norm]
  exact congrFun (congrArg₂ rms (funext fun k => blk_x m c t a k r hr) (funext fun k => blk_g m c t k)) j

/-- What is kept after point `n`: the normalised rows of its block. -/
theorem kept (c : Dev nD) : ∀ (n : ℕ) (h : n < cfg0.N) (a : Fin 1024) (r : Fin 1024), r.val = 1024 * (n / 5) + a.val →
    ∀ j : Fin 2048, (outsAt0 m c n h).2 (ix2 a j) = nrow m c r j := by
  intro n
  induction n with
  | zero =>
    intro h a r hr j
    exact (congrFun (congrArg Prod.snd (outs_A m c ⟨0, h⟩ rfl)) _).trans (kept_A m c ⟨0, h⟩ a r hr j)
  | succ n ih =>
    intro h a r hr j
    by_cases h0 : (n + 1) % 5 = 0
    · exact (congrFun (congrArg Prod.snd (outs_A m c ⟨n + 1, h⟩ h0)) _).trans (kept_A m c ⟨n + 1, h⟩ a r hr j)
    · exact (congrFun (congrArg Prod.snd (outs_B m c ⟨n + 1, h⟩ h0 (Nat.lt_of_succ_lt h))) _).trans
        (ih (Nat.lt_of_succ_lt h) a r (by rw [hr]; omega) j)

/-- What a point writes is the product of the rows it keeps with its piece of the weight. -/
theorem wrote (c : Dev nD) (t : Fin cfg0.N) : (outsAt0 m c t.val t.isLt).1 = k0_pay2 (F := Ideal) (outsAt0 m c t.val t.isLt).2 (iblk m c 2 t) := by
  by_cases h0 : t.val % 5 = 0
  · rw [outs_A m c t h0]
  · rw [outs_B m c t h0 (Nat.lt_of_le_of_lt (Nat.sub_le _ _) t.isLt)]

/-- The entry a point writes. -/
theorem entry (c : Dev nD) (t : Fin cfg0.N) (y : S1024x1280.Idx) (r : Fin 1024) (l : Fin 6400)
    (hr : r.val = 1024 * (t.val / 5) + (y 0).val) (hl : l.val = (t.val % 5) * 1280 + (y 1).val) :
    (outsAt0 m c t.val t.isLt).1 y = ∑ j, nrow m c r j * pack (aW m c) (ix2 j l) := by
  rw [wrote m c t, pay_dot]
  refine Finset.sum_congr rfl fun j _ => ?_
  exact congrArg₂ (· * ·) (kept m c t.val t.isLt (y 0) r hr j) (blk_w m c t j (y 1) l hl)

/-- The call's array at an index. -/
theorem result (c : Dev nD) (r : Fin 1024) (l : Fin 6400) :
    (dats m 0 c).arrAt 3 cfg0.N (ix2 r l) = ∑ j, nrow m c r j * pack (aW m c) (ix2 j l) := by
  have h := (dats m 0 c).arrAt_eq_of_covers 3 (fun i => ∑ j, nrow m c (i 0) j * pack (aW m c) (ix2 j (i 1)) : FVec Ideal S1024x6400 .f32) (by decide +kernel) fun t hf y => by
    blk_simp
    rw [after0_3]
    exact entry m c t y _ _ (by blk_simp [idx t]; omega) (by blk_simp [idx t])
  exact congrFun h (ix2 r l)

end Cert.Proof.InS

end
-- ==== Proof.InS.Ref.lean ====
/-
  The reference's projection read at an index, with the two states it hands on.
-/
module

public import proofs.«01_k».proof.Proof.Ffn.Sample
public import proofs.«01_k».proof.Proof.Gen.InSRefIdeal

@[expose] public section

set_option maxRecDepth 16384

noncomputable section

namespace Cert.Proof.InS.Ref

open Cert.InSRefIdeal Cert.InSRefIdeal.Gen
open Idealize.ShloMosaic Idealize.ShloMosaic.TcCoe Cert.Proof.Ffn

/-- The normalised rows, as the reference computes them. -/
def norm (X : FVec Ideal S16x64x2048 .f32) (G : FVec Ideal S2048 .f32) : FVec Ideal S16x64x2048 .f32 :=
  mulf (mulf X (broadcastInDim S16x64x2048 ![0, 1, 2] bcast_S16x64x1_S16x64x2048_0_1_2 (Host.rsqrt (addf (Host.divf (broadcastInDim S16x64x1 ![0, 1] bcast_S16x64_S16x64x1_0_1 (Host.reduceAdd (mulf X X) (constant S_ .f32 0x00000000#32) reducesTo_S16x64x2048_S16x64_d2 h_S_)) (broadcastInDim S16x64x1 ![] bcast_S_S16x64x1 (constant S_ .f32 0x45000000#32))) (broadcastInDim S16x64x1 ![] bcast_S_S16x64x1 (constant S_ .f32 0x358637BD#32)))))) (broadcastInDim S16x64x2048 ![0, 1, 2] bcast_S1x1x2048_S16x64x2048_0_1_2 (broadcastInDim S1x1x2048 ![2] bcast_S2048_S1x1x2048_2 G))

/-- The projected rows. -/
def proj (H : FVec Ideal S16x64x2048 .f32) (A : FVec Ideal S2048x6056 .f32) : FVec Ideal S16x64x6056 .f32 :=
  Host.dotGeneral dot_S16x64x2048_S2048x6056_S16x64x6056_2_0_01_1_n_n none H A

/-- The last token's columns for the recurrence. -/
def shift (U : FVec Ideal S16x64x6056 .f32) : FVec Ideal S16x1696 .f32 :=
  shapeCast _ (extractStridedSlice S16x1x1696 ![0, 63, 0] (extractStridedSlice S16x64x1696 ![0, 0, 0] U slices_S16x64x6056_S16x64x1696_0_0_0) slices_S16x64x1696_S16x1x1696_0_63_0) shapeCasts_S16x1x1696_S16x1696

/-- The last fifteen tokens' columns for the pooling, of the history and this call's tokens. -/
def pool (U : FVec Ideal S16x64x6056 .f32) (H : FVec Ideal S16x15x512 .f32) : FVec Ideal S16x15x512 .f32 :=
  extractStridedSlice S16x15x512 ![0, 64, 0] (concatenate S16x79x512 1 [⟨S16x15x512, H⟩, ⟨S16x64x512, (extractStridedSlice S16x64x512 ![0, 0, 1696] U slices_S16x64x6056_S16x64x512_0_0_1696)⟩] concatenates_S16x15x512_S16x64x512_S16x79x512_d1) slices_S16x79x512_S16x15x512_0_64_0

/-- The normalised rows at an index. -/
theorem norm_apply (X : FVec Ideal S16x64x2048 .f32) (G : FVec Ideal S2048 .f32) (b : Fin 16) (t : Fin 64) (k : Fin 2048) :
    norm X G (ix3 b t k) = rms (fun j => X (ix3 b t j)) (fun j => G (ix1 j)) k := by
  pointwise [norm, rms]

/-- The projected rows at an index. -/
theorem proj_apply (X : FVec Ideal S16x64x2048 .f32) (G : FVec Ideal S2048 .f32) (A : FVec Ideal S2048x6056 .f32) (b : Fin 16) (t : Fin 64)
    (q : Fin 6056) : proj (norm X G) A (ix3 b t q) = ∑ j, rms (fun j => X (ix3 b t j)) (fun j => G (ix1 j)) j * A (ix2 j q) := by
  have e : proj (norm X G) A (ix3 b t q) = ∑ j, norm X G (ix3 b t j) * A (ix2 j q) := by
    pointwise [proj]
  rw [e]
  simp only [norm_apply]

/-- The recurrence's state at an index. -/
theorem shift_apply (U : FVec Ideal S16x64x6056 .f32) (b : Fin 16) (q : Fin 1696) :
    shift U (ix2 b q) = U (ix3 b 63 ⟨q.val, by omega⟩) := by
  pointwise [shift]

/-- The pooling's state at an index. -/
theorem pool_apply (U : FVec Ideal S16x64x6056 .f32) (H : FVec Ideal S16x15x512 .f32) (b : Fin 16) (p : Fin 15) (q : Fin 512) :
    pool U H (ix3 b p q) = U (ix3 b ⟨p.val + 49, by omega⟩ ⟨q.val + 1696, by omega⟩) := by
  pointwise [pool]
  rw [dif_neg (by omega)]
  exact congrArg₂ (fun a l => U (ix3 b a l)) (Fin.ext (by show 64 + p.val - 15 = p.val + 49; omega)) (Fin.ext (Nat.add_comm 1696 q.val))

end Cert.Proof.InS.Ref

end
-- ==== Proof.InS.Agree.lean ====
/-
  The projection's three results are the reference's.
-/
module

public import proofs.«01_k».proof.Proof.InS.Value
public import proofs.«01_k».proof.Proof.InS.Ref

@[expose] public section

set_option maxRecDepth 16384

noncomputable section

namespace Cert.Proof.InS

open Cert.InSIdeal Cert.InSIdeal.Gen
open Idealize.ShloMosaic Idealize.ShloMosaic.TcCoe Idealize.SL.Sem Cert.Proof.Ffn

variable (m : (ℓ : Loc nD τ sig) → Buf (Elt Ideal) ℓ)

/-- The projected rows of the reference on the arrays as launched. -/
abbrev refRows (c : Dev nD) : FVec Ideal S16x64x6056 .f32 := Ref.proj (Ref.norm (aX m c) (aG m c)) (aW m c)

/-- The row of a batch and token. -/
theorem row_eq (c : Dev nD) (b : Fin 16) (t : Fin 64) (h : 64 * b.val + t.val < 1024) :
    srow (aX m c) ⟨64 * b.val + t.val, h⟩ = fun j => aX m c (ix3 b t j) := by
  have hb : (⟨(64 * b.val + t.val) / 64, by omega⟩ : Fin 16) = b := Fin.ext (by dsimp only; omega)
  have ht : (⟨(64 * b.val + t.val) % 64, by omega⟩ : Fin 64) = t := Fin.ext (by dsimp only; omega)
  funext j
  exact congrArg₂ (fun b' t' => aX m c (ix3 b' t' j)) hb ht

/-- The product of a row with the packed column at a column's place is the reference's entry at that column. -/
theorem product (c : Dev nD) (b : Fin 16) (t : Fin 64) (q : Fin 6056) (h : 64 * b.val + t.val < 1024) :
    (∑ j : Fin 2048, nrow m c ⟨64 * b.val + t.val, h⟩ j * pack (aW m c) (ix2 j (place q)) : EReal) = refRows m c (ix3 b t q) := by
  refine Eq.trans (Finset.sum_congr rfl fun j _ => ?_) (Ref.proj_apply (aX m c) (aG m c) (aW m c) b t q).symm
  rw [pack_apply, nrow, row_eq m c b t h]

/-- An entry of the call's array at a column's place is the reference's entry at that column. -/
theorem entry_eq (c : Dev nD) (b : Fin 16) (t : Fin 64) (q : Fin 6056) (h : 64 * b.val + t.val < 1024) :
    (dats m 0 c).arrAt 3 cfg0.N (ix2 ⟨64 * b.val + t.val, h⟩ (place q)) = refRows m c (ix3 b t q) :=
  (result m c _ _).trans (product m c b t q h)

/-- The projected rows. -/
theorem rows_eq (c : Dev nD) : rows ((dats m 0 c).arrAt 3 cfg0.N) = refRows m c := by
  funext i
  have hi := (ix3_eta (n0 := 16) (n1 := 64) (n2 := 6056) i).symm
  refine (congrArg _ hi).trans (Eq.trans ?_ (congrArg (refRows m c) hi.symm))
  exact (rows_apply _ (i 0) (i 1) (i 2)).trans (entry_eq m c (i 0) (i 1) (i 2) _)

/-- The recurrence's state. -/
theorem shift_eq (c : Dev nD) : shift ((dats m 0 c).arrAt 3 cfg0.N) = Ref.shift (refRows m c) := by
  funext i
  have hi := (ix2_eta (n0 := 16) (n1 := 1696) i).symm
  refine (congrArg _ hi).trans (Eq.trans ?_ (congrArg (Ref.shift (refRows m c)) hi.symm))
  exact (shift_apply _ (i 0) (i 1)).trans ((entry_eq m c (i 0) 63 _ _).trans (Ref.shift_apply _ (i 0) (i 1)).symm)

/-- The pooling's state. -/
theorem pool_eq (c : Dev nD) : pool ((dats m 0 c).arrAt 3 cfg0.N) (aH m c) = Ref.pool (refRows m c) (aH m c) := by
  funext i
  have hi := (ix3_eta (n0 := 16) (n1 := 15) (n2 := 512) i).symm
  refine (congrArg _ hi).trans (Eq.trans ?_ (congrArg (Ref.pool (refRows m c) (aH m c)) hi.symm))
  exact (pool_apply _ _ (i 0) (i 1) (i 2)).trans ((entry_eq m c (i 0) ⟨(i 1).val + 49, by have : (i 1).val < 15 := (i 1).isLt; omega⟩ _ _).trans
    (Ref.pool_apply _ _ (i 0) (i 1) (i 2)).symm)

end Cert.Proof.InS

end
-- ==== Proof.Kv.Value.lean ====
/-
  The call that copies the projected queries, keys and values: its keys and values, cut by heads, are the reference's.
-/
module

public import Idealize.ShloMosaic.Lib.Pipeline.ValueKit
public import proofs.«01_k».proof.Proof.Gen.KvIdeal.Frame

@[expose] public section

set_option maxRecDepth 16384

noncomputable section

namespace Cert.Proof.Kv

open Cert.KvIdeal Cert.KvIdeal.Gen
open Idealize.ShloMosaic Idealize.ShloMosaic.TcCoe Idealize.SL.Sem
open Idealize.ShloMosaic.Pipeline (Dat)

variable (m : (ℓ : Loc nD τ sig) → Buf (Elt Ideal) ℓ)

/-- Where the keys' and the values' blocks lie at each grid point. -/
theorem idx : ∀ t : Fin cfg0.N, win0_1.index t = ![t.val / 32, t.val % 32, 9] ∧ win0_2.index t = ![t.val / 32, t.val % 32, 10]
    ∧ win0_6.index t = ![t.val / 32, t.val % 32, 0] ∧ win0_7.index t = ![t.val / 32, t.val % 32, 0] :=
  (by decide +kernel : ∀ t : Fin grid0.N, _)

/-- The projected rows as launched. -/
abbrev aU (c : Dev nD) : FVec Ideal S2x16384x6056 .f32 := m ((c : Thread nD τ).loc main_arg0)

/-- The rows with their columns packed. -/
def pack (U : FVec Ideal S2x16384x6056 .f32) : FVec Ideal S2x16384x6400 .f32 :=
  concatenate S2x16384x6400 2 [⟨S2x16384x2048, extractStridedSlice S2x16384x2048 ![0, 0, 0] (extractStridedSlice S2x16384x2056 ![0, 0, 3744] U slices_S2x16384x6056_S2x16384x2056_0_0_3744) slices_S2x16384x2056_S2x16384x2048_0_0_0⟩,
    ⟨S2x16384x1536, extractStridedSlice S2x16384x1536 ![0, 0, 0] (extractStridedSlice S2x16384x1696 ![0, 0, 0] U slices_S2x16384x6056_S2x16384x1696_0_0_0) slices_S2x16384x1696_S2x16384x1536_0_0_0⟩,
    ⟨S2x16384x512, extractStridedSlice S2x16384x512 ![0, 0, 1696] U slices_S2x16384x6056_S2x16384x512_0_0_1696⟩,
    ⟨S2x16384x1536, extractStridedSlice S2x16384x1536 ![0, 0, 2208] U slices_S2x16384x6056_S2x16384x1536_0_0_2208⟩,
    ⟨S2x16384x160, extractStridedSlice S2x16384x160 ![0, 0, 1536] (extractStridedSlice S2x16384x1696 ![0, 0, 0] U slices_S2x16384x6056_S2x16384x1696_0_0_0) slices_S2x16384x1696_S2x16384x160_0_0_1536⟩,
    ⟨S2x16384x96, broadcastInDim S2x16384x96 ![] bcast_S_S2x16384x96 (constant S_ .f32 0x00000000#32)⟩,
    ⟨S2x16384x256, extractStridedSlice S2x16384x256 ![0, 0, 5800] U slices_S2x16384x6056_S2x16384x256_0_0_5800⟩,
    ⟨S2x16384x8, extractStridedSlice S2x16384x8 ![0, 0, 2048] (extractStridedSlice S2x16384x2056 ![0, 0, 3744] U slices_S2x16384x6056_S2x16384x2056_0_0_3744) slices_S2x16384x2056_S2x16384x8_0_0_2048⟩,
    ⟨S2x16384x120, broadcastInDim S2x16384x120 ![] bcast_S_S2x16384x120 (constant S_ .f32 0x00000000#32)⟩,
    ⟨S2x16384x128, broadcastInDim S2x16384x128 ![] bcast_S_S2x16384x128 (constant S_ .f32 0x00000000#32)⟩]
    concatenates_S2x16384x2048_S2x16384x1536_S2x16384x512_S2x16384x1536_S2x16384x160_S2x16384x96_S2x16384x256_S2x16384x8_S2x16384x120_S2x16384x128_S2x16384x6400_d2

set_option maxHeartbeats 2000000 in
/-- The packed columns of the attention are the rows' own. -/
theorem pack_apply (U : FVec Ideal S2x16384x6056 .f32) (b : Fin 2) (t : Fin 16384) (l : Fin 6400) (q : Fin 6056)
    (hq : 2208 ≤ q.val) (hq' : q.val < 3744) (hl : l.val = q.val + 1888) : pack U (ix3 b t l) = U (ix3 b t q) := by
  pointwise [pack]
  repeat' first | rw [dif_neg (by omega)] | rw [dif_pos (by omega)]
  exact congrArg (fun q => U (ix3 b t q)) (Fin.ext (by dsimp only; omega))

set_option maxHeartbeats 4000000 in
/-- What the region finds: the packed rows. -/
theorem V_v12 (c : Dev nD) : V m c main_v12 = pack (aU m c) := by
  simp only [V, V0, hostOps0, List.flatten_cons, List.flatten_nil, List.append_nil, List.cons_append, List.nil_append]
  after_results
  rfl

/-- A block of keys at an index. -/
theorem blk_k (c : Dev nD) (t : Fin cfg0.N) (a : Fin 512) (k : Fin 512) (b : Fin 2) (r : Fin 16384) (hb : b.val = t.val / 32)
    (hr : r.val = (t.val % 32) * 512 + a.val) : X0_1 m c t (ix3 (0 : Fin 1) a k) = aU m c (ix3 b r ⟨k.val + 2720, by omega⟩) := by
  have h : X0_1 m c t (ix3 (0 : Fin 1) a k) = V m c main_v12 (ix3 b r ⟨k.val + 4608, by omega⟩) := by
    unfold X0_1 Pipeline.Window.fill
    rw [dif_pos (moved0_1 t _)]
    blk_ext! [iblk, idx t]
  rw [h, V_v12]
  exact pack_apply _ b r _ _ (by dsimp only; omega) (by dsimp only; omega) (by dsimp only <;> omega)

/-- A block of values at an index. -/
theorem blk_v (c : Dev nD) (t : Fin cfg0.N) (a : Fin 512) (k : Fin 512) (b : Fin 2) (r : Fin 16384) (hb : b.val = t.val / 32)
    (hr : r.val = (t.val % 32) * 512 + a.val) : X0_2 m c t (ix3 (0 : Fin 1) a k) = aU m c (ix3 b r ⟨k.val + 3232, by omega⟩) := by
  have h : X0_2 m c t (ix3 (0 : Fin 1) a k) = V m c main_v12 (ix3 b r ⟨k.val + 5120, by omega⟩) := by
    unfold X0_2 Pipeline.Window.fill
    rw [dif_pos (moved0_2 t _)]
    blk_ext! [iblk, idx t]
  rw [h, V_v12]
  exact pack_apply _ b r _ _ (by dsimp only; omega) (by dsimp only; omega) (by dsimp only <;> omega)

/-- The keys a point writes are those it reads. -/
theorem outs_k (c : Dev nD) (t : Fin cfg0.N) (y : S1x512x512.Idx) : (outsAt0 m c t).2.2.2.1 y = X0_1 m c t (ix3 (0 : Fin 1) (y 1) (y 2)) := by
  have h : (outsAt0 m c t).2.2.2.1 = k0_pay5 (F := Ideal) (X0_1 m c t) := by
    unfold outsAt0
    frame_out
  rw [h]
  pointwise [k0_pay5]
  have h0 : y 0 = (0 : Fin 1) := Fin.ext (by have : (y 0).val < 1 := (y 0).isLt; show (y 0).val = 0; omega)
  exact congrArg (X0_1 m c t) ((ix3_eta (n0 := 1) (n1 := 512) (n2 := 512) y).symm.trans (congrArg (fun a => ix3 a (y 1) (y 2)) h0))

/-- The values a point writes are those it reads. -/
theorem outs_v (c : Dev nD) (t : Fin cfg0.N) (y : S1x512x512.Idx) : (outsAt0 m c t).2.2.2.2 y = X0_2 m c t (ix3 (0 : Fin 1) (y 1) (y 2)) := by
  have h : (outsAt0 m c t).2.2.2.2 = k0_pay1 (F := Ideal) (k0_pay6 (X0_2 m c t)) := by
    unfold outsAt0
    frame_out
  rw [h]
  pointwise [k0_pay1, k0_pay6]
  have h0 : y 0 = (0 : Fin 1) := Fin.ext (by have : (y 0).val < 1 := (y 0).isLt; show (y 0).val = 0; omega)
  exact congrArg (X0_2 m c t) ((ix3_eta (n0 := 1) (n1 := 512) (n2 := 512) y).symm.trans (congrArg (fun a => ix3 a (y 1) (y 2)) h0))

/-- The keys of the rows, in the columns where the reference cuts them. -/
def keys (U : FVec Ideal S2x16384x6056 .f32) : FVec Ideal S2x16384x512 .f32 := fun i => U (ix3 (i 0) (i 1) ⟨(i 2).val + 2720, by have : (i 2).val < 512 := (i 2).isLt; omega⟩)

/-- And the values. -/
def vals (U : FVec Ideal S2x16384x6056 .f32) : FVec Ideal S2x16384x512 .f32 := fun i => U (ix3 (i 0) (i 1) ⟨(i 2).val + 3232, by have : (i 2).val < 512 := (i 2).isLt; omega⟩)

/-- The call's array of keys. -/
theorem result_k (c : Dev nD) : (dats m 0 c).arrAt 6 cfg0.N = keys (aU m c) := by
  refine (dats m 0 c).arrAt_eq_of_covers 6 (keys (aU m c)) (by decide +kernel) fun t hf y => ?_
  blk_simp
  rw [after0_6]
  refine (outs_k m c t y).trans ?_
  have h0 : (y 0).val < 1 := (y 0).isLt
  unfold keys
  refine (blk_k m c t (y 1) (y 2) ((win0_6.blk t).view.emb y 0) ((win0_6.blk t).view.emb y 1) ?_ ?_).trans (congrArg (fun q => aU m c (ix3 ((win0_6.blk t).view.emb y 0) ((win0_6.blk t).view.emb y 1) q)) (Fin.ext ?_)) <;> blk_simp [idx t] <;> try omega

/-- The call's array of values. -/
theorem result_v (c : Dev nD) : (dats m 0 c).arrAt 7 cfg0.N = vals (aU m c) := by
  refine (dats m 0 c).arrAt_eq_of_covers 7 (vals (aU m c)) (by decide +kernel) fun t hf y => ?_
  blk_simp
  rw [after0_7]
  refine (outs_v m c t y).trans ?_
  have h0 : (y 0).val < 1 := (y 0).isLt
  unfold vals
  refine (blk_v m c t (y 1) (y 2) ((win0_7.blk t).view.emb y 0) ((win0_7.blk t).view.emb y 1) ?_ ?_).trans (congrArg (fun q => aU m c (ix3 ((win0_7.blk t).view.emb y 0) ((win0_7.blk t).view.emb y 1) q)) (Fin.ext ?_)) <;> blk_simp [idx t] <;> try omega

/-- An array of keys or values cut by heads. -/
def heads (K : FVec Ideal S2x16384x512 .f32) : FVec Ideal S2x16384x8x64 .f32 := shapeCast _ K shapeCasts_S2x16384x512_S2x16384x8x64

/-- What the call leaves in its arrays is what the operations after it find there. -/
theorem found_k (c : Dev nD) :
    Pipeline.withArrays spec0 c (V0 m c) (fun w => (dats m 0 c).arrAt w cfg0.N) (Proc.devRef .tc main_v13_3) = (dats m 0 c).arrAt 6 cfg0.N :=
  (dats m 0 c).withArrays_arrAt launch₀0.sharedIn (V0 m c) (A_eq m c) 6

/-- And so for the values. -/
theorem found_v (c : Dev nD) :
    Pipeline.withArrays spec0 c (V0 m c) (fun w => (dats m 0 c).arrAt w cfg0.N) (Proc.devRef .tc main_v13_4) = (dats m 0 c).arrAt 7 cfg0.N :=
  (dats m 0 c).withArrays_arrAt launch₀0.sharedIn (V0 m c) (A_eq m c) 7

/-- The first result. -/
theorem after_k (c : Dev nD) : Pipeline.afterTail₀ cfgs (dats m) 0 (V0 m) [hostOps1] c main_v14 = heads (keys (aU m c)) := by
  rw [← result_k m c, ← found_k m c]
  unfold Pipeline.afterTail₀
  generalize Pipeline.withArrays _ _ _ _ = U
  simp only [hostOps1, List.flatten_cons, List.flatten_nil, List.append_nil, List.cons_append, List.nil_append]
  after_results
  try rfl

/-- The second result. -/
theorem after_v (c : Dev nD) : Pipeline.afterTail₀ cfgs (dats m) 0 (V0 m) [hostOps1] c main_v15 = heads (vals (aU m c)) := by
  rw [← result_v m c, ← found_v m c]
  unfold Pipeline.afterTail₀
  generalize Pipeline.withArrays _ _ _ _ = U
  simp only [hostOps1, List.flatten_cons, List.flatten_nil, List.append_nil, List.cons_append, List.nil_append]
  after_results
  try rfl

/-- The keys are the reference's slice of the rows. -/
theorem keys_eq (U : FVec Ideal S2x16384x6056 .f32) (h : S2x16384x6056.Slices ![0, 0, 2208] S2x16384x1536) (h' : S2x16384x1536.Slices ![0, 0, 512] S2x16384x512) :
    extractStridedSlice S2x16384x512 ![0, 0, 512] (extractStridedSlice S2x16384x1536 ![0, 0, 2208] U h) h' = keys U := by
  funext i
  have hi := (ix3_eta (n0 := 2) (n1 := 16384) (n2 := 512) i).symm
  rw [hi]
  pointwise [keys]
  exact congrArg (fun q => U (ix3 (i 0) (i 1) q)) (Fin.ext (by dsimp only; omega))

/-- And the values. -/
theorem vals_eq (U : FVec Ideal S2x16384x6056 .f32) (h : S2x16384x6056.Slices ![0, 0, 2208] S2x16384x1536) (h' : S2x16384x1536.Slices ![0, 0, 1024] S2x16384x512) :
    extractStridedSlice S2x16384x512 ![0, 0, 1024] (extractStridedSlice S2x16384x1536 ![0, 0, 2208] U h) h' = vals U := by
  funext i
  have hi := (ix3_eta (n0 := 2) (n1 := 16384) (n2 := 512) i).symm
  rw [hi]
  pointwise [vals]
  exact congrArg (fun q => U (ix3 (i 0) (i 1) q)) (Fin.ext (by dsimp only; omega))

end Cert.Proof.Kv

end
-- ==== Proof.KvS.Value.lean ====
/-
  At the sample shapes, the call that copies the projected queries, keys and values: its keys and values, cut by heads, are the reference's.
-/
module

public import Idealize.ShloMosaic.Lib.Pipeline.ValueKit
public import proofs.«01_k».proof.Proof.Gen.KvSIdeal.Frame

@[expose] public section

set_option maxRecDepth 16384

noncomputable section

namespace Cert.Proof.KvS

open Cert.KvSIdeal Cert.KvSIdeal.Gen
open Idealize.ShloMosaic Idealize.ShloMosaic.TcCoe Idealize.SL.Sem
open Idealize.ShloMosaic.Pipeline (Dat)

variable (m : (ℓ : Loc nD τ sig) → Buf (Elt Ideal) ℓ)

/-- Where the keys' and the values' blocks lie at each grid point. -/
theorem idx : ∀ t : Fin cfg0.N, win0_1.index t = ![t.val / 1, t.val % 1, 9] ∧ win0_2.index t = ![t.val / 1, t.val % 1, 10]
    ∧ win0_6.index t = ![t.val / 1, t.val % 1, 0] ∧ win0_7.index t = ![t.val / 1, t.val % 1, 0] :=
  (by decide +kernel : ∀ t : Fin grid0.N, _)

/-- The projected rows as launched. -/
abbrev aU (c : Dev nD) : FVec Ideal S16x64x6056 .f32 := m ((c : Thread nD τ).loc main_arg0)

/-- The rows with their columns packed. -/
def pack (U : FVec Ideal S16x64x6056 .f32) : FVec Ideal S16x64x6400 .f32 :=
  concatenate S16x64x6400 2 [⟨S16x64x2048, extractStridedSlice S16x64x2048 ![0, 0, 0] (extractStridedSlice S16x64x2056 ![0, 0, 3744] U slices_S16x64x6056_S16x64x2056_0_0_3744) slices_S16x64x2056_S16x64x2048_0_0_0⟩,
    ⟨S16x64x1536, extractStridedSlice S16x64x1536 ![0, 0, 0] (extractStridedSlice S16x64x1696 ![0, 0, 0] U slices_S16x64x6056_S16x64x1696_0_0_0) slices_S16x64x1696_S16x64x1536_0_0_0⟩,
    ⟨S16x64x512, extractStridedSlice S16x64x512 ![0, 0, 1696] U slices_S16x64x6056_S16x64x512_0_0_1696⟩,
    ⟨S16x64x1536, extractStridedSlice S16x64x1536 ![0, 0, 2208] U slices_S16x64x6056_S16x64x1536_0_0_2208⟩,
    ⟨S16x64x160, extractStridedSlice S16x64x160 ![0, 0, 1536] (extractStridedSlice S16x64x1696 ![0, 0, 0] U slices_S16x64x6056_S16x64x1696_0_0_0) slices_S16x64x1696_S16x64x160_0_0_1536⟩,
    ⟨S16x64x96, broadcastInDim S16x64x96 ![] bcast_S_S16x64x96 (constant S_ .f32 0x00000000#32)⟩,
    ⟨S16x64x256, extractStridedSlice S16x64x256 ![0, 0, 5800] U slices_S16x64x6056_S16x64x256_0_0_5800⟩,
    ⟨S16x64x8, extractStridedSlice S16x64x8 ![0, 0, 2048] (extractStridedSlice S16x64x2056 ![0, 0, 3744] U slices_S16x64x6056_S16x64x2056_0_0_3744) slices_S16x64x2056_S16x64x8_0_0_2048⟩,
    ⟨S16x64x120, broadcastInDim S16x64x120 ![] bcast_S_S16x64x120 (constant S_ .f32 0x00000000#32)⟩,
    ⟨S16x64x128, broadcastInDim S16x64x128 ![] bcast_S_S16x64x128 (constant S_ .f32 0x00000000#32)⟩]
    concatenates_S16x64x2048_S16x64x1536_S16x64x512_S16x64x1536_S16x64x160_S16x64x96_S16x64x256_S16x64x8_S16x64x120_S16x64x128_S16x64x6400_d2

set_option maxHeartbeats 2000000 in
/-- The packed columns of the attention are the rows' own. -/
theorem pack_apply (U : FVec Ideal S16x64x6056 .f32) (b : Fin 16) (t : Fin 64) (l : Fin 6400) (q : Fin 6056)
    (hq : 2208 ≤ q.val) (hq' : q.val < 3744) (hl : l.val = q.val + 1888) : pack U (ix3 b t l) = U (ix3 b t q) := by
  pointwise [pack]
  repeat' first | rw [dif_neg (by omega)] | rw [dif_pos (by omega)]
  exact congrArg (fun q => U (ix3 b t q)) (Fin.ext (by dsimp only; omega))

set_option maxHeartbeats 4000000 in
/-- What the region finds: the packed rows. -/
theorem V_v12 (c : Dev nD) : V m c main_v12 = pack (aU m c) := by
  simp only [V, V0, hostOps0, List.flatten_cons, List.flatten_nil, List.append_nil, List.cons_append, List.nil_append]
  after_results
  rfl

/-- A block of keys at an index. -/
theorem blk_k (c : Dev nD) (t : Fin cfg0.N) (a : Fin 64) (k : Fin 512) (b : Fin 16) (r : Fin 64) (hb : b.val = t.val / 1)
    (hr : r.val = (t.val % 1) * 64 + a.val) : X0_1 m c t (ix3 (0 : Fin 1) a k) = aU m c (ix3 b r ⟨k.val + 2720, by omega⟩) := by
  have h : X0_1 m c t (ix3 (0 : Fin 1) a k) = V m c main_v12 (ix3 b r ⟨k.val + 4608, by omega⟩) := by
    unfold X0_1 Pipeline.Window.fill
    rw [dif_pos (moved0_1 t _)]
    blk_ext! [iblk, idx t]
  rw [h, V_v12]
  exact pack_apply _ b r _ _ (by dsimp only; omega) (by dsimp only; omega) (by dsimp only <;> omega)

/-- A block of values at an index. -/
theorem blk_v (c : Dev nD) (t : Fin cfg0.N) (a : Fin 64) (k : Fin 512) (b : Fin 16) (r : Fin 64) (hb : b.val = t.val / 1)
    (hr : r.val = (t.val % 1) * 64 + a.val) : X0_2 m c t (ix3 (0 : Fin 1) a k) = aU m c (ix3 b r ⟨k.val + 3232, by omega⟩) := by
  have h : X0_2 m c t (ix3 (0 : Fin 1) a k) = V m c main_v12 (ix3 b r ⟨k.val + 5120, by omega⟩) := by
    unfold X0_2 Pipeline.Window.fill
    rw [dif_pos (moved0_2 t _)]
    blk_ext! [iblk, idx t]
  rw [h, V_v12]
  exact pack_apply _ b r _ _ (by dsimp only; omega) (by dsimp only; omega) (by dsimp only <;> omega)

/-- The keys a point writes are those it reads. -/
theorem outs_k (c : Dev nD) (t : Fin cfg0.N) (y : S1x64x512.Idx) : (outsAt0 m c t).2.2.2.1 y = X0_1 m c t (ix3 (0 : Fin 1) (y 1) (y 2)) := by
  have h : (outsAt0 m c t).2.2.2.1 = k0_pay5 (F := Ideal) (X0_1 m c t) := by
    unfold outsAt0
    frame_out
  rw [h]
  pointwise [k0_pay5]
  have h0 : y 0 = (0 : Fin 1) := Fin.ext (by have : (y 0).val < 1 := (y 0).isLt; show (y 0).val = 0; omega)
  exact congrArg (X0_1 m c t) ((ix3_eta (n0 := 1) (n1 := 64) (n2 := 512) y).symm.trans (congrArg (fun a => ix3 a (y 1) (y 2)) h0))

/-- The values a point writes are those it reads. -/
theorem outs_v (c : Dev nD) (t : Fin cfg0.N) (y : S1x64x512.Idx) : (outsAt0 m c t).2.2.2.2 y = X0_2 m c t (ix3 (0 : Fin 1) (y 1) (y 2)) := by
  have h : (outsAt0 m c t).2.2.2.2 = k0_pay1 (F := Ideal) (k0_pay6 (X0_2 m c t)) := by
    unfold outsAt0
    frame_out
  rw [h]
  pointwise [k0_pay1, k0_pay6]
  have h0 : y 0 = (0 : Fin 1) := Fin.ext (by have : (y 0).val < 1 := (y 0).isLt; show (y 0).val = 0; omega)
  exact congrArg (X0_2 m c t) ((ix3_eta (n0 := 1) (n1 := 64) (n2 := 512) y).symm.trans (congrArg (fun a => ix3 a (y 1) (y 2)) h0))

/-- The keys of the rows, in the columns where the reference cuts them. -/
def keys (U : FVec Ideal S16x64x6056 .f32) : FVec Ideal S16x64x512 .f32 := fun i => U (ix3 (i 0) (i 1) ⟨(i 2).val + 2720, by have : (i 2).val < 512 := (i 2).isLt; omega⟩)

/-- And the values. -/
def vals (U : FVec Ideal S16x64x6056 .f32) : FVec Ideal S16x64x512 .f32 := fun i => U (ix3 (i 0) (i 1) ⟨(i 2).val + 3232, by have : (i 2).val < 512 := (i 2).isLt; omega⟩)

/-- The call's array of keys. -/
theorem result_k (c : Dev nD) : (dats m 0 c).arrAt 6 cfg0.N = keys (aU m c) := by
  refine (dats m 0 c).arrAt_eq_of_covers 6 (keys (aU m c)) (by decide +kernel) fun t hf y => ?_
  blk_simp
  rw [after0_6]
  refine (outs_k m c t y).trans ?_
  have h0 : (y 0).val < 1 := (y 0).isLt
  unfold keys
  refine (blk_k m c t (y 1) (y 2) ((win0_6.blk t).view.emb y 0) ((win0_6.blk t).view.emb y 1) ?_ ?_).trans (congrArg (fun q => aU m c (ix3 ((win0_6.blk t).view.emb y 0) ((win0_6.blk t).view.emb y 1) q)) (Fin.ext ?_)) <;> blk_simp [idx t] <;> try omega

/-- The call's array of values. -/
theorem result_v (c : Dev nD) : (dats m 0 c).arrAt 7 cfg0.N = vals (aU m c) := by
  refine (dats m 0 c).arrAt_eq_of_covers 7 (vals (aU m c)) (by decide +kernel) fun t hf y => ?_
  blk_simp
  rw [after0_7]
  refine (outs_v m c t y).trans ?_
  have h0 : (y 0).val < 1 := (y 0).isLt
  unfold vals
  refine (blk_v m c t (y 1) (y 2) ((win0_7.blk t).view.emb y 0) ((win0_7.blk t).view.emb y 1) ?_ ?_).trans (congrArg (fun q => aU m c (ix3 ((win0_7.blk t).view.emb y 0) ((win0_7.blk t).view.emb y 1) q)) (Fin.ext ?_)) <;> blk_simp [idx t] <;> try omega

/-- An array of keys or values cut by heads. -/
def heads (K : FVec Ideal S16x64x512 .f32) : FVec Ideal S16x64x8x64 .f32 := shapeCast _ K shapeCasts_S16x64x512_S16x64x8x64

/-- What the call leaves in its arrays is what the operations after it find there. -/
theorem found_k (c : Dev nD) :
    Pipeline.withArrays spec0 c (V0 m c) (fun w => (dats m 0 c).arrAt w cfg0.N) (Proc.devRef .tc main_v13_3) = (dats m 0 c).arrAt 6 cfg0.N :=
  (dats m 0 c).withArrays_arrAt launch₀0.sharedIn (V0 m c) (A_eq m c) 6

/-- And so for the values. -/
theorem found_v (c : Dev nD) :
    Pipeline.withArrays spec0 c (V0 m c) (fun w => (dats m 0 c).arrAt w cfg0.N) (Proc.devRef .tc main_v13_4) = (dats m 0 c).arrAt 7 cfg0.N :=
  (dats m 0 c).withArrays_arrAt launch₀0.sharedIn (V0 m c) (A_eq m c) 7

/-- The first result. -/
theorem after_k (c : Dev nD) : Pipeline.afterTail₀ cfgs (dats m) 0 (V0 m) [hostOps1] c main_v14 = heads (keys (aU m c)) := by
  rw [← result_k m c, ← found_k m c]
  unfold Pipeline.afterTail₀
  generalize Pipeline.withArrays _ _ _ _ = U
  simp only [hostOps1, List.flatten_cons, List.flatten_nil, List.append_nil, List.cons_append, List.nil_append]
  after_results
  try rfl

/-- The second result. -/
theorem after_v (c : Dev nD) : Pipeline.afterTail₀ cfgs (dats m) 0 (V0 m) [hostOps1] c main_v15 = heads (vals (aU m c)) := by
  rw [← result_v m c, ← found_v m c]
  unfold Pipeline.afterTail₀
  generalize Pipeline.withArrays _ _ _ _ = U
  simp only [hostOps1, List.flatten_cons, List.flatten_nil, List.append_nil, List.cons_append, List.nil_append]
  after_results
  try rfl

/-- The keys are the reference's slice of the rows. -/
theorem keys_eq (U : FVec Ideal S16x64x6056 .f32) (h : S16x64x6056.Slices ![0, 0, 2208] S16x64x1536) (h' : S16x64x1536.Slices ![0, 0, 512] S16x64x512) :
    extractStridedSlice S16x64x512 ![0, 0, 512] (extractStridedSlice S16x64x1536 ![0, 0, 2208] U h) h' = keys U := by
  funext i
  have hi := (ix3_eta (n0 := 16) (n1 := 64) (n2 := 512) i).symm
  rw [hi]
  pointwise [keys]
  exact congrArg (fun q => U (ix3 (i 0) (i 1) q)) (Fin.ext (by dsimp only; omega))

/-- And the values. -/
theorem vals_eq (U : FVec Ideal S16x64x6056 .f32) (h : S16x64x6056.Slices ![0, 0, 2208] S16x64x1536) (h' : S16x64x1536.Slices ![0, 0, 1024] S16x64x512) :
    extractStridedSlice S16x64x512 ![0, 0, 1024] (extractStridedSlice S16x64x1536 ![0, 0, 2208] U h) h' = vals U := by
  funext i
  have hi := (ix3_eta (n0 := 16) (n1 := 64) (n2 := 512) i).symm
  rw [hi]
  pointwise [vals]
  exact congrArg (fun q => U (ix3 (i 0) (i 1) q)) (Fin.ext (by dsimp only; omega))

end Cert.Proof.KvS

end
-- ==== Proof.Conv.Value.lean ====
/-
  The call of the gated recurrence: the convolution's state it leaves, the last rows of its inputs, is the reference's.
-/
module

public import Idealize.ShloMosaic.Lib.Pipeline.ValueKit
public import proofs.«01_k».proof.Proof.Gen.ConvIdeal.Frame

@[expose] public section

set_option maxRecDepth 16384

noncomputable section

namespace Cert.Proof.Conv

open Cert.ConvIdeal Cert.ConvIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks of rows and of the state lie at each grid point. -/
theorem idx : ∀ t : Fin cfg0.N, win0_0.index t = ![t.val / 64, t.val % 64, 0] ∧ win0_13.index t = ![t.val / 64, 0, 0] :=
  (by decide +kernel : ∀ t : Fin grid0.N, _)

/-- The projected rows as launched. -/
abbrev aU (c : Dev nD) : FVec Ideal S2x16384x6056 .f32 := m ((c : Thread nD τ).loc main_arg0)

/-- The rows with their columns packed. -/
def pack (U : FVec Ideal S2x16384x6056 .f32) : FVec Ideal S2x16384x6400 .f32 :=
  concatenate S2x16384x6400 2 [⟨S2x16384x2048, extractStridedSlice S2x16384x2048 ![0, 0, 0] (extractStridedSlice S2x16384x2056 ![0, 0, 3744] U slices_S2x16384x6056_S2x16384x2056_0_0_3744) slices_S2x16384x2056_S2x16384x2048_0_0_0⟩,
    ⟨S2x16384x1536, extractStridedSlice S2x16384x1536 ![0, 0, 0] (extractStridedSlice S2x16384x1696 ![0, 0, 0] U slices_S2x16384x6056_S2x16384x1696_0_0_0) slices_S2x16384x1696_S2x16384x1536_0_0_0⟩,
    ⟨S2x16384x512, extractStridedSlice S2x16384x512 ![0, 0, 1696] U slices_S2x16384x6056_S2x16384x512_0_0_1696⟩,
    ⟨S2x16384x1536, extractStridedSlice S2x16384x1536 ![0, 0, 2208] U slices_S2x16384x6056_S2x16384x1536_0_0_2208⟩,
    ⟨S2x16384x160, extractStridedSlice S2x16384x160 ![0, 0, 1536] (extractStridedSlice S2x16384x1696 ![0, 0, 0] U slices_S2x16384x6056_S2x16384x1696_0_0_0) slices_S2x16384x1696_S2x16384x160_0_0_1536⟩,
    ⟨S2x16384x96, broadcastInDim S2x16384x96 ![] bcast_S_S2x16384x96 (constant S_ .f32 0x00000000#32)⟩,
    ⟨S2x16384x256, extractStridedSlice S2x16384x256 ![0, 0, 5800] U slices_S2x16384x6056_S2x16384x256_0_0_5800⟩,
    ⟨S2x16384x8, extractStridedSlice S2x16384x8 ![0, 0, 2048] (extractStridedSlice S2x16384x2056 ![0, 0, 3744] U slices_S2x16384x6056_S2x16384x2056_0_0_3744) slices_S2x16384x2056_S2x16384x8_0_0_2048⟩,
    ⟨S2x16384x120, broadcastInDim S2x16384x120 ![] bcast_S_S2x16384x120 (constant S_ .f32 0x00000000#32)⟩,
    ⟨S2x16384x128, broadcastInDim S2x16384x128 ![] bcast_S_S2x16384x128 (constant S_ .f32 0x00000000#32)⟩]
    concatenates_S2x16384x2048_S2x16384x1536_S2x16384x512_S2x16384x1536_S2x16384x160_S2x16384x96_S2x16384x256_S2x16384x8_S2x16384x120_S2x16384x128_S2x16384x6400_d2

set_option maxHeartbeats 2000000 in
/-- The packed columns the convolution reads are the rows' own. -/
theorem pack_apply (U : FVec Ideal S2x16384x6056 .f32) (b : Fin 2) (t : Fin 16384) (l : Fin 6400) (q : Fin 6056)
    (hl : l.val < 1024) (hq : q.val = l.val + 3744) : pack U (ix3 b t l) = U (ix3 b t q) := by
  pointwise [pack]
  repeat' first | rw [dif_neg (by omega)] | rw [dif_pos (by omega)]
  exact congrArg (fun q => U (ix3 b t q)) (Fin.ext (by dsimp only; omega))

set_option maxHeartbeats 4000000 in
/-- What the region finds: the packed rows. -/
theorem V_v12 (c : Dev nD) : V m c main_v12 = pack (aU m c) := by
  simp only [V, V0, hostOps0, hostOps0_1, hostOps0_2, hostOps0_3, hostOps0_4, hostOps0_5, hostOps0_6, hostOps0_7, List.flatten_cons, List.flatten_nil, List.append_nil, List.cons_append, List.nil_append]
  after_results
  rfl

/-- A block of the convolution's inputs at an index. -/
theorem blk (c : Dev nD) (t : Fin cfg0.N) (a : Fin 256) (k : Fin 1024) (b : Fin 2) (r : Fin 16384) (hb : b.val = t.val / 64)
    (hr : r.val = (t.val % 64) * 256 + a.val) : X0_0 m c t (ix3 (0 : Fin 1) a k) = aU m c (ix3 b r ⟨k.val + 3744, by omega⟩) := by
  have h : X0_0 m c t (ix3 (0 : Fin 1) a k) = V m c main_v12 (ix3 b r ⟨k.val, by omega⟩) := by
    unfold X0_0 Pipeline.Window.fill
    rw [dif_pos (moved0_0 t _)]
    blk_ext! [iblk, idx t]
  rw [h, V_v12]
  exact pack_apply _ b r _ _ k.isLt (by dsimp only)

/-- The last point of a batch leaves the last rows of its block. -/
theorem outs (c : Dev nD) (t : Fin cfg0.N) (h0 : ¬t.val % 64 = 0) (y : S1x8x1024.Idx) :
    (outsAt0 m c t.val t.isLt).2.1 y = X0_0 m c t (ix3 (0 : Fin 1) ⟨248 + (y 1).val, by have : (y 1).val < 8 := (y 1).isLt; omega⟩ (y 2)) := by
  have h : (outsAt0 m c t.val t.isLt).2.1 = k0_pay68 (F := Ideal) (k0_pay10 (X0_0 m c t)) := by
    rw [outsAt0_B m c t h0]
    frame_out
  rw [h]
  pointwise [k0_pay68, k0_pay10, k0_pay8]

/-- The last eight rows of each batch, in the columns the convolution reads. -/
def last (U : FVec Ideal S2x16384x6056 .f32) : FVec Ideal S2x8x1024 .f32 :=
  fun i => U (ix3 (i 0) ⟨16376 + (i 1).val, by have : (i 1).val < 8 := (i 1).isLt; omega⟩ ⟨(i 2).val + 3744, by have : (i 2).val < 1024 := (i 2).isLt; omega⟩)

/-- The call's array of the convolution's state. -/
theorem result (c : Dev nD) : (dats m 0 c).arrAt 13 cfg0.N = last (aU m c) := by
  refine (dats m 0 c).arrAt_eq_of_covers 13 (last (aU m c)) (by decide +kernel) fun t hf y => ?_
  have he : t.val % 64 = 63 := (flush0_13 t).mp hf
  blk_simp
  rw [after0_13]
  refine (outs m c t (by omega) y).trans ?_
  have h0 : (y 0).val < 1 := (y 0).isLt
  unfold last
  refine (blk m c t _ (y 2) ((win0_13.blk t).view.emb y 0) ⟨16376 + (y 1).val, by have : (y 1).val < 8 := (y 1).isLt; omega⟩ ?_ ?_).trans ?_
  · blk_simp [idx t]
    try omega
  · dsimp only
    omega
  · refine congrArg₂ (fun p q => aU m c (ix3 ((win0_13.blk t).view.emb y 0) p q)) (Fin.ext ?_) (Fin.ext ?_) <;> blk_simp [idx t] <;> try omega

/-- What the call leaves in its array is what the operations after it find there. -/
theorem found (c : Dev nD) :
    Pipeline.withArrays spec0 c (V0 m c) (fun w => (dats m 0 c).arrAt w cfg0.N) (Proc.devRef .tc main_v23_1) = (dats m 0 c).arrAt 13 cfg0.N :=
  (dats m 0 c).withArrays_arrAt launch₀0.sharedIn (V0 m c) (A_eq m c) 13

/-- The last three rows of each batch, in the columns the convolution reads. -/
def tail (U : FVec Ideal S2x16384x6056 .f32) : FVec Ideal S2x3x1024 .f32 :=
  fun i => U (ix3 (i 0) ⟨16381 + (i 1).val, by have : (i 1).val < 3 := (i 1).isLt; omega⟩ ⟨(i 2).val + 3744, by have : (i 2).val < 1024 := (i 2).isLt; omega⟩)

/-- Of the eight rows the result keeps three. -/
theorem cut (U : FVec Ideal S2x16384x6056 .f32) : extractStridedSlice S2x3x1024 ![0, 5, 0] (last U) slices_S2x8x1024_S2x3x1024_0_5_0 = tail U := by
  funext i
  have hi := (ix3_eta (n0 := 2) (n1 := 3) (n2 := 1024) i).symm
  rw [hi]
  pointwise [last, tail]
  refine congrArg₂ (fun p q => U (ix3 (i 0) p q)) (Fin.ext ?_) (Fin.ext ?_) <;> dsimp only <;> omega

/-- The result. -/
theorem after (c : Dev nD) : Pipeline.afterTail₀ cfgs (dats m) 0 (V0 m) [hostOps1] c main_v24 = tail (aU m c) := by
  rw [← cut, ← result m c, ← found m c]
  unfold Pipeline.afterTail₀
  generalize Pipeline.withArrays _ _ _ _ = U
  simp only [hostOps1, List.flatten_cons, List.flatten_nil, List.append_nil, List.cons_append, List.nil_append]
  after_results
  try rfl

/-- The shape of the convolution's inputs. -/
abbrev Rows : Shape := ⟨3, ![2, 16384, 1024]⟩

/-- And of these after the three of the old state. -/
abbrev Joined : Shape := ⟨3, ![2, 16387, 1024]⟩

/-- The reference's state, the last three rows of the old state followed by the new inputs, is these rows. -/
theorem tail_eq (U : FVec Ideal S2x16384x6056 .f32) (H : FVec Ideal S2x3x1024 .f32) (h1 : S2x16384x6056.Slices ![0, 0, 3744] S2x16384x2056)
    (h2 : S2x16384x2056.Slices ![0, 0, 0] Rows) (h3 : Shape.Concatenates [S2x3x1024, Rows] Joined 1)
    (h4 : Joined.Slices ![0, 16384, 0] S2x3x1024) :
    extractStridedSlice S2x3x1024 ![0, 16384, 0] (concatenate Joined 1 [⟨S2x3x1024, H⟩, ⟨Rows, extractStridedSlice Rows ![0, 0, 0]
      (extractStridedSlice S2x16384x2056 ![0, 0, 3744] U h1) h2⟩] h3) h4 = tail U := by
  funext i
  have hi := (ix3_eta (n0 := 2) (n1 := 3) (n2 := 1024) i).symm
  rw [hi]
  pointwise [tail]
  repeat' first | rw [dif_neg (by omega)] | rw [dif_pos (by omega)]
  refine congrArg₂ (fun p q => U (ix3 (i 0) p q)) (Fin.ext ?_) (Fin.ext ?_) <;> dsimp only <;> omega

end Cert.Proof.Conv

end
-- ==== Proof.ConvS.Value.lean ====
/-
  The call of the gated recurrence: the convolution's state it leaves, the last rows of its inputs, is the reference's, at the sample shapes.
-/
module

public import Idealize.ShloMosaic.Lib.Pipeline.ValueKit
public import proofs.«01_k».proof.Proof.Gen.ConvSIdeal.Frame

@[expose] public section

set_option maxRecDepth 16384

noncomputable section

namespace Cert.Proof.ConvS

open Cert.ConvSIdeal Cert.ConvSIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks of rows and of the state lie at each grid point. -/
theorem idx : ∀ t : Fin cfg0.N, win0_0.index t = ![t.val, 0, 0] ∧ win0_13.index t = ![t.val, 0, 0] :=
  (by decide +kernel : ∀ t : Fin grid0.N, _)

/-- The projected rows as launched. -/
abbrev aU (c : Dev nD) : FVec Ideal S16x64x6056 .f32 := m ((c : Thread nD τ).loc main_arg0)

/-- The rows with their columns packed. -/
def pack (U : FVec Ideal S16x64x6056 .f32) : FVec Ideal S16x64x6400 .f32 :=
  concatenate S16x64x6400 2 [⟨S16x64x2048, extractStridedSlice S16x64x2048 ![0, 0, 0] (extractStridedSlice S16x64x2056 ![0, 0, 3744] U slices_S16x64x6056_S16x64x2056_0_0_3744) slices_S16x64x2056_S16x64x2048_0_0_0⟩,
    ⟨S16x64x1536, extractStridedSlice S16x64x1536 ![0, 0, 0] (extractStridedSlice S16x64x1696 ![0, 0, 0] U slices_S16x64x6056_S16x64x1696_0_0_0) slices_S16x64x1696_S16x64x1536_0_0_0⟩,
    ⟨S16x64x512, extractStridedSlice S16x64x512 ![0, 0, 1696] U slices_S16x64x6056_S16x64x512_0_0_1696⟩,
    ⟨S16x64x1536, extractStridedSlice S16x64x1536 ![0, 0, 2208] U slices_S16x64x6056_S16x64x1536_0_0_2208⟩,
    ⟨S16x64x160, extractStridedSlice S16x64x160 ![0, 0, 1536] (extractStridedSlice S16x64x1696 ![0, 0, 0] U slices_S16x64x6056_S16x64x1696_0_0_0) slices_S16x64x1696_S16x64x160_0_0_1536⟩,
    ⟨S16x64x96, broadcastInDim S16x64x96 ![] bcast_S_S16x64x96 (constant S_ .f32 0x00000000#32)⟩,
    ⟨S16x64x256, extractStridedSlice S16x64x256 ![0, 0, 5800] U slices_S16x64x6056_S16x64x256_0_0_5800⟩,
    ⟨S16x64x8, extractStridedSlice S16x64x8 ![0, 0, 2048] (extractStridedSlice S16x64x2056 ![0, 0, 3744] U slices_S16x64x6056_S16x64x2056_0_0_3744) slices_S16x64x2056_S16x64x8_0_0_2048⟩,
    ⟨S16x64x120, broadcastInDim S16x64x120 ![] bcast_S_S16x64x120 (constant S_ .f32 0x00000000#32)⟩,
    ⟨S16x64x128, broadcastInDim S16x64x128 ![] bcast_S_S16x64x128 (constant S_ .f32 0x00000000#32)⟩]
    concatenates_S16x64x2048_S16x64x1536_S16x64x512_S16x64x1536_S16x64x160_S16x64x96_S16x64x256_S16x64x8_S16x64x120_S16x64x128_S16x64x6400_d2

set_option maxHeartbeats 2000000 in
/-- The packed columns the convolution reads are the rows' own. -/
theorem pack_apply (U : FVec Ideal S16x64x6056 .f32) (b : Fin 16) (t : Fin 64) (l : Fin 6400) (q : Fin 6056)
    (hl : l.val < 1024) (hq : q.val = l.val + 3744) : pack U (ix3 b t l) = U (ix3 b t q) := by
  pointwise [pack]
  repeat' first | rw [dif_neg (by omega)] | rw [dif_pos (by omega)]
  exact congrArg (fun q => U (ix3 b t q)) (Fin.ext (by dsimp only; omega))

set_option maxHeartbeats 4000000 in
/-- What the region finds: the packed rows. -/
theorem V_v12 (c : Dev nD) : V m c main_v12 = pack (aU m c) := by
  simp only [V, V0, hostOps0, hostOps0_1, hostOps0_2, hostOps0_3, hostOps0_4, hostOps0_5, hostOps0_6, hostOps0_7, List.flatten_cons, List.flatten_nil, List.append_nil, List.cons_append, List.nil_append]
  after_results
  rfl

/-- A block of the convolution's inputs at an index. -/
theorem blk (c : Dev nD) (t : Fin cfg0.N) (a : Fin 64) (k : Fin 1024) (b : Fin 16) (r : Fin 64) (hb : b.val = t.val)
    (hr : r.val = a.val) : X0_0 m c t (ix3 (0 : Fin 1) a k) = aU m c (ix3 b r ⟨k.val + 3744, by omega⟩) := by
  have h : X0_0 m c t (ix3 (0 : Fin 1) a k) = V m c main_v12 (ix3 b r ⟨k.val, by omega⟩) := by
    unfold X0_0 Pipeline.Window.fill
    rw [dif_pos (moved0_0 t _)]
    blk_ext! [iblk, idx t]
  rw [h, V_v12]
  exact pack_apply _ b r _ _ k.isLt (by dsimp only)

/-- A point leaves the last rows of its block. -/
theorem outs (c : Dev nD) (t : Fin cfg0.N) (y : S1x8x1024.Idx) :
    (outsAt0 m c t).2.1 y = X0_0 m c t (ix3 (0 : Fin 1) ⟨56 + (y 1).val, by have : (y 1).val < 8 := (y 1).isLt; omega⟩ (y 2)) := by
  have h : (outsAt0 m c t).2.1 = k0_pay68 (F := Ideal) (k0_pay10 (X0_0 m c t)) := by
    unfold outsAt0
    frame_out
  rw [h]
  pointwise [k0_pay68, k0_pay10, k0_pay8]

/-- The last eight rows of each batch, in the columns the convolution reads. -/
def last (U : FVec Ideal S16x64x6056 .f32) : FVec Ideal S16x8x1024 .f32 :=
  fun i => U (ix3 (i 0) ⟨56 + (i 1).val, by have : (i 1).val < 8 := (i 1).isLt; omega⟩ ⟨(i 2).val + 3744, by have : (i 2).val < 1024 := (i 2).isLt; omega⟩)

/-- The call's array of the convolution's state. -/
theorem result (c : Dev nD) : (dats m 0 c).arrAt 13 cfg0.N = last (aU m c) := by
  refine (dats m 0 c).arrAt_eq_of_covers 13 (last (aU m c)) (by decide +kernel) fun t hf y => ?_
  blk_simp
  rw [after0_13]
  refine (outs m c t y).trans ?_
  have h0 : (y 0).val < 1 := (y 0).isLt
  unfold last
  refine (blk m c t _ (y 2) ((win0_13.blk t).view.emb y 0) ⟨56 + (y 1).val, by have : (y 1).val < 8 := (y 1).isLt; omega⟩ ?_ ?_).trans ?_
  · blk_simp [idx t]
    try omega
  · dsimp only
  · refine congrArg₂ (fun p q => aU m c (ix3 ((win0_13.blk t).view.emb y 0) p q)) (Fin.ext ?_) (Fin.ext ?_) <;> blk_simp [idx t] <;> try omega

/-- What the call leaves in its array is what the operations after it find there. -/
theorem found (c : Dev nD) :
    Pipeline.withArrays spec0 c (V0 m c) (fun w => (dats m 0 c).arrAt w cfg0.N) (Proc.devRef .tc main_v23_1) = (dats m 0 c).arrAt 13 cfg0.N :=
  (dats m 0 c).withArrays_arrAt launch₀0.sharedIn (V0 m c) (A_eq m c) 13

/-- The last three rows of each batch, in the columns the convolution reads. -/
def tail (U : FVec Ideal S16x64x6056 .f32) : FVec Ideal S16x3x1024 .f32 :=
  fun i => U (ix3 (i 0) ⟨61 + (i 1).val, by have : (i 1).val < 3 := (i 1).isLt; omega⟩ ⟨(i 2).val + 3744, by have : (i 2).val < 1024 := (i 2).isLt; omega⟩)

/-- Of the eight rows the result keeps three. -/
theorem cut (U : FVec Ideal S16x64x6056 .f32) : extractStridedSlice S16x3x1024 ![0, 5, 0] (last U) slices_S16x8x1024_S16x3x1024_0_5_0 = tail U := by
  funext i
  have hi := (ix3_eta (n0 := 16) (n1 := 3) (n2 := 1024) i).symm
  rw [hi]
  pointwise [last, tail]
  refine congrArg₂ (fun p q => U (ix3 (i 0) p q)) (Fin.ext ?_) (Fin.ext ?_) <;> dsimp only <;> omega

/-- The result. -/
theorem after (c : Dev nD) : Pipeline.afterTail₀ cfgs (dats m) 0 (V0 m) [hostOps1] c main_v24 = tail (aU m c) := by
  rw [← cut, ← result m c, ← found m c]
  unfold Pipeline.afterTail₀
  generalize Pipeline.withArrays _ _ _ _ = U
  simp only [hostOps1, List.flatten_cons, List.flatten_nil, List.append_nil, List.cons_append, List.nil_append]
  after_results
  try rfl

/-- The shape of the convolution's inputs. -/
abbrev Rows : Shape := ⟨3, ![16, 64, 1024]⟩

/-- And of these after the three of the old state. -/
abbrev Joined : Shape := ⟨3, ![16, 67, 1024]⟩

/-- The reference's state, the last three rows of the old state followed by the new inputs, is these rows. -/
theorem tail_eq (U : FVec Ideal S16x64x6056 .f32) (H : FVec Ideal S16x3x1024 .f32) (h1 : S16x64x6056.Slices ![0, 0, 3744] S16x64x2056)
    (h2 : S16x64x2056.Slices ![0, 0, 0] Rows) (h3 : Shape.Concatenates [S16x3x1024, Rows] Joined 1)
    (h4 : Joined.Slices ![0, 64, 0] S16x3x1024) :
    extractStridedSlice S16x3x1024 ![0, 64, 0] (concatenate Joined 1 [⟨S16x3x1024, H⟩, ⟨Rows, extractStridedSlice Rows ![0, 0, 0]
      (extractStridedSlice S16x64x2056 ![0, 0, 3744] U h1) h2⟩] h3) h4 = tail U := by
  funext i
  have hi := (ix3_eta (n0 := 16) (n1 := 3) (n2 := 1024) i).symm
  rw [hi]
  pointwise [tail]
  repeat' first | rw [dif_neg (by omega)] | rw [dif_pos (by omega)]
  refine congrArg₂ (fun p q => U (ix3 (i 0) p q)) (Fin.ext ?_) (Fin.ext ?_) <;> dsimp only <;> omega

end Cert.Proof.ConvS

end
-- ==== Proof.MoeS.Finite.lean ====
/-
  With a finite scale and router, at the sample call's shapes, both are real numbers.
-/
module

public import proofs.«01_k».proof.Proof.Moe.Finite
public import proofs.«01_k».proof.Proof.Gen.Pre_finite_route_s

@[expose] public section

set_option maxRecDepth 16384

noncomputable section

namespace Cert.Proof.MoeS

open Idealize.ShloMosaic Cert.Proof.Ffn Cert.Proof.Moe

/-- Under the precondition the scale and the router are real numbers. -/
theorem finite (x : FVec Ideal ⟨3, ![16, 64, 2048]⟩ .f32) (g : FVec Ideal ⟨1, ![2048]⟩ .f32) (r : FVec Ideal ⟨2, ![2048, 8]⟩ .f32)
    (wg wu : FVec Ideal ⟨3, ![8, 2048, 704]⟩ .f32) (wd : FVec Ideal ⟨3, ![8, 704, 2048]⟩ .f32) (z : FVec Ideal ⟨1, ![2048]⟩ .f32)
    (h : Cert.Pre_finite_route_s.fn (F := Ideal) x g r wg wu wd z = fun _ => 1#1) : (∀ i, Real1 (g i)) ∧ (∀ i, Real1 (r i)) := by
  dsimp only [Cert.Pre_finite_route_s.fn] at h
  obtain ⟨h1, h2⟩ := IntOp.andi_eq_one.mp (congrFun h fun a => a.elim0)
  haveI : Subsingleton Cert.Pre_finite_route_s.S_.Idx := ⟨fun a b => funext fun x => x.elim0⟩
  exact ⟨fun i => SbV.fin_of_lt _ (Host.reduce_andi_all _ _ _ _ _ h1 i), fun i => SbV.fin_of_lt _ (Host.reduce_andi_all _ _ _ _ _ h2 i)⟩

end Cert.Proof.MoeS

end
-- ==== Proof.MoeS.Value.lean ====
/-
  What the routed feed-forward kernel leaves in its result: every token's entry plus the eight experts' weighted
  contributions, accumulated over the eight grid points of a block of rows, and the last norm of that.
-/
module

public import proofs.«01_k».proof.Proof.Ffn.Sample
public import proofs.«01_k».proof.Proof.Moe.Route
public import proofs.«01_k».proof.Proof.MoeS.Finite
public import proofs.«01_k».proof.Proof.Gen.MoeSIdeal.Value

@[expose] public section

set_option maxRecDepth 16384

noncomputable section

namespace Cert.Proof.MoeS

open Cert.MoeSIdeal Cert.MoeSIdeal.Gen
open Idealize.ShloMosaic Idealize.ShloMosaic.TcCoe Idealize.SL.Sem Cert.Proof.Ffn Cert.Proof.Moe
open Idealize.ShloMosaic.Pipeline (Dat)

variable (m : (ℓ : Loc nD τ sig) → Buf (Elt Ideal) ℓ)

/-- Where each window's block lies at each grid point. -/
theorem idx : ∀ t : Fin cfg0.N, win0_0.index t = ![t.val / 8, 0] ∧ win0_1.index t = ![0, 0] ∧ win0_2.index t = ![0, 0]
    ∧ win0_3.index t = ![t.val % 8, 0, 0] ∧ win0_4.index t = ![t.val % 8, 0, 0] ∧ win0_5.index t = ![t.val % 8, 0, 0] ∧ win0_6.index t = ![0, 0]
    ∧ win0_7.index t = ![t.val / 8, 0] :=
  (by decide +kernel : ∀ t : Fin grid0.N, _)

/-- The grid's second coordinate is the expert. -/
theorem coord : ∀ t : Fin cfg0.N, (grid0.coords t 1).val = t.val % 8 :=
  (by decide +kernel : ∀ t : Fin grid0.N, _)

/-- The tokens, the scale, the router, the experts' three weights and the last scale as launched. -/
abbrev aX (c : Dev nD) : FVec Ideal S16x64x2048 .f32 := m ((c : Thread nD τ).loc main_arg0)
abbrev aG (c : Dev nD) : FVec Ideal S2048 .f32 := m ((c : Thread nD τ).loc main_arg1)
abbrev aR (c : Dev nD) : FVec Ideal S2048x8 .f32 := m ((c : Thread nD τ).loc main_arg2)
abbrev aWG (c : Dev nD) : FVec Ideal S8x2048x704 .f32 := m ((c : Thread nD τ).loc main_arg3)
abbrev aWU (c : Dev nD) : FVec Ideal S8x2048x704 .f32 := m ((c : Thread nD τ).loc main_arg4)
abbrev aWD (c : Dev nD) : FVec Ideal S8x704x2048 .f32 := m ((c : Thread nD τ).loc main_arg5)
abbrev aZ (c : Dev nD) : FVec Ideal S2048 .f32 := m ((c : Thread nD τ).loc main_arg6)

/-- The router and the weights with zeros up to whole tiles. -/
def padR (R : FVec Ideal S2048x8 .f32) : FVec Ideal S2048x128 .f32 :=
  pad S2048x128 ![0, 0] ![0, 120] ![0, 0] R (sitofp .f32 (constantI S_ 32 0#32)) pads_S2048x8_S2048x128_000_01200 h_S_
def padUp (W : FVec Ideal S8x2048x704 .f32) : FVec Ideal S8x2048x768 .f32 :=
  pad S8x2048x768 ![0, 0, 0] ![0, 0, 64] ![0, 0, 0] W (sitofp .f32 (constantI S_ 32 0#32)) pads_S8x2048x704_S8x2048x768_000_000_0640 h_S_
def padDown (W : FVec Ideal S8x704x2048 .f32) : FVec Ideal S8x768x2048 .f32 :=
  pad S8x768x2048 ![0, 0, 0] ![0, 64, 0] ![0, 0, 0] W (sitofp .f32 (constantI S_ 32 0#32)) pads_S8x704x2048_S8x768x2048_000_0640_000 h_S_

/-- The word zero as a number. -/
theorem word_zero : (FloatOps.sitofp FTy.f32 0#32 : Ideal .f32) = (0 : EReal) := by simp [FloatOps.sitofp]

/-- The padded router inside. -/
theorem padR_apply (R : FVec Ideal S2048x8 .f32) (j : Fin 2048) (e : Fin 8) : padR R (ix2 j (e.castLE (by omega))) = R (ix2 j e) := by
  pointwise [padR]
  simp

/-- The padded first weights, inside and outside. -/
theorem padUp_apply (W : FVec Ideal S8x2048x704 .f32) (e : Fin 8) (j : Fin 2048) (k : Fin 768) :
    padUp W (ix3 e j k) = if h : k.val < 704 then W (ix3 e j ⟨k.val, h⟩) else 0 := by
  pointwise [padUp]
  rw [word_zero]

/-- The padded last weight, inside and outside. -/
theorem padDown_apply (W : FVec Ideal S8x704x2048 .f32) (e : Fin 8) (k : Fin 768) (q : Fin 2048) :
    padDown W (ix3 e k q) = if h : k.val < 704 then W (ix3 e ⟨k.val, h⟩ q) else 0 := by
  pointwise [padDown]
  rw [word_zero]

/-- What the region finds in its windows' arrays. -/
theorem V_v0 (c : Dev nD) : V m c main_v0 = shapeCast S1024x2048 (aX m c) shapeCasts_S16x64x2048_S1024x2048 := by
  simp only [V, hostOps0, List.flatten_cons, List.flatten_nil, List.append_nil, List.cons_append, List.nil_append]
  entry_read
  try rfl

theorem V_v8 (c : Dev nD) : V m c main_v8 = shapeCast S1x2048 (aG m c) shapeCasts_S2048_S1x2048 := by
  simp only [V, hostOps0, List.flatten_cons, List.flatten_nil, List.append_nil, List.cons_append, List.nil_append]
  entry_read
  try rfl

theorem V_v1 (c : Dev nD) : V m c main_v1 = padR (aR m c) := by
  simp only [V, hostOps0, List.flatten_cons, List.flatten_nil, List.append_nil, List.cons_append, List.nil_append]
  entry_read
  try rfl

theorem V_v3 (c : Dev nD) : V m c main_v3 = padUp (aWG m c) := by
  simp only [V, hostOps0, List.flatten_cons, List.flatten_nil, List.append_nil, List.cons_append, List.nil_append]
  entry_read
  try rfl

theorem V_v5 (c : Dev nD) : V m c main_v5 = padUp (aWU m c) := by
  simp only [V, hostOps0, List.flatten_cons, List.flatten_nil, List.append_nil, List.cons_append, List.nil_append]
  entry_read
  try rfl

theorem V_v7 (c : Dev nD) : V m c main_v7 = padDown (aWD m c) := by
  simp only [V, hostOps0, List.flatten_cons, List.flatten_nil, List.append_nil, List.cons_append, List.nil_append]
  entry_read
  try rfl

theorem V_v9 (c : Dev nD) : V m c main_v9 = shapeCast S1x2048 (aZ m c) shapeCasts_S2048_S1x2048 := by
  simp only [V, hostOps0, List.flatten_cons, List.flatten_nil, List.append_nil, List.cons_append, List.nil_append]
  entry_read
  try rfl

/-- A block of tokens at an index. -/
theorem blk_x (c : Dev nD) (t : Fin cfg0.N) (a : Fin 512) (k : Fin 2048) (r : Fin 1024) (hr : r.val = 512 * (t.val / 8) + a.val) :
    iblk m c 0 t (ix2 a k) = srow (aX m c) r k := by
  have h : iblk m c 0 t (ix2 a k) = V m c main_v0 (ix2 r k) := by blk_ext! [iblk, idx t]
  rw [h, V_v0]
  pointwise [srow]

/-- The scale's block at an index. -/
theorem blk_g (c : Dev nD) (t : Fin cfg0.N) (k : Fin 2048) : iblk m c 1 t (ix2 0 k) = aG m c (ix1 k) := by
  have h : iblk m c 1 t (ix2 0 k) = V m c main_v8 (ix2 0 k) := by blk_ext! [iblk, idx t]
  rw [h, V_v8]
  pointwise

/-- The router's block at one of the experts' lanes. -/
theorem blk_r (c : Dev nD) (t : Fin cfg0.N) (j : Fin 2048) (e : Fin 8) : iblk m c 2 t (ix2 j (e.castLE (by omega) : Fin 128)) = aR m c (ix2 j e) := by
  have h : iblk m c 2 t (ix2 j (e.castLE (by omega) : Fin 128)) = V m c main_v1 (ix2 j (e.castLE (by omega) : Fin 128)) := by blk_ext! [iblk, idx t]
  rw [h, V_v1, padR_apply]

/-- The first weight's block at an index. -/
theorem blk_wg (c : Dev nD) (t : Fin cfg0.N) (j : Fin 2048) (k : Fin 768) (e : Fin 8) (he : e.val = t.val % 8) :
    iblk m c 3 t (ix3 0 j k) = if h : k.val < 704 then aWG m c (ix3 e j ⟨k.val, h⟩) else 0 := by
  have h : iblk m c 3 t (ix3 0 j k) = V m c main_v3 (ix3 e j k) := by blk_ext! [iblk, idx t]
  rw [h, V_v3, padUp_apply]

/-- The second weight's block at an index. -/
theorem blk_wu (c : Dev nD) (t : Fin cfg0.N) (j : Fin 2048) (k : Fin 768) (e : Fin 8) (he : e.val = t.val % 8) :
    iblk m c 4 t (ix3 0 j k) = if h : k.val < 704 then aWU m c (ix3 e j ⟨k.val, h⟩) else 0 := by
  have h : iblk m c 4 t (ix3 0 j k) = V m c main_v5 (ix3 e j k) := by blk_ext! [iblk, idx t]
  rw [h, V_v5, padUp_apply]

/-- The third weight's block at an index. -/
theorem blk_wd (c : Dev nD) (t : Fin cfg0.N) (k : Fin 768) (q : Fin 2048) (e : Fin 8) (he : e.val = t.val % 8) :
    iblk m c 5 t (ix3 0 k q) = if h : k.val < 704 then aWD m c (ix3 e ⟨k.val, h⟩ q) else 0 := by
  have h : iblk m c 5 t (ix3 0 k q) = V m c main_v7 (ix3 e k q) := by blk_ext! [iblk, idx t]
  rw [h, V_v7, padDown_apply]

/-- The last scale's block at an index. -/
theorem blk_z (c : Dev nD) (t : Fin cfg0.N) (k : Fin 2048) : iblk m c 6 t (ix2 0 k) = aZ m c (ix1 k) := by
  have h : iblk m c 6 t (ix2 0 k) = V m c main_v9 (ix2 0 k) := by blk_ext! [iblk, idx t]
  rw [h, V_v9]
  pointwise

/-! ## The body's values at an index -/

/-- The normalised rows a run of points begins with. -/
theorem pay_norm (x : Vec Ideal S512x2048 .f32) (g : Vec Ideal S1x2048 .f32) (a : Fin 512) (k : Fin 2048) :
    k0_pay5 x g (ix2 a k) = rms (fun k => x (ix2 a k)) (fun k => g (ix2 0 k)) k := by
  pointwise [k0_pay5, k0_pay4, k0_pay3, rms]

/-- The sum a run of points begins with. -/
theorem pay_start (x : Vec Ideal S512x2048 .f32) (a : Fin 512) (k : Fin 2048) : k0_pay6 x (ix2 a k) = x (ix2 a k) := by
  pointwise [k0_pay6, k0_pay3]

/-- The logits, with the rows and the router cut into a high part and the rest. -/
theorem pay_logit (x : Vec Ideal S512x2048 .f32) (g : Vec Ideal S1x2048 .f32) (r : Vec Ideal S2048x128 .f32) (a : Fin 512) (b : Fin 128)
    (h : Fin 2048 → EReal) (hh : rms (fun k => x (ix2 a k)) (fun k => g (ix2 0 k)) = h) : k0_pay7 x g r (ix2 a b)
      = ∑ j, h j * r (ix2 j b) + ∑ j, (h j - h j) * r (ix2 j b) + ∑ j, h j * (r (ix2 j b) - r (ix2 j b)) := by
  subst hh
  pointwise [k0_pay7, k0_pay4, k0_pay3, rms]

/-- With real rows and a real column of the router the parts add up. -/
theorem parts_add (h r : Fin 2048 → EReal) (hh : ∀ j, Real1 (h j)) (hr : ∀ j, Real1 (r j)) :
    ∑ j, h j * r j + ∑ j, (h j - h j) * r j + ∑ j, h j * (r j - r j) = ∑ j, h j * r j := by
  simp only [fun j => real_sub (hh j), fun j => real_sub (hr j), zero_mul, mul_zero, Finset.sum_const_zero, add_zero]

/-- The weights of the experts, from the logits. -/
theorem pay_gates (x : FVec Ideal S512x128 .f32) (a : Fin 512) (b : Fin 128) :
    k0_pay9 x (iota .tc S512x128 32 [1] iota_S512x128_d1_w32) k0_pay8 (ix2 a b) = lgate (lcut fun p => x (ix2 a p)) b := by
  pointwise [k0_pay9, k0_pay8]
  rfl

/-- The weight of the point's expert. -/
theorem pay_pick (i : grid0.Coords) (x : Vec Ideal S512x128 .f32) (a : Fin 512) (e : Fin 8) (he : (i 1).val = e.val) :
    k0_pay10 i x (ix2 a 0) = x (ix2 a (e.castLE (by omega) : Fin 128)) := by
  have h : k0_pay10 i x (ix2 a 0) = ∑ p : Fin 128, Scalar.select (IntOp.cmpi .eq (BitVec.ofNat 32 p.val) (BitVec.ofNat 32 (i 1).val)) (x (ix2 a p)) 0 := by
    pointwise [k0_pay10]
  rw [h, he]
  refine (Finset.sum_congr rfl fun p _ => select_lane p (e.castLE (by omega)) _ _).trans ?_
  exact (Finset.sum_ite_eq' Finset.univ _ _).trans (if_pos (Finset.mem_univ _))

/-- What the point's expert makes of the rows. -/
theorem pay_expert (h : Vec Ideal S512x2048 .bf16) (wg wu : Vec Ideal S1x2048x768 .bf16) (wd : Vec Ideal S1x768x2048 .bf16) (a : Fin 512) (q : Fin 2048) :
    k0_pay11 h wg wu wd (ix2 a q)
      = ∑ k : Fin 768, act (fun j => h (ix2 a j)) (fun j k => wg (ix3 0 j k)) (fun j k => wu (ix3 0 j k)) k * wd (ix3 0 k q) := by
  pointwise [k0_pay11, act, silu]
  simp only [zero_sub]

/-- What a point adds. -/
theorem pay_add (w : Vec Ideal S512x1 .f32) (acc p : Vec Ideal S512x2048 .f32) (a : Fin 512) (q : Fin 2048) :
    k0_pay1 w acc p (ix2 a q) = acc (ix2 a q) + w (ix2 a 0) * p (ix2 a q) := by
  pointwise [k0_pay1]

/-- The last norm. -/
theorem pay_last (acc : Vec Ideal S512x2048 .f32) (z : Vec Ideal S1x2048 .f32) (a : Fin 512) (q : Fin 2048) :
    k0_pay2 acc z (ix2 a q) = rms (fun k => acc (ix2 a k)) (fun k => z (ix2 0 k)) q := by
  pointwise [k0_pay2, rms]

/-! ## What the buffers hold -/

/-- What the three buffers carried between points hold at the first point of a run. -/
theorem outs_A (c : Dev nD) (t : Fin cfg0.N) (h0 : t.val % 8 = 0) (h1 : ¬t.val % 8 = 7) :
    (outsAt0 m c t.val t.isLt).2 = (k0_pay5 (iblk m c 0 t) (iblk m c 1 t),
      k0_pay1 (k0_pay10 (grid0.coords t) (k0_pay9 (k0_pay7 (iblk m c 0 t) (iblk m c 1 t) (iblk m c 2 t)) (iota .tc S512x128 32 [1] iota_S512x128_d1_w32) k0_pay8))
        (k0_pay6 (iblk m c 0 t)) (k0_pay11 (k0_pay5 (iblk m c 0 t) (iblk m c 1 t)) (iblk m c 3 t) (iblk m c 4 t) (iblk m c 5 t)),
      k0_pay9 (k0_pay7 (iblk m c 0 t) (iblk m c 1 t) (iblk m c 2 t)) (iota .tc S512x128 32 [1] iota_S512x128_d1_w32) k0_pay8) := by
  refine Prod.ext ?_ (Prod.ext ?_ ?_)
  · show (outsAt0 m c t.val t.isLt).2.1 = _
    rw [outsAt0_A m c t h0 h1]; frame_out
  · show (outsAt0 m c t.val t.isLt).2.2.1 = _
    rw [outsAt0_A m c t h0 h1]; frame_out
  · show (outsAt0 m c t.val t.isLt).2.2.2 = _
    rw [outsAt0_A m c t h0 h1]; frame_out

/-- What a later point makes of the sum. -/
abbrev next (c : Dev nD) (t : Fin cfg0.N) (h : FVec Ideal S512x2048 .bf16) (acc : FVec Ideal S512x2048 .f32) (w : FVec Ideal S512x128 .f32) : FVec Ideal S512x2048 .f32 :=
  k0_pay1 (k0_pay10 (grid0.coords t) w) acc (k0_pay11 h (iblk m c 3 t) (iblk m c 4 t) (iblk m c 5 t))

/-- And at a later point of it. -/
theorem outs_BC (c : Dev nD) (t : Fin cfg0.N) (h0 : ¬t.val % 8 = 0) (hp : t.val - 1 < cfg0.N) :
    (outsAt0 m c t.val t.isLt).2 = ((outsAt0 m c (t.val - 1) hp).2.1,
      next m c t (outsAt0 m c (t.val - 1) hp).2.1 (outsAt0 m c (t.val - 1) hp).2.2.1 (outsAt0 m c (t.val - 1) hp).2.2.2,
      (outsAt0 m c (t.val - 1) hp).2.2.2) := by
  have hk : ∀ (f : FVec Ideal S512x2048 .bf16 → FVec Ideal S512x2048 .f32 → FVec Ideal S512x128 .f32 → FVec Ideal S512x2048 .f32) {a a' b b' d d'},
      a = a' → b = b' → d = d' → f a b d = f a' b' d' := fun f _ _ _ _ _ _ e1 e2 e3 => by rw [e1, e2, e3]
  by_cases h1 : t.val % 8 = 7
  · refine Prod.ext ?_ (Prod.ext ?_ ?_)
    · show (outsAt0 m c t.val t.isLt).2.1 = _
      rw [outsAt0_C m c t h0 h1]; rfl
    · show (outsAt0 m c t.val t.isLt).2.2.1 = _
      rw [outsAt0_C m c t h0 h1]; frame_out
      exact hk (next m c t) ((Memref.isWhole_whole cc0_scratch0).read_unread _) ((Memref.isWhole_whole cc0_scratch1).read_unread _)
        ((Memref.isWhole_whole cc0_scratch2).read_unread _)
    · show (outsAt0 m c t.val t.isLt).2.2.2 = _
      rw [outsAt0_C m c t h0 h1]; rfl
  · refine Prod.ext ?_ (Prod.ext ?_ ?_)
    · show (outsAt0 m c t.val t.isLt).2.1 = _
      rw [outsAt0_B m c t h0 h1]; rfl
    · show (outsAt0 m c t.val t.isLt).2.2.1 = _
      rw [outsAt0_B m c t h0 h1]; frame_out
      exact hk (next m c t) ((Memref.isWhole_whole cc0_scratch0).read_unread _) ((Memref.isWhole_whole cc0_scratch1).read_unread _)
        ((Memref.isWhole_whole cc0_scratch2).read_unread _)
    · show (outsAt0 m c t.val t.isLt).2.2.2 = _
      rw [outsAt0_B m c t h0 h1]; rfl

/-- What is written back at the last point of a run. -/
theorem out_C (c : Dev nD) (t : Fin cfg0.N) (h0 : ¬t.val % 8 = 0) (h1 : t.val % 8 = 7) :
    (outsAt0 m c t.val t.isLt).1 = k0_pay2 (outsAt0 m c t.val t.isLt).2.2.1 (iblk m c 6 t) := by
  rw [outsAt0_C m c t h0 h1]; frame_out

/-- The normalised row `r`, and its logits. -/
abbrev nrow (c : Dev nD) (r : Fin 1024) : Fin 2048 → EReal := rms (srow (aX m c) r) (fun j => aG m c (ix1 j))
abbrev lrow (c : Dev nD) (r : Fin 1024) (e : Fin 8) : EReal := ∑ j, nrow m c r j * aR m c (ix2 j e)

/-- The places of its two greatest logits. -/
def topI (c : Dev nD) (r : Fin 1024) : Fin 8 := (exists_top (lrow m c r)).choose
def topJ (c : Dev nD) (r : Fin 1024) : Fin 8 := (exists_top (lrow m c r)).choose_spec.choose
theorem top (c : Dev nD) (r : Fin 1024) : Top (lrow m c r) (topI m c r) (topJ m c r) := (exists_top (lrow m c r)).choose_spec.choose_spec

/-- The weight of expert `e` for row `r`. -/
def wt (c : Dev nD) (r : Fin 1024) (e : Fin 8) : EReal := gate (lrow m c r) (topI m c r) (topJ m c r) e

/-- What expert `e` makes of entry `q` of row `r`. -/
def part (c : Dev nD) (r : Fin 1024) (q : Fin 2048) (e : Fin 8) : EReal :=
  ∑ k, act (nrow m c r) (fun j k => aWG m c (ix3 e j k)) (fun j k => aWU m c (ix3 e j k)) k * aWD m c (ix3 e k q)

/-- What expert `e` adds to entry `q` of row `r`. -/
def term (c : Dev nD) (r : Fin 1024) (q : Fin 2048) (e : Fin 8) : EReal := wt m c r e * part m c r q e

/-- The first points' sum at an entry. -/
def upto (c : Dev nD) (r : Fin 1024) (q : Fin 2048) (s : ℕ) : EReal := srow (aX m c) r q + ∑ e ∈ Finset.range s, Ffn.pad (term m c r q) e

/-- What the buffers hold of row `r` after point `n`: the normalised row, the row plus the terms so far, the weights. -/
structure Held (c : Dev nD) (n : ℕ) (b : Vec Ideal S512x2048 .bf16 × Vec Ideal S512x2048 .f32 × Vec Ideal S512x128 .f32) (a : Fin 512) (r : Fin 1024) : Prop where
  norm : ∀ j, b.1 (ix2 a j) = nrow m c r j
  acc : ∀ q, b.2.1 (ix2 a q) = upto m c r q (n % 8 + 1)
  weight : ∀ e : Fin 8, b.2.2 (ix2 a (e.castLE (by omega) : Fin 128)) = wt m c r e

/-- A sum over 768 hidden units, zero past 704. -/
theorem sum_cut (f : Fin 768 → EReal) (g : Fin 704 → EReal) (h : ∀ k : Fin 768, f k = if h : k.val < 704 then g ⟨k.val, h⟩ else 0) : ∑ k, f k = ∑ k, g k := by
  rw [show ∑ k, f k = ∑ k : Fin (704 + 64), f k from rfl, Fin.sum_univ_add, Finset.sum_eq_zero (s := Finset.univ) (f := fun k : Fin 64 => f (Fin.natAdd 704 k)), add_zero]
  · exact Finset.sum_congr rfl fun k _ => (h _).trans (dif_pos k.isLt)
  · exact fun k _ => (h _).trans (dif_neg (by simp))

/-- What a point's body adds to an entry of the running sum. -/
theorem step (c : Dev nD) (t : Fin cfg0.N) (a : Fin 512) (q : Fin 2048) (r : Fin 1024) (h : FVec Ideal S512x2048 .bf16) (acc : FVec Ideal S512x2048 .f32)
    (w : FVec Ideal S512x128 .f32) (hh : ∀ j, h (ix2 a j) = nrow m c r j) (hw : ∀ e : Fin 8, w (ix2 a (e.castLE (by omega) : Fin 128)) = wt m c r e) :
    next m c t h acc w (ix2 a q) = acc (ix2 a q) + Ffn.pad (term m c r q) (t.val % 8) := by
  have he : t.val % 8 < 8 := by omega
  rw [next, pay_add, pay_pick _ _ _ ⟨t.val % 8, he⟩ (coord t), hw, pay_expert, pad_of_lt _ he, term]
  congr 2
  refine sum_cut _ _ fun k => ?_
  rw [blk_wd m c t k q ⟨t.val % 8, he⟩ rfl]
  split
  · rename_i hk
    unfold act
    simp only [hh, fun j => blk_wg m c t j k ⟨t.val % 8, he⟩ rfl, fun j => blk_wu m c t j k ⟨t.val % 8, he⟩ rfl, dif_pos hk]
  · exact mul_zero _

/-- The first point of a run. -/
theorem held_A (c : Dev nD) (fg : ∀ i, Real1 (aG m c i)) (fr : ∀ i, Real1 (aR m c i))
    (t : Fin cfg0.N) (h0 : t.val % 8 = 0) (a : Fin 512) (r : Fin 1024) (hr : r.val = 512 * (t.val / 8) + a.val) :
    Held m c t.val (outsAt0 m c t.val t.isLt).2 a r := by
  have hs : rms (fun k => iblk m c 0 t (ix2 a k)) (fun k => iblk m c 1 t (ix2 0 k)) = nrow m c r :=
    congrArg₂ rms (funext fun k => blk_x m c t a k r hr) (funext fun k => blk_g m c t k)
  have hn : ∀ j, k0_pay5 (F := Ideal) (iblk m c 0 t) (iblk m c 1 t) (ix2 a j) = nrow m c r j := fun j => (pay_norm _ _ a j).trans (congrFun hs j)
  have fn : ∀ j, Real1 (nrow m c r j) := rms_real (fun k => fg _)
  have hl : ∀ e : Fin 8, k0_pay7 (F := Ideal) (iblk m c 0 t) (iblk m c 1 t) (iblk m c 2 t) (ix2 a (e.castLE (by omega) : Fin 128)) = lrow m c r e := by
    intro e
    rw [pay_logit _ _ _ _ _ _ hs]
    simp only [fun j => blk_r m c t j e]
    exact parts_add _ _ fn fun j => fr _
  have hw : ∀ e : Fin 8, k0_pay9 (F := Ideal) (k0_pay7 (iblk m c 0 t) (iblk m c 1 t) (iblk m c 2 t)) (iota .tc S512x128 32 [1] iota_S512x128_d1_w32) k0_pay8
      (ix2 a (e.castLE (by omega) : Fin 128)) = wt m c r e := by
    intro e
    rw [pay_gates]
    exact lgate_eq _ (lrow m c r) hl (fun p => real_ne_bot (dot_real fn fun j => fr _)) _ _ (top m c r) e
  rw [outs_A m c t h0 (by omega)]
  refine ⟨hn, fun q => ?_, hw⟩
  refine (step m c t a q r _ _ _ hn hw).trans ?_
  rw [pay_start, blk_x m c t a q r hr, h0]
  simp only [upto, Finset.sum_range_succ, Finset.sum_range_zero, zero_add]

/-- A later point of it. -/
theorem held_BC (c : Dev nD) (t : Fin cfg0.N) (h0 : ¬t.val % 8 = 0) (hp : t.val - 1 < cfg0.N) (a : Fin 512) (r : Fin 1024)
    (ih : Held m c (t.val - 1) (outsAt0 m c (t.val - 1) hp).2 a r) : Held m c t.val (outsAt0 m c t.val t.isLt).2 a r := by
  rw [outs_BC m c t h0 hp]
  refine ⟨ih.norm, fun q => ?_, ih.weight⟩
  refine (step m c t a q r _ _ _ ih.norm ih.weight).trans ?_
  rw [ih.acc q, show (t.val - 1) % 8 + 1 = t.val % 8 by omega]
  simp only [upto, Finset.sum_range_succ, add_assoc]

/-- What the carried buffers hold after point `n`. -/
theorem held (c : Dev nD) (fg : ∀ i, Real1 (aG m c i)) (fr : ∀ i, Real1 (aR m c i)) :
    ∀ (n : ℕ) (h : n < cfg0.N) (a : Fin 512) (r : Fin 1024), r.val = 512 * (n / 8) + a.val → Held m c n (outsAt0 m c n h).2 a r := by
  intro n
  induction n with
  | zero => exact fun h a r hr => held_A m c fg fr ⟨0, h⟩ rfl a r hr
  | succ n ih =>
    intro h a r hr
    by_cases h0 : (n + 1) % 8 = 0
    · exact held_A m c fg fr ⟨n + 1, h⟩ h0 a r hr
    · exact held_BC m c ⟨n + 1, h⟩ h0 (Nat.lt_of_succ_lt h) a r (ih (Nat.lt_of_succ_lt h) a r (by rw [hr, show (n + 1) / 8 = n / 8 by omega]))

/-- Row `r` before the last norm. -/
def mixed (c : Dev nD) (r : Fin 1024) (q : Fin 2048) : EReal := srow (aX m c) r q + ∑ e, term m c r q e

/-- The last point of a run at an index. -/
theorem last (c : Dev nD) (fg : ∀ i, Real1 (aG m c i)) (fr : ∀ i, Real1 (aR m c i))
    (t : Fin cfg0.N) (hm : t.val % 8 = 7) (y : S512x2048.Idx) (r : Fin 1024) (q : Fin 2048)
    (hr : r.val = 512 * (t.val / 8) + (y 0).val) (hq : q = y 1) :
    (outsAt0 m c t.val t.isLt).1 y = rms (mixed m c r) (fun j => aZ m c (ix1 j)) q := by
  subst hq
  rw [out_C m c t (by omega) hm, show y = ix2 (y 0 : Fin 512) (y 1 : Fin 2048) by blk_ext!]
  refine (pay_last _ _ (y 0) (y 1)).trans ?_
  refine congrFun (congrArg₂ rms (funext fun k => ?_) (funext fun k => blk_z m c t k)) (y 1)
  refine ((held m c fg fr t.val t.isLt (y 0) r hr).acc k).trans ?_
  rw [hm]
  exact congrArg (srow (aX m c) r k + ·) (sum_pad (term m c r k))

/-- The kernel's result at an index. -/
theorem result (c : Dev nD) (fg : ∀ i, Real1 (aG m c i)) (fr : ∀ i, Real1 (aR m c i)) (r : Fin 1024) (q : Fin 2048) :
    (dats m 0 c).arrAt 7 cfg0.N (ix2 r q) = rms (mixed m c r) (fun j => aZ m c (ix1 j)) q := by
  have h := (dats m 0 c).arrAt_eq_of_covers 7 (fun i => rms (mixed m c (i 0)) (fun j => aZ m c (ix1 j)) (i 1) : FVec Ideal S1024x2048 .f32) (by decide +kernel) fun t hf y => by
    have hm : t.val % 8 = 7 := (flush0_7 t).mp hf
    blk_simp
    rw [after0_7]
    exact last m c fg fr t hm y _ _ (by blk_simp [idx t]; omega) (Fin.ext (by blk_simp [idx t]))
  exact congrFun h (ix2 r q)

end Cert.Proof.MoeS

end
-- ==== Proof.MoeS.Ref.lean ====
/-
  The reference's routed feed-forward block read at an index.
-/
module

public import proofs.«01_k».proof.Proof.Ffn.Sample
public import proofs.«01_k».proof.Proof.Moe.Route
public import proofs.«01_k».proof.Proof.Gen.MoeSRefIdeal

@[expose] public section

set_option maxRecDepth 16384

noncomputable section

namespace Cert.Proof.MoeS.Ref

open Cert.MoeSRefIdeal Cert.MoeSRefIdeal.Gen
open Idealize.ShloMosaic Idealize.ShloMosaic.TcCoe Cert.Proof.Ffn Cert.Proof.Moe

/-- The normalised rows, as the reference computes them. -/
def norm (X : FVec Ideal S16x64x2048 .f32) (G : FVec Ideal S2048 .f32) : FVec Ideal S16x64x2048 .f32 :=
  mulf (mulf X (broadcastInDim S16x64x2048 ![0, 1, 2] bcast_S16x64x1_S16x64x2048_0_1_2 (Host.rsqrt (addf (Host.divf (broadcastInDim S16x64x1 ![0, 1] bcast_S16x64_S16x64x1_0_1 (Host.reduceAdd (mulf X X) (constant S_ .f32 0x00000000#32) reducesTo_S16x64x2048_S16x64_d2 h_S_)) (broadcastInDim S16x64x1 ![] bcast_S_S16x64x1 (constant S_ .f32 0x45000000#32))) (broadcastInDim S16x64x1 ![] bcast_S_S16x64x1 (constant S_ .f32 0x358637BD#32)))))) (broadcastInDim S16x64x2048 ![0, 1, 2] bcast_S1x1x2048_S16x64x2048_0_1_2 (broadcastInDim S1x1x2048 ![2] bcast_S2048_S1x1x2048_2 G))

/-- The logits of the eight experts. -/
def logits (H : FVec Ideal S16x64x2048 .f32) (R : FVec Ideal S2048x8 .f32) : FVec Ideal S16x64x8 .f32 :=
  Host.dotGeneral dot_S16x64x2048_S2048x8_S16x64x8_2_0_01_1_n_n none H R

/-- The two greatest logits. -/
def vals (L : FVec Ideal S16x64x8 .f32) : FVec Ideal S16x64x2 .f32 :=
  (Host.topK S16x64x2 2 (FloatOps.cmpfTotal .gt) L sliceFits_S16x64x8_S16x64x2).1

/-- Their places. -/
def places (L : FVec Ideal S16x64x8 .f32) : IVec S16x64x2 32 :=
  (Host.topK S16x64x2 2 (FloatOps.cmpfTotal .gt) L sliceFits_S16x64x8_S16x64x2).2

/-- The exponentials of the two, less the greater. -/
def exps (V : FVec Ideal S16x64x2 .f32) : FVec Ideal S16x64x2 .f32 :=
  Host.exp (subf V (broadcastInDim S16x64x2 ![0, 1, 2] bcast_S16x64x1_S16x64x2_0_1_2 (broadcastInDim S16x64x1 ![0, 1] bcast_S16x64_S16x64x1_0_1 (maximumf (broadcastInDim S16x64 ![] bcast_S_S16x64 (constant S_ .f32 0xFF800000#32)) (Host.reduce FloatOps.maximumf V (constant S_ .f32 0xFF800000#32) reducesTo_S16x64x2_S16x64_d2 h_S_)))))

/-- The weights of the eight experts, from the exponentials and the places of the two. -/
def spread (E : FVec Ideal S16x64x2 .f32) (I : IVec S16x64x2 32) : FVec Ideal S16x64x8 .f32 :=
  Host.reduceAdd (mulf (uitofp .f32 (cmpi .eq (broadcastInDim S16x64x2x8 ![0, 1, 2, 3] bcast_S16x64x2x1_S16x64x2x8_0_1_2_3 (broadcastInDim S16x64x2x1 ![0, 1, 2] bcast_S16x64x2_S16x64x2x1_0_1_2 I)) (broadcastInDim S16x64x2x8 ![0, 1, 2, 3] bcast_S1x1x1x8_S16x64x2x8_0_1_2_3 (iotaInDim S1x1x1x8 32 3)))) (broadcastInDim S16x64x2x8 ![0, 1, 2, 3] bcast_S16x64x2x1_S16x64x2x8_0_1_2_3 (broadcastInDim S16x64x2x1 ![0, 1, 2] bcast_S16x64x2_S16x64x2x1_0_1_2 (Host.divf E (broadcastInDim S16x64x2 ![0, 1, 2] bcast_S16x64x1_S16x64x2_0_1_2 (broadcastInDim S16x64x1 ![0, 1] bcast_S16x64_S16x64x1_0_1 (Host.reduceAdd E (constant S_ .f32 0x00000000#32) reducesTo_S16x64x2_S16x64_d2 h_S_))))))) (constant S_ .f32 0x00000000#32) reducesTo_S16x64x2x8_S16x64x8_d2 h_S_

/-- The weights of the eight experts, from the logits. -/
def gates (L : FVec Ideal S16x64x8 .f32) : FVec Ideal S16x64x8 .f32 := spread (exps (vals L)) (places L)

/-- The product of the rows with one expert's first or second weight. -/
def up (H : FVec Ideal S16x64x2048 .f32) (A : FVec Ideal S1x2048x704 .f32) : FVec Ideal S16x64x704 .f32 :=
  Host.dotGeneral dot_S16x64x2048_S2048x704_S16x64x704_2_0_01_1_n_n none H (shapeCast _ A shapeCasts_S1x2048x704_S2048x704)

/-- One expert's contribution, from the slices of its weights. -/
def expert (H : FVec Ideal S16x64x2048 .f32) (G : FVec Ideal S16x64x1 .f32) (A B : FVec Ideal S1x2048x704 .f32) (C : FVec Ideal S1x704x2048 .f32) :
    FVec Ideal S16x64x2048 .f32 :=
  mulf (broadcastInDim S16x64x2048 ![0, 1, 2] bcast_S16x64x1_S16x64x2048_0_1_2 G) (Host.dotGeneral dot_S16x64x704_S704x2048_S16x64x2048_2_0_01_1_n_n none (mulf (mulf (up H A) (Host.divf (broadcastInDim S16x64x704 ![] bcast_S_S16x64x704 (constant S_ .f32 0x3F800000#32)) (addf (broadcastInDim S16x64x704 ![] bcast_S_S16x64x704 (constant S_ .f32 0x3F800000#32)) (Host.exp (Host.negf (up H A)))))) (up H B)) (shapeCast _ C shapeCasts_S1x704x2048_S704x2048))

/-- Expert 0's contribution. -/
def term0 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 0] G slices_S16x64x8_S16x64x1_0_0_0) (extractStridedSlice S1x2048x704 ![0, 0, 0] WG slices_S8x2048x704_S1x2048x704_0_0_0) (extractStridedSlice S1x2048x704 ![0, 0, 0] WU slices_S8x2048x704_S1x2048x704_0_0_0) (extractStridedSlice S1x704x2048 ![0, 0, 0] WD slices_S8x704x2048_S1x704x2048_0_0_0)

/-- Expert 1's contribution. -/
def term1 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 1] G slices_S16x64x8_S16x64x1_0_0_1) (extractStridedSlice S1x2048x704 ![1, 0, 0] WG slices_S8x2048x704_S1x2048x704_1_0_0) (extractStridedSlice S1x2048x704 ![1, 0, 0] WU slices_S8x2048x704_S1x2048x704_1_0_0) (extractStridedSlice S1x704x2048 ![1, 0, 0] WD slices_S8x704x2048_S1x704x2048_1_0_0)

/-- Expert 2's contribution. -/
def term2 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 2] G slices_S16x64x8_S16x64x1_0_0_2) (extractStridedSlice S1x2048x704 ![2, 0, 0] WG slices_S8x2048x704_S1x2048x704_2_0_0) (extractStridedSlice S1x2048x704 ![2, 0, 0] WU slices_S8x2048x704_S1x2048x704_2_0_0) (extractStridedSlice S1x704x2048 ![2, 0, 0] WD slices_S8x704x2048_S1x704x2048_2_0_0)

/-- Expert 3's contribution. -/
def term3 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 3] G slices_S16x64x8_S16x64x1_0_0_3) (extractStridedSlice S1x2048x704 ![3, 0, 0] WG slices_S8x2048x704_S1x2048x704_3_0_0) (extractStridedSlice S1x2048x704 ![3, 0, 0] WU slices_S8x2048x704_S1x2048x704_3_0_0) (extractStridedSlice S1x704x2048 ![3, 0, 0] WD slices_S8x704x2048_S1x704x2048_3_0_0)

/-- Expert 4's contribution. -/
def term4 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 4] G slices_S16x64x8_S16x64x1_0_0_4) (extractStridedSlice S1x2048x704 ![4, 0, 0] WG slices_S8x2048x704_S1x2048x704_4_0_0) (extractStridedSlice S1x2048x704 ![4, 0, 0] WU slices_S8x2048x704_S1x2048x704_4_0_0) (extractStridedSlice S1x704x2048 ![4, 0, 0] WD slices_S8x704x2048_S1x704x2048_4_0_0)

/-- Expert 5's contribution. -/
def term5 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 5] G slices_S16x64x8_S16x64x1_0_0_5) (extractStridedSlice S1x2048x704 ![5, 0, 0] WG slices_S8x2048x704_S1x2048x704_5_0_0) (extractStridedSlice S1x2048x704 ![5, 0, 0] WU slices_S8x2048x704_S1x2048x704_5_0_0) (extractStridedSlice S1x704x2048 ![5, 0, 0] WD slices_S8x704x2048_S1x704x2048_5_0_0)

/-- Expert 6's contribution. -/
def term6 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 6] G slices_S16x64x8_S16x64x1_0_0_6) (extractStridedSlice S1x2048x704 ![6, 0, 0] WG slices_S8x2048x704_S1x2048x704_6_0_0) (extractStridedSlice S1x2048x704 ![6, 0, 0] WU slices_S8x2048x704_S1x2048x704_6_0_0) (extractStridedSlice S1x704x2048 ![6, 0, 0] WD slices_S8x704x2048_S1x704x2048_6_0_0)

/-- Expert 7's contribution. -/
def term7 (H : FVec Ideal S16x64x2048 .f32) (G : FVec Ideal S16x64x8 .f32) (WG WU : FVec Ideal S8x2048x704 .f32) (WD : FVec Ideal S8x704x2048 .f32) : FVec Ideal S16x64x2048 .f32 :=
  expert H (extractStridedSlice S16x64x1 ![0, 0, 7] G slices_S16x64x8_S16x64x1_0_0_7) (extractStridedSlice S1x2048x704 ![7, 0, 0] WG slices_S8x2048x704_S1x2048x704_7_0_0) (extractStridedSlice S1x2048x704 ![7, 0, 0] WU slices_S8x2048x704_S1x2048x704_7_0_0) (extractStridedSlice S1x704x2048 ![7, 0, 0] WD slices_S8x704x2048_S1x704x2048_7_0_0)

/-- The tokens plus the eight contributions. -/
def mix (X : FVec Ideal S16x64x2048 .f32) (H : FVec Ideal S16x64x2048 .f32) (G : FVec Ideal S16x64x8 .f32) (WG WU : FVec Ideal S8x2048x704 .f32) (WD : FVec Ideal S8x704x2048 .f32) : FVec Ideal S16x64x2048 .f32 :=
  addf X (addf (addf (addf (addf (addf (addf (addf (term0 H G WG WU WD) (term1 H G WG WU WD)) (term2 H G WG WU WD)) (term3 H G WG WU WD)) (term4 H G WG WU WD)) (term5 H G WG WU WD)) (term6 H G WG WU WD)) (term7 H G WG WU WD))

/-- The reference's result. -/
def out (X : FVec Ideal S16x64x2048 .f32) (G : FVec Ideal S2048 .f32) (R : FVec Ideal S2048x8 .f32) (WG WU : FVec Ideal S8x2048x704 .f32) (WD : FVec Ideal S8x704x2048 .f32) (Z : FVec Ideal S2048 .f32) :
    FVec Ideal S1024x2048 .f32 :=
  shapeCast _ (norm (mix X (norm X G) (gates (logits (norm X G) R)) WG WU WD) Z) shapeCasts_S16x64x2048_S1024x2048

/-- The normalised rows at an index. -/
theorem norm_apply (X : FVec Ideal S16x64x2048 .f32) (G : FVec Ideal S2048 .f32) (b : Fin 16) (t : Fin 64) (k : Fin 2048) :
    norm X G (ix3 b t k) = rms (fun j => X (ix3 b t j)) (fun j => G (ix1 j)) k := by
  pointwise [norm, rms]

/-- The logits at an index. -/
theorem logits_apply (H : FVec Ideal S16x64x2048 .f32) (R : FVec Ideal S2048x8 .f32) (b : Fin 16) (t : Fin 64) (e : Fin 8) :
    logits H R (ix3 b t e) = ∑ j, H (ix3 b t j) * R (ix2 j e) := by
  pointwise [logits]

/-- The places along a row of logits. -/
theorem along_eq (b : Fin 16) (t : Fin 64) (c k : Fin 8) : Shape.Idx.along (s := S16x64x8) (ix3 b t c) 2 k = ix3 b t k := by
  funext a
  fin_cases a <;> rfl

/-- The two greatest logits and their places are the sort's first two. -/
theorem top_apply (L : FVec Ideal S16x64x8 .f32) (b : Fin 16) (t : Fin 64) (c : Fin 2) :
    vals L (ix3 b t c) = L (ix3 b t (sortedFrom (above fun p => L (ix3 b t p)) (c.castLE (by omega))))
    ∧ places L (ix3 b t c) = BitVec.ofNat 32 (sortedFrom (above fun p => L (ix3 b t p)) (c.castLE (by omega))).val := by
  have hk : (fun k k' : Fin 8 => FloatOps.cmpfTotal .gt (L (Shape.Idx.along (s := S16x64x8) (ix3 b t (c.castLE (by omega))) 2 k)) (L (Shape.Idx.along (s := S16x64x8) (ix3 b t (c.castLE (by omega))) 2 k')) == 1#1)
      = above fun p => L (ix3 b t p) := by
    funext k k'
    rw [along_eq, along_eq]
    rfl
  have hj : ∀ i : S16x64x8.Idx, (∀ a, (i a).val = (ix3 b t (c.castLE (by omega) : Fin 8) a).val) → i = ix3 b t (c.castLE (by omega)) :=
    fun i hi => funext fun a => Fin.ext (hi a)
  rw [← hk]
  constructor
  · simp only [vals, Host.topK, extractStridedSlice]
    refine (congrArg _ (hj _ fun a => ?_)).trans ((show _ = L (Shape.Idx.along (s := S16x64x8) (ix3 b t (c.castLE (by omega))) 2 _) from rfl).trans (congrArg L (along_eq b t _ _)))
    fin_cases a <;> exact Nat.zero_add _
  · simp only [places, Host.topK, extractStridedSlice]
    refine (congrArg _ (hj _ fun a => ?_)).trans rfl
    fin_cases a <;> exact Nat.zero_add _

/-- A compared pair of places as a number. -/
theorem one_hot (p q : Fin 8) : FloatOps.uitofp (F := Ideal) .f32 (IntOp.cmpi .eq (BitVec.ofNat 32 p.val) (BitVec.ofNat 32 q.val)) = if q = p then 1 else 0 := by
  have h : IntOp.cmpi .eq (BitVec.ofNat 32 p.val) (BitVec.ofNat 32 q.val) = if q = p then 1#1 else 0#1 := by
    revert p q
    decide
  rw [h]
  split
  · simp [FloatOps.uitofp]
  · simp [FloatOps.uitofp]

/-- With finite logits the weights are those of the two greatest. -/
theorem gates_apply (L : FVec Ideal S16x64x8 .f32) (b : Fin 16) (t : Fin 64) (hf : ∀ e, (((L (ix3 b t e)).toReal : ℝ) : EReal) = L (ix3 b t e))
    (i j : Fin 8) (h : Top (fun p => L (ix3 b t p)) i j) (e : Fin 8) : gates L (ix3 b t e) = gate (fun p => L (ix3 b t p)) i j e := by
  obtain ⟨si, sj⟩ := sorted_eq _ i j h
  have v0 : vals L (ix3 b t 0) = L (ix3 b t i) := by rw [(top_apply L b t 0).1]; exact congrArg (fun p => L (ix3 b t p)) si
  have v1 : vals L (ix3 b t 1) = L (ix3 b t j) := by rw [(top_apply L b t 1).1]; exact congrArg (fun p => L (ix3 b t p)) sj
  have p0 : places L (ix3 b t 0) = BitVec.ofNat 32 i.val := by rw [(top_apply L b t 0).2]; exact congrArg (fun p : Fin 8 => BitVec.ofNat 32 p.val) si
  have p1 : places L (ix3 b t 1) = BitVec.ofNat 32 j.val := by rw [(top_apply L b t 1).2]; exact congrArg (fun p : Fin 8 => BitVec.ofNat 32 p.val) sj
  have hE : ∀ V : FVec Ideal S16x64x2 .f32, V (ix3 b t 1) ≤ V (ix3 b t 0) → ∀ c, exps V (ix3 b t c) = Ideal.exp (V (ix3 b t c) - V (ix3 b t 0)) := by
    intro V hV c
    pointwise [exps]
    rw [word_bot]
    have hm : Finset.univ.fold max ⊥ (fun x : Fin 2 => V (ix3 b t x)) = V (ix3 b t 0) := by
      refine le_antisymm ((Finset.fold_max_le _).mpr ⟨bot_le, fun x _ => ?_⟩) ((Finset.le_fold_max _).mpr (Or.inr ⟨0, Finset.mem_univ _, le_rfl⟩))
      fin_cases x
      · exact le_rfl
      · exact hV
    rw [hm, max_eq_right bot_le]
  have hle : vals L (ix3 b t 1) ≤ vals L (ix3 b t 0) := by rw [v0, v1]; exact (h.first j).1
  have e0 : exps (vals L) (ix3 b t 0) = 1 := by
    rw [hE _ hle, v0, ← hf i, ← EReal.coe_sub, sub_self]
    show ((Real.exp 0 : ℝ) : EReal) = 1
    simp
  have e1 : exps (vals L) (ix3 b t 1) = Ideal.exp (L (ix3 b t j) - L (ix3 b t i)) := by rw [hE _ hle, v0, v1]
  have hS : ∀ (E : FVec Ideal S16x64x2 .f32) (I : IVec S16x64x2 32), spread E I (ix3 b t e)
      = FloatOps.uitofp (F := Ideal) .f32 (IntOp.cmpi .eq (I (ix3 b t 0)) (BitVec.ofNat 32 e.val)) * Ideal.div (E (ix3 b t 0)) (E (ix3 b t 0) + E (ix3 b t 1))
      + FloatOps.uitofp (F := Ideal) .f32 (IntOp.cmpi .eq (I (ix3 b t 1)) (BitVec.ofNat 32 e.val)) * Ideal.div (E (ix3 b t 1)) (E (ix3 b t 0) + E (ix3 b t 1)) := by
    intro E I
    pointwise [spread]
    simp only [Fin.sum_univ_two]
  rw [gates, hS, e0, e1, p0, p1, one_hot, one_hot, gate]
  simp only [ite_mul, one_mul, zero_mul]

/-- The product of the rows with one weight at an index. -/
theorem up_apply (H : FVec Ideal S16x64x2048 .f32) (A : FVec Ideal S1x2048x704 .f32) (b : Fin 16) (t : Fin 64) (k : Fin 704) :
    up H A (ix3 b t k) = ∑ j, H (ix3 b t j) * A (ix3 0 j k) := by
  pointwise [up]

/-- One expert's contribution at an index. -/
theorem expert_apply (H : FVec Ideal S16x64x2048 .f32) (G : FVec Ideal S16x64x1 .f32) (A B : FVec Ideal S1x2048x704 .f32) (C : FVec Ideal S1x704x2048 .f32)
    (b : Fin 16) (t : Fin 64) (q : Fin 2048) : expert H G A B C (ix3 b t q)
      = G (ix3 b t 0) * ∑ k, act (fun j => H (ix3 b t j)) (fun j k => A (ix3 0 j k)) (fun j k => B (ix3 0 j k)) k * C (ix3 0 k q) := by
  pointwise [expert, up, act, silu]

/-- What expert `e` adds to a row, apart from its weight. -/
def part (h : Fin 2048 → EReal) (WG WU : FVec Ideal S8x2048x704 .f32) (WD : FVec Ideal S8x704x2048 .f32) (q : Fin 2048) (e : Fin 8) : EReal :=
  ∑ k, act h (fun j k => WG (ix3 e j k)) (fun j k => WU (ix3 e j k)) k * WD (ix3 e k q)

/-- Expert 0's contribution at an index. -/
theorem term0_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term0 H G WG WU WD (ix3 b t q) = G (ix3 b t 0) * part (fun j => H (ix3 b t j)) WG WU WD q 0 := by
  rw [term0, expert_apply]
  pointwise [part, act]

/-- Expert 1's contribution at an index. -/
theorem term1_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term1 H G WG WU WD (ix3 b t q) = G (ix3 b t 1) * part (fun j => H (ix3 b t j)) WG WU WD q 1 := by
  rw [term1, expert_apply]
  pointwise [part, act]

/-- Expert 2's contribution at an index. -/
theorem term2_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term2 H G WG WU WD (ix3 b t q) = G (ix3 b t 2) * part (fun j => H (ix3 b t j)) WG WU WD q 2 := by
  rw [term2, expert_apply]
  pointwise [part, act]

/-- Expert 3's contribution at an index. -/
theorem term3_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term3 H G WG WU WD (ix3 b t q) = G (ix3 b t 3) * part (fun j => H (ix3 b t j)) WG WU WD q 3 := by
  rw [term3, expert_apply]
  pointwise [part, act]

/-- Expert 4's contribution at an index. -/
theorem term4_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term4 H G WG WU WD (ix3 b t q) = G (ix3 b t 4) * part (fun j => H (ix3 b t j)) WG WU WD q 4 := by
  rw [term4, expert_apply]
  pointwise [part, act]

/-- Expert 5's contribution at an index. -/
theorem term5_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term5 H G WG WU WD (ix3 b t q) = G (ix3 b t 5) * part (fun j => H (ix3 b t j)) WG WU WD q 5 := by
  rw [term5, expert_apply]
  pointwise [part, act]

/-- Expert 6's contribution at an index. -/
theorem term6_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term6 H G WG WU WD (ix3 b t q) = G (ix3 b t 6) * part (fun j => H (ix3 b t j)) WG WU WD q 6 := by
  rw [term6, expert_apply]
  pointwise [part, act]

/-- Expert 7's contribution at an index. -/
theorem term7_apply (H : FVec Ideal S16x64x2048 .f32) (G : FVec Ideal S16x64x8 .f32) (WG WU : FVec Ideal S8x2048x704 .f32) (WD : FVec Ideal S8x704x2048 .f32) (b : Fin 16) (t : Fin 64) (q : Fin 2048) :
    term7 H G WG WU WD (ix3 b t q) = G (ix3 b t 7) * part (fun j => H (ix3 b t j)) WG WU WD q 7 := by
  rw [term7, expert_apply]
  pointwise [part, act]

/-- The sum at an index. -/
theorem mix_apply (X : FVec Ideal S16x64x2048 .f32) (H : FVec Ideal S16x64x2048 .f32) (G : FVec Ideal S16x64x8 .f32) (WG WU : FVec Ideal S8x2048x704 .f32) (WD : FVec Ideal S8x704x2048 .f32) (b : Fin 16) (t : Fin 64) (q : Fin 2048) :
    mix X H G WG WU WD (ix3 b t q) = X (ix3 b t q) + ∑ e, G (ix3 b t e) * part (fun j => H (ix3 b t j)) WG WU WD q e := by
  simp only [mix, addf_apply, term0_apply, term1_apply, term2_apply, term3_apply, term4_apply, term5_apply, term6_apply, term7_apply, Fin.sum_univ_eight]
  rfl

/-- The result at an index, from the rows before the last norm. -/
theorem out_apply (X : FVec Ideal S16x64x2048 .f32) (G : FVec Ideal S2048 .f32) (R : FVec Ideal S2048x8 .f32) (WG WU : FVec Ideal S8x2048x704 .f32) (WD : FVec Ideal S8x704x2048 .f32) (Z : FVec Ideal S2048 .f32)
    (r : Fin 1024) (q : Fin 2048) :
    out X G R WG WU WD Z (ix2 r q) = rms (fun k => mix X (norm X G) (gates (logits (norm X G) R)) WG WU WD (ix3 ⟨r.val / 64, by omega⟩ ⟨r.val % 64, by omega⟩ k))
      (fun j => Z (ix1 j)) q := by
  rw [← norm_apply]
  unfold out
  generalize norm (mix X (norm X G) (gates (logits (norm X G) R)) WG WU WD) Z = Y
  pointwise

end Cert.Proof.MoeS.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Sb.Run
public import proofs.«01_k».proof.Proof.SbI.Run
public import proofs.«01_k».proof.Proof.SbV.Final
public import proofs.«01_k».proof.Proof.Gen.ReferenceIdeal
public import proofs.«01_k».proof.Proof.Gen.ReferenceIdeal.Run
public import proofs.«01_k».proof.Proof.Gen.Pre_finite_qk
public import proofs.«01_k».proof.Proof.Gen.Dense.Frame
public import proofs.«01_k».proof.Proof.Gen.DenseIdeal.Frame
public import proofs.«01_k».proof.Proof.Dense.Value
public import proofs.«01_k».proof.Proof.Dense.Ref
public import proofs.«01_k».proof.Proof.Gen.DenseRefIdeal
public import proofs.«01_k».proof.Proof.Gen.DenseRefIdeal.Run
public import proofs.«01_k».proof.Proof.Gen.Moe.Frame
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Moe.Value
public import proofs.«01_k».proof.Proof.Moe.Ref
public import proofs.«01_k».proof.Proof.Gen.Pre_finite_route
public import proofs.«01_k».proof.Proof.Gen.In.Frame
public import proofs.«01_k».proof.Proof.Gen.InIdeal.Frame
public import proofs.«01_k».proof.Proof.Gen.InRefIdeal
public import proofs.«01_k».proof.Proof.Gen.InRefIdeal.Run
public import proofs.«01_k».proof.Proof.In.Agree
public import proofs.«01_k».proof.Proof.InS.Agree
public import proofs.«01_k».proof.Proof.Kv.Value
public import proofs.«01_k».proof.Proof.KvS.Value
public import proofs.«01_k».proof.Proof.Conv.Value
public import proofs.«01_k».proof.Proof.ConvS.Value
public import proofs.«01_k».proof.Proof.MoeS.Value
public import proofs.«01_k».proof.Proof.MoeS.Ref
public import proofs.«01_k».proof.Proof.Gen.InS.Frame
public import proofs.«01_k».proof.Proof.Gen.InSIdeal.Frame
public import proofs.«01_k».proof.Proof.Gen.InSRefIdeal.Run
public import proofs.«01_k».proof.Proof.Gen.Kv.Frame
public import proofs.«01_k».proof.Proof.Gen.KvIdeal.Frame
public import proofs.«01_k».proof.Proof.Gen.KvRefIdeal.Run
public import proofs.«01_k».proof.Proof.Gen.KvS.Frame
public import proofs.«01_k».proof.Proof.Gen.KvSIdeal.Frame
public import proofs.«01_k».proof.Proof.Gen.KvSRefIdeal.Run
public import proofs.«01_k».proof.Proof.Gen.MoeS.Frame
public import proofs.«01_k».proof.Proof.Gen.MoeSIdeal.Value
public import proofs.«01_k».proof.Proof.Gen.MoeSRefIdeal.Run
public import proofs.«01_k».proof.Proof.Gen.Pre_finite_route_s
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvS.Frame
public import proofs.«01_k».proof.Proof.Gen.ConvSIdeal.Frame
public import proofs.«01_k».proof.Proof.Gen.ConvSRefIdeal.Run
public import Idealize.ShloMosaic.Adequacy
public import Idealize.ShloMosaic.Init

@[expose] public section

noncomputable section

namespace Cert.Proof

open Idealize.ShloMosaic Idealize.SL.Sem Cert.Kernel

/-- The attention call's value: with finite queries and keys the kernel's result array is the reference's. -/
theorem sb_value : Cert.algebraic_KernelIdeal_ReferenceIdeal_pre_finite_qk := by
  intro m g m' g' hpre hargs
  refine ⟨fun c => Cert.ReferenceIdeal.Value.res_main_v26 m' c, ?_, Cert.ReferenceIdeal.Value.run (F := Ideal) m' g'⟩
  refine (θ_run Cert.KernelIdeal.defs _ _).mono (fun r h c => ⟨?_, SbI.args_kept m (SbI.dats m) h.1 c⟩) (SbI.run (F := Ideal) m g)
  refine ((h.1 c).1 3).trans ((SbV.final m c (hpre c)).trans ?_)
  obtain ⟨e0, e1, e2, e3, e4⟩ := hargs c
  refine Eq.trans ?_ (SbV.res_eq m' c).symm
  rw [e0, e1, e2, e3, e4]

/-- The reference of the attention call runs and leaves its arguments. -/
theorem sb_ref : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The dense kernel's array after the run is the reference's term of the arguments. -/
theorem dense_eq (m : (ℓ : Loc Cert.DenseIdeal.nD Cert.DenseIdeal.τ Cert.DenseIdeal.sig) → Buf (Elt Ideal) ℓ) (c : Dev Cert.DenseIdeal.nD) :
    (Cert.DenseIdeal.Gen.dats m 0 c).arrAt 6 Cert.DenseIdeal.cfg0.N
      = Dense.refOut (Dense.aX m c) (Dense.aG m c) (Dense.aWG m c) (Dense.aWU m c) (Dense.aWD m c) := by
  funext i
  have hi := (ix2_eta (n0 := 32768) (n1 := 2048) i).symm
  exact (congrArg _ hi).trans ((Dense.result m c (i 0) (i 1)).trans ((Dense.refOut_apply _ _ _ _ _ (i 0) (i 1)).symm.trans (congrArg _ hi.symm)))

/-- The dense feed-forward call's value: the kernel's result array is the reference's. -/
theorem dense_value : Cert.algebraic_DenseIdeal_DenseRefIdeal := by
  intro m g m' g' _ hargs
  refine ⟨fun c => Dense.refOut (m' ((c.tc : Thread Cert.DenseRefIdeal.nD Cert.DenseRefIdeal.τ).loc Cert.DenseRefIdeal.main_arg0))
      (m' ((c.tc : Thread Cert.DenseRefIdeal.nD Cert.DenseRefIdeal.τ).loc Cert.DenseRefIdeal.main_arg1))
      (m' ((c.tc : Thread Cert.DenseRefIdeal.nD Cert.DenseRefIdeal.τ).loc Cert.DenseRefIdeal.main_arg2))
      (m' ((c.tc : Thread Cert.DenseRefIdeal.nD Cert.DenseRefIdeal.τ).loc Cert.DenseRefIdeal.main_arg3))
      (m' ((c.tc : Thread Cert.DenseRefIdeal.nD Cert.DenseRefIdeal.τ).loc Cert.DenseRefIdeal.main_arg4)), ?_, Cert.DenseRefIdeal.Value.run (F := Ideal) m' g'⟩
  refine (θ_run Cert.DenseIdeal.defs _ _).mono (fun r h c => ⟨?_, (h c).2⟩) (Cert.DenseIdeal.Value.run_blocks (F := Ideal) m g)
  obtain ⟨e0, e1, e2, e3, e4, -⟩ := hargs c
  exact (h c).1.trans ((dense_eq m c).trans
    (congr (congr (congr (congr (congrArg Dense.refOut e0.symm) e1.symm) e2.symm) e3.symm) e4.symm))

/-- The reference of the dense feed-forward call runs and leaves its arguments. -/
theorem dense_ref : Cert.quiescent_DenseRefIdeal := fun m g _ =>
  (θ_run Cert.DenseRefIdeal.defs _ _).mono (fun r h => ⟨fun c => (h c).2, Idealize.ShloMosaic.sem_eq_zero_of_no_sems (by decide) r.2⟩)
    (Cert.DenseRefIdeal.Value.run (F := Ideal) m g)

/-- An entry of the routed kernel's result is that of the reference's. -/
theorem moe_entry (m : (ℓ : Loc Cert.MoeIdeal.nD Cert.MoeIdeal.τ Cert.MoeIdeal.sig) → Buf (Elt Ideal) ℓ) (c : Dev Cert.MoeIdeal.nD)
    (hpre : Cert.Pre_finite_route.fn (F := Ideal) (Moe.aX m c) (Moe.aG m c) (Moe.aR m c) (Moe.aWG m c) (Moe.aWU m c) (Moe.aWD m c) (Moe.aZ m c) = fun _ => 1#1)
    (r : Fin 32768) (q : Fin 2048) : Ffn.rms (Moe.mixed m c r) (fun j => Moe.aZ m c (ix1 j)) q = Moe.Ref.out (Moe.aX m c) (Moe.aG m c) (Moe.aR m c) (Moe.aWG m c) (Moe.aWU m c) (Moe.aWD m c) (Moe.aZ m c) (ix2 r q) := by
  obtain ⟨fg, fr⟩ := Moe.finite _ _ _ _ _ _ _ hpre
  refine Eq.trans ?_ (Moe.Ref.out_apply _ _ _ _ _ _ _ r q).symm
  refine congrArg (fun x => Ffn.rms x _ q) (funext fun k => ?_)
  have hn : (fun j => Moe.Ref.norm (Moe.aX m c) (Moe.aG m c) (ix3 ⟨r.val / 16384, by omega⟩ ⟨r.val % 16384, by omega⟩ j)) = Moe.nrow m c r :=
    funext fun j => Moe.Ref.norm_apply _ _ _ _ j
  have hl : (fun e => Moe.Ref.logits (Moe.Ref.norm (Moe.aX m c) (Moe.aG m c)) (Moe.aR m c) (ix3 ⟨r.val / 16384, by omega⟩ ⟨r.val % 16384, by omega⟩ e)) = Moe.lrow m c r :=
    funext fun e => (Moe.Ref.logits_apply _ _ _ _ e).trans (Finset.sum_congr rfl fun j _ => congrArg (· * _) (congrFun hn j))
  have ht := Moe.top m c r
  rw [← hl] at ht
  have hg : ∀ e, Moe.Ref.gates (Moe.Ref.logits (Moe.Ref.norm (Moe.aX m c) (Moe.aG m c)) (Moe.aR m c)) (ix3 ⟨r.val / 16384, by omega⟩ ⟨r.val % 16384, by omega⟩ e) = Moe.wt m c r e := by
    intro e
    refine (Moe.Ref.gates_apply _ _ _ (fun e => ?_) _ _ ht e).trans (congrArg (fun l => Moe.gate l _ _ e) hl)
    rw [show Moe.Ref.logits _ _ _ = Moe.lrow m c r e from congrFun hl e]
    exact Moe.dot_real (Moe.rms_real fun k => fg _) fun j => fr _
  refine Eq.trans ?_ (Moe.Ref.mix_apply _ _ _ _ _ _ _ _ k).symm
  refine congrArg₂ (· + ·) rfl (Finset.sum_congr rfl fun e _ => ?_)
  exact congrArg₂ (· * ·) (hg e).symm (congrArg (fun h => Moe.Ref.part h (Moe.aWG m c) (Moe.aWU m c) (Moe.aWD m c) k e) hn.symm)

/-- The routed kernel's array after the run is the reference's term of the arguments. -/
theorem moe_eq (m : (ℓ : Loc Cert.MoeIdeal.nD Cert.MoeIdeal.τ Cert.MoeIdeal.sig) → Buf (Elt Ideal) ℓ) (c : Dev Cert.MoeIdeal.nD)
    (hpre : Cert.Pre_finite_route.fn (F := Ideal) (Moe.aX m c) (Moe.aG m c) (Moe.aR m c) (Moe.aWG m c) (Moe.aWU m c) (Moe.aWD m c) (Moe.aZ m c) = fun _ => 1#1) :
    (Cert.MoeIdeal.Gen.dats m 0 c).arrAt 7 Cert.MoeIdeal.cfg0.N = Moe.Ref.out (Moe.aX m c) (Moe.aG m c) (Moe.aR m c) (Moe.aWG m c) (Moe.aWU m c) (Moe.aWD m c) (Moe.aZ m c) := by
  obtain ⟨fg, fr⟩ := Moe.finite _ _ _ _ _ _ _ hpre
  funext i
  have hi := (ix2_eta (n0 := 32768) (n1 := 2048) i).symm
  exact (congrArg _ hi).trans ((Moe.result m c fg fr (i 0) (i 1)).trans ((moe_entry m c hpre (i 0) (i 1)).trans (congrArg _ hi.symm)))

/-- The routed feed-forward call's value: with a finite scale and router the kernel's result array is the reference's. -/
theorem moe_value : Cert.algebraic_MoeIdeal_MoeRefIdeal_pre_finite_route := by
  intro m g m' g' hpre hargs
  refine ⟨fun c => Moe.Ref.out (m' ((c.tc : Thread Cert.MoeRefIdeal.nD Cert.MoeRefIdeal.τ).loc Cert.MoeRefIdeal.main_arg0))
      (m' ((c.tc : Thread Cert.MoeRefIdeal.nD Cert.MoeRefIdeal.τ).loc Cert.MoeRefIdeal.main_arg1))
      (m' ((c.tc : Thread Cert.MoeRefIdeal.nD Cert.MoeRefIdeal.τ).loc Cert.MoeRefIdeal.main_arg2))
      (m' ((c.tc : Thread Cert.MoeRefIdeal.nD Cert.MoeRefIdeal.τ).loc Cert.MoeRefIdeal.main_arg3))
      (m' ((c.tc : Thread Cert.MoeRefIdeal.nD Cert.MoeRefIdeal.τ).loc Cert.MoeRefIdeal.main_arg4))
      (m' ((c.tc : Thread Cert.MoeRefIdeal.nD Cert.MoeRefIdeal.τ).loc Cert.MoeRefIdeal.main_arg5))
      (m' ((c.tc : Thread Cert.MoeRefIdeal.nD Cert.MoeRefIdeal.τ).loc Cert.MoeRefIdeal.main_arg6)), ?_, Cert.MoeRefIdeal.Value.run (F := Ideal) m' g'⟩
  refine (θ_run Cert.MoeIdeal.defs _ _).mono (fun r h c => ⟨?_, (h c).2⟩) (Cert.MoeIdeal.Value.run_blocks (F := Ideal) m g)
  obtain ⟨e0, e1, e2, e3, e4, e5, e6⟩ := hargs c
  exact (h c).1.trans ((moe_eq m c (hpre c)).trans
    (congr (congr (congr (congr (congr (congr (congrArg Moe.Ref.out e0.symm) e1.symm) e2.symm) e3.symm) e4.symm) e5.symm) e6.symm))

/-- The reference of the routed feed-forward call runs and leaves its arguments. -/
theorem moe_ref : Cert.quiescent_MoeRefIdeal := fun m g _ =>
  (θ_run Cert.MoeRefIdeal.defs _ _).mono (fun r h => ⟨fun c => (h c).2, Idealize.ShloMosaic.sem_eq_zero_of_no_sems (by decide) r.2⟩)
    (Cert.MoeRefIdeal.Value.run (F := Ideal) m g)

/-- The projection's value: the kernel's three results are the reference's. -/
theorem in_value : Cert.algebraic_InIdeal_InRefIdeal := by
  intro m g m' g' hpre hargs
  have hhist : ∀ c : Dev Cert.InIdeal.nD, In.aH m c = m' ((c.tc : Thread Cert.InRefIdeal.nD Cert.InRefIdeal.τ).loc Cert.InRefIdeal.main_arg3) := fun c => (hargs c).2.2.2.symm
  have hargs : ∀ c : Dev Cert.InIdeal.nD, In.refRows m c = In.Ref.proj (In.Ref.norm
      (m' ((c.tc : Thread Cert.InRefIdeal.nD Cert.InRefIdeal.τ).loc Cert.InRefIdeal.main_arg0))
      (m' ((c.tc : Thread Cert.InRefIdeal.nD Cert.InRefIdeal.τ).loc Cert.InRefIdeal.main_arg1)))
      (m' ((c.tc : Thread Cert.InRefIdeal.nD Cert.InRefIdeal.τ).loc Cert.InRefIdeal.main_arg2)) := fun c =>
    congrArg₂ In.Ref.proj (congrArg₂ In.Ref.norm (hargs c).1.symm (hargs c).2.1.symm) (hargs c).2.2.1.symm
  refine ⟨fun c => In.Ref.proj (In.Ref.norm (m' ((c.tc : Thread Cert.InRefIdeal.nD Cert.InRefIdeal.τ).loc Cert.InRefIdeal.main_arg0))
      (m' ((c.tc : Thread Cert.InRefIdeal.nD Cert.InRefIdeal.τ).loc Cert.InRefIdeal.main_arg1)))
      (m' ((c.tc : Thread Cert.InRefIdeal.nD Cert.InRefIdeal.τ).loc Cert.InRefIdeal.main_arg2)),
    fun c => In.Ref.shift (In.Ref.proj (In.Ref.norm (m' ((c.tc : Thread Cert.InRefIdeal.nD Cert.InRefIdeal.τ).loc Cert.InRefIdeal.main_arg0))
      (m' ((c.tc : Thread Cert.InRefIdeal.nD Cert.InRefIdeal.τ).loc Cert.InRefIdeal.main_arg1)))
      (m' ((c.tc : Thread Cert.InRefIdeal.nD Cert.InRefIdeal.τ).loc Cert.InRefIdeal.main_arg2))),
    fun c => In.Ref.pool (In.Ref.proj (In.Ref.norm (m' ((c.tc : Thread Cert.InRefIdeal.nD Cert.InRefIdeal.τ).loc Cert.InRefIdeal.main_arg0))
      (m' ((c.tc : Thread Cert.InRefIdeal.nD Cert.InRefIdeal.τ).loc Cert.InRefIdeal.main_arg1)))
      (m' ((c.tc : Thread Cert.InRefIdeal.nD Cert.InRefIdeal.τ).loc Cert.InRefIdeal.main_arg2)))
      (m' ((c.tc : Thread Cert.InRefIdeal.nD Cert.InRefIdeal.τ).loc Cert.InRefIdeal.main_arg3)), ?_, Cert.InRefIdeal.Value.run (F := Ideal) m' g'⟩
  refine (θ_run Cert.InIdeal.defs _ _).mono (fun r h c => ?_) (θ_run_and (Cert.InIdeal.Gen.run_main (F := Ideal) m g) (Cert.InIdeal.Gen.unchanged (F := Ideal) m g))
  obtain ⟨h, hu⟩ := h
  exact ⟨((h c).2 Cert.InIdeal.main_v33 (Pipeline.mem_restRefs_of Cert.InIdeal.main_v33 (by decide) (by decide))).trans
      ((In.after_rows m c).trans ((In.rows_eq m c).trans (hargs c))),
    ((h c).2 Cert.InIdeal.main_v22 (Pipeline.mem_restRefs_of Cert.InIdeal.main_v22 (by decide) (by decide))).trans
      ((In.after_shift m c).trans ((In.shift_eq m c).trans (congrArg In.Ref.shift (hargs c)))),
    ((h c).2 Cert.InIdeal.main_v26 (Pipeline.mem_restRefs_of Cert.InIdeal.main_v26 (by decide) (by decide))).trans
      ((In.after_pool m c).trans ((In.pool_eq m c).trans (congrArg₂ In.Ref.pool (hargs c) (hhist c)))), hu c⟩

/-- The reference of the projection runs and leaves its arguments. -/
theorem in_ref : Cert.quiescent_InRefIdeal := fun m g _ =>
  (θ_run Cert.InRefIdeal.defs _ _).mono (fun r h => ⟨fun c => (h c).2.2.2, Idealize.ShloMosaic.sem_eq_zero_of_no_sems (by decide) r.2⟩)
    (Cert.InRefIdeal.Value.run (F := Ideal) m g)

/-- An entry of the routed kernel's result is that of the reference's, at the sample shapes. -/
theorem moe_s_entry (m : (ℓ : Loc Cert.MoeSIdeal.nD Cert.MoeSIdeal.τ Cert.MoeSIdeal.sig) → Buf (Elt Ideal) ℓ) (c : Dev Cert.MoeSIdeal.nD)
    (hpre : Cert.Pre_finite_route_s.fn (F := Ideal) (MoeS.aX m c) (MoeS.aG m c) (MoeS.aR m c) (MoeS.aWG m c) (MoeS.aWU m c) (MoeS.aWD m c) (MoeS.aZ m c) = fun _ => 1#1)
    (r : Fin 1024) (q : Fin 2048) : Ffn.rms (MoeS.mixed m c r) (fun j => MoeS.aZ m c (ix1 j)) q = MoeS.Ref.out (MoeS.aX m c) (MoeS.aG m c) (MoeS.aR m c) (MoeS.aWG m c) (MoeS.aWU m c) (MoeS.aWD m c) (MoeS.aZ m c) (ix2 r q) := by
  obtain ⟨fg, fr⟩ := MoeS.finite _ _ _ _ _ _ _ hpre
  refine Eq.trans ?_ (MoeS.Ref.out_apply _ _ _ _ _ _ _ r q).symm
  refine congrArg (fun x => Ffn.rms x _ q) (funext fun k => ?_)
  have hn : (fun j => MoeS.Ref.norm (MoeS.aX m c) (MoeS.aG m c) (ix3 ⟨r.val / 64, by omega⟩ ⟨r.val % 64, by omega⟩ j)) = MoeS.nrow m c r :=
    funext fun j => MoeS.Ref.norm_apply _ _ _ _ j
  have hl : (fun e => MoeS.Ref.logits (MoeS.Ref.norm (MoeS.aX m c) (MoeS.aG m c)) (MoeS.aR m c) (ix3 ⟨r.val / 64, by omega⟩ ⟨r.val % 64, by omega⟩ e)) = MoeS.lrow m c r :=
    funext fun e => (MoeS.Ref.logits_apply _ _ _ _ e).trans (Finset.sum_congr rfl fun j _ => congrArg (· * _) (congrFun hn j))
  have ht := MoeS.top m c r
  rw [← hl] at ht
  have hg : ∀ e, MoeS.Ref.gates (MoeS.Ref.logits (MoeS.Ref.norm (MoeS.aX m c) (MoeS.aG m c)) (MoeS.aR m c)) (ix3 ⟨r.val / 64, by omega⟩ ⟨r.val % 64, by omega⟩ e) = MoeS.wt m c r e := by
    intro e
    refine (MoeS.Ref.gates_apply _ _ _ (fun e => ?_) _ _ ht e).trans (congrArg (fun l => Moe.gate l _ _ e) hl)
    rw [show MoeS.Ref.logits _ _ _ = MoeS.lrow m c r e from congrFun hl e]
    exact Moe.dot_real (Moe.rms_real fun k => fg _) fun j => fr _
  refine Eq.trans ?_ (MoeS.Ref.mix_apply _ _ _ _ _ _ _ _ k).symm
  refine congrArg₂ (· + ·) rfl (Finset.sum_congr rfl fun e _ => ?_)
  exact congrArg₂ (· * ·) (hg e).symm (congrArg (fun h => MoeS.Ref.part h (MoeS.aWG m c) (MoeS.aWU m c) (MoeS.aWD m c) k e) hn.symm)

/-- The routed kernel's array after the run is the reference's term of the arguments, at the sample shapes. -/
theorem moe_s_eq (m : (ℓ : Loc Cert.MoeSIdeal.nD Cert.MoeSIdeal.τ Cert.MoeSIdeal.sig) → Buf (Elt Ideal) ℓ) (c : Dev Cert.MoeSIdeal.nD)
    (hpre : Cert.Pre_finite_route_s.fn (F := Ideal) (MoeS.aX m c) (MoeS.aG m c) (MoeS.aR m c) (MoeS.aWG m c) (MoeS.aWU m c) (MoeS.aWD m c) (MoeS.aZ m c) = fun _ => 1#1) :
    (Cert.MoeSIdeal.Gen.dats m 0 c).arrAt 7 Cert.MoeSIdeal.cfg0.N = MoeS.Ref.out (MoeS.aX m c) (MoeS.aG m c) (MoeS.aR m c) (MoeS.aWG m c) (MoeS.aWU m c) (MoeS.aWD m c) (MoeS.aZ m c) := by
  obtain ⟨fg, fr⟩ := MoeS.finite _ _ _ _ _ _ _ hpre
  funext i
  have hi := (ix2_eta (n0 := 1024) (n1 := 2048) i).symm
  exact (congrArg _ hi).trans ((MoeS.result m c fg fr (i 0) (i 1)).trans ((moe_s_entry m c hpre (i 0) (i 1)).trans (congrArg _ hi.symm)))

/-- The routed feed-forward call's value: with a finite scale and router the kernel's result array is the reference's, at the sample shapes. -/
theorem moe_s_value : Cert.algebraic_MoeSIdeal_MoeSRefIdeal_pre_finite_route_s := by
  intro m g m' g' hpre hargs
  refine ⟨fun c => MoeS.Ref.out (m' ((c.tc : Thread Cert.MoeSRefIdeal.nD Cert.MoeSRefIdeal.τ).loc Cert.MoeSRefIdeal.main_arg0))
      (m' ((c.tc : Thread Cert.MoeSRefIdeal.nD Cert.MoeSRefIdeal.τ).loc Cert.MoeSRefIdeal.main_arg1))
      (m' ((c.tc : Thread Cert.MoeSRefIdeal.nD Cert.MoeSRefIdeal.τ).loc Cert.MoeSRefIdeal.main_arg2))
      (m' ((c.tc : Thread Cert.MoeSRefIdeal.nD Cert.MoeSRefIdeal.τ).loc Cert.MoeSRefIdeal.main_arg3))
      (m' ((c.tc : Thread Cert.MoeSRefIdeal.nD Cert.MoeSRefIdeal.τ).loc Cert.MoeSRefIdeal.main_arg4))
      (m' ((c.tc : Thread Cert.MoeSRefIdeal.nD Cert.MoeSRefIdeal.τ).loc Cert.MoeSRefIdeal.main_arg5))
      (m' ((c.tc : Thread Cert.MoeSRefIdeal.nD Cert.MoeSRefIdeal.τ).loc Cert.MoeSRefIdeal.main_arg6)), ?_, Cert.MoeSRefIdeal.Value.run (F := Ideal) m' g'⟩
  refine (θ_run Cert.MoeSIdeal.defs _ _).mono (fun r h c => ⟨?_, (h c).2⟩) (Cert.MoeSIdeal.Value.run_blocks (F := Ideal) m g)
  obtain ⟨e0, e1, e2, e3, e4, e5, e6⟩ := hargs c
  exact (h c).1.trans ((moe_s_eq m c (hpre c)).trans
    (congr (congr (congr (congr (congr (congr (congrArg MoeS.Ref.out e0.symm) e1.symm) e2.symm) e3.symm) e4.symm) e5.symm) e6.symm))

/-- The reference of the routed feed-forward call runs and leaves its arguments, at the sample shapes. -/
theorem moe_s_ref : Cert.quiescent_MoeSRefIdeal := fun m g _ =>
  (θ_run Cert.MoeSRefIdeal.defs _ _).mono (fun r h => ⟨fun c => (h c).2, Idealize.ShloMosaic.sem_eq_zero_of_no_sems (by decide) r.2⟩)
    (Cert.MoeSRefIdeal.Value.run (F := Ideal) m g)

/-- The projection's value: the kernel's three results are the reference's, at the sample shapes. -/
theorem in_s_value : Cert.algebraic_InSIdeal_InSRefIdeal := by
  intro m g m' g' hpre hargs
  have hhist : ∀ c : Dev Cert.InSIdeal.nD, InS.aH m c = m' ((c.tc : Thread Cert.InSRefIdeal.nD Cert.InSRefIdeal.τ).loc Cert.InSRefIdeal.main_arg3) := fun c => (hargs c).2.2.2.symm
  have hargs : ∀ c : Dev Cert.InSIdeal.nD, InS.refRows m c = InS.Ref.proj (InS.Ref.norm
      (m' ((c.tc : Thread Cert.InSRefIdeal.nD Cert.InSRefIdeal.τ).loc Cert.InSRefIdeal.main_arg0))
      (m' ((c.tc : Thread Cert.InSRefIdeal.nD Cert.InSRefIdeal.τ).loc Cert.InSRefIdeal.main_arg1)))
      (m' ((c.tc : Thread Cert.InSRefIdeal.nD Cert.InSRefIdeal.τ).loc Cert.InSRefIdeal.main_arg2)) := fun c =>
    congrArg₂ InS.Ref.proj (congrArg₂ InS.Ref.norm (hargs c).1.symm (hargs c).2.1.symm) (hargs c).2.2.1.symm
  refine ⟨fun c => InS.Ref.proj (InS.Ref.norm (m' ((c.tc : Thread Cert.InSRefIdeal.nD Cert.InSRefIdeal.τ).loc Cert.InSRefIdeal.main_arg0))
      (m' ((c.tc : Thread Cert.InSRefIdeal.nD Cert.InSRefIdeal.τ).loc Cert.InSRefIdeal.main_arg1)))
      (m' ((c.tc : Thread Cert.InSRefIdeal.nD Cert.InSRefIdeal.τ).loc Cert.InSRefIdeal.main_arg2)),
    fun c => InS.Ref.shift (InS.Ref.proj (InS.Ref.norm (m' ((c.tc : Thread Cert.InSRefIdeal.nD Cert.InSRefIdeal.τ).loc Cert.InSRefIdeal.main_arg0))
      (m' ((c.tc : Thread Cert.InSRefIdeal.nD Cert.InSRefIdeal.τ).loc Cert.InSRefIdeal.main_arg1)))
      (m' ((c.tc : Thread Cert.InSRefIdeal.nD Cert.InSRefIdeal.τ).loc Cert.InSRefIdeal.main_arg2))),
    fun c => InS.Ref.pool (InS.Ref.proj (InS.Ref.norm (m' ((c.tc : Thread Cert.InSRefIdeal.nD Cert.InSRefIdeal.τ).loc Cert.InSRefIdeal.main_arg0))
      (m' ((c.tc : Thread Cert.InSRefIdeal.nD Cert.InSRefIdeal.τ).loc Cert.InSRefIdeal.main_arg1)))
      (m' ((c.tc : Thread Cert.InSRefIdeal.nD Cert.InSRefIdeal.τ).loc Cert.InSRefIdeal.main_arg2)))
      (m' ((c.tc : Thread Cert.InSRefIdeal.nD Cert.InSRefIdeal.τ).loc Cert.InSRefIdeal.main_arg3)), ?_, Cert.InSRefIdeal.Value.run (F := Ideal) m' g'⟩
  refine (θ_run Cert.InSIdeal.defs _ _).mono (fun r h c => ?_) (θ_run_and (Cert.InSIdeal.Gen.run_main (F := Ideal) m g) (Cert.InSIdeal.Gen.unchanged (F := Ideal) m g))
  obtain ⟨h, hu⟩ := h
  exact ⟨((h c).2 Cert.InSIdeal.main_v33 (Pipeline.mem_restRefs_of Cert.InSIdeal.main_v33 (by decide) (by decide))).trans
      ((InS.after_rows m c).trans ((InS.rows_eq m c).trans (hargs c))),
    ((h c).2 Cert.InSIdeal.main_v22 (Pipeline.mem_restRefs_of Cert.InSIdeal.main_v22 (by decide) (by decide))).trans
      ((InS.after_shift m c).trans ((InS.shift_eq m c).trans (congrArg InS.Ref.shift (hargs c)))),
    ((h c).2 Cert.InSIdeal.main_v26 (Pipeline.mem_restRefs_of Cert.InSIdeal.main_v26 (by decide) (by decide))).trans
      ((InS.after_pool m c).trans ((InS.pool_eq m c).trans (congrArg₂ InS.Ref.pool (hargs c) (hhist c)))), hu c⟩

/-- The reference of the projection runs and leaves its arguments, at the sample shapes. -/
theorem in_s_ref : Cert.quiescent_InSRefIdeal := fun m g _ =>
  (θ_run Cert.InSRefIdeal.defs _ _).mono (fun r h => ⟨fun c => (h c).2.2.2, Idealize.ShloMosaic.sem_eq_zero_of_no_sems (by decide) r.2⟩)
    (Cert.InSRefIdeal.Value.run (F := Ideal) m g)

/-- The copied keys and values, cut by heads, are the reference's. -/
theorem kv_value : Cert.algebraic_KvIdeal_KvRefIdeal := by
  intro m g m' g' hpre hargs
  have hargs : ∀ c : Dev Cert.KvIdeal.nD, Kv.aU m c = m' ((c.tc : Thread Cert.KvRefIdeal.nD Cert.KvRefIdeal.τ).loc Cert.KvRefIdeal.main_arg0) := fun c => (hargs c).symm
  refine ⟨fun c => Kv.heads (Kv.keys (m' ((c.tc : Thread Cert.KvRefIdeal.nD Cert.KvRefIdeal.τ).loc Cert.KvRefIdeal.main_arg0))),
    fun c => Kv.heads (Kv.vals (m' ((c.tc : Thread Cert.KvRefIdeal.nD Cert.KvRefIdeal.τ).loc Cert.KvRefIdeal.main_arg0))), ?_, ?_⟩
  · refine (θ_run Cert.KvIdeal.defs _ _).mono (fun r h c => ?_) (θ_run_and (Cert.KvIdeal.Gen.run_main (F := Ideal) m g) (Cert.KvIdeal.Gen.unchanged (F := Ideal) m g))
    obtain ⟨h, hu⟩ := h
    exact ⟨((h c).2 Cert.KvIdeal.main_v14 (Pipeline.mem_restRefs_of Cert.KvIdeal.main_v14 (by decide) (by decide))).trans
        ((Kv.after_k m c).trans (congrArg (fun u => Kv.heads (Kv.keys u)) (hargs c))),
      ((h c).2 Cert.KvIdeal.main_v15 (Pipeline.mem_restRefs_of Cert.KvIdeal.main_v15 (by decide) (by decide))).trans
        ((Kv.after_v m c).trans (congrArg (fun u => Kv.heads (Kv.vals u)) (hargs c))), hu c⟩
  · refine (θ_run Cert.KvRefIdeal.defs _ _).mono (fun r h c => ?_) (Cert.KvRefIdeal.Value.run (F := Ideal) m' g')
    exact ⟨(h c).1.trans (congrArg Kv.heads (Kv.keys_eq _ _ _)), (h c).2.1.trans (congrArg Kv.heads (Kv.vals_eq _ _ _)), (h c).2.2⟩

/-- The reference's cut of the keys and values runs and leaves its arguments. -/
theorem kv_ref : Cert.quiescent_KvRefIdeal := fun m g _ =>
  (θ_run Cert.KvRefIdeal.defs _ _).mono (fun r h => ⟨fun c => (h c).2.2, Idealize.ShloMosaic.sem_eq_zero_of_no_sems (by decide) r.2⟩)
    (Cert.KvRefIdeal.Value.run (F := Ideal) m g)

/-- The copied keys and values, cut by heads, are the reference's, at the sample shapes. -/
theorem kv_s_value : Cert.algebraic_KvSIdeal_KvSRefIdeal := by
  intro m g m' g' hpre hargs
  have hargs : ∀ c : Dev Cert.KvSIdeal.nD, KvS.aU m c = m' ((c.tc : Thread Cert.KvSRefIdeal.nD Cert.KvSRefIdeal.τ).loc Cert.KvSRefIdeal.main_arg0) := fun c => (hargs c).symm
  refine ⟨fun c => KvS.heads (KvS.keys (m' ((c.tc : Thread Cert.KvSRefIdeal.nD Cert.KvSRefIdeal.τ).loc Cert.KvSRefIdeal.main_arg0))),
    fun c => KvS.heads (KvS.vals (m' ((c.tc : Thread Cert.KvSRefIdeal.nD Cert.KvSRefIdeal.τ).loc Cert.KvSRefIdeal.main_arg0))), ?_, ?_⟩
  · refine (θ_run Cert.KvSIdeal.defs _ _).mono (fun r h c => ?_) (θ_run_and (Cert.KvSIdeal.Gen.run_main (F := Ideal) m g) (Cert.KvSIdeal.Gen.unchanged (F := Ideal) m g))
    obtain ⟨h, hu⟩ := h
    exact ⟨((h c).2 Cert.KvSIdeal.main_v14 (Pipeline.mem_restRefs_of Cert.KvSIdeal.main_v14 (by decide) (by decide))).trans
        ((KvS.after_k m c).trans (congrArg (fun u => KvS.heads (KvS.keys u)) (hargs c))),
      ((h c).2 Cert.KvSIdeal.main_v15 (Pipeline.mem_restRefs_of Cert.KvSIdeal.main_v15 (by decide) (by decide))).trans
        ((KvS.after_v m c).trans (congrArg (fun u => KvS.heads (KvS.vals u)) (hargs c))), hu c⟩
  · refine (θ_run Cert.KvSRefIdeal.defs _ _).mono (fun r h c => ?_) (Cert.KvSRefIdeal.Value.run (F := Ideal) m' g')
    exact ⟨(h c).1.trans (congrArg KvS.heads (KvS.keys_eq _ _ _)), (h c).2.1.trans (congrArg KvS.heads (KvS.vals_eq _ _ _)), (h c).2.2⟩

/-- The reference's cut of the keys and values runs and leaves its arguments, at the sample shapes. -/
theorem kv_s_ref : Cert.quiescent_KvSRefIdeal := fun m g _ =>
  (θ_run Cert.KvSRefIdeal.defs _ _).mono (fun r h => ⟨fun c => (h c).2.2, Idealize.ShloMosaic.sem_eq_zero_of_no_sems (by decide) r.2⟩)
    (Cert.KvSRefIdeal.Value.run (F := Ideal) m g)

/-- The convolution's state the gated recurrence leaves is the reference's. -/
theorem conv_value : Cert.algebraic_ConvIdeal_ConvRefIdeal := by
  intro m g m' g' hpre hargs
  have hargs : ∀ c : Dev Cert.ConvIdeal.nD, Conv.aU m c = m' ((c.tc : Thread Cert.ConvRefIdeal.nD Cert.ConvRefIdeal.τ).loc Cert.ConvRefIdeal.main_arg0) := fun c => (hargs c).1.symm
  refine ⟨fun c => Conv.tail (m' ((c.tc : Thread Cert.ConvRefIdeal.nD Cert.ConvRefIdeal.τ).loc Cert.ConvRefIdeal.main_arg0)), ?_, ?_⟩
  · refine (θ_run Cert.ConvIdeal.defs _ _).mono (fun r h c => ?_) (θ_run_and (Cert.ConvIdeal.Gen.run_main (F := Ideal) m g) (Cert.ConvIdeal.Gen.unchanged (F := Ideal) m g))
    obtain ⟨h, hu⟩ := h
    exact ⟨((h c).2 Cert.ConvIdeal.main_v24 (Pipeline.mem_restRefs_of Cert.ConvIdeal.main_v24 (by decide) (by decide))).trans
        ((Conv.after m c).trans (congrArg Conv.tail (hargs c))), hu c⟩
  · refine (θ_run Cert.ConvRefIdeal.defs _ _).mono (fun r h c => ?_) (Cert.ConvRefIdeal.Value.run (F := Ideal) m' g')
    exact ⟨(h c).1.trans (Conv.tail_eq _ _ _ _ _ _), (h c).2⟩

/-- The reference's state of the convolution runs and leaves its arguments. -/
theorem conv_ref : Cert.quiescent_ConvRefIdeal := fun m g _ =>
  (θ_run Cert.ConvRefIdeal.defs _ _).mono (fun r h => ⟨fun c => (h c).2, Idealize.ShloMosaic.sem_eq_zero_of_no_sems (by decide) r.2⟩)
    (Cert.ConvRefIdeal.Value.run (F := Ideal) m g)

/-- The convolution's state the gated recurrence leaves is the reference's, at the sample shapes. -/
theorem conv_s_value : Cert.algebraic_ConvSIdeal_ConvSRefIdeal := by
  intro m g m' g' hpre hargs
  have hargs : ∀ c : Dev Cert.ConvSIdeal.nD, ConvS.aU m c = m' ((c.tc : Thread Cert.ConvSRefIdeal.nD Cert.ConvSRefIdeal.τ).loc Cert.ConvSRefIdeal.main_arg0) := fun c => (hargs c).1.symm
  refine ⟨fun c => ConvS.tail (m' ((c.tc : Thread Cert.ConvSRefIdeal.nD Cert.ConvSRefIdeal.τ).loc Cert.ConvSRefIdeal.main_arg0)), ?_, ?_⟩
  · refine (θ_run Cert.ConvSIdeal.defs _ _).mono (fun r h c => ?_) (θ_run_and (Cert.ConvSIdeal.Gen.run_main (F := Ideal) m g) (Cert.ConvSIdeal.Gen.unchanged (F := Ideal) m g))
    obtain ⟨h, hu⟩ := h
    exact ⟨((h c).2 Cert.ConvSIdeal.main_v24 (Pipeline.mem_restRefs_of Cert.ConvSIdeal.main_v24 (by decide) (by decide))).trans
        ((ConvS.after m c).trans (congrArg ConvS.tail (hargs c))), hu c⟩
  · refine (θ_run Cert.ConvSRefIdeal.defs _ _).mono (fun r h c => ?_) (Cert.ConvSRefIdeal.Value.run (F := Ideal) m' g')
    exact ⟨(h c).1.trans (ConvS.tail_eq _ _ _ _ _ _), (h c).2⟩

/-- The reference's state of the convolution runs and leaves its arguments, at the sample shapes. -/
theorem conv_s_ref : Cert.quiescent_ConvSRefIdeal := fun m g _ =>
  (θ_run Cert.ConvSRefIdeal.defs _ _).mono (fun r h => ⟨fun c => (h c).2, Idealize.ShloMosaic.sem_eq_zero_of_no_sems (by decide) r.2⟩)
    (Cert.ConvSRefIdeal.Value.run (F := Ideal) m g)

/-- Every claim of the certificate. -/
theorem claim : Cert.Claim := ⟨Cert.Kernel.Gen.facts, Cert.KernelIdeal.Gen.facts, Cert.ReferenceIdeal.Gen.facts,
  Cert.Dense.Gen.facts, Cert.DenseIdeal.Gen.facts, Cert.DenseRefIdeal.Gen.facts,
  Cert.Moe.Gen.facts, Cert.MoeIdeal.Gen.facts, Cert.MoeRefIdeal.Gen.facts,
  Cert.In.Gen.facts, Cert.InIdeal.Gen.facts, Cert.InRefIdeal.Gen.facts,
  Cert.InS.Gen.facts, Cert.InSIdeal.Gen.facts, Cert.InSRefIdeal.Gen.facts,
  Cert.Kv.Gen.facts, Cert.KvIdeal.Gen.facts, Cert.KvRefIdeal.Gen.facts,
  Cert.KvS.Gen.facts, Cert.KvSIdeal.Gen.facts, Cert.KvSRefIdeal.Gen.facts,
  Cert.MoeS.Gen.facts, Cert.MoeSIdeal.Gen.facts, Cert.MoeSRefIdeal.Gen.facts,
  Cert.Conv.Gen.facts, Cert.ConvIdeal.Gen.facts, Cert.ConvRefIdeal.Gen.facts,
  Cert.ConvS.Gen.facts, Cert.ConvSIdeal.Gen.facts, Cert.ConvSRefIdeal.Gen.facts,
  Cert.Pre_finite_qk.Gen.facts, Cert.Pre_finite_route.Gen.facts, Cert.Pre_finite_route_s.Gen.facts,
  fun m g _ => Sb.unchanged (F := Bits) m g, fun m g _ => SbI.unchanged (F := Ideal) m g, fun m g _ => SbI.unchanged (F := Ideal) m g,
  sb_ref, fun m g _ => sb_ref m g trivial,
  fun m g _ => Cert.Dense.Gen.frame (F := Bits) m g, fun m g _ => Cert.DenseIdeal.Gen.frame (F := Ideal) m g, dense_ref,
  fun m g _ => Cert.Moe.Gen.frame (F := Bits) m g, fun m g _ => Cert.MoeIdeal.Gen.frame (F := Ideal) m g, fun m g _ => Cert.MoeIdeal.Gen.frame (F := Ideal) m g,
  moe_ref, fun m g _ => moe_ref m g trivial,
  fun m g _ => Cert.In.Gen.frame (F := Bits) m g, fun m g _ => Cert.InIdeal.Gen.frame (F := Ideal) m g, in_ref,
  fun m g _ => Cert.InS.Gen.frame (F := Bits) m g, fun m g _ => Cert.InSIdeal.Gen.frame (F := Ideal) m g, in_s_ref,
  fun m g _ => Cert.Kv.Gen.frame (F := Bits) m g, fun m g _ => Cert.KvIdeal.Gen.frame (F := Ideal) m g, kv_ref,
  fun m g _ => Cert.KvS.Gen.frame (F := Bits) m g, fun m g _ => Cert.KvSIdeal.Gen.frame (F := Ideal) m g, kv_s_ref,
  fun m g _ => Cert.MoeS.Gen.frame (F := Bits) m g, fun m g _ => Cert.MoeSIdeal.Gen.frame (F := Ideal) m g, fun m g _ => Cert.MoeSIdeal.Gen.frame (F := Ideal) m g,
  moe_s_ref, fun m g _ => moe_s_ref m g trivial,
  fun m g _ => Cert.Conv.Gen.frame (F := Bits) m g, fun m g _ => Cert.ConvIdeal.Gen.frame (F := Ideal) m g, conv_ref,
  fun m g _ => Cert.ConvS.Gen.frame (F := Bits) m g, fun m g _ => Cert.ConvSIdeal.Gen.frame (F := Ideal) m g, conv_s_ref,
  IdealRules.named_const.statement Cert.KernelIdeal.κ "dead" .f32 0xC2F00000#32 ⊥ rfl, sb_value, trivial, dense_value, trivial, moe_value, trivial, in_value,
  trivial, in_s_value, trivial, kv_value, trivial, kv_s_value, trivial, moe_s_value, trivial, conv_value, trivial, conv_s_value⟩

end Cert.Proof

end
